-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)) (v6 : (c : Dev Cert.KernelIdeal.nD) → Buf (Elt Ideal) ((c.tc : Thread Cert.KernelIdeal.nD Cert.KernelIdeal.τ).loc Cert.KernelIdeal.main_v10_6)) (v7 : (c : Dev Cert.KernelIdeal.nD) → Buf (Elt Ideal) ((c.tc : Thread Cert.KernelIdeal.nD Cert.KernelIdeal.τ).loc Cert.KernelIdeal.main_v10_7)) (v8 : (c : Dev Cert.KernelIdeal.nD) → Buf (Elt Ideal) ((c.tc : Thread Cert.KernelIdeal.nD Cert.KernelIdeal.τ).loc Cert.KernelIdeal.main_v10_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_v10_6) = v6 c
          ∧ r.2.mem ((c.tc : Thread Cert.KernelIdeal.nD Cert.KernelIdeal.τ).loc Cert.KernelIdeal.main_v10_7) = v7 c
          ∧ r.2.mem ((c.tc : Thread Cert.KernelIdeal.nD Cert.KernelIdeal.τ).loc Cert.KernelIdeal.main_v10_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_v169) = v4 c
          ∧ r.2.mem ((c.tc : Thread Cert.ReferenceIdeal.nD Cert.ReferenceIdeal.τ).loc Cert.ReferenceIdeal.main_v166) = v5 c
          ∧ r.2.mem ((c.tc : Thread Cert.ReferenceIdeal.nD Cert.ReferenceIdeal.τ).loc Cert.ReferenceIdeal.main_v107) = v6 c
          ∧ r.2.mem ((c.tc : Thread Cert.ReferenceIdeal.nD Cert.ReferenceIdeal.τ).loc Cert.ReferenceIdeal.main_v118) = v7 c
          ∧ r.2.mem ((c.tc : Thread Cert.ReferenceIdeal.nD Cert.ReferenceIdeal.τ).loc Cert.ReferenceIdeal.main_v112) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v25) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_v11) = v2 c
          ∧ r.2.mem ((c.tc : Thread Cert.Reference8Ideal.nD Cert.Reference8Ideal.τ).loc Cert.Reference8Ideal.main_v17) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x6656 : Shape := ⟨2, ![8192, 6656]⟩
abbrev S8192x512 : Shape := ⟨2, ![8192, 512]⟩
abbrev S8192x1024 : Shape := ⟨2, ![8192, 1024]⟩
abbrev S1x3072 : Shape := ⟨2, ![1, 3072]⟩
abbrev S3x1024 : Shape := ⟨2, ![3, 1024]⟩
abbrev S1024x1024 : Shape := ⟨2, ![1024, 1024]⟩
abbrev S512x1024 : Shape := ⟨2, ![512, 1024]⟩
abbrev S_ : Shape := ⟨0, ![]⟩

class Facts : Prop where
  bitsLt_bf16_f32 : FTy.bits .bf16 < FTy.bits .f32
  bcast_S_S8192x6656 : S_.BroadcastsInDim S8192x6656 (![] : Fin 0 → Fin S8192x6656.rank)
  bcast_S_S8192x512 : S_.BroadcastsInDim S8192x512 (![] : Fin 0 → Fin S8192x512.rank)
  bcast_S_S8192x1024 : S_.BroadcastsInDim S8192x1024 (![] : Fin 0 → Fin S8192x1024.rank)
  bcast_S_S1x3072 : S_.BroadcastsInDim S1x3072 (![] : Fin 0 → Fin S1x3072.rank)
  bcast_S_S3x1024 : S_.BroadcastsInDim S3x1024 (![] : Fin 0 → Fin S3x1024.rank)
  bcast_S_S1024x1024 : S_.BroadcastsInDim S1024x1024 (![] : Fin 0 → Fin S1024x1024.rank)
  bcast_S_S512x1024 : S_.BroadcastsInDim S512x1024 (![] : Fin 0 → Fin S512x1024.rank)

variable [Facts]

def fn_part2 {F : FTy → Type} [FloatOps F] (main_arg12 : FVec F S512x1024 .bf16) (main_arg13 : FVec F S1024x1024 .bf16) (main_v3 : IVec S8192x6656 1) (main_v6 : IVec S8192x512 1) (main_v9 : IVec S8192x512 1) (main_v12 : IVec S8192x512 1) (main_v15 : IVec S8192x512 1) (main_v18 : IVec S8192x512 1) (main_v21 : IVec S8192x512 1) (main_v24 : IVec S8192x1024 1) (main_v27 : IVec S8192x1024 1) (main_v30 : IVec S1x3072 1) (main_v33 : IVec S3x1024 1) (main_v35 : FVec F S1024x1024 .f32) (main_cst_10 : FVec F S_ .f32) : IVec S8192x6656 1 × IVec S8192x512 1 × IVec S8192x512 1 × IVec S8192x512 1 × IVec S8192x512 1 × IVec S8192x512 1 × IVec S8192x512 1 × IVec S8192x1024 1 × IVec S8192x1024 1 × IVec S1x3072 1 × IVec S3x1024 1 × IVec S1024x1024 1 × IVec S512x1024 1 × IVec S1024x1024 1 :=
  let main_v36 : FVec F S1024x1024 .f32 := broadcastInDim S1024x1024 ![] bcast_S_S1024x1024 main_cst_10
  let main_v37 : IVec S1024x1024 1 := cmpf .olt main_v35 main_v36
  let main_v38 : FVec F S512x1024 .f32 := (extf .f32 · bitsLt_bf16_f32) main_arg12
  let main_v39 : FVec F S512x1024 .f32 := Host.absf main_v38
  let main_cst_11 : FVec F S_ .f32 := constant S_ .f32 0x7F800000#32
  let main_v40 : FVec F S512x1024 .f32 := broadcastInDim S512x1024 ![] bcast_S_S512x1024 main_cst_11
  let main_v41 : IVec S512x1024 1 := cmpf .olt main_v39 main_v40
  let main_v42 : FVec F S1024x1024 .f32 := (extf .f32 · bitsLt_bf16_f32) main_arg13
  let main_v43 : FVec F S1024x1024 .f32 := Host.absf main_v42
  let main_cst_12 : FVec F S_ .f32 := constant S_ .f32 0x7F800000#32
  let main_v44 : FVec F S1024x1024 .f32 := broadcastInDim S1024x1024 ![] bcast_S_S1024x1024 main_cst_12
  let main_v45 : IVec S1024x1024 1 := cmpf .olt main_v43 main_v44
  (main_v3, main_v6, main_v9, main_v12, main_v15, main_v18, main_v21, main_v24, main_v27, main_v30, main_v33, main_v37, main_v41, main_v45)

def fn_part1 {F : FTy → Type} [FloatOps F] (main_arg6 : FVec F S8192x512 .f32) (main_arg7 : FVec F S8192x1024 .f32) (main_arg8 : FVec F S8192x1024 .f32) (main_arg9 : FVec F S1x3072 .f32) (main_arg10 : FVec F S3x1024 .f32) (main_arg11 : FVec F S1024x1024 .bf16) (main_arg12 : FVec F S512x1024 .bf16) (main_arg13 : FVec F S1024x1024 .bf16) (main_v3 : IVec S8192x6656 1) (main_v6 : IVec S8192x512 1) (main_v9 : IVec S8192x512 1) (main_v12 : IVec S8192x512 1) (main_v15 : IVec S8192x512 1) (main_v16 : FVec F S8192x512 .f32) (main_v17 : FVec F S8192x512 .f32) : IVec S8192x6656 1 × IVec S8192x512 1 × IVec S8192x512 1 × IVec S8192x512 1 × IVec S8192x512 1 × IVec S8192x512 1 × IVec S8192x512 1 × IVec S8192x1024 1 × IVec S8192x1024 1 × IVec S1x3072 1 × IVec S3x1024 1 × IVec S1024x1024 1 × IVec S512x1024 1 × IVec S1024x1024 1 :=
  let main_v18 : IVec S8192x512 1 := cmpf .olt main_v16 main_v17
  let main_v19 : FVec F S8192x512 .f32 := Host.absf main_arg6
  let main_cst_5 : FVec F S_ .f32 := constant S_ .f32 0x7F800000#32
  let main_v20 : FVec F S8192x512 .f32 := broadcastInDim S8192x512 ![] bcast_S_S8192x512 main_cst_5
  let main_v21 : IVec S8192x512 1 := cmpf .olt main_v19 main_v20
  let main_v22 : FVec F S8192x1024 .f32 := Host.absf main_arg7
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  let main_v25 : FVec F S8192x1024 .f32 := Host.absf main_arg8
  let main_cst_7 : FVec F S_ .f32 := constant S_ .f32 0x7F800000#32
  let main_v26 : FVec F S8192x1024 .f32 := broadcastInDim S8192x1024 ![] bcast_S_S8192x1024 main_cst_7
  let main_v27 : IVec S8192x1024 1 := cmpf .olt main_v25 main_v26
  let main_v28 : FVec F S1x3072 .f32 := Host.absf main_arg9
  let main_cst_8 : FVec F S_ .f32 := constant S_ .f32 0x7F800000#32
  let main_v29 : FVec F S1x3072 .f32 := broadcastInDim S1x3072 ![] bcast_S_S1x3072 main_cst_8
  let main_v30 : IVec S1x3072 1 := cmpf .olt main_v28 main_v29
  let main_v31 : FVec F S3x1024 .f32 := Host.absf main_arg10
  let main_cst_9 : FVec F S_ .f32 := constant S_ .f32 0x7F800000#32
  let main_v32 : FVec F S3x1024 .f32 := broadcastInDim S3x1024 ![] bcast_S_S3x1024 main_cst_9
  let main_v33 : IVec S3x1024 1 := cmpf .olt main_v31 main_v32
  let main_v34 : FVec F S1024x1024 .f32 := (extf .f32 · bitsLt_bf16_f32) main_arg11
  let main_v35 : FVec F S1024x1024 .f32 := Host.absf main_v34
  let main_cst_10 : FVec F S_ .f32 := constant S_ .f32 0x7F800000#32
  fn_part2 (F := F) main_arg12 main_arg13 main_v3 main_v6 main_v9 main_v12 main_v15 main_v18 main_v21 main_v24 main_v27 main_v30 main_v33 main_v35 main_cst_10

def fn {F : FTy → Type} [FloatOps F] (main_arg0 : FVec F S8192x6656 .bf16) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x512 .f32) (main_arg7 : FVec F S8192x1024 .f32) (main_arg8 : FVec F S8192x1024 .f32) (main_arg9 : FVec F S1x3072 .f32) (main_arg10 : FVec F S3x1024 .f32) (main_arg11 : FVec F S1024x1024 .bf16) (main_arg12 : FVec F S512x1024 .bf16) (main_arg13 : FVec F S1024x1024 .bf16) : IVec S8192x6656 1 × IVec S8192x512 1 × IVec S8192x512 1 × IVec S8192x512 1 × IVec S8192x512 1 × IVec S8192x512 1 × IVec S8192x512 1 × IVec S8192x1024 1 × IVec S8192x1024 1 × IVec S1x3072 1 × IVec S3x1024 1 × IVec S1024x1024 1 × IVec S512x1024 1 × IVec S1024x1024 1 :=
  let main_v0 : FVec F S8192x6656 .f32 := (extf .f32 · bitsLt_bf16_f32) main_arg0
  let main_v1 : FVec F S8192x6656 .f32 := Host.absf main_v0
  let main_cst : FVec F S_ .f32 := constant S_ .f32 0x7F800000#32
  let main_v2 : FVec F S8192x6656 .f32 := broadcastInDim S8192x6656 ![] bcast_S_S8192x6656 main_cst
  let main_v3 : IVec S8192x6656 1 := cmpf .olt main_v1 main_v2
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : FVec F S8192x512 .f32 := Host.absf main_arg3
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_v13 : FVec F S8192x512 .f32 := Host.absf main_arg4
  let main_cst_3 : FVec F S_ .f32 := constant S_ .f32 0x7F800000#32
  let main_v14 : FVec F S8192x512 .f32 := broadcastInDim S8192x512 ![] bcast_S_S8192x512 main_cst_3
  let main_v15 : IVec S8192x512 1 := cmpf .olt main_v13 main_v14
  let main_v16 : FVec F S8192x512 .f32 := Host.absf main_arg5
  let main_cst_4 : FVec F S_ .f32 := constant S_ .f32 0x7F800000#32
  let main_v17 : FVec F S8192x512 .f32 := broadcastInDim S8192x512 ![] bcast_S_S8192x512 main_cst_4
  fn_part1 (F := F) main_arg6 main_arg7 main_arg8 main_arg9 main_arg10 main_arg11 main_arg12 main_arg13 main_v3 main_v6 main_v9 main_v12 main_v15 main_v16 main_v17
-- ==== Kernel.lean ====
abbrev S8192x6656 : Shape := ⟨2, ![8192, 6656]⟩
abbrev S8192x512 : Shape := ⟨2, ![8192, 512]⟩
abbrev S8192x1024 : Shape := ⟨2, ![8192, 1024]⟩
abbrev S1x3072 : Shape := ⟨2, ![1, 3072]⟩
abbrev S3x1024 : Shape := ⟨2, ![3, 1024]⟩
abbrev S1024x1024 : Shape := ⟨2, ![1024, 1024]⟩
abbrev S512x1024 : Shape := ⟨2, ![512, 1024]⟩
abbrev S_ : Shape := ⟨0, ![]⟩
abbrev S8x1024 : Shape := ⟨2, ![8, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S256x6656 : Shape := ⟨2, ![256, 6656]⟩
abbrev S16x1024 : Shape := ⟨2, ![16, 1024]⟩
abbrev S256x512 : Shape := ⟨2, ![256, 512]⟩
abbrev S256x1024 : Shape := ⟨2, ![256, 1024]⟩
abbrev S1x1024 : Shape := ⟨2, ![1, 1024]⟩
abbrev S1024 : Shape := ⟨1, ![1024]⟩

abbrev nBuf : Space → Nat
  | .hbm => 69
  | .vmem => 43
  | .smem => 0
  | _ => 0

abbrev bufTy : (tb : Table) → Fin (tcTables nBuf tb) → BufTy
  | .hbm, ⟨0, _⟩ => ⟨S8192x6656, .bf16⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S1x3072, .f32⟩
  | .hbm, ⟨10, _⟩ => ⟨S3x1024, .f32⟩
  | .hbm, ⟨11, _⟩ => ⟨S1024x1024, .bf16⟩
  | .hbm, ⟨12, _⟩ => ⟨S512x1024, .bf16⟩
  | .hbm, ⟨13, _⟩ => ⟨S1024x1024, .bf16⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S512, .i32⟩
  | .hbm, ⟨18, _⟩ => ⟨S512x1, .i32⟩
  | .hbm, ⟨19, _⟩ => ⟨S_, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .i32⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i32⟩
  | .hbm, ⟨28, _⟩ => ⟨S512x1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S512x1, .i1⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S512x1, .i32⟩
  | .hbm, ⟨37, _⟩ => ⟨S1x512, .i32⟩
  | .hbm, ⟨38, _⟩ => ⟨S_, .i32⟩
  | .hbm, ⟨39, _⟩ => ⟨S_, .i32⟩
  | .hbm, ⟨40, _⟩ => ⟨S1x512, .i32⟩
  | .hbm, ⟨41, _⟩ => ⟨S1x512, .i32⟩
  | .hbm, ⟨42, _⟩ => ⟨S1x512, .i32⟩
  | .hbm, ⟨43, _⟩ => ⟨S_, .i32⟩
  | .hbm, ⟨44, _⟩ => ⟨S1x512, .i32⟩
  | .hbm, ⟨45, _⟩ => ⟨S1x512, .i1⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i1⟩
  | .hbm, ⟨51, _⟩ => ⟨S1x512, .i1⟩
  | .hbm, ⟨52, _⟩ => ⟨S_, .i32⟩
  | .hbm, ⟨53, _⟩ => ⟨S1x512, .i32⟩
  | .hbm, ⟨54, _⟩ => ⟨S1x512, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x512, .bf16⟩
  | .hbm, ⟨60, _⟩ => ⟨S8192x6656, .bf16⟩
  | .hbm, ⟨61, _⟩ => ⟨S8192x512, .bf16⟩
  | .hbm, ⟨62, _⟩ => ⟨S8192x512, .f32⟩
  | .hbm, ⟨63, _⟩ => ⟨S8192x512, .f32⟩
  | .hbm, ⟨64, _⟩ => ⟨S8192x1024, .bf16⟩
  | .hbm, ⟨65, _⟩ => ⟨S8x1024, .f32⟩
  | .hbm, ⟨66, _⟩ => ⟨S1024x1024, .f32⟩
  | .hbm, ⟨67, _⟩ => ⟨S1024x1024, .f32⟩
  | .hbm, ⟨68, _⟩ => ⟨S512x1024, .f32⟩
  | .local _ .vmem, ⟨0, _⟩ => ⟨S256x6656, .bf16⟩
  | .local _ .vmem, ⟨1, _⟩ => ⟨S256x6656, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x3072, .f32⟩
  | .local _ .vmem, ⟨23, _⟩ => ⟨S8x1024, .f32⟩
  | .local _ .vmem, ⟨24, _⟩ => ⟨S512x512, .bf16⟩
  | .local _ .vmem, ⟨25, _⟩ => ⟨S256x6656, .bf16⟩
  | .local _ .vmem, ⟨26, _⟩ => ⟨S256x6656, .bf16⟩
  | .local _ .vmem, ⟨27, _⟩ => ⟨S256x512, .bf16⟩
  | .local _ .vmem, ⟨28, _⟩ => ⟨S256x512, .bf16⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x1024, .bf16⟩
  | .local _ .vmem, ⟨34, _⟩ => ⟨S256x1024, .bf16⟩
  | .local _ .vmem, ⟨35, _⟩ => ⟨S8x1024, .f32⟩
  | .local _ .vmem, ⟨36, _⟩ => ⟨S1024x1024, .bf16⟩
  | .local _ .vmem, ⟨37, _⟩ => ⟨S512x1024, .bf16⟩
  | .local _ .vmem, ⟨38, _⟩ => ⟨S1024x1024, .bf16⟩
  | .local _ .vmem, ⟨39, _⟩ => ⟨S1024x1024, .f32⟩
  | .local _ .vmem, ⟨40, _⟩ => ⟨S1024x1024, .f32⟩
  | .local _ .vmem, ⟨41, _⟩ => ⟨S512x1024, .f32⟩
  | .local _ .vmem, ⟨42, _⟩ => ⟨S8x1024, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v3 : Ref sig .tc := ⟨.hbm, 36, rfl⟩
abbrev main_v4 : Ref sig .tc := ⟨.hbm, 37, rfl⟩
abbrev main_c_1 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_0 : Ref sig .tc := ⟨.hbm, 52, rfl⟩
abbrev main_call2_v12 : Ref sig .tc := ⟨.hbm, 53, rfl⟩
abbrev main_call2_v13 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10_0 : Ref sig .tc := ⟨.hbm, 60, rfl⟩
abbrev main_v10_1 : Ref sig .tc := ⟨.hbm, 61, rfl⟩
abbrev main_v10_2 : Ref sig .tc := ⟨.hbm, 62, rfl⟩
abbrev main_v10_3 : Ref sig .tc := ⟨.hbm, 63, rfl⟩
abbrev main_v10_4 : Ref sig .tc := ⟨.hbm, 64, rfl⟩
abbrev main_v10_5 : Ref sig .tc := ⟨.hbm, 65, rfl⟩
abbrev main_v10_6 : Ref sig .tc := ⟨.hbm, 66, rfl⟩
abbrev main_v10_7 : Ref sig .tc := ⟨.hbm, 67, rfl⟩
abbrev main_v10_8 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x6656 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x6656 : Shape := ⟨2, ![8192, 6656]⟩
abbrev S8192x512 : Shape := ⟨2, ![8192, 512]⟩
abbrev S8192x1024 : Shape := ⟨2, ![8192, 1024]⟩
abbrev S1x3072 : Shape := ⟨2, ![1, 3072]⟩
abbrev S3x1024 : Shape := ⟨2, ![3, 1024]⟩
abbrev S1024x1024 : Shape := ⟨2, ![1024, 1024]⟩
abbrev S512x1024 : Shape := ⟨2, ![512, 1024]⟩
abbrev S_ : Shape := ⟨0, ![]⟩
abbrev S1x1024 : Shape := ⟨2, ![1, 1024]⟩
abbrev S2x1024 : Shape := ⟨2, ![2, 1024]⟩
abbrev S8194x1024 : Shape := ⟨2, ![8194, 1024]⟩
abbrev S8192 : Shape := ⟨1, ![8192]⟩
abbrev S1024 : Shape := ⟨1, ![1024]⟩
abbrev S1024x512 : Shape := ⟨2, ![1024, 512]⟩
abbrev S8192x8x64 : Shape := ⟨3, ![8192, 8, 64]⟩
abbrev S8192x8 : Shape := ⟨2, ![8192, 8]⟩
abbrev S8192x8x1 : Shape := ⟨3, ![8192, 8, 1]⟩
abbrev S8x1024 : Shape := ⟨2, ![8, 1024]⟩

abbrev nBuf : Space → Nat
  | .hbm => 245
  | .vmem => 0
  | .smem => 0
  | _ => 0

abbrev hbmTy0_0 (i : Nat) : BufTy := match i % 128 with
  | 0 => ⟨S8192x6656, .bf16⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x1024, .f32⟩
  | 8 => ⟨S8192x1024, .f32⟩
  | 9 => ⟨S1x3072, .f32⟩
  | 10 => ⟨S3x1024, .f32⟩
  | 11 => ⟨S1024x1024, .bf16⟩
  | 12 => ⟨S512x1024, .bf16⟩
  | 13 => ⟨S1024x1024, .bf16⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S1x1024, .f32⟩
  | 39 => ⟨S8192x6656, .f32⟩
  | 40 => ⟨S1024x1024, .f32⟩
  | 41 => ⟨S512x1024, .f32⟩
  | 42 => ⟨S1024x1024, .f32⟩
  | 43 => ⟨S8192x1024, .f32⟩
  | 44 => ⟨S8192x1024, .f32⟩
  | 45 => ⟨S8192x1024, .f32⟩
  | 46 => ⟨S8192x1024, .f32⟩
  | 47 => ⟨S8192x512, .f32⟩
  | 48 => ⟨S8192x1024, .f32⟩
  | 49 => ⟨S8192x1024, .f32⟩
  | 50 => ⟨S_, .f32⟩
  | 51 => ⟨S2x1024, .f32⟩
  | 52 => ⟨S8192x1024, .f32⟩
  | 53 => ⟨S8194x1024, .f32⟩
  | 54 => ⟨S_, .f32⟩
  | 55 => ⟨S2x1024, .f32⟩
  | 56 => ⟨S1x1024, .f32⟩
  | 57 => ⟨S8192x1024, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S_, .f32⟩
  | 119 => ⟨S8192x1024, .f32⟩
  | 120 => ⟨S8192x1024, .f32⟩
  | 121 => ⟨S_, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x6656, .bf16⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S_, .f32⟩
  | 10 => ⟨S8192, .f32⟩
  | 11 => ⟨S_, .f32⟩
  | 12 => ⟨S8192, .f32⟩
  | 13 => ⟨S8192, .f32⟩
  | 14 => ⟨S_, .f32⟩
  | 15 => ⟨S_, .f32⟩
  | 16 => ⟨S_, .f32⟩
  | 17 => ⟨S_, .f32⟩
  | 18 => ⟨S_, .f32⟩
  | 19 => ⟨S1024, .f32⟩
  | 20 => ⟨S1x1024, .f32⟩
  | 21 => ⟨S_, .f32⟩
  | 22 => ⟨S_, .f32⟩
  | 23 => ⟨S_, .f32⟩
  | 24 => ⟨S8192, .f32⟩
  | 25 => ⟨S_, .f32⟩
  | 26 => ⟨S8192, .f32⟩
  | 27 => ⟨S8192, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S1024x1024, .f32⟩
  | 37 => ⟨S1024x1024, .f32⟩
  | 38 => ⟨S8192x1024, .f32⟩
  | 39 => ⟨S8192x1024, .f32⟩
  | 40 => ⟨S8192x1024, .f32⟩
  | 41 => ⟨S1024x512, .f32⟩
  | 42 => ⟨S512x1024, .f32⟩
  | 43 => ⟨S8192x512, .f32⟩
  | 44 => ⟨S8192x1024, .f32⟩
  | 45 => ⟨S8192x1024, .f32⟩
  | 46 => ⟨S8192x1024, .f32⟩
  | 47 => ⟨S1024x1024, .f32⟩
  | 48 => ⟨S1024x1024, .f32⟩
  | 49 => ⟨S8192x1024, .f32⟩
  | 50 => ⟨S8192x1024, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S1024, .f32⟩
  | 70 => ⟨S1x1024, .f32⟩
  | 71 => ⟨S_, .f32⟩
  | 72 => ⟨S8194x1024, .f32⟩
  | 73 => ⟨S_, .f32⟩
  | 74 => ⟨S3x1024, .f32⟩
  | 75 => ⟨S8192x1024, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S_, .f32⟩
  | 82 => ⟨S8194x1024, .f32⟩
  | 83 => ⟨S8194x1024, .f32⟩
  | 84 => ⟨S_, .f32⟩
  | 85 => ⟨S3x1024, .f32⟩
  | 86 => ⟨S3x1024, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S_, .f32⟩
  | 94 => ⟨S8194x1024, .f32⟩
  | 95 => ⟨S8194x1024, .f32⟩
  | 96 => ⟨S_, .f32⟩
  | 97 => ⟨S3x1024, .f32⟩
  | 98 => ⟨S3x1024, .f32⟩
  | 99 => ⟨S2x1024, .f32⟩
  | 100 => ⟨S8192x1024, .f32⟩
  | 101 => ⟨S8192x1024, .f32⟩
  | 102 => ⟨S8192x1024, .f32⟩
  | 103 => ⟨S8192x6656, .f32⟩
  | 104 => ⟨S8192x512, .f32⟩
  | 105 => ⟨S8192x8x64, .f32⟩
  | 106 => ⟨S_, .f32⟩
  | 107 => ⟨S8192x8, .f32⟩
  | 108 => ⟨S8192x8x1, .f32⟩
  | 109 => ⟨S8192x8x64, .f32⟩
  | 110 => ⟨S8192x512, .f32⟩
  | 111 => ⟨S_, .f32⟩
  | 112 => ⟨S3x1024, .f32⟩
  | 113 => ⟨S8x1024, .f32⟩
  | 114 => ⟨S8192x6656, .bf16⟩
  | 115 => ⟨S8192x512, .bf16⟩
  | 116 => ⟨S8192x1024, .bf16⟩
  | _ => ⟨S8192x6656, .bf16⟩

abbrev hbmTy (i : Nat) : BufTy := match i / 128 with
  | 0 => hbmTy0_0 i
  | 1 => hbmTy0_1 i
  | _ => ⟨S8192x6656, .bf16⟩

abbrev bufTy : (tb : Table) → Fin (tcTables nBuf tb) → BufTy
  | .hbm, ⟨i, _⟩ => hbmTy i
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_v53_2 : Ref sig .tc := ⟨.hbm, 78, rfl⟩
abbrev main_call0_cst_1 : Ref sig .tc := ⟨.hbm, 79, rfl⟩
abbrev main_call0_v6 : Ref sig .tc := ⟨.hbm, 80, rfl⟩
abbrev main_call0_v7 : Ref sig .tc := ⟨.hbm, 81, rfl⟩
abbrev main_v53_1 : Ref sig .tc := ⟨.hbm, 82, rfl⟩
abbrev main_v53_0 : Ref sig .tc := ⟨.hbm, 83, rfl⟩
abbrev main_v54 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_v55_2 : Ref sig .tc := ⟨.hbm, 92, rfl⟩
abbrev main_call1_cst_1 : Ref sig .tc := ⟨.hbm, 93, rfl⟩
abbrev main_call1_v6 : Ref sig .tc := ⟨.hbm, 94, rfl⟩
abbrev main_call1_v7 : Ref sig .tc := ⟨.hbm, 95, rfl⟩
abbrev main_v55_1 : Ref sig .tc := ⟨.hbm, 96, rfl⟩
abbrev main_v55_0 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_3 : Ref sig .tc := ⟨.hbm, 101, rfl⟩
abbrev main_v59 : Ref sig .tc := ⟨.hbm, 102, rfl⟩
abbrev main_v60 : Ref sig .tc := ⟨.hbm, 103, rfl⟩
abbrev main_cst_4 : Ref sig .tc := ⟨.hbm, 104, rfl⟩
abbrev main_v61 : Ref sig .tc := ⟨.hbm, 105, rfl⟩
abbrev main_v62 : Ref sig .tc := ⟨.hbm, 106, rfl⟩
abbrev main_cst_5 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_6 : Ref sig .tc := ⟨.hbm, 115, rfl⟩
abbrev main_v70 : Ref sig .tc := ⟨.hbm, 116, rfl⟩
abbrev main_v71 : Ref sig .tc := ⟨.hbm, 117, rfl⟩
abbrev main_cst_7 : Ref sig .tc := ⟨.hbm, 118, rfl⟩
abbrev main_v72 : Ref sig .tc := ⟨.hbm, 119, rfl⟩
abbrev main_v73 : Ref sig .tc := ⟨.hbm, 120, rfl⟩
abbrev main_cst_8 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_9 : Ref sig .tc := ⟨.hbm, 134, rfl⟩
abbrev main_v86 : Ref sig .tc := ⟨.hbm, 135, rfl⟩
abbrev main_v87 : Ref sig .tc := ⟨.hbm, 136, rfl⟩
abbrev main_cst_10 : Ref sig .tc := ⟨.hbm, 137, rfl⟩
abbrev main_v88 : Ref sig .tc := ⟨.hbm, 138, rfl⟩
abbrev main_cst_11 : Ref sig .tc := ⟨.hbm, 139, rfl⟩
abbrev main_v89 : Ref sig .tc := ⟨.hbm, 140, rfl⟩
abbrev main_v90 : Ref sig .tc := ⟨.hbm, 141, rfl⟩
abbrev main_cst_12 : Ref sig .tc := ⟨.hbm, 142, rfl⟩
abbrev main_v91 : Ref sig .tc := ⟨.hbm, 143, rfl⟩
abbrev main_cst_13 : Ref sig .tc := ⟨.hbm, 144, rfl⟩
abbrev main_v92 : Ref sig .tc := ⟨.hbm, 145, rfl⟩
abbrev main_cst_14 : Ref sig .tc := ⟨.hbm, 146, rfl⟩
abbrev main_v93 : Ref sig .tc := ⟨.hbm, 147, rfl⟩
abbrev main_v94 : Ref sig .tc := ⟨.hbm, 148, rfl⟩
abbrev main_cst_15 : Ref sig .tc := ⟨.hbm, 149, rfl⟩
abbrev main_cst_16 : Ref sig .tc := ⟨.hbm, 150, rfl⟩
abbrev main_v95 : Ref sig .tc := ⟨.hbm, 151, rfl⟩
abbrev main_v96 : Ref sig .tc := ⟨.hbm, 152, rfl⟩
abbrev main_cst_17 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_18 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_call2_v0 : Ref sig .tc := ⟨.hbm, 181, rfl⟩
abbrev main_call2_v1 : Ref sig .tc := ⟨.hbm, 182, rfl⟩
abbrev main_call2_v2 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_call3_v0 : Ref sig .tc := ⟨.hbm, 187, rfl⟩
abbrev main_call3_v1 : Ref sig .tc := ⟨.hbm, 188, rfl⟩
abbrev main_call3_v2 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_19 : Ref sig .tc := ⟨.hbm, 196, rfl⟩
abbrev main_v132 : Ref sig .tc := ⟨.hbm, 197, rfl⟩
abbrev main_v133 : Ref sig .tc := ⟨.hbm, 198, rfl⟩
abbrev main_cst_20 : Ref sig .tc := ⟨.hbm, 199, rfl⟩
abbrev main_v134 : Ref sig .tc := ⟨.hbm, 200, rfl⟩
abbrev main_cst_21 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_22 : Ref sig .tc := ⟨.hbm, 206, rfl⟩
abbrev main_v139 : Ref sig .tc := ⟨.hbm, 207, rfl⟩
abbrev main_v140 : Ref sig .tc := ⟨.hbm, 208, rfl⟩
abbrev main_cst_23 : Ref sig .tc := ⟨.hbm, 209, rfl⟩
abbrev main_v141 : Ref sig .tc := ⟨.hbm, 210, rfl⟩
abbrev main_v142 : Ref sig .tc := ⟨.hbm, 211, rfl⟩
abbrev main_cst_24 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_25 : Ref sig .tc := ⟨.hbm, 218, rfl⟩
abbrev main_v148 : Ref sig .tc := ⟨.hbm, 219, rfl⟩
abbrev main_v149 : Ref sig .tc := ⟨.hbm, 220, rfl⟩
abbrev main_cst_26 : Ref sig .tc := ⟨.hbm, 221, rfl⟩
abbrev main_v150 : Ref sig .tc := ⟨.hbm, 222, rfl⟩
abbrev main_v151 : Ref sig .tc := ⟨.hbm, 223, rfl⟩
abbrev main_cst_27 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_cst_28 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_29 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩

abbrev nD : Nat := 1
abbrev τ : Topo := Topo.v7x

variable {F : FTy → Type} [FloatOps F]
-- ==== Kernel2.lean ====
abbrev S1024x8192 : Shape := ⟨2, ![1024, 8192]⟩
abbrev S8192x6656 : Shape := ⟨2, ![8192, 6656]⟩
abbrev S1024x6656 : Shape := ⟨2, ![1024, 6656]⟩
abbrev S8192x512 : Shape := ⟨2, ![8192, 512]⟩
abbrev S1024x512 : Shape := ⟨2, ![1024, 512]⟩
abbrev S_ : Shape := ⟨0, ![]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x6656, .bf16⟩
  | .hbm, ⟨2, _⟩ => ⟨S1024x6656, .bf16⟩
  | .local _ .vmem, ⟨0, _⟩ => ⟨S8192x512, .bf16⟩
  | .local _ .vmem, ⟨1, _⟩ => ⟨S8192x512, .bf16⟩
  | .local _ .vmem, ⟨2, _⟩ => ⟨S1024x512, .bf16⟩
  | .local _ .vmem, ⟨3, _⟩ => ⟨S1024x512, .bf16⟩
  | .local _ .vmem, ⟨4, _⟩ => ⟨S1024x8192, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S1024x8192 : Shape := ⟨2, ![1024, 8192]⟩
abbrev S8192x6656 : Shape := ⟨2, ![8192, 6656]⟩
abbrev S8192x1024 : Shape := ⟨2, ![8192, 1024]⟩
abbrev S_ : Shape := ⟨0, ![]⟩
abbrev S1024x6656 : Shape := ⟨2, ![1024, 6656]⟩
abbrev S6656x1024 : Shape := ⟨2, ![6656, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x6656, .bf16⟩
  | .hbm, ⟨2, _⟩ => ⟨S1024x8192, .f32⟩
  | .hbm, ⟨3, _⟩ => ⟨S8192x1024, .f32⟩
  | .hbm, ⟨4, _⟩ => ⟨S_, .f32⟩
  | .hbm, ⟨5, _⟩ => ⟨S1024x6656, .f32⟩
  | .hbm, ⟨6, _⟩ => ⟨S8192x6656, .f32⟩
  | .hbm, ⟨7, _⟩ => ⟨S8192x6656, .f32⟩
  | .hbm, ⟨8, _⟩ => ⟨S6656x1024, .f32⟩
  | .hbm, ⟨9, _⟩ => ⟨S1024x6656, .f32⟩
  | .hbm, ⟨10, _⟩ => ⟨S1024x6656, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S1x3072 : Shape := ⟨2, ![1, 3072]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .bf16⟩
  | .hbm, ⟨3, _⟩ => ⟨S1x3072, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x3072, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x1024 : Shape := ⟨2, ![8192, 1024]⟩
abbrev S1x3072 : Shape := ⟨2, ![1, 3072]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .bf16⟩
  | .hbm, ⟨3, _⟩ => ⟨S1x3072, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S5x1024, .f32⟩
  | .hbm, ⟨70, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel4.lean ====
abbrev S8192x6656 : Shape := ⟨2, ![8192, 6656]⟩
abbrev S8192x4608 : Shape := ⟨2, ![8192, 4608]⟩
abbrev S1024x6656 : Shape := ⟨2, ![1024, 6656]⟩
abbrev S1024x4608 : Shape := ⟨2, ![1024, 4608]⟩
abbrev S8192x1024 : Shape := ⟨2, ![8192, 1024]⟩
abbrev S512x6656 : Shape := ⟨2, ![512, 6656]⟩
abbrev S512x4608 : Shape := ⟨2, ![512, 4608]⟩
abbrev S512x1024 : Shape := ⟨2, ![512, 1024]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S8192x6656, .bf16⟩
  | .hbm, ⟨1, _⟩ => ⟨S8192x4608, .bf16⟩
  | .hbm, ⟨2, _⟩ => ⟨S1024x6656, .bf16⟩
  | .hbm, ⟨3, _⟩ => ⟨S1024x4608, .bf16⟩
  | .hbm, ⟨4, _⟩ => ⟨S8192x1024, .bf16⟩
  | .local _ .vmem, ⟨0, _⟩ => ⟨S512x6656, .bf16⟩
  | .local _ .vmem, ⟨1, _⟩ => ⟨S512x6656, .bf16⟩
  | .local _ .vmem, ⟨2, _⟩ => ⟨S512x4608, .bf16⟩
  | .local _ .vmem, ⟨3, _⟩ => ⟨S512x4608, .bf16⟩
  | .local _ .vmem, ⟨4, _⟩ => ⟨S512x1024, .bf16⟩
  | .local _ .vmem, ⟨5, _⟩ => ⟨S512x1024, .bf16⟩
  | .local _ .vmem, ⟨6, _⟩ => ⟨S1024x6656, .bf16⟩
  | .local _ .vmem, ⟨7, _⟩ => ⟨S1024x4608, .bf16⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x6656 : Shape := ⟨2, ![8192, 6656]⟩
abbrev S8192x4608 : Shape := ⟨2, ![8192, 4608]⟩
abbrev S1024x6656 : Shape := ⟨2, ![1024, 6656]⟩
abbrev S1024x4608 : Shape := ⟨2, ![1024, 4608]⟩
abbrev S_ : Shape := ⟨0, ![]⟩
abbrev S8192x1024 : Shape := ⟨2, ![8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S8192x4608, .bf16⟩
  | .hbm, ⟨2, _⟩ => ⟨S1024x6656, .bf16⟩
  | .hbm, ⟨3, _⟩ => ⟨S1024x4608, .bf16⟩
  | .hbm, ⟨4, _⟩ => ⟨S_, .f32⟩
  | .hbm, ⟨5, _⟩ => ⟨S8192x1024, .f32⟩
  | .hbm, ⟨6, _⟩ => ⟨S1024x6656, .f32⟩
  | .hbm, ⟨7, _⟩ => ⟨S8192x6656, .f32⟩
  | .hbm, ⟨8, _⟩ => ⟨S1024x4608, .f32⟩
  | .hbm, ⟨9, _⟩ => ⟨S8192x4608, .f32⟩
  | .hbm, ⟨10, _⟩ => ⟨S8192x6656, .f32⟩
  | .hbm, ⟨11, _⟩ => ⟨S8192x4608, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S1024x8192 : Shape := ⟨2, ![1024, 8192]⟩
abbrev S8192x4608 : Shape := ⟨2, ![8192, 4608]⟩
abbrev S1024x4608 : Shape := ⟨2, ![1024, 4608]⟩
abbrev S8192x512 : Shape := ⟨2, ![8192, 512]⟩
abbrev S1024x512 : Shape := ⟨2, ![1024, 512]⟩
abbrev S_ : Shape := ⟨0, ![]⟩

abbrev nBuf : Space → Nat
  | .hbm => 3
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x4608, .bf16⟩
  | .hbm, ⟨2, _⟩ => ⟨S1024x4608, .bf16⟩
  | .local _ .vmem, ⟨0, _⟩ => ⟨S8192x512, .bf16⟩
  | .local _ .vmem, ⟨1, _⟩ => ⟨S8192x512, .bf16⟩
  | .local _ .vmem, ⟨2, _⟩ => ⟨S1024x512, .bf16⟩
  | .local _ .vmem, ⟨3, _⟩ => ⟨S1024x512, .bf16⟩
  | .local _ .vmem, ⟨4, _⟩ => ⟨S1024x8192, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S1024x8192 : Shape := ⟨2, ![1024, 8192]⟩
abbrev S8192x4608 : Shape := ⟨2, ![8192, 4608]⟩
abbrev S8192x1024 : Shape := ⟨2, ![8192, 1024]⟩
abbrev S_ : Shape := ⟨0, ![]⟩
abbrev S1024x4608 : Shape := ⟨2, ![1024, 4608]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x4608, .bf16⟩
  | .hbm, ⟨2, _⟩ => ⟨S1024x8192, .f32⟩
  | .hbm, ⟨3, _⟩ => ⟨S8192x1024, .f32⟩
  | .hbm, ⟨4, _⟩ => ⟨S_, .f32⟩
  | .hbm, ⟨5, _⟩ => ⟨S1024x4608, .f32⟩
  | .hbm, ⟨6, _⟩ => ⟨S8192x4608, .f32⟩
  | .hbm, ⟨7, _⟩ => ⟨S8192x4608, .f32⟩
  | .hbm, ⟨8, _⟩ => ⟨S4608x1024, .f32⟩
  | .hbm, ⟨9, _⟩ => ⟨S1024x4608, .f32⟩
  | .hbm, ⟨10, _⟩ => ⟨S1024x4608, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1024x4608 : Shape := ⟨2, ![1024, 4608]⟩
abbrev S8192x4608 : Shape := ⟨2, ![8192, 4608]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x1024, .f32⟩
  | .hbm, ⟨3, _⟩ => ⟨S1024x4608, .f32⟩
  | .hbm, ⟨4, _⟩ => ⟨S8192x4608, .f32⟩
  | .hbm, ⟨5, _⟩ => ⟨S8192x4608, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1x3072 : Shape := ⟨2, ![1, 3072]⟩
abbrev S1x1024 : Shape := ⟨2, ![1, 1024]⟩
abbrev S1024x6656 : Shape := ⟨2, ![1024, 6656]⟩
abbrev S8192x6656 : Shape := ⟨2, ![8192, 6656]⟩
abbrev S1024x8192 : Shape := ⟨2, ![1024, 8192]⟩
abbrev S1024x1024 : Shape := ⟨2, ![1024, 1024]⟩
abbrev S1024x1664 : Shape := ⟨2, ![1024, 1664]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x3072, .f32⟩
  | .hbm, ⟨2, _⟩ => ⟨S1x1024, .f32⟩
  | .hbm, ⟨3, _⟩ => ⟨S1024x6656, .bf16⟩
  | .hbm, ⟨4, _⟩ => ⟨S8192x6656, .bf16⟩
  | .hbm, ⟨5, _⟩ => ⟨S8192x1024, .bf16⟩
  | .hbm, ⟨6, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x3072, .f32⟩
  | .local _ .vmem, ⟨3, _⟩ => ⟨S1x1024, .f32⟩
  | .local _ .vmem, ⟨4, _⟩ => ⟨S1024x1664, .bf16⟩
  | .local _ .vmem, ⟨5, _⟩ => ⟨S1024x1664, .bf16⟩
  | .local _ .vmem, ⟨6, _⟩ => ⟨S1024x1664, .bf16⟩
  | .local _ .vmem, ⟨7, _⟩ => ⟨S1024x1664, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_cond4 (i : grid0.Coords) : BitVec 1 :=
  let arg1 : BitVec 32 := BitVec.ofNat 32 (i 1).val
  let c3_i32 : BitVec 32 := 3#32
  let v34 : BitVec 1 := Scalar.cmpi .eq arg1 c3_i32
  let arg0 : BitVec 32 := BitVec.ofNat 32 (i 0).val
  let c7_i32 : BitVec 32 := 7#32
  let v35 : BitVec 1 := Scalar.cmpi .slt arg0 c7_i32
  let v36 : BitVec 1 := Scalar.andi v34 v35
  let v37 : BitVec 32 := Scalar.extui v36
  let c0_i32_18 : BitVec 32 := 0#32
  let v38 : BitVec 1 := Scalar.cmpi .ne v37 c0_i32_18
  v38

def k0_cond5 (i : grid0.Coords) : BitVec 1 :=
  let arg1 : BitVec 32 := BitVec.ofNat 32 (i 1).val
  let c3_i32 : BitVec 32 := 3#32
  let v34 : BitVec 1 := Scalar.cmpi .eq arg1 c3_i32
  let arg0 : BitVec 32 := BitVec.ofNat 32 (i 0).val
  let c7_i32 : BitVec 32 := 7#32
  let v35 : BitVec 1 := Scalar.cmpi .slt arg0 c7_i32
  let v36 : BitVec 1 := Scalar.andi v34 v35
  let v_true : BitVec 1 := 1#1
  let v39 : BitVec 1 := Scalar.xori v36 v_true
  let v40 : BitVec 32 := Scalar.extui v39
  let c0_i32_19 : BitVec 32 := 0#32
  let v41 : BitVec 1 := Scalar.cmpi .ne v40 c0_i32_19
  v41

def k0_cond6 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def k0_cond8 (i : grid0.Coords) : BitVec 1 :=
  let arg1 : BitVec 32 := BitVec.ofNat 32 (i 1).val
  let c3_i32 : BitVec 32 := 3#32
  let v34 : BitVec 1 := Scalar.cmpi .eq arg1 c3_i32
  let arg0 : BitVec 32 := BitVec.ofNat 32 (i 0).val
  let c7_i32 : BitVec 32 := 7#32
  let v35 : BitVec 1 := Scalar.cmpi .slt arg0 c7_i32
  let v36 : BitVec 1 := Scalar.andi v34 v35
  let v37 : BitVec 32 := Scalar.extui v36
  let c0_i32_18 : BitVec 32 := 0#32
  let v38 : BitVec 1 := Scalar.cmpi .ne v37 c0_i32_18
  v38

def k0_cond9 (i : grid0.Coords) : BitVec 1 :=
  let arg1 : BitVec 32 := BitVec.ofNat 32 (i 1).val
  let c3_i32 : BitVec 32 := 3#32
  let v34 : BitVec 1 := Scalar.cmpi .eq arg1 c3_i32
  let arg0 : BitVec 32 := BitVec.ofNat 32 (i 0).val
  let c7_i32 : BitVec 32 := 7#32
  let v35 : BitVec 1 := Scalar.cmpi .slt arg0 c7_i32
  let v36 : BitVec 1 := Scalar.andi v34 v35
  let v_true : BitVec 1 := 1#1
  let v39 : BitVec 1 := Scalar.xori v36 v_true
  let v40 : BitVec 32 := Scalar.extui v39
  let c0_i32_19 : BitVec 32 := 0#32
  let v41 : BitVec 1 := Scalar.cmpi .ne v40 c0_i32_19
  v41

def k0_cond3 (i : grid0.Coords) : BitVec 1 :=
  let arg1 : BitVec 32 := BitVec.ofNat 32 (i 1).val
  let c0_i32_16 : BitVec 32 := 0#32
  let v31 : BitVec 1 := Scalar.cmpi .eq arg1 c0_i32_16
  let v32 : BitVec 32 := Scalar.extui v31
  let c0_i32_17 : BitVec 32 := 0#32
  let v33 : BitVec 1 := Scalar.cmpi .ne v32 c0_i32_17
  v33

def k0_cond7 (i : grid0.Coords) : BitVec 1 :=
  let arg1 : BitVec 32 := BitVec.ofNat 32 (i 1).val
  let c0_i32_16 : BitVec 32 := 0#32
  let v31 : BitVec 1 := Scalar.cmpi .eq arg1 c0_i32_16
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c7_i32 : BitVec 32 := 7#32
  let v4 : BitVec 32 := Scalar.minsi v3 c7_i32
  let c0_i32_1 : BitVec 32 := 0#32
  let v5 : BitVec 32 := Scalar.select v2 c0_i32_1 v4
  let c0_i32_2 : BitVec 32 := 0#32
  let c0_i32_3 : BitVec 32 := 0#32
  ![v5.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S8192x1024 : Shape := ⟨2, ![8192, 1024]⟩
abbrev S1x3072 : Shape := ⟨2, ![1, 3072]⟩
abbrev S1x1024 : Shape := ⟨2, ![1, 1024]⟩
abbrev S1024x6656 : Shape := ⟨2, ![1024, 6656]⟩
abbrev S_ : Shape := ⟨0, ![]⟩
abbrev S8192 : Shape := ⟨1, ![8192]⟩
abbrev S8192x1 : Shape := ⟨2, ![8192, 1]⟩
abbrev S8192x6656 : Shape := ⟨2, ![8192, 6656]⟩
abbrev S1024x8192 : Shape := ⟨2, ![1024, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x3072, .f32⟩
  | .hbm, ⟨2, _⟩ => ⟨S1x1024, .f32⟩
  | .hbm, ⟨3, _⟩ => ⟨S1024x6656, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x6656, .f32⟩
  | .hbm, ⟨29, _⟩ => ⟨S8192x6656, .f32⟩
  | .hbm, ⟨30, _⟩ => ⟨S8192x6656, .bf16⟩
  | .hbm, ⟨31, _⟩ => ⟨S8192x1024, .bf16⟩
  | .hbm, ⟨32, _⟩ => ⟨S1024x8192, .f32⟩
  | .hbm, ⟨33, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel8.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S1 : Shape := ⟨1, ![1]⟩
abbrev S256x1024 : Shape := ⟨2, ![256, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel9.lean ====
abbrev S1 : Shape := ⟨1, ![1]⟩
abbrev S512x256 : Shape := ⟨2, ![512, 256]⟩
abbrev S256x256 : Shape := ⟨2, ![256, 256]⟩

abbrev nBuf : Space → Nat
  | .hbm => 9
  | .vmem => 18
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S1 : Shape := ⟨1, ![1]⟩
abbrev S512x256 : Shape := ⟨2, ![512, 256]⟩
abbrev S256x256 : Shape := ⟨2, ![256, 256]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x256, .f32⟩
  | .hbm, ⟨2, _⟩ => ⟨S256x256, .f32⟩
  | .hbm, ⟨3, _⟩ => ⟨S256x256, .f32⟩
  | .hbm, ⟨4, _⟩ => ⟨S512x256, .f32⟩
  | .hbm, ⟨5, _⟩ => ⟨S512x256, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S512x256, .f32⟩
  | .hbm, ⟨47, _⟩ => ⟨S512x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel10.lean ====
abbrev S1 : Shape := ⟨1, ![1]⟩
abbrev S1024x2816 : Shape := ⟨2, ![1024, 2816]⟩
abbrev S512x2816 : Shape := ⟨2, ![512, 2816]⟩
abbrev S64x2816 : Shape := ⟨2, ![64, 2816]⟩

abbrev nBuf : Space → Nat
  | .hbm => 9
  | .vmem => 18
  | .smem => 1
  | _ => 0

abbrev bufTy : (tb : Table) → Fin (tcTables nBuf tb) → BufTy
  | .hbm, ⟨0, _⟩ => ⟨S1024x2816, .f32⟩
  | .hbm, ⟨1, _⟩ => ⟨S512x2816, .f32⟩
  | .hbm, ⟨2, _⟩ => ⟨S512x2816, .f32⟩
  | .hbm, ⟨3, _⟩ => ⟨S1024x2816, .f32⟩
  | .hbm, ⟨4, _⟩ => ⟨S1024x2816, .f32⟩
  | .hbm, ⟨5, _⟩ => ⟨S1024x2816, .f32⟩
  | .hbm, ⟨6, _⟩ => ⟨S1024x2816, .f32⟩
  | .hbm, ⟨7, _⟩ => ⟨S1024x2816, .f32⟩
  | .hbm, ⟨8, _⟩ => ⟨S1024x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | .local _ .vmem, ⟨16, _⟩ => ⟨S64x2816, .f32⟩
  | .local _ .vmem, ⟨17, _⟩ => ⟨S64x2816, .f32⟩
  | .local _ .smem, ⟨0, _⟩ => ⟨S1, .i32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S1 : Shape := ⟨1, ![1]⟩
abbrev S1024x2816 : Shape := ⟨2, ![1024, 2816]⟩
abbrev S512x2816 : Shape := ⟨2, ![512, 2816]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x2816, .f32⟩
  | .hbm, ⟨2, _⟩ => ⟨S512x2816, .f32⟩
  | .hbm, ⟨3, _⟩ => ⟨S512x2816, .f32⟩
  | .hbm, ⟨4, _⟩ => ⟨S1024x2816, .f32⟩
  | .hbm, ⟨5, _⟩ => ⟨S1024x2816, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x2816, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x2816, .f32⟩
  | .hbm, ⟨14, _⟩ => ⟨S1024x2816, .f32⟩
  | .hbm, ⟨15, _⟩ => ⟨S_, .f32⟩
  | .hbm, ⟨16, _⟩ => ⟨S1024x2816, .f32⟩
  | .hbm, ⟨17, _⟩ => ⟨S1024x2816, .f32⟩
  | .hbm, ⟨18, _⟩ => ⟨S_, .f32⟩
  | .hbm, ⟨19, _⟩ => ⟨S1024x2816, .f32⟩
  | .hbm, ⟨20, _⟩ => ⟨S1024x2816, .f32⟩
  | .hbm, ⟨21, _⟩ => ⟨S1024x2816, .f32⟩
  | .hbm, ⟨22, _⟩ => ⟨S_, .f32⟩
  | .hbm, ⟨23, _⟩ => ⟨S1024x2816, .f32⟩
  | .hbm, ⟨24, _⟩ => ⟨S1024x2816, .f32⟩
  | .hbm, ⟨25, _⟩ => ⟨S1024x2816, .f32⟩
  | .hbm, ⟨26, _⟩ => ⟨S_, .f32⟩
  | .hbm, ⟨27, _⟩ => ⟨S1024x2816, .f32⟩
  | .hbm, ⟨28, _⟩ => ⟨S1024x2816, .f32⟩
  | .hbm, ⟨29, _⟩ => ⟨S1024x2816, .f32⟩
  | .hbm, ⟨30, _⟩ => ⟨S_, .f32⟩
  | .hbm, ⟨31, _⟩ => ⟨S1024x2816, .f32⟩
  | .hbm, ⟨32, _⟩ => ⟨S1024x2816, .f32⟩
  | .hbm, ⟨33, _⟩ => ⟨S_, .f32⟩
  | .hbm, ⟨34, _⟩ => ⟨S1024x2816, .f32⟩
  | .hbm, ⟨35, _⟩ => ⟨S1024x2816, .f32⟩
  | .hbm, ⟨36, _⟩ => ⟨S1024x2816, .f32⟩
  | .hbm, ⟨37, _⟩ => ⟨S_, .f32⟩
  | .hbm, ⟨38, _⟩ => ⟨S1024x2816, .f32⟩
  | .hbm, ⟨39, _⟩ => ⟨S1024x2816, .f32⟩
  | .hbm, ⟨40, _⟩ => ⟨S1024x2816, .f32⟩
  | .hbm, ⟨41, _⟩ => ⟨S_, .f32⟩
  | .hbm, ⟨42, _⟩ => ⟨S1024x2816, .f32⟩
  | .hbm, ⟨43, _⟩ => ⟨S1024x2816, .f32⟩
  | .hbm, ⟨44, _⟩ => ⟨S1024x2816, .f32⟩
  | .hbm, ⟨45, _⟩ => ⟨S_, .f32⟩
  | .hbm, ⟨46, _⟩ => ⟨S1024x2816, .f32⟩
  | .hbm, ⟨47, _⟩ => ⟨S1024x2816, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Mid.RunA.lean ====
/- The kernel body run at the first point (both weights and accumulators are set up). -/
module

public import proofs.«01_k».proof.Proof.Gen.KernelIdeal.Frame.Runs

@[expose] public section

set_option maxRecDepth 16384

noncomputable section

namespace Cert.KernelIdeal.Mid

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in
/-- The body run once at the first point (both weights and accumulators are set up): from the staged blocks, the scratch and the arrays left outside, it ends with every output, scratch and written array at the pieces found by the run, and continues. -/
noncomputable def runA (c : Dev nD) (i : grid0.Coords) (arg1 : Memref sig .tc .vmem S256x6656 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S1x3072 .f32) (harg12 : arg12.IsWhole) (arg13 : Memref sig .tc .vmem S8x1024 .f32) (harg13 : arg13.IsWhole) (arg14 : Memref sig .tc .vmem S512x512 .bf16) (harg14 : arg14.IsWhole) (arg18 : Memref sig .tc .vmem S256x6656 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x1024 .bf16) (harg22 : arg22.IsWhole) (arg23 : Memref sig .tc .vmem S8x1024 .f32) (harg23 : arg23.IsWhole) (arg27 : Memref sig .tc .vmem S1024x1024 .bf16) (harg27 : arg27.IsWhole) (arg28 : Memref sig .tc .vmem S512x1024 .bf16) (harg28 : arg28.IsWhole) (arg29 : Memref sig .tc .vmem S1024x1024 .bf16) (harg29 : arg29.IsWhole) (arg30 : Memref sig .tc .vmem S1024x1024 .f32) (harg30 : arg30.IsWhole) (arg31 : Memref sig .tc .vmem S1024x1024 .f32) (harg31 : arg31.IsWhole) (arg32 : Memref sig .tc .vmem S512x1024 .f32) (harg32 : arg32.IsWhole) (arg33 : Memref sig .tc .vmem S8x1024 .f32) (harg33 : arg33.IsWhole) (hc0 : cond0_0 i) (hc1 : ¬cond0_1 i)
    (x0 : Vec F S256x6656 .bf16) (x1 : Vec F S16x1024 .bf16) (x2 : Vec F S16x1024 .bf16) (x3 : Vec F S256x512 .f32) (x4 : Vec F S256x512 .f32) (x5 : Vec F S256x512 .f32) (x6 : Vec F S256x512 .f32) (x7 : Vec F S256x512 .f32) (x8 : Vec F S256x512 .f32) (x9 : Vec F S256x1024 .f32) (x10 : Vec F S256x1024 .f32) (x11 : Vec F S1x3072 .f32) (x12 : Vec F S8x1024 .f32) (x13 : Vec F S512x512 .bf16) (fh0 : HbBuf0 (F := F) c hbM0_0) (fh1 : HbBuf0 (F := F) c hbM0_1) (fh2 : HbBuf0 (F := F) c hbM0_2) (fw3 : HbBuf0 (F := F) c hbM0_3) (fw4 : HbBuf0 (F := F) c hbM0_4) (fw5 : HbBuf0 (F := F) c hbM0_5) :
    Σ' (L14 : List (View.Piece (Elt F) S256x6656 .bf16)), Σ' (L15 : List (View.Piece (Elt F) S256x512 .bf16)), Σ' (L16 : List (View.Piece (Elt F) S256x512 .f32)), Σ' (L17 : List (View.Piece (Elt F) S256x512 .f32)), Σ' (L18 : List (View.Piece (Elt F) S256x1024 .bf16)), Σ' (L19 : List (View.Piece (Elt F) S8x1024 .f32)), Σ' (LS0 : List (View.Piece (Elt F) S1024x1024 .bf16)), Σ' (LS1 : List (View.Piece (Elt F) S512x1024 .bf16)), Σ' (LS2 : List (View.Piece (Elt F) S1024x1024 .bf16)), Σ' (LS3 : List (View.Piece (Elt F) S1024x1024 .f32)), Σ' (LS4 : List (View.Piece (Elt F) S1024x1024 .f32)), Σ' (LS5 : List (View.Piece (Elt F) S512x1024 .f32)), Σ' (LS6 : List (View.Piece (Elt F) S8x1024 .f32)), Σ' (gw3 : HbBuf0 (F := F) c hbM0_3), Σ' (gw4 : HbBuf0 (F := F) c hbM0_4), { gw5 : HbBuf0 (F := F) c hbM0_5 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 fw3 ∗ hbPt0 c hbM0_4 fw4 ∗ hbPt0 c hbM0_5 fw5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg18.view.loc (c : Thread nD τ) ↦[arg18.view.set]{fullShare} arg18.view.writes (Elt F) f L14) ∗ (∃ f, arg19.view.loc (c : Thread nD τ) ↦[arg19.view.set]{fullShare} arg19.view.writes (Elt F) f L15) ∗ (∃ f, arg20.view.loc (c : Thread nD τ) ↦[arg20.view.set]{fullShare} arg20.view.writes (Elt F) f L16) ∗ (∃ f, arg21.view.loc (c : Thread nD τ) ↦[arg21.view.set]{fullShare} arg21.view.writes (Elt F) f L17) ∗ (∃ f, arg22.view.loc (c : Thread nD τ) ↦[arg22.view.set]{fullShare} arg22.view.writes (Elt F) f L18) ∗ (∃ f, arg23.view.loc (c : Thread nD τ) ↦[arg23.view.set]{fullShare} arg23.view.writes (Elt F) f L19) ∗ (∃ f, arg27.view.loc (c : Thread nD τ) ↦[arg27.view.set]{fullShare} arg27.view.writes (Elt F) f LS0) ∗ (∃ f, arg28.view.loc (c : Thread nD τ) ↦[arg28.view.set]{fullShare} arg28.view.writes (Elt F) f LS1) ∗ (∃ f, arg29.view.loc (c : Thread nD τ) ↦[arg29.view.set]{fullShare} arg29.view.writes (Elt F) f LS2) ∗ (∃ f, arg30.view.loc (c : Thread nD τ) ↦[arg30.view.set]{fullShare} arg30.view.writes (Elt F) f LS3) ∗ (∃ f, arg31.view.loc (c : Thread nD τ) ↦[arg31.view.set]{fullShare} arg31.view.writes (Elt F) f LS4) ∗ (∃ f, arg32.view.loc (c : Thread nD τ) ↦[arg32.view.set]{fullShare} arg32.view.writes (Elt F) f LS5) ∗ (∃ f, arg33.view.loc (c : Thread nD τ) ↦[arg33.view.set]{fullShare} arg33.view.writes (Elt F) f LS6) ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 gw3 ∗ hbPt0 c hbM0_4 gw4 ∗ hbPt0 c hbM0_5 gw5 ∗ (∃ W', owes (c : Thread nD τ) 0 W')) -∗ K ⟨⟩))
          ⊢ wp frame (wpE (defs₀ (F := F)) Variants.none c none) Set.univ (cc0_mid_fwd_bwd i arg1 harg1 arg2 harg2 arg3 harg3 arg4 harg4 arg5 harg5 arg6 harg6 arg7 harg7 arg8 harg8 arg9 harg9 arg10 harg10 arg11 harg11 arg12 harg12 arg13 harg13 arg14 harg14 (Memref.whole main_arg11) (Memref.isWhole_whole _) (Memref.whole main_arg12) (Memref.isWhole_whole _) (Memref.whole main_arg13) (Memref.isWhole_whole _) arg18 harg18 arg19 harg19 arg20 harg20 arg21 harg21 arg22 harg22 arg23 harg23 (Memref.whole main_v10_6) (Memref.isWhole_whole _) (Memref.whole main_v10_7) (Memref.isWhole_whole _) (Memref.whole main_v10_8) (Memref.isWhole_whole _) arg27 harg27 arg28 harg28 arg29 harg29 arg30 harg30 arg31 harg31 arg32 harg32 arg33 harg33 cc0_scoped0 cc0_scoped1 cc0_scoped2 cc0_scoped3 cc0_scoped4 cc0_scoped5) K } := by
  refine ⟨?_, ?_, ?_, ?_, ?_, ?_, ?_, ?_, ?_, ?_, ?_, ?_, ?_, ?_, ?_, ?_, fun W K => ?run⟩
  case run =>
    simp only [cc0_mid_fwd_bwd_eq_skeleton]; unfold cc0_mid_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hq4, Hq5, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Mid

end
-- ==== Proof.Mid.RunB.lean ====
/- The kernel body run at a point that is neither first nor last. -/
module

public import proofs.«01_k».proof.Proof.Mid.RunA

@[expose] public section

set_option maxRecDepth 16384

noncomputable section

namespace Cert.KernelIdeal.Mid

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in
/-- The body run once at a point that is neither first nor last: from the staged blocks, the scratch and the arrays left outside, it ends with every output, scratch and written array at the pieces found by the run, and continues. -/
noncomputable def runB (c : Dev nD) (i : grid0.Coords) (arg1 : Memref sig .tc .vmem S256x6656 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S1x3072 .f32) (harg12 : arg12.IsWhole) (arg13 : Memref sig .tc .vmem S8x1024 .f32) (harg13 : arg13.IsWhole) (arg14 : Memref sig .tc .vmem S512x512 .bf16) (harg14 : arg14.IsWhole) (arg18 : Memref sig .tc .vmem S256x6656 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x1024 .bf16) (harg22 : arg22.IsWhole) (arg23 : Memref sig .tc .vmem S8x1024 .f32) (harg23 : arg23.IsWhole) (arg27 : Memref sig .tc .vmem S1024x1024 .bf16) (harg27 : arg27.IsWhole) (arg28 : Memref sig .tc .vmem S512x1024 .bf16) (harg28 : arg28.IsWhole) (arg29 : Memref sig .tc .vmem S1024x1024 .bf16) (harg29 : arg29.IsWhole) (arg30 : Memref sig .tc .vmem S1024x1024 .f32) (harg30 : arg30.IsWhole) (arg31 : Memref sig .tc .vmem S1024x1024 .f32) (harg31 : arg31.IsWhole) (arg32 : Memref sig .tc .vmem S512x1024 .f32) (harg32 : arg32.IsWhole) (arg33 : Memref sig .tc .vmem S8x1024 .f32) (harg33 : arg33.IsWhole) (hc0 : ¬cond0_0 i) (hc1 : ¬cond0_1 i)
    (x0 : Vec F S256x6656 .bf16) (x1 : Vec F S16x1024 .bf16) (x2 : Vec F S16x1024 .bf16) (x3 : Vec F S256x512 .f32) (x4 : Vec F S256x512 .f32) (x5 : Vec F S256x512 .f32) (x6 : Vec F S256x512 .f32) (x7 : Vec F S256x512 .f32) (x8 : Vec F S256x512 .f32) (x9 : Vec F S256x1024 .f32) (x10 : Vec F S256x1024 .f32) (x11 : Vec F S1x3072 .f32) (x12 : Vec F S8x1024 .f32) (x13 : Vec F S512x512 .bf16) (xo19 : Vec F S8x1024 .f32) (xs0 : Vec F S1024x1024 .bf16) (xs1 : Vec F S512x1024 .bf16) (xs2 : Vec F S1024x1024 .bf16) (xs3 : Vec F S1024x1024 .f32) (xs4 : Vec F S1024x1024 .f32) (xs5 : Vec F S512x1024 .f32) (xs6 : Vec F S8x1024 .f32) (fh0 : HbBuf0 (F := F) c hbM0_0) (fh1 : HbBuf0 (F := F) c hbM0_1) (fh2 : HbBuf0 (F := F) c hbM0_2) (fw3 : HbBuf0 (F := F) c hbM0_3) (fw4 : HbBuf0 (F := F) c hbM0_4) (fw5 : HbBuf0 (F := F) c hbM0_5) :
    Σ' (L14 : List (View.Piece (Elt F) S256x6656 .bf16)), Σ' (L15 : List (View.Piece (Elt F) S256x512 .bf16)), Σ' (L16 : List (View.Piece (Elt F) S256x512 .f32)), Σ' (L17 : List (View.Piece (Elt F) S256x512 .f32)), Σ' (L18 : List (View.Piece (Elt F) S256x1024 .bf16)), Σ' (L19 : List (View.Piece (Elt F) S8x1024 .f32)), Σ' (LS0 : List (View.Piece (Elt F) S1024x1024 .bf16)), Σ' (LS1 : List (View.Piece (Elt F) S512x1024 .bf16)), Σ' (LS2 : List (View.Piece (Elt F) S1024x1024 .bf16)), Σ' (LS3 : List (View.Piece (Elt F) S1024x1024 .f32)), Σ' (LS4 : List (View.Piece (Elt F) S1024x1024 .f32)), Σ' (LS5 : List (View.Piece (Elt F) S512x1024 .f32)), Σ' (LS6 : List (View.Piece (Elt F) S8x1024 .f32)), Σ' (gw3 : HbBuf0 (F := F) c hbM0_3), Σ' (gw4 : HbBuf0 (F := F) c hbM0_4), { gw5 : HbBuf0 (F := F) c hbM0_5 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo19 ∗ owns (c : Thread nD τ) arg27 fullShare xs0 ∗ owns (c : Thread nD τ) arg28 fullShare xs1 ∗ owns (c : Thread nD τ) arg29 fullShare xs2 ∗ owns (c : Thread nD τ) arg30 fullShare xs3 ∗ owns (c : Thread nD τ) arg31 fullShare xs4 ∗ owns (c : Thread nD τ) arg32 fullShare xs5 ∗ owns (c : Thread nD τ) arg33 fullShare xs6 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 fw3 ∗ hbPt0 c hbM0_4 fw4 ∗ hbPt0 c hbM0_5 fw5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg18.view.loc (c : Thread nD τ) ↦[arg18.view.set]{fullShare} arg18.view.writes (Elt F) f L14) ∗ (∃ f, arg19.view.loc (c : Thread nD τ) ↦[arg19.view.set]{fullShare} arg19.view.writes (Elt F) f L15) ∗ (∃ f, arg20.view.loc (c : Thread nD τ) ↦[arg20.view.set]{fullShare} arg20.view.writes (Elt F) f L16) ∗ (∃ f, arg21.view.loc (c : Thread nD τ) ↦[arg21.view.set]{fullShare} arg21.view.writes (Elt F) f L17) ∗ (∃ f, arg22.view.loc (c : Thread nD τ) ↦[arg22.view.set]{fullShare} arg22.view.writes (Elt F) f L18) ∗ (arg23.view.loc (c : Thread nD τ) ↦[arg23.view.set]{fullShare} arg23.view.writes (Elt F) (harg23.unread xo19) L19) ∗ owns (c : Thread nD τ) arg27 fullShare xs0 ∗ owns (c : Thread nD τ) arg28 fullShare xs1 ∗ owns (c : Thread nD τ) arg29 fullShare xs2 ∗ (∃ f, arg30.view.loc (c : Thread nD τ) ↦[arg30.view.set]{fullShare} arg30.view.writes (Elt F) f LS3) ∗ (∃ f, arg31.view.loc (c : Thread nD τ) ↦[arg31.view.set]{fullShare} arg31.view.writes (Elt F) f LS4) ∗ (∃ f, arg32.view.loc (c : Thread nD τ) ↦[arg32.view.set]{fullShare} arg32.view.writes (Elt F) f LS5) ∗ (∃ f, arg33.view.loc (c : Thread nD τ) ↦[arg33.view.set]{fullShare} arg33.view.writes (Elt F) f LS6) ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 gw3 ∗ hbPt0 c hbM0_4 gw4 ∗ hbPt0 c hbM0_5 gw5 ∗ (∃ W', owes (c : Thread nD τ) 0 W')) -∗ K ⟨⟩))
          ⊢ wp frame (wpE (defs₀ (F := F)) Variants.none c none) Set.univ (cc0_mid_fwd_bwd i arg1 harg1 arg2 harg2 arg3 harg3 arg4 harg4 arg5 harg5 arg6 harg6 arg7 harg7 arg8 harg8 arg9 harg9 arg10 harg10 arg11 harg11 arg12 harg12 arg13 harg13 arg14 harg14 (Memref.whole main_arg11) (Memref.isWhole_whole _) (Memref.whole main_arg12) (Memref.isWhole_whole _) (Memref.whole main_arg13) (Memref.isWhole_whole _) arg18 harg18 arg19 harg19 arg20 harg20 arg21 harg21 arg22 harg22 arg23 harg23 (Memref.whole main_v10_6) (Memref.isWhole_whole _) (Memref.whole main_v10_7) (Memref.isWhole_whole _) (Memref.whole main_v10_8) (Memref.isWhole_whole _) arg27 harg27 arg28 harg28 arg29 harg29 arg30 harg30 arg31 harg31 arg32 harg32 arg33 harg33 cc0_scoped0 cc0_scoped1 cc0_scoped2 cc0_scoped3 cc0_scoped4 cc0_scoped5) K } := by
  refine ⟨?_, ?_, ?_, ?_, ?_, ?_, [], [], [], ?_, ?_, ?_, ?_, ?_, ?_, ?_, fun W K => ?run⟩
  case run =>
    simp only [cc0_mid_fwd_bwd_eq_skeleton]; unfold cc0_mid_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hq0, Hq1, Hq2, Hq3, Hq4, Hq5, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg23.eq_unread hf19; obtain rfl := harg27.eq_unread hfs0; obtain rfl := harg28.eq_unread hfs1; obtain rfl := harg29.eq_unread hfs2; obtain rfl := harg30.eq_unread hfs3; obtain rfl := harg31.eq_unread hfs4; obtain rfl := harg32.eq_unread hfs5; obtain rfl := harg33.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [HS0]
    · iexists _; isplitr; · ipureintro; exact harg27.read_unread _
      iexact HS0
    isplitl [HS1]
    · iexists _; isplitr; · ipureintro; exact harg28.read_unread _
      iexact HS1
    isplitl [HS2]
    · iexists _; isplitr; · ipureintro; exact harg29.read_unread _
      iexact HS2
    isplitl [HS3]; · iexists _; iexact HS3
    isplitl [HS4]; · iexists _; iexact HS4
    isplitl [HS5]; · iexists _; iexact HS5
    isplitl [HS6]; · iexists _; iexact HS6
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Mid

end
-- ==== Proof.Mid.RunC.lean ====
/- The kernel body run at the last point (the accumulators are copied out). -/
module

public import proofs.«01_k».proof.Proof.Mid.RunB

@[expose] public section

set_option maxRecDepth 16384

noncomputable section

namespace Cert.KernelIdeal.Mid

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2400000 in
/-- The body run once at the last point (the accumulators are copied out): from the staged blocks, the scratch and the arrays left outside, it ends with every output, scratch and written array at the pieces found by the run, and continues. -/
noncomputable def runC (c : Dev nD) (i : grid0.Coords) (arg1 : Memref sig .tc .vmem S256x6656 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S1x3072 .f32) (harg12 : arg12.IsWhole) (arg13 : Memref sig .tc .vmem S8x1024 .f32) (harg13 : arg13.IsWhole) (arg14 : Memref sig .tc .vmem S512x512 .bf16) (harg14 : arg14.IsWhole) (arg18 : Memref sig .tc .vmem S256x6656 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x1024 .bf16) (harg22 : arg22.IsWhole) (arg23 : Memref sig .tc .vmem S8x1024 .f32) (harg23 : arg23.IsWhole) (arg27 : Memref sig .tc .vmem S1024x1024 .bf16) (harg27 : arg27.IsWhole) (arg28 : Memref sig .tc .vmem S512x1024 .bf16) (harg28 : arg28.IsWhole) (arg29 : Memref sig .tc .vmem S1024x1024 .bf16) (harg29 : arg29.IsWhole) (arg30 : Memref sig .tc .vmem S1024x1024 .f32) (harg30 : arg30.IsWhole) (arg31 : Memref sig .tc .vmem S1024x1024 .f32) (harg31 : arg31.IsWhole) (arg32 : Memref sig .tc .vmem S512x1024 .f32) (harg32 : arg32.IsWhole) (arg33 : Memref sig .tc .vmem S8x1024 .f32) (harg33 : arg33.IsWhole) (hc0 : ¬cond0_0 i) (hc1 : cond0_1 i)
    (x0 : Vec F S256x6656 .bf16) (x1 : Vec F S16x1024 .bf16) (x2 : Vec F S16x1024 .bf16) (x3 : Vec F S256x512 .f32) (x4 : Vec F S256x512 .f32) (x5 : Vec F S256x512 .f32) (x6 : Vec F S256x512 .f32) (x7 : Vec F S256x512 .f32) (x8 : Vec F S256x512 .f32) (x9 : Vec F S256x1024 .f32) (x10 : Vec F S256x1024 .f32) (x11 : Vec F S1x3072 .f32) (x12 : Vec F S8x1024 .f32) (x13 : Vec F S512x512 .bf16) (xo19 : Vec F S8x1024 .f32) (xs0 : Vec F S1024x1024 .bf16) (xs1 : Vec F S512x1024 .bf16) (xs2 : Vec F S1024x1024 .bf16) (xs3 : Vec F S1024x1024 .f32) (xs4 : Vec F S1024x1024 .f32) (xs5 : Vec F S512x1024 .f32) (xs6 : Vec F S8x1024 .f32) (fh0 : HbBuf0 (F := F) c hbM0_0) (fh1 : HbBuf0 (F := F) c hbM0_1) (fh2 : HbBuf0 (F := F) c hbM0_2) (fw3 : HbBuf0 (F := F) c hbM0_3) (fw4 : HbBuf0 (F := F) c hbM0_4) (fw5 : HbBuf0 (F := F) c hbM0_5) :
    Σ' (L14 : List (View.Piece (Elt F) S256x6656 .bf16)), Σ' (L15 : List (View.Piece (Elt F) S256x512 .bf16)), Σ' (L16 : List (View.Piece (Elt F) S256x512 .f32)), Σ' (L17 : List (View.Piece (Elt F) S256x512 .f32)), Σ' (L18 : List (View.Piece (Elt F) S256x1024 .bf16)), Σ' (L19 : List (View.Piece (Elt F) S8x1024 .f32)), Σ' (LS0 : List (View.Piece (Elt F) S1024x1024 .bf16)), Σ' (LS1 : List (View.Piece (Elt F) S512x1024 .bf16)), Σ' (LS2 : List (View.Piece (Elt F) S1024x1024 .bf16)), Σ' (LS3 : List (View.Piece (Elt F) S1024x1024 .f32)), Σ' (LS4 : List (View.Piece (Elt F) S1024x1024 .f32)), Σ' (LS5 : List (View.Piece (Elt F) S512x1024 .f32)), Σ' (LS6 : List (View.Piece (Elt F) S8x1024 .f32)), Σ' (gw3 : HbBuf0 (F := F) c hbM0_3), Σ' (gw4 : HbBuf0 (F := F) c hbM0_4), { gw5 : HbBuf0 (F := F) c hbM0_5 //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo19 ∗ owns (c : Thread nD τ) arg27 fullShare xs0 ∗ owns (c : Thread nD τ) arg28 fullShare xs1 ∗ owns (c : Thread nD τ) arg29 fullShare xs2 ∗ owns (c : Thread nD τ) arg30 fullShare xs3 ∗ owns (c : Thread nD τ) arg31 fullShare xs4 ∗ owns (c : Thread nD τ) arg32 fullShare xs5 ∗ owns (c : Thread nD τ) arg33 fullShare xs6 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 fw3 ∗ hbPt0 c hbM0_4 fw4 ∗ hbPt0 c hbM0_5 fw5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg18.view.loc (c : Thread nD τ) ↦[arg18.view.set]{fullShare} arg18.view.writes (Elt F) f L14) ∗ (∃ f, arg19.view.loc (c : Thread nD τ) ↦[arg19.view.set]{fullShare} arg19.view.writes (Elt F) f L15) ∗ (∃ f, arg20.view.loc (c : Thread nD τ) ↦[arg20.view.set]{fullShare} arg20.view.writes (Elt F) f L16) ∗ (∃ f, arg21.view.loc (c : Thread nD τ) ↦[arg21.view.set]{fullShare} arg21.view.writes (Elt F) f L17) ∗ (∃ f, arg22.view.loc (c : Thread nD τ) ↦[arg22.view.set]{fullShare} arg22.view.writes (Elt F) f L18) ∗ (arg23.view.loc (c : Thread nD τ) ↦[arg23.view.set]{fullShare} arg23.view.writes (Elt F) (harg23.unread xo19) L19) ∗ owns (c : Thread nD τ) arg27 fullShare xs0 ∗ owns (c : Thread nD τ) arg28 fullShare xs1 ∗ owns (c : Thread nD τ) arg29 fullShare xs2 ∗ (∃ f, arg30.view.loc (c : Thread nD τ) ↦[arg30.view.set]{fullShare} arg30.view.writes (Elt F) f LS3) ∗ (∃ f, arg31.view.loc (c : Thread nD τ) ↦[arg31.view.set]{fullShare} arg31.view.writes (Elt F) f LS4) ∗ (∃ f, arg32.view.loc (c : Thread nD τ) ↦[arg32.view.set]{fullShare} arg32.view.writes (Elt F) f LS5) ∗ (∃ f, arg33.view.loc (c : Thread nD τ) ↦[arg33.view.set]{fullShare} arg33.view.writes (Elt F) f LS6) ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ hbPt0 c hbM0_1 fh1 ∗ hbPt0 c hbM0_2 fh2 ∗ hbPt0 c hbM0_3 gw3 ∗ hbPt0 c hbM0_4 gw4 ∗ hbPt0 c hbM0_5 gw5 ∗ (∃ W', owes (c : Thread nD τ) 0 W')) -∗ K ⟨⟩))
          ⊢ wp frame (wpE (defs₀ (F := F)) Variants.none c none) Set.univ (cc0_mid_fwd_bwd i arg1 harg1 arg2 harg2 arg3 harg3 arg4 harg4 arg5 harg5 arg6 harg6 arg7 harg7 arg8 harg8 arg9 harg9 arg10 harg10 arg11 harg11 arg12 harg12 arg13 harg13 arg14 harg14 (Memref.whole main_arg11) (Memref.isWhole_whole _) (Memref.whole main_arg12) (Memref.isWhole_whole _) (Memref.whole main_arg13) (Memref.isWhole_whole _) arg18 harg18 arg19 harg19 arg20 harg20 arg21 harg21 arg22 harg22 arg23 harg23 (Memref.whole main_v10_6) (Memref.isWhole_whole _) (Memref.whole main_v10_7) (Memref.isWhole_whole _) (Memref.whole main_v10_8) (Memref.isWhole_whole _) arg27 harg27 arg28 harg28 arg29 harg29 arg30 harg30 arg31 harg31 arg32 harg32 arg33 harg33 cc0_scoped0 cc0_scoped1 cc0_scoped2 cc0_scoped3 cc0_scoped4 cc0_scoped5) K } := by
  refine ⟨?_, ?_, ?_, ?_, ?_, ?_, [], [], [], ?_, ?_, ?_, ?_, ?_, ?_, ?_, fun W K => ?run⟩
  case run =>
    simp only [cc0_mid_fwd_bwd_eq_skeleton]; unfold cc0_mid_fwd_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hq0, Hq1, Hq2, Hq3, Hq4, Hq5, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg23.eq_unread hf19; obtain rfl := harg27.eq_unread hfs0; obtain rfl := harg28.eq_unread hfs1; obtain rfl := harg29.eq_unread hfs2; obtain rfl := harg30.eq_unread hfs3; obtain rfl := harg31.eq_unread hfs4; obtain rfl := harg32.eq_unread hfs5; obtain rfl := harg33.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [HS0]
    · iexists _; isplitr; · ipureintro; exact harg27.read_unread _
      iexact HS0
    isplitl [HS1]
    · iexists _; isplitr; · ipureintro; exact harg28.read_unread _
      iexact HS1
    isplitl [HS2]
    · iexists _; isplitr; · ipureintro; exact harg29.read_unread _
      iexact HS2
    isplitl [HS3]; · iexists _; iexact HS3
    isplitl [HS4]; · iexists _; iexact HS4
    isplitl [HS5]; · iexists _; iexact HS5
    isplitl [HS6]; · iexists _; iexact HS6
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelIdeal.Mid

end
-- ==== Proof.Mid.State.lean ====
/- What the body leaves point by point. -/
module

public import proofs.«01_k».proof.Proof.Mid.RunC
public import Idealize.ShloMosaic.Lib.Claim

@[expose] public section

set_option maxRecDepth 16384

noncomputable section

namespace Cert.KernelIdeal.Mid

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body leaves after a point: the six staged outputs, the seven scratches it carries, the three arrays it copies out to. -/
structure St (F : FTy → Type) [FloatOps F] (c : Dev nD) where
  o14 : Vec F S256x6656 .bf16
  o15 : Vec F S256x512 .bf16
  o16 : Vec F S256x512 .f32
  o17 : Vec F S256x512 .f32
  o18 : Vec F S256x1024 .bf16
  o19 : Vec F S8x1024 .f32
  s0 : Vec F S1024x1024 .bf16
  s1 : Vec F S512x1024 .bf16
  s2 : Vec F S1024x1024 .bf16
  s3 : Vec F S1024x1024 .f32
  s4 : Vec F S1024x1024 .f32
  s5 : Vec F S512x1024 .f32
  s6 : Vec F S8x1024 .f32
  w3 : HbBuf0 (F := F) c hbM0_3
  w4 : HbBuf0 (F := F) c hbM0_4
  w5 : HbBuf0 (F := F) c hbM0_5

/-- The first point's run at that point's memrefs and blocks. -/
def rA (c : Dev nD) (t : Fin cfg0.N) (h0 : t.val % 32 = 0) (h1 : ¬t.val % 32 = 31) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h))
    (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (V m c main_arg11) (V m c main_arg12) (V m c main_arg13) (V m c main_v10_6) (V m c main_v10_7) (V m c main_v10_8)

/-- A middle point's run at that point's memrefs and blocks, over what the point before left. -/
def rB (c : Dev nD) (t : Fin cfg0.N) (h0 : ¬t.val % 32 = 0) (h1 : ¬t.val % 32 = 31) (s : St F c) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h))
    (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    s.o19 s.s0 s.s1 s.s2 s.s3 s.s4 s.s5 s.s6 (V m c main_arg11) (V m c main_arg12) (V m c main_arg13) s.w3 s.w4 s.w5

/-- The last point's run at that point's memrefs and blocks, over what the point before left. -/
def rC (c : Dev nD) (t : Fin cfg0.N) (h0 : ¬t.val % 32 = 0) (h1 : t.val % 32 = 31) (s : St F c) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1)
    (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    s.o19 s.s0 s.s1 s.s2 s.s3 s.s4 s.s5 s.s6 (V m c main_arg11) (V m c main_arg12) (V m c main_arg13) s.w3 s.w4 s.w5

/-- The stores of the first point cover each buffer they are read back from. -/
theorem coverA_o14 (c : Dev nD) (t : Fin cfg0.N) (h0 : t.val % 32 = 0) (h1 : ¬t.val % 32 = 31) (y : S256x6656.Idx) :
    ∃ pc ∈ (rA m c t h0 h1).1, y ∈ pc.1.set :=
  View.cover_of_tiledBy _ ![256, 512] (by sl_kernel_rfl) y
theorem coverA_o15 (c : Dev nD) (t : Fin cfg0.N) (h0 : t.val % 32 = 0) (h1 : ¬t.val % 32 = 31) (y : S256x512.Idx) :
    ∃ pc ∈ (rA m c t h0 h1).2.1, y ∈ pc.1.set :=
  View.cover_of_tiledL _ S256x512.size (by sl_kernel_rfl) y
theorem coverA_o16 (c : Dev nD) (t : Fin cfg0.N) (h0 : t.val % 32 = 0) (h1 : ¬t.val % 32 = 31) (y : S256x512.Idx) :
    ∃ pc ∈ (rA m c t h0 h1).2.2.1, y ∈ pc.1.set :=
  View.cover_of_tiledL _ S256x512.size (by sl_kernel_rfl) y
theorem coverA_o17 (c : Dev nD) (t : Fin cfg0.N) (h0 : t.val % 32 = 0) (h1 : ¬t.val % 32 = 31) (y : S256x512.Idx) :
    ∃ pc ∈ (rA m c t h0 h1).2.2.2.1, y ∈ pc.1.set :=
  View.cover_of_tiledL _ S256x512.size (by sl_kernel_rfl) y
theorem coverA_o18 (c : Dev nD) (t : Fin cfg0.N) (h0 : t.val % 32 = 0) (h1 : ¬t.val % 32 = 31) (y : S256x1024.Idx) :
    ∃ pc ∈ (rA m c t h0 h1).2.2.2.2.1, y ∈ pc.1.set :=
  View.cover_of_tiledL _ S256x1024.size (by sl_kernel_rfl) y
theorem coverA_o19 (c : Dev nD) (t : Fin cfg0.N) (h0 : t.val % 32 = 0) (h1 : ¬t.val % 32 = 31) (y : S8x1024.Idx) :
    ∃ pc ∈ (rA m c t h0 h1).2.2.2.2.2.1, y ∈ pc.1.set :=
  View.cover_of_tiledBy _ ![1, 1024] (by sl_kernel_rfl) y
theorem coverA_s0 (c : Dev nD) (t : Fin cfg0.N) (h0 : t.val % 32 = 0) (h1 : ¬t.val % 32 = 31) (y : S1024x1024.Idx) :
    ∃ pc ∈ (rA m c t h0 h1).2.2.2.2.2.2.1, y ∈ pc.1.set :=
  View.cover_of_tiledL _ S1024x1024.size (by sl_kernel_rfl) y
theorem coverA_s1 (c : Dev nD) (t : Fin cfg0.N) (h0 : t.val % 32 = 0) (h1 : ¬t.val % 32 = 31) (y : S512x1024.Idx) :
    ∃ pc ∈ (rA m c t h0 h1).2.2.2.2.2.2.2.1, y ∈ pc.1.set :=
  View.cover_of_tiledL _ S512x1024.size (by sl_kernel_rfl) y
theorem coverA_s2 (c : Dev nD) (t : Fin cfg0.N) (h0 : t.val % 32 = 0) (h1 : ¬t.val % 32 = 31) (y : S1024x1024.Idx) :
    ∃ pc ∈ (rA m c t h0 h1).2.2.2.2.2.2.2.2.1, y ∈ pc.1.set :=
  View.cover_of_tiledL _ S1024x1024.size (by sl_kernel_rfl) y
theorem coverA_s3 (c : Dev nD) (t : Fin cfg0.N) (h0 : t.val % 32 = 0) (h1 : ¬t.val % 32 = 31) (y : S1024x1024.Idx) :
    ∃ pc ∈ (rA m c t h0 h1).2.2.2.2.2.2.2.2.2.1, y ∈ pc.1.set :=
  View.cover_of_tiledL _ S1024x1024.size (by sl_kernel_rfl) y
theorem coverA_s4 (c : Dev nD) (t : Fin cfg0.N) (h0 : t.val % 32 = 0) (h1 : ¬t.val % 32 = 31) (y : S1024x1024.Idx) :
    ∃ pc ∈ (rA m c t h0 h1).2.2.2.2.2.2.2.2.2.2.1, y ∈ pc.1.set :=
  View.cover_of_tiledL _ S1024x1024.size (by sl_kernel_rfl) y
theorem coverA_s5 (c : Dev nD) (t : Fin cfg0.N) (h0 : t.val % 32 = 0) (h1 : ¬t.val % 32 = 31) (y : S512x1024.Idx) :
    ∃ pc ∈ (rA m c t h0 h1).2.2.2.2.2.2.2.2.2.2.2.1, y ∈ pc.1.set :=
  View.cover_of_tiledL _ S512x1024.size (by sl_kernel_rfl) y
theorem coverA_s6 (c : Dev nD) (t : Fin cfg0.N) (h0 : t.val % 32 = 0) (h1 : ¬t.val % 32 = 31) (y : S8x1024.Idx) :
    ∃ pc ∈ (rA m c t h0 h1).2.2.2.2.2.2.2.2.2.2.2.2.1, y ∈ pc.1.set :=
  View.cover_of_tiledL _ S8x1024.size (by sl_kernel_rfl) y

/-- The stores of a middle point cover each buffer they are read back from. -/
theorem coverB_o14 (c : Dev nD) (t : Fin cfg0.N) (h0 : ¬t.val % 32 = 0) (h1 : ¬t.val % 32 = 31) (s : St F c) (y : S256x6656.Idx) :
    ∃ pc ∈ (rB m c t h0 h1 s).1, y ∈ pc.1.set :=
  View.cover_of_tiledBy _ ![256, 512] (by sl_kernel_rfl) y
theorem coverB_o15 (c : Dev nD) (t : Fin cfg0.N) (h0 : ¬t.val % 32 = 0) (h1 : ¬t.val % 32 = 31) (s : St F c) (y : S256x512.Idx) :
    ∃ pc ∈ (rB m c t h0 h1 s).2.1, y ∈ pc.1.set :=
  View.cover_of_tiledL _ S256x512.size (by sl_kernel_rfl) y
theorem coverB_o16 (c : Dev nD) (t : Fin cfg0.N) (h0 : ¬t.val % 32 = 0) (h1 : ¬t.val % 32 = 31) (s : St F c) (y : S256x512.Idx) :
    ∃ pc ∈ (rB m c t h0 h1 s).2.2.1, y ∈ pc.1.set :=
  View.cover_of_tiledL _ S256x512.size (by sl_kernel_rfl) y
theorem coverB_o17 (c : Dev nD) (t : Fin cfg0.N) (h0 : ¬t.val % 32 = 0) (h1 : ¬t.val % 32 = 31) (s : St F c) (y : S256x512.Idx) :
    ∃ pc ∈ (rB m c t h0 h1 s).2.2.2.1, y ∈ pc.1.set :=
  View.cover_of_tiledL _ S256x512.size (by sl_kernel_rfl) y
theorem coverB_o18 (c : Dev nD) (t : Fin cfg0.N) (h0 : ¬t.val % 32 = 0) (h1 : ¬t.val % 32 = 31) (s : St F c) (y : S256x1024.Idx) :
    ∃ pc ∈ (rB m c t h0 h1 s).2.2.2.2.1, y ∈ pc.1.set :=
  View.cover_of_tiledL _ S256x1024.size (by sl_kernel_rfl) y
theorem coverB_s3 (c : Dev nD) (t : Fin cfg0.N) (h0 : ¬t.val % 32 = 0) (h1 : ¬t.val % 32 = 31) (s : St F c) (y : S1024x1024.Idx) :
    ∃ pc ∈ (rB m c t h0 h1 s).2.2.2.2.2.2.2.2.2.1, y ∈ pc.1.set :=
  View.cover_of_tiledL _ S1024x1024.size (by sl_kernel_rfl) y
theorem coverB_s4 (c : Dev nD) (t : Fin cfg0.N) (h0 : ¬t.val % 32 = 0) (h1 : ¬t.val % 32 = 31) (s : St F c) (y : S1024x1024.Idx) :
    ∃ pc ∈ (rB m c t h0 h1 s).2.2.2.2.2.2.2.2.2.2.1, y ∈ pc.1.set :=
  View.cover_of_tiledL _ S1024x1024.size (by sl_kernel_rfl) y
theorem coverB_s5 (c : Dev nD) (t : Fin cfg0.N) (h0 : ¬t.val % 32 = 0) (h1 : ¬t.val % 32 = 31) (s : St F c) (y : S512x1024.Idx) :
    ∃ pc ∈ (rB m c t h0 h1 s).2.2.2.2.2.2.2.2.2.2.2.1, y ∈ pc.1.set :=
  View.cover_of_tiledL _ S512x1024.size (by sl_kernel_rfl) y
theorem coverB_s6 (c : Dev nD) (t : Fin cfg0.N) (h0 : ¬t.val % 32 = 0) (h1 : ¬t.val % 32 = 31) (s : St F c) (y : S8x1024.Idx) :
    ∃ pc ∈ (rB m c t h0 h1 s).2.2.2.2.2.2.2.2.2.2.2.2.1, y ∈ pc.1.set :=
  View.cover_of_tiledL _ S8x1024.size (by sl_kernel_rfl) y

/-- The stores of the last point cover each buffer they are read back from. -/
theorem coverC_o14 (c : Dev nD) (t : Fin cfg0.N) (h0 : ¬t.val % 32 = 0) (h1 : t.val % 32 = 31) (s : St F c) (y : S256x6656.Idx) :
    ∃ pc ∈ (rC m c t h0 h1 s).1, y ∈ pc.1.set :=
  View.cover_of_tiledBy _ ![256, 512] (by sl_kernel_rfl) y
theorem coverC_o15 (c : Dev nD) (t : Fin cfg0.N) (h0 : ¬t.val % 32 = 0) (h1 : t.val % 32 = 31) (s : St F c) (y : S256x512.Idx) :
    ∃ pc ∈ (rC m c t h0 h1 s).2.1, y ∈ pc.1.set :=
  View.cover_of_tiledL _ S256x512.size (by sl_kernel_rfl) y
theorem coverC_o16 (c : Dev nD) (t : Fin cfg0.N) (h0 : ¬t.val % 32 = 0) (h1 : t.val % 32 = 31) (s : St F c) (y : S256x512.Idx) :
    ∃ pc ∈ (rC m c t h0 h1 s).2.2.1, y ∈ pc.1.set :=
  View.cover_of_tiledL _ S256x512.size (by sl_kernel_rfl) y
theorem coverC_o17 (c : Dev nD) (t : Fin cfg0.N) (h0 : ¬t.val % 32 = 0) (h1 : t.val % 32 = 31) (s : St F c) (y : S256x512.Idx) :
    ∃ pc ∈ (rC m c t h0 h1 s).2.2.2.1, y ∈ pc.1.set :=
  View.cover_of_tiledL _ S256x512.size (by sl_kernel_rfl) y
theorem coverC_o18 (c : Dev nD) (t : Fin cfg0.N) (h0 : ¬t.val % 32 = 0) (h1 : t.val % 32 = 31) (s : St F c) (y : S256x1024.Idx) :
    ∃ pc ∈ (rC m c t h0 h1 s).2.2.2.2.1, y ∈ pc.1.set :=
  View.cover_of_tiledL _ S256x1024.size (by sl_kernel_rfl) y
theorem coverC_s3 (c : Dev nD) (t : Fin cfg0.N) (h0 : ¬t.val % 32 = 0) (h1 : t.val % 32 = 31) (s : St F c) (y : S1024x1024.Idx) :
    ∃ pc ∈ (rC m c t h0 h1 s).2.2.2.2.2.2.2.2.2.1, y ∈ pc.1.set :=
  View.cover_of_tiledL _ S1024x1024.size (by sl_kernel_rfl) y
theorem coverC_s4 (c : Dev nD) (t : Fin cfg0.N) (h0 : ¬t.val % 32 = 0) (h1 : t.val % 32 = 31) (s : St F c) (y : S1024x1024.Idx) :
    ∃ pc ∈ (rC m c t h0 h1 s).2.2.2.2.2.2.2.2.2.2.1, y ∈ pc.1.set :=
  View.cover_of_tiledL _ S1024x1024.size (by sl_kernel_rfl) y
theorem coverC_s5 (c : Dev nD) (t : Fin cfg0.N) (h0 : ¬t.val % 32 = 0) (h1 : t.val % 32 = 31) (s : St F c) (y : S512x1024.Idx) :
    ∃ pc ∈ (rC m c t h0 h1 s).2.2.2.2.2.2.2.2.2.2.2.1, y ∈ pc.1.set :=
  View.cover_of_tiledL _ S512x1024.size (by sl_kernel_rfl) y
theorem coverC_s6 (c : Dev nD) (t : Fin cfg0.N) (h0 : ¬t.val % 32 = 0) (h1 : t.val % 32 = 31) (s : St F c) (y : S8x1024.Idx) :
    ∃ pc ∈ (rC m c t h0 h1 s).2.2.2.2.2.2.2.2.2.2.2.2.1, y ∈ pc.1.set :=
  View.cover_of_tiledL _ S8x1024.size (by sl_kernel_rfl) y

/-- What the first point leaves. -/
def stA (c : Dev nD) (t : Fin cfg0.N) (h0 : t.val % 32 = 0) (h1 : ¬t.val % 32 = 31) : St F c where
  o14 := VO0_14.read (Elt F) (VO0_14.writes (Elt F) VO0_14.junk (rA m c t h0 h1).1)
  o15 := VO0_15.read (Elt F) (VO0_15.writes (Elt F) VO0_15.junk (rA m c t h0 h1).2.1)
  o16 := VO0_16.read (Elt F) (VO0_16.writes (Elt F) VO0_16.junk (rA m c t h0 h1).2.2.1)
  o17 := VO0_17.read (Elt F) (VO0_17.writes (Elt F) VO0_17.junk (rA m c t h0 h1).2.2.2.1)
  o18 := VO0_18.read (Elt F) (VO0_18.writes (Elt F) VO0_18.junk (rA m c t h0 h1).2.2.2.2.1)
  o19 := VO0_19.read (Elt F) (VO0_19.writes (Elt F) VO0_19.junk (rA m c t h0 h1).2.2.2.2.2.1)
  s0 := VS0_0.read (Elt F) (VS0_0.writes (Elt F) VS0_0.junk (rA m c t h0 h1).2.2.2.2.2.2.1)
  s1 := VS0_1.read (Elt F) (VS0_1.writes (Elt F) VS0_1.junk (rA m c t h0 h1).2.2.2.2.2.2.2.1)
  s2 := VS0_2.read (Elt F) (VS0_2.writes (Elt F) VS0_2.junk (rA m c t h0 h1).2.2.2.2.2.2.2.2.1)
  s3 := VS0_3.read (Elt F) (VS0_3.writes (Elt F) VS0_3.junk (rA m c t h0 h1).2.2.2.2.2.2.2.2.2.1)
  s4 := VS0_4.read (Elt F) (VS0_4.writes (Elt F) VS0_4.junk (rA m c t h0 h1).2.2.2.2.2.2.2.2.2.2.1)
  s5 := VS0_5.read (Elt F) (VS0_5.writes (Elt F) VS0_5.junk (rA m c t h0 h1).2.2.2.2.2.2.2.2.2.2.2.1)
  s6 := VS0_6.read (Elt F) (VS0_6.writes (Elt F) VS0_6.junk (rA m c t h0 h1).2.2.2.2.2.2.2.2.2.2.2.2.1)
  w3 := (rA m c t h0 h1).2.2.2.2.2.2.2.2.2.2.2.2.2.1
  w4 := (rA m c t h0 h1).2.2.2.2.2.2.2.2.2.2.2.2.2.2.1
  w5 := (rA m c t h0 h1).2.2.2.2.2.2.2.2.2.2.2.2.2.2.2

/-- What a middle point leaves. -/
def stB (c : Dev nD) (t : Fin cfg0.N) (h0 : ¬t.val % 32 = 0) (h1 : ¬t.val % 32 = 31) (s : St F c) : St F c where
  o14 := VO0_14.read (Elt F) (VO0_14.writes (Elt F) VO0_14.junk (rB m c t h0 h1 s).1)
  o15 := VO0_15.read (Elt F) (VO0_15.writes (Elt F) VO0_15.junk (rB m c t h0 h1 s).2.1)
  o16 := VO0_16.read (Elt F) (VO0_16.writes (Elt F) VO0_16.junk (rB m c t h0 h1 s).2.2.1)
  o17 := VO0_17.read (Elt F) (VO0_17.writes (Elt F) VO0_17.junk (rB m c t h0 h1 s).2.2.2.1)
  o18 := VO0_18.read (Elt F) (VO0_18.writes (Elt F) VO0_18.junk (rB m c t h0 h1 s).2.2.2.2.1)
  o19 := (ms0_19 t).view.read (Elt F) ((ms0_19 t).view.writes (Elt F) ((hs0_19 t).unread s.o19) (rB m c t h0 h1 s).2.2.2.2.2.1)
  s0 := s.s0
  s1 := s.s1
  s2 := s.s2
  s3 := VS0_3.read (Elt F) (VS0_3.writes (Elt F) VS0_3.junk (rB m c t h0 h1 s).2.2.2.2.2.2.2.2.2.1)
  s4 := VS0_4.read (Elt F) (VS0_4.writes (Elt F) VS0_4.junk (rB m c t h0 h1 s).2.2.2.2.2.2.2.2.2.2.1)
  s5 := VS0_5.read (Elt F) (VS0_5.writes (Elt F) VS0_5.junk (rB m c t h0 h1 s).2.2.2.2.2.2.2.2.2.2.2.1)
  s6 := VS0_6.read (Elt F) (VS0_6.writes (Elt F) VS0_6.junk (rB m c t h0 h1 s).2.2.2.2.2.2.2.2.2.2.2.2.1)
  w3 := (rB m c t h0 h1 s).2.2.2.2.2.2.2.2.2.2.2.2.2.1
  w4 := (rB m c t h0 h1 s).2.2.2.2.2.2.2.2.2.2.2.2.2.2.1
  w5 := (rB m c t h0 h1 s).2.2.2.2.2.2.2.2.2.2.2.2.2.2.2

/-- What the last point leaves. -/
def stC (c : Dev nD) (t : Fin cfg0.N) (h0 : ¬t.val % 32 = 0) (h1 : t.val % 32 = 31) (s : St F c) : St F c where
  o14 := VO0_14.read (Elt F) (VO0_14.writes (Elt F) VO0_14.junk (rC m c t h0 h1 s).1)
  o15 := VO0_15.read (Elt F) (VO0_15.writes (Elt F) VO0_15.junk (rC m c t h0 h1 s).2.1)
  o16 := VO0_16.read (Elt F) (VO0_16.writes (Elt F) VO0_16.junk (rC m c t h0 h1 s).2.2.1)
  o17 := VO0_17.read (Elt F) (VO0_17.writes (Elt F) VO0_17.junk (rC m c t h0 h1 s).2.2.2.1)
  o18 := VO0_18.read (Elt F) (VO0_18.writes (Elt F) VO0_18.junk (rC m c t h0 h1 s).2.2.2.2.1)
  o19 := (ms0_19 t).view.read (Elt F) ((ms0_19 t).view.writes (Elt F) ((hs0_19 t).unread s.o19) (rC m c t h0 h1 s).2.2.2.2.2.1)
  s0 := s.s0
  s1 := s.s1
  s2 := s.s2
  s3 := VS0_3.read (Elt F) (VS0_3.writes (Elt F) VS0_3.junk (rC m c t h0 h1 s).2.2.2.2.2.2.2.2.2.1)
  s4 := VS0_4.read (Elt F) (VS0_4.writes (Elt F) VS0_4.junk (rC m c t h0 h1 s).2.2.2.2.2.2.2.2.2.2.1)
  s5 := VS0_5.read (Elt F) (VS0_5.writes (Elt F) VS0_5.junk (rC m c t h0 h1 s).2.2.2.2.2.2.2.2.2.2.2.1)
  s6 := VS0_6.read (Elt F) (VS0_6.writes (Elt F) VS0_6.junk (rC m c t h0 h1 s).2.2.2.2.2.2.2.2.2.2.2.2.1)
  w3 := (rC m c t h0 h1 s).2.2.2.2.2.2.2.2.2.2.2.2.2.1
  w4 := (rC m c t h0 h1 s).2.2.2.2.2.2.2.2.2.2.2.2.2.2.1
  w5 := (rC m c t h0 h1 s).2.2.2.2.2.2.2.2.2.2.2.2.2.2.2

/-- What the body leaves after point `n`, from the first point on. -/
def outsAt (c : Dev nD) : (n : ℕ) → n < cfg0.N → St F c
  | 0, hn => stA m c ⟨0, hn⟩ (Nat.zero_mod _) (show ¬(0 : ℕ) % 32 = 31 by decide)
  | n + 1, hn =>
    have h0 : ¬(n + 1) % 32 = 0 := by have hN : n + 1 < 32 := lt_of_lt_of_eq hn (show cfg0.N = 32 from N_0); omega
    if h1 : (n + 1) % 32 = 31 then stC m c ⟨n + 1, hn⟩ h0 h1 (outsAt c n (Nat.lt_of_succ_lt hn))
    else stB m c ⟨n + 1, hn⟩ h0 h1 (outsAt c n (Nat.lt_of_succ_lt hn))

/-- The first point. -/
theorem outsAt_A (c : Dev nD) (t : Fin cfg0.N) (h0 : t.val % 32 = 0) (h1 : ¬t.val % 32 = 31) :
    outsAt m c t.val t.isLt = stA m c t h0 h1 := by
  have hN : t.val < 32 := lt_of_lt_of_eq t.isLt (show cfg0.N = 32 from N_0)
  have hz : t.val = 0 := by omega
  obtain ⟨n, hn⟩ := t
  dsimp only at hz; subst hz; rfl

/-- A middle point, over the point before. -/
theorem outsAt_B (c : Dev nD) (t : Fin cfg0.N) (h0 : ¬t.val % 32 = 0) (h1 : ¬t.val % 32 = 31) :
    outsAt m c t.val t.isLt = stB m c t h0 h1 (outsAt m c (t.val - 1) (Nat.lt_of_le_of_lt (Nat.sub_le _ _) t.isLt)) := by
  obtain ⟨n, hn⟩ := t
  cases n with
  | zero => exact absurd (Nat.zero_mod _) h0
  | succ n => exact dif_neg h1

/-- The last point, over the point before. -/
theorem outsAt_C (c : Dev nD) (t : Fin cfg0.N) (h0 : ¬t.val % 32 = 0) (h1 : t.val % 32 = 31) :
    outsAt m c t.val t.isLt = stC m c t h0 h1 (outsAt m c (t.val - 1) (Nat.lt_of_le_of_lt (Nat.sub_le _ _) t.isLt)) := by
  obtain ⟨n, hn⟩ := t
  cases n with
  | zero => exact absurd (Nat.zero_mod _) h0
  | succ n => exact dif_pos h1

end Cert.KernelIdeal.Mid

end
-- ==== Proof.Mid.Lift.lean ====
module

public import Idealize.ShloMosaic.PureOps.Ideal.Laws
public import Idealize.ShloMosaic.Lib.ValueIdxCore
public import Idealize.ShloMosaic.Lib.MatmulPlain
public import Idealize.ShloMosaic.Lib.Pipeline.Value
public import Mathlib.Tactic.FinCases
public import Mathlib.Tactic.NormNum
public import Mathlib.Analysis.SpecialFunctions.Log.Basic

@[expose] public section

set_option maxRecDepth 16384

/-!
# Matrices of real numbers among the ideal vectors

`M f` is the vector of shape `[R, C]` whose element at `(r, c)` is the real number `f r c`, and `V f` the same of
one axis. Each operation of the two programs sends such vectors to such a vector; the lemmas below say to which.
-/

noncomputable section

namespace Cert.Lift

open Idealize.ShloMosaic Idealize.ShloMosaic.ValueIdx
open scoped BigOperators

/-- The `[R, C]` vector of the reals `f r c`. -/
def M {R C : ℕ} (f : ℕ → ℕ → ℝ) : (⟨2, ![R, C]⟩ : Shape).Idx → EReal := fun i => ((f (i 0).val (i 1).val : ℝ) : EReal)
/-- The `[C]` vector of the reals `f c`. -/
def V {C : ℕ} (f : ℕ → ℝ) : (⟨1, ![C]⟩ : Shape).Idx → EReal := fun i => ((f (i 0).val : ℝ) : EReal)

variable {R C K : ℕ} {φ : FTy}

theorem M_congr {f g : ℕ → ℕ → ℝ} (h : ∀ r c, r < R → c < C → f r c = g r c) : (M f : (⟨2, ![R, C]⟩ : Shape).Idx → EReal) = M g := by
  funext i; exact congrArg (fun x : ℝ => (x : EReal)) (h _ _ (idx2_lt0 i) (idx2_lt1 i))

theorem coe_sum_fin (n : ℕ) (f : ℕ → ℝ) : (∑ k : Fin n, ((f k.val : ℝ) : EReal)) = ((∑ k ∈ Finset.range n, f k : ℝ) : EReal) := by
  rw [Fin.sum_univ_eq_sum_range (fun k => ((f k : ℝ) : EReal)) n]
  induction n with
  | zero => simp
  | succ n ih => rw [Finset.sum_range_succ, Finset.sum_range_succ, ih, EReal.coe_add]

/-! ## Elementwise -/

variable {S : Shape}

theorem mulf_M (f g : ℕ → ℕ → ℝ) : mulf (F := Ideal) (φ := φ) (s := ⟨2, ![R, C]⟩) (M f) (M g) = M fun r c => f r c * g r c := by
  funext i; exact (EReal.coe_mul _ _).symm
theorem addf_M (f g : ℕ → ℕ → ℝ) : addf (F := Ideal) (φ := φ) (s := ⟨2, ![R, C]⟩) (M f) (M g) = M fun r c => f r c + g r c := by
  funext i; exact (EReal.coe_add _ _).symm
theorem subf_M (f g : ℕ → ℕ → ℝ) : subf (F := Ideal) (φ := φ) (s := ⟨2, ![R, C]⟩) (M f) (M g) = M fun r c => f r c - g r c := by
  funext i; exact (EReal.coe_sub _ _).symm
theorem maximumf_M (f g : ℕ → ℕ → ℝ) : maximumf (F := Ideal) (φ := φ) (s := ⟨2, ![R, C]⟩) (M f) (M g) = M fun r c => max (f r c) (g r c) := by
  funext i; exact (EReal.coe_strictMono.monotone.map_max).symm
theorem extf_M (f : ℕ → ℕ → ℝ) (h) : extf (F := Ideal) (φ := .bf16) (s := ⟨2, ![R, C]⟩) .f32 (M f) h = M f := rfl
theorem truncf_M (f : ℕ → ℕ → ℝ) (h) : truncf (F := Ideal) (φ := .f32) (s := ⟨2, ![R, C]⟩) .bf16 (M f) h = M f := rfl
theorem exp_M (f : ℕ → ℕ → ℝ) : exp (F := Ideal) (φ := φ) (s := ⟨2, ![R, C]⟩) (M f) = M fun r c => Real.exp (f r c) := by
  funext i; exact Ideal.exp_coe _
theorem hexp_M (f : ℕ → ℕ → ℝ) : Host.exp (F := Ideal) (φ := φ) (s := ⟨2, ![R, C]⟩) (M f) = M fun r c => Real.exp (f r c) := by
  funext i; exact Ideal.exp_coe _
theorem hnegf_M (f : ℕ → ℕ → ℝ) : Host.negf (F := Ideal) (φ := φ) (s := ⟨2, ![R, C]⟩) (M f) = M fun r c => -f r c := by
  funext i; exact (EReal.coe_neg _).symm
theorem log_M (f : ℕ → ℕ → ℝ) (h : ∀ r c, 0 < f r c) : log (F := Ideal) (φ := φ) (s := ⟨2, ![R, C]⟩) (M f) = M fun r c => Real.log (f r c) := by
  funext i
  refine (Ideal.log_coe _).trans ?_
  rw [if_neg (not_le.mpr (h _ _))]; rfl
theorem hlog_M (f : ℕ → ℕ → ℝ) (h : ∀ r c, 0 < f r c) : Host.log (F := Ideal) (φ := φ) (s := ⟨2, ![R, C]⟩) (M f) = M fun r c => Real.log (f r c) := by
  funext i
  refine (Ideal.log_coe _).trans ?_
  rw [if_neg (not_le.mpr (h _ _))]; rfl
theorem div_coe' (x y : ℝ) (h : y ≠ 0) : Ideal.div (x : EReal) (y : EReal) = ((x / y : ℝ) : EReal) := by
  rw [Ideal.div_coe h, ← EReal.coe_mul, mul_one_div]
theorem divf_M (f g : ℕ → ℕ → ℝ) (h : ∀ r c, g r c ≠ 0) : divf (F := Ideal) (φ := φ) (s := ⟨2, ![R, C]⟩) (M f) (M g) = M fun r c => f r c / g r c := by
  funext i; exact div_coe' _ _ (h _ _)
theorem hdivf_M (f g : ℕ → ℕ → ℝ) (h : ∀ r c, g r c ≠ 0) : Host.divf (F := Ideal) (φ := φ) (s := ⟨2, ![R, C]⟩) (M f) (M g) = M fun r c => f r c / g r c := by
  funext i; exact div_coe' _ _ (h _ _)
theorem hdivf_V (f g : ℕ → ℝ) (h : ∀ c, g c ≠ 0) : Host.divf (F := Ideal) (φ := φ) (s := ⟨1, ![C]⟩) (V f) (V g) = V fun c => f c / g c := by
  funext i; exact div_coe' _ _ (h _)
theorem addf_V (f g : ℕ → ℝ) : addf (F := Ideal) (φ := φ) (s := ⟨1, ![C]⟩) (V f) (V g) = V fun c => f c + g c := by
  funext i; exact (EReal.coe_add _ _).symm

/-! ## Constants -/

theorem w0 : Ideal.ofBits .f32 0x00000000#32 = ((0 : ℝ) : EReal) := by simp
theorem w1 : Ideal.ofBits .f32 0x3F800000#32 = ((1 : ℝ) : EReal) := by
  simp [Ideal.ofBits, Ideal.ieee, -EReal.coe_mul]; norm_num
theorem w1024 : Ideal.ofBits .f32 0x44800000#32 = ((1024 : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num
theorem whalf : Ideal.ofBits .f32 0x3F000000#32 = ((1 / 2 : ℝ) : EReal) := by
  simp [Ideal.ofBits, Ideal.ieee, -EReal.coe_mul]; norm_num
theorem winv : Ideal.ofBits .f32 0x3A800000#32 = ((1 / 1024 : ℝ) : EReal) := by
  simp [Ideal.ofBits, Ideal.ieee, -EReal.coe_mul]; norm_num

theorem bc0_M : broadcast (⟨2, ![R, C]⟩ : Shape) (Scalar.ofBits (F := Ideal) .f32 0x00000000#32) = (M fun _ _ => 0 : (⟨2, ![R, C]⟩ : Shape).Idx → EReal) := by
  funext i; exact w0
theorem bc1_M : broadcast (⟨2, ![R, C]⟩ : Shape) (Scalar.ofBits (F := Ideal) .f32 0x3F800000#32) = (M fun _ _ => 1 : (⟨2, ![R, C]⟩ : Shape).Idx → EReal) := by
  funext i; exact w1
theorem bcinv_M : broadcast (⟨2, ![R, C]⟩ : Shape) (Scalar.ofBits (F := Ideal) .f32 0x3A800000#32) = (M fun _ _ => 1 / 1024 : (⟨2, ![R, C]⟩ : Shape).Idx → EReal) := by
  funext i; exact winv
theorem bid0_M (d) (h) : broadcastInDim (⟨2, ![R, C]⟩ : Shape) d h (constant (F := Ideal) ⟨0, ![]⟩ .f32 0x00000000#32) = (M fun _ _ => 0 : (⟨2, ![R, C]⟩ : Shape).Idx → EReal) := by
  funext i; exact w0
theorem bid1_M (d) (h) : broadcastInDim (⟨2, ![R, C]⟩ : Shape) d h (constant (F := Ideal) ⟨0, ![]⟩ .f32 0x3F800000#32) = (M fun _ _ => 1 : (⟨2, ![R, C]⟩ : Shape).Idx → EReal) := by
  funext i; exact w1
theorem bid2_M (d) (h) : broadcastInDim (⟨2, ![R, C]⟩ : Shape) d h (constant (F := Ideal) ⟨0, ![]⟩ .f32 0x40000000#32) = (M fun _ _ => 2 : (⟨2, ![R, C]⟩ : Shape).Idx → EReal) := by
  funext i; exact w2
theorem bid1024_V (d) (h) : broadcastInDim (⟨1, ![C]⟩ : Shape) d h (constant (F := Ideal) ⟨0, ![]⟩ .f32 0x44800000#32) = (V fun _ => 1024 : (⟨1, ![C]⟩ : Shape).Idx → EReal) := by
  funext i; exact w1024
theorem bidhalf_V (d) (h) : broadcastInDim (⟨1, ![C]⟩ : Shape) d h (mulf (constant (F := Ideal) ⟨0, ![]⟩ .f32 0x3F000000#32) (constant (F := Ideal) ⟨0, ![]⟩ .f32 0x3F800000#32)) = (V fun _ => 1 / 2 : (⟨1, ![C]⟩ : Shape).Idx → EReal) := by
  funext i
  show Ideal.ofBits .f32 0x3F000000#32 * Ideal.ofBits .f32 0x3F800000#32 = _
  rw [whalf, w1, ← EReal.coe_mul, mul_one]; rfl

/-! ## Re-indexings -/

theorem shapeCast_same {S : Shape} {α : Type} (x : S.Idx → α) (h) : shapeCast S x h = x := shapeCast_self x h

/-- A row spread over the rows. -/
theorem broadcastTo_M (f : ℕ → ℕ → ℝ) (h) : broadcastTo (⟨2, ![R, C]⟩ : Shape) (M f : (⟨2, ![1, C]⟩ : Shape).Idx → EReal) h = M fun _ c => f 0 c := by
  funext i
  unfold broadcastTo M
  have h1 := idx2_lt1 i
  by_cases hC : C = 1
  · subst hC
    have : (i 1).val = 0 := by omega
    simp [this]
  · simp [hC]

/-- The host's row spread over the rows. -/
theorem bidRow_M (f : ℕ → ℕ → ℝ) (h) : broadcastInDim (s := ⟨2, ![1, C]⟩) (⟨2, ![R, C]⟩ : Shape) ![0, 1] h (M f : (⟨2, ![1, C]⟩ : Shape).Idx → EReal) = M fun _ c => f 0 c := by
  funext i
  unfold broadcastInDim M
  have h1 := idx2_lt1 i
  by_cases hC : C = 1
  · subst hC
    have : (i 1).val = 0 := by omega
    simp [this]
  · simp [hC]

/-- The host's column spread over the columns. -/
theorem bidCol_V (f : ℕ → ℝ) (h) : broadcastInDim (s := ⟨1, ![R]⟩) (⟨2, ![R, C]⟩ : Shape) ![0] h (V f : (⟨1, ![R]⟩ : Shape).Idx → EReal) = M fun r _ => f r := by
  funext i
  unfold broadcastInDim V M
  have h1 := idx2_lt0 i
  by_cases hC : R = 1
  · subst hC
    have : (i 0).val = 0 := by omega
    simp [this]
  · simp [hC]

/-- A vector as the one row of a matrix, by `broadcast_in_dim`. -/
theorem bidVec_V (f : ℕ → ℝ) (h) : broadcastInDim (s := ⟨1, ![C]⟩) (⟨2, ![1, C]⟩ : Shape) ![1] h (V f : (⟨1, ![C]⟩ : Shape).Idx → EReal) = M fun _ c => f c := by
  funext i
  unfold broadcastInDim V M
  have h1 := idx2_lt1 i
  by_cases hC : C = 1
  · subst hC
    have : (i 1).val = 0 := by omega
    simp [this]
  · simp [hC]

theorem slice_M {R' C' : ℕ} (a b : ℕ) (f : ℕ → ℕ → ℝ) (h) :
    extractStridedSlice (⟨2, ![R', C']⟩ : Shape) ![a, b] (M f : (⟨2, ![R, C]⟩ : Shape).Idx → EReal) h = M fun r c => f (a + r) (b + c) := rfl

theorem shapeCast_V (f : ℕ → ℝ) (h) : shapeCast (⟨2, ![1, C]⟩ : Shape) (V f : (⟨1, ![C]⟩ : Shape).Idx → EReal) h = M fun _ c => f c := by
  funext i; exact shapeCast_addUnit_apply ![C] _ h i

theorem rotate_M (n : BitVec 32) (f : ℕ → ℕ → ℝ) (h) :
    dynamicRotate 0 n none (M f : (⟨2, ![R, C]⟩ : Shape).Idx → EReal) h = M fun r c => f ((r + R - n.toNat % R) % R) c := by
  funext i; rfl

/-- A select between two matrices on the row whose number is `k`. -/
theorem select_row (k : ℕ) (hk : k < 2 ^ 32) (hR : R ≤ 2 ^ 32) (f g : ℕ → ℕ → ℝ) (h) :
    select (cmpi .eq (iota .tc ⟨2, ![R, C]⟩ 32 [0] h) (broadcast ⟨2, ![R, C]⟩ (BitVec.ofNat 32 k))) (M f : (⟨2, ![R, C]⟩ : Shape).Idx → EReal) (M g)
      = M fun r c => if r = k then f r c else g r c := by
  funext i
  have h0 := idx2_lt0 i
  have e : cmpi .eq (iota .tc ⟨2, ![R, C]⟩ 32 [0] h) (broadcast ⟨2, ![R, C]⟩ (BitVec.ofNat 32 k)) i = if (i 0).val = k then 1#1 else 0#1 := by
    show IntOp.cmpi .eq (iota .tc ⟨2, ![R, C]⟩ 32 [0] h i) (BitVec.ofNat 32 k) = _
    rw [iota_single_apply]
    by_cases hq : (i 0).val = k
    · rw [if_pos hq, hq]; simp [IntOp.cmpi]
    · rw [if_neg hq]
      have : ¬ BitVec.ofNat 32 (i 0).val = BitVec.ofNat 32 k := by
        intro hh
        have := congrArg BitVec.toNat hh
        rw [BitVec.toNat_ofNat, BitVec.toNat_ofNat, Nat.mod_eq_of_lt (by omega), Nat.mod_eq_of_lt hk] at this
        exact hq this
      show BitVec.ofBool (BitVec.ofNat 32 (i 0).val == BitVec.ofNat 32 k) = 0#1
      rw [beq_eq_false_iff_ne.mpr this]; rfl
  show Scalar.select (cmpi .eq (iota .tc ⟨2, ![R, C]⟩ 32 [0] h) (broadcast ⟨2, ![R, C]⟩ (BitVec.ofNat 32 k)) i) _ _ = _
  rw [e]
  unfold M Scalar.select
  by_cases hq : (i 0).val = k
  · simp only [if_pos hq]; exact if_pos rfl
  · simp only [if_neg hq]; exact if_neg (by decide)

/-! ## Sums -/

/-- The column sums. -/
theorem colsum_M (f : ℕ → ℕ → ℝ) (acc) (h : (⟨2, ![R, C]⟩ : Shape).Reduces [0] ⟨1, ![C]⟩) (hφ) (hacc) :
    multiReduction (F := Ideal) (φ := φ) (s := ⟨2, ![R, C]⟩) .add [0] ⟨1, ![C]⟩ (M f) acc h hφ hacc = V fun c => ∑ r ∈ Finset.range R, f r c := by
  funext i
  rw [Ideal.multiReduction_add_single]
  exact coe_sum_fin R fun r => f r (i 0).val

/-- The host's column sums from zero. -/
theorem hcolsum_M (f : ℕ → ℕ → ℝ) (h' : (⟨2, ![R, C]⟩ : Shape).ReducesTo [0] ⟨1, ![C]⟩) (h : (⟨2, ![R, C]⟩ : Shape).Reduces [0] ⟨1, ![C]⟩) (hu) :
    Host.reduceAdd (F := Ideal) (φ := .f32) (s := ⟨2, ![R, C]⟩) (M f) (constant (F := Ideal) ⟨0, ![]⟩ .f32 0x00000000#32) h' hu = V fun c => ∑ r ∈ Finset.range R, f r c := by
  funext i
  show Ideal.hostReduceAdd h' (M f) (Ideal.ofBits .f32 0x00000000#32) i = _
  rw [Ideal.hostReduceAdd_single h' h, Ideal.ofBits_zero_f32, zero_add]
  exact coe_sum_fin R fun r => f r (i 0).val

theorem zeroAcc (i : (⟨2, ![R, C]⟩ : Shape).Idx) : constant (F := Ideal) ⟨2, ![R, C]⟩ .f32 0x00000000#32 i = 0 := Ideal.ofBits_zero_f32

/-- `[R,K]` by `[K,C]`. -/
theorem mm_nn {φ₁ φ₂ : FTy} {d : DotDims ⟨2, ![R, K]⟩ ⟨2, ![K, C]⟩ ⟨2, ![R, C]⟩} (hd : d = DotDims.plain R K C) (prec) (f g : ℕ → ℕ → ℝ) :
    matmul (F := Ideal) (φ₁ := φ₁) (φ₂ := φ₂) d prec (M f) (M g) (constant ⟨2, ![R, C]⟩ .f32 0x00000000#32)
      = M fun r c => ∑ k ∈ Finset.range K, f r k * g k c := by
  subst hd
  refine funext fun i => (eq_ix2 i).symm ▸ (?_ : ∀ (r : Fin R) (c : Fin C), matmul (F := Ideal) (φ₁ := φ₁) (φ₂ := φ₂) _ prec (M f) (M g) _ (ix2 r c) = M _ (ix2 r c)) (i 0) (i 1)
  intro r c
  refine (Ideal.matmul_plain_apply prec _ _ _ r c).trans ?_
  rw [zeroAcc, zero_add]
  refine Eq.trans (Finset.sum_congr rfl fun k _ => (EReal.coe_mul _ _).symm) ?_
  exact coe_sum_fin K fun k => f r.val k * g k c.val

/-- `[R,K]` by the transpose of `[C,K]`. -/
theorem mm_nt {φ₁ φ₂ : FTy} {d : DotDims ⟨2, ![R, K]⟩ ⟨2, ![C, K]⟩ ⟨2, ![R, C]⟩} (hd : d = DotDims.transposedRhs R K C) (prec) (f g : ℕ → ℕ → ℝ) :
    matmul (F := Ideal) (φ₁ := φ₁) (φ₂ := φ₂) d prec (M f) (M g) (constant ⟨2, ![R, C]⟩ .f32 0x00000000#32)
      = M fun r c => ∑ k ∈ Finset.range K, f r k * g c k := by
  subst hd
  refine funext fun i => (eq_ix2 i).symm ▸ (?_ : ∀ (r : Fin R) (c : Fin C), matmul (F := Ideal) (φ₁ := φ₁) (φ₂ := φ₂) _ prec (M f) (M g) _ (ix2 r c) = M _ (ix2 r c)) (i 0) (i 1)
  intro r c
  refine (Ideal.matmul_transposedRhs_apply prec _ _ _ r c).trans ?_
  rw [zeroAcc, zero_add]
  refine Eq.trans (Finset.sum_congr rfl fun k _ => (EReal.coe_mul _ _).symm) ?_
  exact coe_sum_fin K fun k => f r.val k * g c.val k

/-- The dimension numbers of the transpose of `[K,R]` by `[K,C]`. -/
def tnDims (R K C : ℕ) : DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem tn_rank (R K C : ℕ) : (tnDims R K C).contr.rank = 1 := rfl
theorem tn_size (R K C : ℕ) : (tnDims R K C).contr.size ⟨0, by rw [tn_rank]; exact Nat.one_pos⟩ = K := rfl

theorem tn_sum (f g : ℕ → ℕ → ℝ) (i : (⟨2, ![R, C]⟩ : Shape).Idx) :
    (∑ k : (tnDims R K C).contr.Idx, (M f : (⟨2, ![K, R]⟩ : Shape).Idx → EReal) ((tnDims R K C).lhsIdx i k) * (M g : (⟨2, ![K, C]⟩ : Shape).Idx → EReal) ((tnDims R K C).rhsIdx i k))
      = ((∑ k ∈ Finset.range K, f k (i 0).val * g k (i 1).val : ℝ) : EReal) := by
  rw [← Equiv.sum_comp (contrEquiv1 _ K (tn_rank R K C) (tn_size R K C)).symm, ← coe_sum_fin]
  refine Finset.sum_congr rfl fun k _ => ?_
  have hk := contrEquiv1_symm_val _ K (tn_rank R K C) (tn_size R K C) k
  refine Eq.trans ?_ (EReal.coe_mul _ _).symm
  have e1 : ((tnDims R K C).lhsIdx i ((contrEquiv1 _ K (tn_rank R K C) (tn_size R K C)).symm k) 0).val = k.val := hk
  have e2 : ((tnDims R K C).rhsIdx i ((contrEquiv1 _ K (tn_rank R K C) (tn_size R K C)).symm k) 0).val = k.val := hk
  have e3 : ((tnDims R K C).lhsIdx i ((contrEquiv1 _ K (tn_rank R K C) (tn_size R K C)).symm k) 1).val = (i 0).val := rfl
  have e4 : ((tnDims R K C).rhsIdx i ((contrEquiv1 _ K (tn_rank R K C) (tn_size R K C)).symm k) 1).val = (i 1).val := rfl
  unfold M
  rw [e1, e2, e3, e4]

/-- The transpose of `[K,R]` by `[K,C]`. -/
theorem mm_tn {φ₁ φ₂ : FTy} {d : DotDims ⟨2, ![K, R]⟩ ⟨2, ![K, C]⟩ ⟨2, ![R, C]⟩} (hd : d = tnDims R K C) (prec) (f g : ℕ → ℕ → ℝ) :
    matmul (F := Ideal) (φ₁ := φ₁) (φ₂ := φ₂) d prec (M f) (M g) (constant ⟨2, ![R, C]⟩ .f32 0x00000000#32)
      = M fun r c => ∑ k ∈ Finset.range K, f k r * g k c := by
  subst hd
  funext i
  exact (Ideal.matmul_constant_zero_apply (φ₁ := φ₁) (φ₂ := φ₂) _ prec _ _ i).trans (tn_sum f g i)

/-- The host's product equals the kernel's on a zero accumulator. -/
theorem hdot {sl sr so : Shape} {φ₁ φ₂ : FTy} (d : DotDims sl sr so) (prec) (x : FVec Ideal sl φ₁) (y : FVec Ideal sr φ₂) :
    Host.dotGeneral (F := Ideal) d prec x y = matmul (F := Ideal) d prec x y (constant so .f32 0x00000000#32) := by
  funext i
  exact (Ideal.dotGeneral_apply d prec _ x y i).trans (Ideal.matmul_constant_zero_apply d prec x y i).symm

theorem transpose_M (f : ℕ → ℕ → ℝ) (h : (⟨2, ![R, C]⟩ : Shape).Transposes [1, 0] ⟨2, ![C, R]⟩) :
    transpose (⟨2, ![C, R]⟩ : Shape) [1, 0] (M f : (⟨2, ![R, C]⟩ : Shape).Idx → EReal) h = M fun r c => f c r := by
  funext i; rfl

end Cert.Lift
-- ==== Proof.Mid.Spec.lean ====
module

public import proofs.«01_k».proof.Proof.Mid.Lift

@[expose] public section

/-!
# The middle of the block over the real numbers

What the forward and backward of the block's middle are, row by row, at real inputs: the gated convolution branch, the
merged attention branch, the two gates, the output product, the loss residual and all the gradients.
-/

noncomputable section

namespace Cert.Spec

open scoped BigOperators

/-- The real inputs of the call: the projection, the three partial attentions with their log sums, the block's input
    and target, the modulation row, the convolution taps and the three weights. -/
structure In where
  (P o0 o1 o2 l0 l1 l2 x tg md cw wc wa wo : ℕ → ℕ → ℝ)

/-- `f` from row `b` on. -/
def sh (b : ℕ) (f : ℕ → ℕ → ℝ) : ℕ → ℕ → ℝ := fun r c => f (b + r) c

/-- The logistic function. -/
def sg (z : ℝ) : ℝ := 1 / (1 + Real.exp (0 - z))

variable (I : In)

def B : ℕ → ℕ → ℝ := fun r c => I.P r (0 + c)
def Cc : ℕ → ℕ → ℝ := fun r c => I.P r (1024 + c)
def X : ℕ → ℕ → ℝ := fun r c => I.P r (2048 + c)
def Z : ℕ → ℕ → ℝ := fun r c => I.P r (3072 + c)
def ZB : ℕ → ℕ → ℝ := fun r c => I.P r (4096 + c)
def GA : ℕ → ℕ → ℝ := fun r c => I.P r (4608 + c)
def GB : ℕ → ℕ → ℝ := fun r c => I.P r (5632 + c)
/-- The modulation's gate. -/
def gate : ℕ → ℕ → ℝ := fun r c => I.md r (2048 + c)

/-- The convolution's input and the same one and two rows earlier. -/
def u : ℕ → ℕ → ℝ := fun r c => Cc I r c * X I r c
def u1 : ℕ → ℕ → ℝ := fun r c => if r < 1 then 0 else u I (r - 1) c
def u2 : ℕ → ℕ → ℝ := fun r c => if r < 2 then 0 else u I (r - 2) c
/-- The causal convolution of three taps. -/
def conv : ℕ → ℕ → ℝ := fun r c => I.cw 0 c * u2 I r c + I.cw 1 c * u1 I r c + I.cw 2 c * u I r c
def sgZ : ℕ → ℕ → ℝ := fun r c => sg (Z I r c)
def silu : ℕ → ℕ → ℝ := fun r c => Z I r c * sgZ I r c
def ya : ℕ → ℕ → ℝ := fun r c => B I r c * conv I r c * silu I r c
def pa : ℕ → ℕ → ℝ := fun r c => ∑ k ∈ Finset.range 1024, ya I r k * I.wc k c

/-- The merged attention: the largest log sum, the three weights, their sum. -/
def mx : ℕ → ℕ → ℝ := fun r c => max (max (I.l0 r c) (I.l1 r c)) (I.l2 r c)
def e0 : ℕ → ℕ → ℝ := fun r c => Real.exp (I.l0 r c - mx I r c)
def e1 : ℕ → ℕ → ℝ := fun r c => Real.exp (I.l1 r c - mx I r c)
def e2 : ℕ → ℕ → ℝ := fun r c => Real.exp (I.l2 r c - mx I r c)
def den : ℕ → ℕ → ℝ := fun r c => e0 I r c + e1 I r c + e2 I r c
def attn : ℕ → ℕ → ℝ := fun r c => (e0 I r c * I.o0 r c + e1 I r c * I.o1 r c + e2 I r c * I.o2 r c) / den I r c
def lse : ℕ → ℕ → ℝ := fun r c => mx I r c + Real.log (den I r c)
def sgB : ℕ → ℕ → ℝ := fun r c => sg (ZB I r c)
def siluB : ℕ → ℕ → ℝ := fun r c => ZB I r c * sgB I r c
def yb : ℕ → ℕ → ℝ := fun r c => attn I r c * siluB I r c
def pb : ℕ → ℕ → ℝ := fun r c => ∑ k ∈ Finset.range 512, yb I r k * I.wa k c

def gA : ℕ → ℕ → ℝ := fun r c => sg (GA I r c)
def gB : ℕ → ℕ → ℝ := fun r c => sg (GB I r c)
def mg : ℕ → ℕ → ℝ := fun r c => gA I r c * pa I r c + gB I r c * pb I r c
def mo : ℕ → ℕ → ℝ := fun r c => ∑ k ∈ Finset.range 1024, mg I r k * I.wo k c
/-- The residual against the target and the gradient of the mean square loss. -/
def diff : ℕ → ℕ → ℝ := fun r c => I.x r c + gate I 0 c * mo I r c - I.tg r c
def dout : ℕ → ℕ → ℝ := fun r c => diff I r c * (1 / 1024)

def dmo : ℕ → ℕ → ℝ := fun r c => dout I r c * gate I 0 c
def dmg : ℕ → ℕ → ℝ := fun r c => ∑ k ∈ Finset.range 1024, dmo I r k * I.wo c k
def dpa : ℕ → ℕ → ℝ := fun r c => dmg I r c * gA I r c
def dpb : ℕ → ℕ → ℝ := fun r c => dmg I r c * gB I r c
def dGA : ℕ → ℕ → ℝ := fun r c => dmg I r c * pa I r c * gA I r c * (1 - gA I r c)
def dGB : ℕ → ℕ → ℝ := fun r c => dmg I r c * pb I r c * gB I r c * (1 - gB I r c)
def dya : ℕ → ℕ → ℝ := fun r c => ∑ k ∈ Finset.range 1024, dpa I r k * I.wc c k
def dyb : ℕ → ℕ → ℝ := fun r c => ∑ k ∈ Finset.range 1024, dpb I r k * I.wa c k
def dattn : ℕ → ℕ → ℝ := fun r c => dyb I r c * siluB I r c
def dZB : ℕ → ℕ → ℝ := fun r c => dyb I r c * attn I r c * sgB I r c * (1 + ZB I r c * (1 - sgB I r c))
/-- The gradient dotted with the attention over each head of 64 columns. -/
def delta : ℕ → ℕ → ℝ := fun r c => ∑ k ∈ Finset.range 512, dattn I r k * attn I r k * (if k / 64 = c / 64 then 1 else 0)
def dBA : ℕ → ℕ → ℝ := fun r c => dya I r c * conv I r c * silu I r c
def dZ : ℕ → ℕ → ℝ := fun r c => dya I r c * B I r c * conv I r c * sgZ I r c * (1 + Z I r c * (1 - sgZ I r c))
/-- The convolution's gradient, zero from the last row on. -/
def dconv : ℕ → ℕ → ℝ := fun r c => dya I r c * B I r c * silu I r c
def dconvE : ℕ → ℕ → ℝ := fun r c => if r < 8192 then dconv I r c else 0
def dc1 : ℕ → ℕ → ℝ := fun r c => dconvE I (r + 1) c
def dc2 : ℕ → ℕ → ℝ := fun r c => dconvE I (r + 2) c
def du : ℕ → ℕ → ℝ := fun r c => I.cw 2 c * dconv I r c + I.cw 1 c * dc1 I r c + I.cw 0 c * dc2 I r c
def dC : ℕ → ℕ → ℝ := fun r c => du I r c * X I r c
def dX : ℕ → ℕ → ℝ := fun r c => du I r c * Cc I r c

/-- The projection's gradient, its seven parts side by side. -/
def dP : ℕ → ℕ → ℝ := fun r c =>
  if c < 1024 then dBA I r c else if c < 2048 then dC I r (c - 1024) else if c < 3072 then dX I r (c - 2048)
  else if c < 4096 then dZ I r (c - 3072) else if c < 4608 then dZB I r (c - 4096)
  else if c < 5632 then dGA I r (c - 4608) else dGB I r (c - 5632)

/-- Products summed over the rows from `b` to 8192: a weight gradient's sum so far. -/
def acc (f g : ℕ → ℕ → ℝ) (b : ℕ) : ℕ → ℕ → ℝ := fun r c => ∑ k ∈ Finset.range (8192 - b), f (b + k) r * g (b + k) c
/-- Column sums of a product over the rows from `b` to 8192. -/
def csum (f g : ℕ → ℕ → ℝ) (b : ℕ) : ℕ → ℝ := fun c => ∑ k ∈ Finset.range (8192 - b), f (b + k) c * g (b + k) c

/-- The vector gradients over the rows from `b` on: the gate, the three taps, the squared residual, and three rows
    of zeros. -/
def vecs (b : ℕ) : ℕ → ℕ → ℝ := fun r c =>
  if r = 0 then csum (dout I) (mo I) b c else if r = 1 then csum (dconv I) (u2 I) b c
  else if r = 2 then csum (dconv I) (u1 I) b c else if r = 3 then csum (dconv I) (u I) b c
  else if r = 4 then csum (diff I) (diff I) b c else 0

theorem sum_split (f : ℕ → ℝ) (b : ℕ) (h : b + 256 ≤ 8192) :
    (∑ k ∈ Finset.range (8192 - b), f (b + k)) = (∑ k ∈ Finset.range (8192 - (b + 256)), f (b + 256 + k)) + ∑ k ∈ Finset.range 256, f (b + k) := by
  have e : 8192 - b = 256 + (8192 - (b + 256)) := by omega
  rw [e, Finset.sum_range_add, add_comm]
  have e2 : 8192 - (b + 256) = 256 + (8192 - (b + 256)) - 256 := by omega
  simp only [add_assoc]

/-- A weight gradient's sum takes in one tile more. -/
theorem acc_step (f g : ℕ → ℕ → ℝ) (b : ℕ) (h : b + 256 ≤ 8192) :
    acc f g b = fun r c => acc f g (b + 256) r c + ∑ k ∈ Finset.range 256, f (b + k) r * g (b + k) c := by
  funext r c; exact sum_split (fun k => f k r * g k c) b h
theorem acc_end (f g : ℕ → ℕ → ℝ) : acc f g 8192 = fun _ _ => 0 := by
  funext r c; simp [acc]
theorem csum_step (f g : ℕ → ℕ → ℝ) (b : ℕ) (h : b + 256 ≤ 8192) :
    csum f g b = fun c => csum f g (b + 256) c + ∑ k ∈ Finset.range 256, f (b + k) c * g (b + k) c := by
  funext c; exact sum_split (fun k => f k c * g k c) b h
theorem csum_end (f g : ℕ → ℕ → ℝ) : csum f g 8192 = fun _ => 0 := by
  funext c; simp [csum]

end Cert.Spec
-- ==== Proof.Mid.Pay.lean ====
module

public import proofs.«01_k».proof.Proof.Gen.KernelIdeal.Skeleton
public import proofs.«01_k».proof.Proof.Mid.Spec

@[expose] public section

set_option maxRecDepth 16384

/-!
# Each step of the kernel at real inputs

At the tile whose first row is `b`, each named value of the kernel body is the matrix of the rows of the real
function of the same name from `b` on.
-/

noncomputable section

namespace Cert.KernelIdeal.Mid

open Cert.KernelIdeal.Gen Idealize.ShloMosaic Cert.Lift Cert.Spec
open scoped BigOperators

variable (I : In) (b : ℕ)

/-- The row numbers of a tile. -/
abbrev rows : IVec S256x1024 32 := iota .tc S256x1024 32 [0] iota_S256x1024_d0_w32
/-- The row numbers of the block before the tile. -/
abbrev rows16 : IVec S16x1024 32 := iota .tc S16x1024 32 [0] iota_S16x1024_d0_w32
/-- The row of one tap. -/
def W (k : ℕ) : ℕ → ℕ → ℝ := fun _ c => I.cw k c
/-- The sixteen rows before the tile, zero before the first. -/
def H : ℕ → ℕ → ℝ := fun r c => if b = 0 then 0 else u I (b + r - 16) c

theorem sig_M {R C : ℕ} (f : ℕ → ℕ → ℝ) :
    divf (F := Ideal) (φ := .f32) (s := ⟨2, ![R, C]⟩) (M fun _ _ => 1) (M fun r c => 1 + Real.exp (0 - f r c)) = M fun r c => sg (f r c) :=
  divf_M _ _ fun r c => by positivity

theorem one_row {R C : ℕ} (k : ℕ) (hk : k < R) (f : ℕ → ℕ → ℝ) :
    (V fun c => ∑ r ∈ Finset.range R, if r = k then f r c else 0 : (⟨1, ![C]⟩ : Shape).Idx → EReal) = V fun c => f k c := by
  funext i
  refine congrArg (fun x : ℝ => (x : EReal)) ?_
  simp [Finset.sum_ite_eq', hk]

/-- The column sums as the kernel body states them. -/
theorem colsum (R : ℕ) (f : ℕ → ℕ → ℝ) (h : (⟨2, ![R, 1024]⟩ : Shape).Reduces [0] S1024) (hφ : FTy.f32 = .f32 ∨ FTy.f32 = .bf16) (hacc : (0#32 : BitVec 32) = 0#32) :
    multiReduction (F := Ideal) (φ := .f32) (s := ⟨2, ![R, 1024]⟩) .add [0] S1024 (M f) 0x00000000#32 h hφ hacc = V fun c => ∑ r ∈ Finset.range R, f r c :=
  colsum_M f _ _ _ _

/-! ## The convolution branch -/

theorem p10 (f) : k0_pay10 (F := Ideal) (M f) = M f := by unfold k0_pay10; exact shapeCast_same _ _
theorem p11 (f) : k0_pay11 (F := Ideal) (M f) = M f := by unfold k0_pay11; exact shapeCast_same _ _
theorem p12 (f) : k0_pay12 (F := Ideal) (M f) = M f := by unfold k0_pay12; exact shapeCast_same _ _
theorem p13 (f) : k0_pay13 (F := Ideal) (M f) = M f := rfl
theorem p14 (f) : k0_pay14 (F := Ideal) (M f) = M f := rfl
theorem p15 (f) : k0_pay15 (F := Ideal) (M f) = M f := rfl
theorem p16 (f) : k0_pay16 (F := Ideal) (M f) = M f := rfl
theorem p36 (f) : k0_pay36 (F := Ideal) (M f) = M f := rfl
theorem p17 : k0_pay17 (F := Ideal) (M (sh b (Cc I))) (M (sh b (X I))) = M (sh b (u I)) := by
  unfold k0_pay17; simp only [p14, p15, mulf_M]; rfl

theorem p18 (i : grid0.Coords) (f g : ℕ → ℕ → ℝ) :
    k0_pay18 (F := Ideal) i (M f) (M g) = M fun r c => f r c * g r c * (if (i 0).val < 31 then 1 else 0) := by
  unfold k0_pay18
  have e : (broadcast S16x1024 (Scalar.sitofp (F := Ideal) .f32 (Scalar.extui (Scalar.cmpi .sgt (Scalar.subi 31#32 (BitVec.ofNat 32 (i 0).val)) 0#32))) : FVec Ideal S16x1024 .f32)
      = M fun _ _ => if (i 0).val < 31 then 1 else 0 := by
    have hi : (i 0).val < 32 := (i 0).isLt
    funext j
    show Scalar.sitofp (F := Ideal) .f32 (Scalar.extui (Scalar.cmpi .sgt (Scalar.subi 31#32 (BitVec.ofNat 32 (i 0).val)) 0#32)) = _
    generalize (i 0).val = n at hi
    unfold Lift.M
    by_cases hn : n < 31
    · have h1 : Scalar.extui (Scalar.cmpi .sgt (Scalar.subi 31#32 (BitVec.ofNat 32 n)) 0#32) = (1#32 : BitVec 32) := by
        interval_cases n <;> rfl
      rw [h1, Ideal.scalar_sitofp_def]
      simp [hn]
    · have : n = 31 := by omega
      subst this
      have h1 : Scalar.extui (Scalar.cmpi .sgt (Scalar.subi 31#32 (BitVec.ofNat 32 31)) 0#32) = (0#32 : BitVec 32) := rfl
      rw [h1, Ideal.scalar_sitofp_def]
      simp
  dsimp only
  rw [e]
  simp only [extf_M, mulf_M]

theorem p20 (h : ℕ → ℕ → ℝ) : k0_pay20 (F := Ideal) (M h) = M fun _ c => h 15 c := by
  unfold k0_pay20
  dsimp only
  rw [bc0_M, select_row 15 (by norm_num) (by norm_num), colsum, one_row 15 (by norm_num), shapeCast_V]

theorem p21 (hb : b = 0 ∨ 16 ≤ b) : k0_pay21 (F := Ideal) rows (M (sh b (u I))) (M (H I b)) = M (sh b (u1 I)) := by
  unfold k0_pay21
  dsimp only
  rw [p20, shapeCast_same, broadcastTo_M, rotate_M, select_row 0 (by norm_num) (by norm_num)]
  refine M_congr fun r c hr _ => ?_
  have e1 : (1#32 : BitVec 32).toNat = 1 := rfl
  unfold sh u1 H
  by_cases h0 : r = 0
  · subst h0
    rcases hb with hb | hb
    · simp [hb]
    · rw [if_pos rfl, if_neg (by omega), if_neg (by omega)]
      congr 1
  · rw [if_neg h0, if_neg (by omega), e1]
    congr 1; omega

theorem p22 (hb : b = 0 ∨ 16 ≤ b) : k0_pay22 (F := Ideal) rows (M (sh b (u I))) (M (H I b)) rows16 k0_pay19 = M (sh b (u2 I)) := by
  unfold k0_pay22 k0_pay19
  dsimp only
  simp only [p20, shapeCast_same, broadcastTo_M, bc0_M]
  rw [rotate_M, select_row 1 (by norm_num) (by norm_num), select_row 14 (by norm_num) (by norm_num), colsum,
    one_row 14 (by norm_num), shapeCast_V, broadcastTo_M, select_row 0 (by norm_num) (by norm_num)]
  refine M_congr fun r c hr _ => ?_
  have e1 : (2#32 : BitVec 32).toNat = 2 := rfl
  unfold sh u2 H
  by_cases h0 : r = 0
  · subst h0
    rcases hb with hb | hb
    · simp [hb]
    · rw [if_pos rfl, if_neg (by omega), if_neg (by omega)]
      congr 1
  · rw [if_neg h0]
    by_cases h1 : r = 1
    · subst h1
      rcases hb with hb | hb
      · simp [hb]
      · rw [if_pos rfl, if_neg (by omega), if_neg (by omega)]
        congr 1
    · rw [if_neg h1, if_neg (by omega), e1]
      congr 1; omega

theorem p23 (hb : b = 0 ∨ 16 ≤ b) :
    k0_pay23 (F := Ideal) rows (M (W I 0)) (M (W I 1)) (M (W I 2)) (M (sh b (u I))) (M (H I b)) rows16 k0_pay19 = M (sh b (conv I)) := by
  unfold k0_pay23
  simp only [p21 I b hb, p22 I b hb, broadcastTo_M, mulf_M, addf_M]; rfl

theorem p24 : k0_pay24 (F := Ideal) (M (sh b (Z I))) = M (sh b (sgZ I)) := by
  unfold k0_pay24
  simp only [bc0_M, bc1_M, subf_M, exp_M, addf_M, sig_M]; rfl

theorem p25 : k0_pay25 (F := Ideal) (M (sh b (Z I))) = M (sh b (silu I)) := by
  unfold k0_pay25
  simp only [p24, mulf_M]; rfl

theorem p26 (hb : b = 0 ∨ 16 ≤ b) :
    k0_pay26 (F := Ideal) rows (M (W I 0)) (M (W I 1)) (M (W I 2)) (M (sh b (B I))) (M (sh b (Z I))) (M (sh b (u I))) (M (H I b)) rows16 k0_pay19
      = M (sh b (ya I)) := by
  unfold k0_pay26
  simp only [p23 I b hb, p25, mulf_M]; rfl

theorem p27 (f) : k0_pay27 (F := Ideal) (M f) = M f := rfl

theorem p28 : k0_pay28 (F := Ideal) (M (sh b (ya I))) (M I.wc) = M (sh b (pa I)) := by
  unfold k0_pay28
  dsimp only
  rw [p27]
  exact mm_nn rfl none _ _

/-! ## The attention branch -/

theorem p29 : k0_pay29 (F := Ideal) (M (sh b I.l0)) (M (sh b I.l1)) (M (sh b I.l2)) = M (sh b (mx I)) := by
  unfold k0_pay29; simp only [maximumf_M]; rfl
theorem p30 : k0_pay30 (F := Ideal) (M (sh b I.l0)) (M (sh b I.l1)) (M (sh b I.l2)) = M (sh b (e0 I)) := by
  unfold k0_pay30; simp only [p29, subf_M, exp_M]; rfl
theorem p31 : k0_pay31 (F := Ideal) (M (sh b I.l0)) (M (sh b I.l1)) (M (sh b I.l2)) = M (sh b (e1 I)) := by
  unfold k0_pay31; simp only [p29, subf_M, exp_M]; rfl
theorem p32 : k0_pay32 (F := Ideal) (M (sh b I.l0)) (M (sh b I.l1)) (M (sh b I.l2)) = M (sh b (e2 I)) := by
  unfold k0_pay32; simp only [p29, subf_M, exp_M]; rfl
theorem p33 : k0_pay33 (F := Ideal) (M (sh b I.l0)) (M (sh b I.l1)) (M (sh b I.l2)) = M (sh b (den I)) := by
  unfold k0_pay33; simp only [p30, p31, p32, addf_M]; rfl
theorem den_pos (r c : ℕ) : 0 < den I r c := by unfold den e0 e1 e2; positivity
theorem p34 : k0_pay34 (F := Ideal) (M (sh b I.l0)) (M (sh b I.l1)) (M (sh b I.l2)) (M (sh b I.o0)) (M (sh b I.o1)) (M (sh b I.o2)) = M (sh b (attn I)) := by
  unfold k0_pay34; simp only [p30, p31, p32, p33, mulf_M, addf_M]
  rw [divf_M _ (sh b (den I)) (fun r c => (den_pos I (b + r) c).ne' : ∀ r c, sh b (den I) r c ≠ 0)]; rfl
theorem p35 : k0_pay35 (F := Ideal) (M (sh b I.l0)) (M (sh b I.l1)) (M (sh b I.l2)) = M (sh b (lse I)) := by
  unfold k0_pay35; simp only [p29, p33]
  rw [log_M (sh b (den I)) (fun r c => den_pos I (b + r) c : ∀ r c, 0 < sh b (den I) r c), addf_M]; rfl

theorem p37 : k0_pay37 (F := Ideal) (M (sh b (ZB I))) = M (sh b (sgB I)) := by
  unfold k0_pay37
  simp only [p36, bc0_M, bc1_M, subf_M, exp_M, addf_M, sig_M]; rfl
theorem p38 : k0_pay38 (F := Ideal) (M (sh b (ZB I))) (M (sh b (sgB I))) = M (sh b (siluB I)) := by
  unfold k0_pay38; simp only [mulf_M]; rfl
theorem p39 : k0_pay39 (F := Ideal) (M (sh b (attn I))) (M (sh b (ZB I))) (M (sh b (sgB I))) = M (sh b (yb I)) := by
  unfold k0_pay39; simp only [p38, mulf_M, truncf_M]; rfl
theorem p40 : k0_pay40 (F := Ideal) (M (sh b (attn I))) (M (sh b (ZB I))) (M (sh b (sgB I))) (M I.wa) = M (sh b (pb I)) := by
  unfold k0_pay40
  dsimp only
  rw [p39]
  exact mm_nn rfl none _ _

/-! ## The gates, the output product and the residual -/

theorem p41 : k0_pay41 (F := Ideal) (M (sh b (GA I))) = M (sh b (gA I)) := by
  unfold k0_pay41
  simp only [extf_M, bc0_M, bc1_M, subf_M, exp_M, addf_M, sig_M]; rfl
theorem p42 : k0_pay42 (F := Ideal) (M (sh b (GB I))) = M (sh b (gB I)) := by
  unfold k0_pay42
  simp only [extf_M, bc0_M, bc1_M, subf_M, exp_M, addf_M, sig_M]; rfl
theorem p43 : k0_pay43 (F := Ideal) (M (sh b (pa I))) (M (sh b (attn I))) (M (sh b (ZB I))) (M (sh b (sgB I))) (M I.wa) (M (sh b (GA I))) (M (sh b (GB I)))
    = M (sh b (mg I)) := by
  unfold k0_pay43; simp only [p40, p41, p42, mulf_M, addf_M, truncf_M]; rfl
theorem p44 : k0_pay44 (F := Ideal) (M (sh b (pa I))) (M (sh b (attn I))) (M (sh b (ZB I))) (M (sh b (sgB I))) (M I.wa) (M (sh b (GA I))) (M (sh b (GB I)))
    (M I.wo) = M (sh b (mo I)) := by
  unfold k0_pay44
  dsimp only
  rw [p43]
  exact mm_nn rfl none _ _
theorem p45 : k0_pay45 (F := Ideal) (M (gate I)) (M (sh b (pa I))) (M (sh b (attn I))) (M (sh b (ZB I))) (M (sh b (sgB I))) (M I.wa) (M (sh b (GA I)))
    (M (sh b (GB I))) (M I.wo) (M (sh b I.x)) (M (sh b I.tg)) = M (sh b (diff I)) := by
  unfold k0_pay45; simp only [p44, broadcastTo_M, mulf_M, addf_M, subf_M]; rfl
theorem p46 : k0_pay46 (F := Ideal) (M (gate I)) (M (sh b (pa I))) (M (sh b (attn I))) (M (sh b (ZB I))) (M (sh b (sgB I))) (M I.wa) (M (sh b (GA I)))
    (M (sh b (GB I))) (M I.wo) (M (sh b I.x)) (M (sh b I.tg)) = M (sh b (dout I)) := by
  unfold k0_pay46; simp only [p45, bcinv_M, mulf_M]; rfl
theorem p47 : k0_pay47 (F := Ideal) (M (gate I)) (M (sh b (pa I))) (M (sh b (attn I))) (M (sh b (ZB I))) (M (sh b (sgB I))) (M I.wa) (M (sh b (GA I)))
    (M (sh b (GB I))) (M I.wo) (M (sh b I.x)) (M (sh b I.tg)) = M (sh b (dout I)) := by
  unfold k0_pay47; simp only [p46, truncf_M]

/-! ## The gradients -/

theorem p50 : k0_pay50 (F := Ideal) (M (gate I)) (M (sh b (dout I))) = M (sh b (dmo I)) := by
  unfold k0_pay50; simp only [broadcastTo_M, mulf_M, truncf_M]; rfl
theorem p51 : k0_pay51 (F := Ideal) (M (gate I)) (M (sh b (dout I))) (M I.wo) = M (sh b (dmg I)) := by
  unfold k0_pay51
  dsimp only
  rw [p50]
  exact mm_nt rfl none _ _
theorem p52 : k0_pay52 (F := Ideal) (M (gate I)) (M (sh b (gA I))) (M (sh b (dout I))) (M I.wo) = M (sh b (dpa I)) := by
  unfold k0_pay52; simp only [p51, mulf_M, truncf_M]; rfl
theorem p53 : k0_pay53 (F := Ideal) (M (gate I)) (M (sh b (gB I))) (M (sh b (dout I))) (M I.wo) = M (sh b (dpb I)) := by
  unfold k0_pay53; simp only [p51, mulf_M, truncf_M]; rfl
theorem p54 : k0_pay54 (F := Ideal) (M (gate I)) (M (sh b (pa I))) (M (sh b (gA I))) (M (sh b (dout I))) (M I.wo) = M (sh b (dGA I)) := by
  unfold k0_pay54; simp only [p51, bc1_M, subf_M, mulf_M, truncf_M]; rfl
theorem p55 : k0_pay55 (F := Ideal) (M (gate I)) (M (sh b (pb I))) (M (sh b (gB I))) (M (sh b (dout I))) (M I.wo) = M (sh b (dGB I)) := by
  unfold k0_pay55; simp only [p51, bc1_M, subf_M, mulf_M, truncf_M]; rfl

/-- A weight gradient's sum taking in the tile. -/
theorem p56 (h : b + 256 ≤ 8192) :
    k0_pay56 (F := Ideal) (M (sh b (mg I))) (M (sh b (dmo I))) (M (acc (mg I) (dmo I) (b + 256))) = M (acc (mg I) (dmo I) b) := by
  unfold k0_pay56
  dsimp only
  rw [shapeCast_same, acc_step _ _ b h]
  refine (congrArg (addf _) (mm_tn rfl none _ _)).trans ?_
  rw [addf_M]; rfl
theorem p57 (h : b + 256 ≤ 8192) :
    k0_pay57 (F := Ideal) (M (sh b (ya I))) (M (sh b (dpa I))) (M (acc (ya I) (dpa I) (b + 256))) = M (acc (ya I) (dpa I) b) := by
  unfold k0_pay57
  dsimp only
  rw [shapeCast_same, acc_step _ _ b h]
  refine (congrArg (addf _) (mm_tn rfl none _ _)).trans ?_
  rw [addf_M]; rfl
theorem p58 (h : b + 256 ≤ 8192) :
    k0_pay58 (F := Ideal) (M (sh b (yb I))) (M (sh b (dpb I))) (M (acc (yb I) (dpb I) (b + 256))) = M (acc (yb I) (dpb I) b) := by
  unfold k0_pay58
  dsimp only
  rw [shapeCast_same, acc_step _ _ b h]
  refine (congrArg (addf _) (mm_tn rfl none _ _)).trans ?_
  rw [addf_M]; rfl

theorem p59 : k0_pay59 (F := Ideal) (M (sh b (dpa I))) (M I.wc) = M (sh b (dya I)) := by
  unfold k0_pay59
  exact mm_nt rfl none _ _
theorem p60 : k0_pay60 (F := Ideal) (M (sh b (dpb I))) (M I.wa) = M (sh b (dyb I)) := by
  unfold k0_pay60
  exact mm_nt rfl none _ _
theorem p61 : k0_pay61 (F := Ideal) (M (sh b (siluB I))) (M (sh b (dpb I))) (M I.wa) = M (sh b (dattn I)) := by
  unfold k0_pay61; simp only [p60, mulf_M]; rfl
theorem p62 : k0_pay62 (F := Ideal) (M (sh b (attn I))) (M (sh b (ZB I))) (M (sh b (sgB I))) (M (sh b (dpb I))) (M I.wa) = M (sh b (dZB I)) := by
  unfold k0_pay62; simp only [p60, bc1_M, mulf_M, subf_M, addf_M]; rfl
theorem p63 (f) : k0_pay63 (F := Ideal) (M f) = M f := rfl
theorem p64 (f) : k0_pay64 (F := Ideal) (M f) = M f := rfl
/-- Which columns belong to the same head of 64. -/
def heads : ℕ → ℕ → ℝ := fun k c => if k / 64 = c / 64 then 1 else 0
theorem p65 : k0_pay65 (F := Ideal) (M (sh b (attn I))) (M (sh b (dattn I))) (M heads) = M (sh b (delta I)) := by
  unfold k0_pay65
  simp only [mulf_M, truncf_M, shapeCast_same]
  exact mm_nn rfl none _ _
theorem p66 : k0_pay66 (F := Ideal) (M (sh b (conv I))) (M (sh b (silu I))) (M (sh b (dya I))) = M (sh b (dBA I)) := by
  unfold k0_pay66; simp only [mulf_M, truncf_M]; rfl
theorem p67 : k0_pay67 (F := Ideal) (M (sh b (B I))) (M (sh b (Z I))) (M (sh b (conv I))) (M (sh b (sgZ I))) (M (sh b (dya I))) = M (sh b (dZ I)) := by
  unfold k0_pay67; simp only [bc1_M, mulf_M, subf_M, addf_M, truncf_M]; rfl
theorem p68 : k0_pay68 (F := Ideal) (M (sh b (B I))) (M (sh b (silu I))) (M (sh b (dya I))) = M (sh b (dconv I)) := by
  unfold k0_pay68; simp only [mulf_M]; rfl

/-! ## The vector gradients' rows -/

theorem p48 (h : b + 256 ≤ 8192) :
    k0_pay48 (F := Ideal) (M (sh b (diff I))) (M fun _ c => csum (diff I) (diff I) (b + 256) c) = M fun _ c => csum (diff I) (diff I) b c := by
  unfold k0_pay48; simp only [shapeCast_same, mulf_M]; rw [colsum, shapeCast_V, addf_M, csum_step _ _ b h]; rfl
theorem p49 (h : b + 256 ≤ 8192) :
    k0_pay49 (F := Ideal) (M (sh b (mo I))) (M (sh b (dout I))) (M fun _ c => csum (dout I) (mo I) (b + 256) c) = M fun _ c => csum (dout I) (mo I) b c := by
  unfold k0_pay49; simp only [shapeCast_same, mulf_M]; rw [colsum, shapeCast_V, addf_M, csum_step _ _ b h]; rfl
theorem p69 (h : b + 256 ≤ 8192) :
    k0_pay69 (F := Ideal) (M (sh b (B I))) (M (sh b (u2 I))) (M (sh b (silu I))) (M (sh b (dya I))) (M fun _ c => csum (dconv I) (u2 I) (b + 256) c)
      = M fun _ c => csum (dconv I) (u2 I) b c := by
  unfold k0_pay69; simp only [p68, shapeCast_same, mulf_M]; rw [colsum, shapeCast_V, addf_M, csum_step _ _ b h]; rfl
theorem p70 (h : b + 256 ≤ 8192) :
    k0_pay70 (F := Ideal) (M (sh b (u1 I))) (M (sh b (dconv I))) (M fun _ c => csum (dconv I) (u1 I) (b + 256) c) = M fun _ c => csum (dconv I) (u1 I) b c := by
  unfold k0_pay70; simp only [shapeCast_same, mulf_M]; rw [colsum, shapeCast_V, addf_M, csum_step _ _ b h]; rfl
theorem p71 (h : b + 256 ≤ 8192) :
    k0_pay71 (F := Ideal) (M (sh b (u I))) (M (sh b (dconv I))) (M fun _ c => csum (dconv I) (u I) (b + 256) c) = M fun _ c => csum (dconv I) (u I) b c := by
  unfold k0_pay71; simp only [shapeCast_same, mulf_M]; rw [colsum, shapeCast_V, addf_M, csum_step _ _ b h]; rfl

/-! ## The convolution's gradient with the next tile's rows -/

theorem p72 (k : ℕ → ℕ → ℝ) : k0_pay72 (F := Ideal) (M k) = M fun _ c => k 0 c := by
  unfold k0_pay72
  dsimp only
  rw [bc0_M, select_row 0 (by norm_num) (by norm_num), colsum, one_row 0 (by norm_num), shapeCast_V]
theorem p73 (k : ℕ → ℕ → ℝ) : k0_pay73 (F := Ideal) (M k) = M fun _ c => k 1 c := by
  unfold k0_pay73
  dsimp only
  rw [bc0_M, select_row 1 (by norm_num) (by norm_num), colsum, one_row 1 (by norm_num), shapeCast_V]

theorem p74 (h : b + 256 ≤ 8192) :
    k0_pay74 (F := Ideal) rows (M (sh b (dconv I))) (M (sh (b + 256) (dconvE I))) = M (sh b (dc1 I)) := by
  unfold k0_pay74
  dsimp only
  rw [p72, shapeCast_same, broadcastTo_M, rotate_M, select_row 255 (by norm_num) (by norm_num)]
  refine M_congr fun r c hr _ => ?_
  have e1 : (255#32 : BitVec 32).toNat = 255 := rfl
  unfold sh dc1
  by_cases h0 : r = 255
  · subst h0; rw [if_pos rfl]
  · rw [if_neg h0, e1]
    unfold dconvE
    rw [if_pos (by omega)]
    congr 1; omega

/-- The gradient of the convolution's input. -/
theorem p1 (h : b + 256 ≤ 8192) :
    k0_pay1 (F := Ideal) rows (M (W I 0)) (M (W I 1)) (M (W I 2)) (M (sh b (dconv I))) (M fun _ c => sh (b + 256) (dconvE I) 0 c)
      (M fun _ c => sh (b + 256) (dconvE I) 1 c) (M (sh b (dc1 I))) (k0_pay75 rows) = M (sh b (du I)) := by
  unfold k0_pay1 k0_pay75
  dsimp only
  simp only [shapeCast_same, broadcastTo_M]
  rw [rotate_M, select_row 254 (by norm_num) (by norm_num),
    select_row 255 (by norm_num) (by norm_num)]
  simp only [broadcastTo_M, mulf_M, addf_M]
  refine M_congr fun r c hr _ => ?_
  have e1 : (254#32 : BitVec 32).toNat = 254 := rfl
  have e : (if r = 255 then sh (b + 256) (dconvE I) 1 c else if r = 254 then sh (b + 256) (dconvE I) 0 c
      else sh b (dconv I) ((r + 256 - (254#32 : BitVec 32).toNat % 256) % 256) c) = sh b (dc2 I) r c := by
    rw [e1]
    unfold sh dc2
    by_cases h0 : r = 255
    · subst h0; rw [if_pos rfl]
    · rw [if_neg h0]
      by_cases h1 : r = 254
      · subst h1; rw [if_pos rfl]
      · rw [if_neg h1]
        unfold dconvE
        rw [if_pos (by omega)]
        congr 1; omega
  rw [e]; rfl
theorem p3 (h : b + 256 ≤ 8192) :
    k0_pay3 (F := Ideal) rows (M (W I 0)) (M (W I 1)) (M (W I 2)) (M (sh b (X I))) (M (sh b (dconv I))) (M fun _ c => sh (b + 256) (dconvE I) 0 c)
      (M fun _ c => sh (b + 256) (dconvE I) 1 c) (M (sh b (dc1 I))) (k0_pay75 rows) = M (sh b (dC I)) := by
  unfold k0_pay3; simp only [p1 I b h, mulf_M, truncf_M]; rfl
theorem p4 (h : b + 256 ≤ 8192) :
    k0_pay4 (F := Ideal) rows (M (W I 0)) (M (W I 1)) (M (W I 2)) (M (sh b (Cc I))) (M (sh b (dconv I))) (M fun _ c => sh (b + 256) (dconvE I) 0 c)
      (M fun _ c => sh (b + 256) (dconvE I) 1 c) (M (sh b (dc1 I))) (k0_pay75 rows) = M (sh b (dX I)) := by
  unfold k0_pay4; simp only [p1 I b h, mulf_M, truncf_M]; rfl
/-- The rows handed to the tile before. -/
theorem p2 (h : b + 256 ≤ 8192) : k0_pay2 (F := Ideal) (M (sh b (dconv I))) = M (sh b (dconvE I)) := by
  unfold k0_pay2
  dsimp only
  rw [shapeCast_same, slice_M]
  refine M_congr fun r c hr _ => ?_
  unfold sh dconvE
  rw [if_pos (by omega), Nat.zero_add, Nat.zero_add]

theorem p5 (f g : ℕ → ℕ → ℝ) : k0_pay5 (F := Ideal) = M (acc f g 8192) := by
  unfold k0_pay5; simp only [shapeCast_same, bc0_M, acc_end]
theorem p6 (f g : ℕ → ℕ → ℝ) : k0_pay6 (F := Ideal) = M (acc f g 8192) := by
  unfold k0_pay6; simp only [shapeCast_same, bc0_M, acc_end]
theorem p7 (f g : ℕ → ℕ → ℝ) : k0_pay7 (F := Ideal) = M (acc f g 8192) := by
  unfold k0_pay7; simp only [shapeCast_same, bc0_M, acc_end]
theorem p8 : k0_pay8 (F := Ideal) = M (sh 8192 (dconvE I)) := by
  unfold k0_pay8; simp only [shapeCast_same, bc0_M]
  refine M_congr fun r c hr _ => ?_
  unfold sh dconvE
  rw [if_neg (by omega)]
theorem p9 : k0_pay9 (F := Ideal) = M (vecs I 8192) := by
  unfold k0_pay9; simp only [bc0_M]
  refine M_congr fun r c hr _ => ?_
  unfold vecs
  simp only [csum_end, ite_self]

end Cert.KernelIdeal.Mid
-- ==== Proof.Mid.Reads.lean ====
module

public import proofs.«01_k».proof.Proof.Mid.State
public import proofs.«01_k».proof.Proof.Mid.Pay
public import Idealize.ShloMosaic.Lib.Pipeline.ReadBack

@[expose] public section

set_option maxRecDepth 16384

/-!
# Reading back what a point leaves

A tile's stores laid over what was there, at real matrices, and what a tile's input blocks are.
-/

noncomputable section

namespace Cert.KernelIdeal.Mid

open Cert.KernelIdeal.Gen Idealize.ShloMosaic Cert.Lift Cert.Spec
open Idealize.SL.Sem

theorem hz : (![0, 0] : Fin 2 → ℕ) = fun _ => 0 := by funext a; fin_cases a <;> rfl

section Over
variable {Val : EltTy → Type} {sig : RefSig} {κ : Kind} {sp : Space} {s : Shape} {e : EltTy}

/-- An index in a rectangle is one of its cells. -/
theorem exists_emb (r : Rect s) {y : s.Idx} (hy : y ∈ r.set) : ∃ x, r.emb x = y := by
  rw [← Rect.map_emb_univ, Finset.mem_map] at hy
  obtain ⟨x, -, hx⟩ := hy
  exact ⟨x, hx⟩

/-- What a list of stores leaves, its newest store laid over what the rest leaves. -/
theorem read_writes_overlay (v : View sig κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := exists_emb r hy
    rw [View.read_writes_cons_emb]
    exact (r.overlay_emb _ _ x).symm
  · have hy' : y ∉ Finset.univ.map p.1.emb := by rwa [Rect.map_emb_univ]
    rw [View.writes_cons, View.read_slice_write_of_not_mem p.1 _ _ _ hy']
    exact (p.1.overlay_of_not_mem _ _ hy).symm

/-- Stores that are blocks of `G` and cover the buffer leave `G`. -/
theorem canon_eq_of_pieces [∀ e, Nonempty (Val e)] (G : s.Idx → Val e) (L : List (View.Piece Val s e)) (h : View.PiecesOf G L)
    (hc : ∀ y, ∃ p ∈ L, y ∈ p.1.set) : View.canon L = G := by
  funext y
  have := View.canon_append_of_piecesOf G [] L h y (hc y)
  rwa [List.append_nil] at this
end Over

/-- A load of a whole matrix. -/
theorem ld_whole {R C : ℕ} {e : EltTy} (X : (⟨2, ![R, C]⟩ : Shape).Idx → Elt Ideal e) (inb) :
    View.ld X (Rect.unit (s := ⟨2, ![R, C]⟩) ![0, 0] ![R, C] inb) = X :=
  View.ld_unit_zero (S := ⟨2, ![R, C]⟩) hz inb X

/-- A load after a store of the whole matrix. -/
theorem readCov_whole {sig : RefSig} {κ : Kind} {sp : Space} {R C : ℕ} {e : EltTy} (v : View sig κ sp ⟨2, ![R, C]⟩ e) (Z : (⟨2, ![R, C]⟩ : Shape).Idx → Elt Ideal e) (inb)
    (L : List (View.Piece (Elt Ideal) ⟨2, ![R, C]⟩ e)) (r : Rect (⟨2, ![R, C]⟩ : Shape)) :
    v.readCov (⟨Rect.unit ![0, 0] ![R, C] inb, Z⟩ :: L) r.toLoadRect = View.ld Z r :=
  View.readCov_fill v (s := ⟨2, ![R, C]⟩) inb Z L r (fun a => by fin_cases a <;> rfl)

/-- A load after a copy into the whole matrix. -/
theorem readCov_copied {sig : RefSig} {κ : Kind} {sp : Space} {s : Shape} {e : EltTy} (v : View sig κ sp s e) (Z : s.Idx → Elt Ideal e)
    (L : List (View.Piece (Elt Ideal) s e)) (r : Rect s) :
    v.readCov (⟨Rect.whole s, Z⟩ :: L) r.toLoadRect = View.ld Z r :=
  View.readCov_fill v (off := fun _ => 0) (fun a => (Nat.zero_add _).le) Z L r (fun _ => rfl)

/-- A load of one row looks past a store of another. -/
theorem readCov_row_skip {sig : RefSig} {κ : Kind} {sp : Space} {R C : ℕ} {e : EltTy} (v : View sig κ sp ⟨2, ![R, C]⟩ e) {j k : ℕ} (hjk : j ≠ k) (i i')
    (w : (⟨2, ![1, C]⟩ : Shape).Idx → Elt Ideal e) (L : List (View.Piece (Elt Ideal) ⟨2, ![R, C]⟩ e)) :
    v.readCov (⟨Rect.unit ![k, 0] ![1, C] i, w⟩ :: L) (Rect.unit (s := ⟨2, ![R, C]⟩) ![j, 0] ![1, C] i').toLoadRect
      = v.readCov L (Rect.unit (s := ⟨2, ![R, C]⟩) ![j, 0] ![1, C] i').toLoadRect := by
  rw [View.readCov_eq_canon', View.readCov_eq_canon']
  funext x
  refine View.canon_cons_of_not_mem _ _ fun hx => ?_
  have h0 := (Rect.mem_set_unit (inb := i)).mp hx 0
  have hx0 : (x 0).val < 1 := (x 0).isLt
  have e0 : (((Rect.unit (s := ⟨2, ![R, C]⟩) ![j, 0] ![1, C] i').toLoadRect.idx x) 0).val = j + 1 * (x 0).val := rfl
  rw [e0] at h0
  have h1 : k ≤ j + 1 * (x 0).val := h0.1
  have h2 : j + 1 * (x 0).val < k + 1 := h0.2
  omega

/-- What a store of the whole matrix leaves. -/
theorem canon_whole {R C : ℕ} {e : EltTy} (Z : (⟨2, ![R, C]⟩ : Shape).Idx → Elt Ideal e) (inb) (L : List (View.Piece (Elt Ideal) ⟨2, ![R, C]⟩ e)) :
    View.canon (⟨Rect.unit ![0, 0] ![R, C] inb, Z⟩ :: L) = Z :=
  View.canon_cons_unit_zero (S := ⟨2, ![R, C]⟩) hz inb Z L

/-- What a copy into the whole matrix leaves. -/
theorem canon_copied {s : Shape} {e : EltTy} (Z : s.Idx → Elt Ideal e) (L : List (View.Piece (Elt Ideal) s e)) :
    View.canon (⟨Rect.whole s, Z⟩ :: L) = Z :=
  View.canon_cons_unit_zero (S := s) rfl (fun a => (Nat.zero_add _).le) Z L

/-- One row laid over a matrix. -/
theorem overlay_row {R C : ℕ} (k : ℕ) (inb) (g h : ℕ → ℕ → ℝ) :
    (Rect.unit (s := ⟨2, ![R, C]⟩) ![k, 0] ![1, C] inb).overlay (M g : (⟨2, ![R, C]⟩ : Shape).Idx → EReal) (M h : (⟨2, ![1, C]⟩ : Shape).Idx → EReal)
      = M fun r c => if r = k then h 0 c else g r c := by
  funext y
  by_cases hy : y ∈ (Rect.unit (s := ⟨2, ![R, C]⟩) ![k, 0] ![1, C] inb).set
  · obtain ⟨x, rfl⟩ : ∃ x, (Rect.unit (s := ⟨2, ![R, C]⟩) ![k, 0] ![1, C] inb).emb x = y := exists_emb _ hy
    rw [Rect.overlay_emb]
    have h0 : (x 0).val = 0 := by have := ValueIdx.idx2_lt0 x; omega
    have e0 : (((Rect.unit (s := ⟨2, ![R, C]⟩) ![k, 0] ![1, C] inb).emb x) 0).val = k := by
      show k + 1 * (x 0).val = k
      rw [h0]; rfl
    have e1 : (((Rect.unit (s := ⟨2, ![R, C]⟩) ![k, 0] ![1, C] inb).emb x) 1).val = (x 1).val := by
      show 0 + 1 * (x 1).val = (x 1).val
      omega
    unfold Lift.M
    rw [e0, e1, h0]
    exact congrArg _ (if_pos rfl).symm
  · rw [Rect.overlay_of_not_mem _ _ _ hy]
    have hk : (y 0).val ≠ k := by
      intro hk
      apply hy
      rw [Rect.mem_set_unit]
      intro a
      have := ValueIdx.idx2_lt1 y
      fin_cases a
      · show k ≤ (y 0).val ∧ (y 0).val < k + 1; omega
      · show 0 ≤ (y 1).val ∧ (y 1).val < 0 + C; omega
    unfold Lift.M
    exact congrArg _ (if_neg hk).symm

/-- A block of a real matrix read through a rectangle. -/
theorem ld_M {R C R' C' : ℕ} (a b : ℕ) (inb) (f : ℕ → ℕ → ℝ) :
    (fun x => (M f : (⟨2, ![R, C]⟩ : Shape).Idx → EReal) ((Rect.unit (s := ⟨2, ![R, C]⟩) ![a, b] ![R', C'] inb).idx x)) = M (R := R') (C := C') fun r c => f (a + r) (b + c) := by
  funext x
  unfold Lift.M
  have e0 : (((Rect.unit (s := ⟨2, ![R, C]⟩) ![a, b] ![R', C'] inb).idx x) 0).val = a + (x 0).val := by
    show a + 1 * (x 0).val = _
    omega
  have e1 : (((Rect.unit (s := ⟨2, ![R, C]⟩) ![a, b] ![R', C'] inb).idx x) 1).val = b + (x 1).val := by
    show b + 1 * (x 1).val = _
    omega
  rw [e0, e1]

/-- A rectangle's payload is a block of a real matrix. -/
theorem piece_M {R C R' C' : ℕ} (a b : ℕ) (inb) (f g : ℕ → ℕ → ℝ) (h : ∀ r c, r < R' → c < C' → f r c = g (a + r) (b + c)) (x) :
    (M f : (⟨2, ![R', C']⟩ : Shape).Idx → EReal) x = (M g : (⟨2, ![R, C]⟩ : Shape).Idx → EReal) ((Rect.unit (s := ⟨2, ![R, C]⟩) ![a, b] ![R', C'] inb).emb x) := by
  have h1 := congrFun (ld_M (R := R) (C := C) (R' := R') (C' := C') a b inb g) x
  exact (congrFun (M_congr h) x).trans h1.symm

variable (m : (ℓ : Loc nD τ sig) → Buf (Elt Ideal) ℓ) (c : Dev nD) (I : In) (b : ℕ) (t : Fin cfg0.N)

/-- The tile's input blocks are the rows from `b` on of the real inputs. -/
structure Blocks : Prop where
  hb : b = 0 ∨ 16 ≤ b
  hb' : b + 256 ≤ 8192
  x0 : iblk m c 0 t = (M (sh b I.P) : S256x6656.Idx → EReal)
  x12 : k0_pay18 (F := Ideal) (grid0.coords t) (X0_1 m c t) (X0_2 m c t) = M (H I b)
  x3 : iblk m c 3 t = (M (sh b I.o0) : S256x512.Idx → EReal)
  x4 : iblk m c 4 t = (M (sh b I.o1) : S256x512.Idx → EReal)
  x5 : iblk m c 5 t = (M (sh b I.o2) : S256x512.Idx → EReal)
  x6 : iblk m c 6 t = (M (sh b I.l0) : S256x512.Idx → EReal)
  x7 : iblk m c 7 t = (M (sh b I.l1) : S256x512.Idx → EReal)
  x8 : iblk m c 8 t = (M (sh b I.l2) : S256x512.Idx → EReal)
  x9 : iblk m c 9 t = (M (sh b I.x) : S256x1024.Idx → EReal)
  x10 : iblk m c 10 t = (M (sh b I.tg) : S256x1024.Idx → EReal)
  x11 : iblk m c 11 t = (M I.md : S1x3072.Idx → EReal)
  cw : ∃ f : ℕ → ℕ → ℝ, iblk m c 12 t = (M f : S8x1024.Idx → EReal) ∧ ∀ r < 3, ∀ c, f r c = I.cw r c
  x13 : iblk m c 13 t = (M heads : S512x512.Idx → EReal)

/-- What a point leaves once the rows from `b` on are taken in. -/
structure Good (s : St Ideal c) : Prop where
  o14 : s.o14 = (M (sh b (dP I)) : S256x6656.Idx → EReal)
  o15 : s.o15 = (M (sh b (dattn I)) : S256x512.Idx → EReal)
  o16 : s.o16 = (M (sh b (lse I)) : S256x512.Idx → EReal)
  o17 : s.o17 = (M (sh b (delta I)) : S256x512.Idx → EReal)
  o18 : s.o18 = (M (sh b (dout I)) : S256x1024.Idx → EReal)
  o19 : s.o19 = (M (vecs I b) : S8x1024.Idx → EReal)
  s0 : s.s0 = (M I.wc : S1024x1024.Idx → EReal)
  s1 : s.s1 = (M I.wa : S512x1024.Idx → EReal)
  s2 : s.s2 = (M I.wo : S1024x1024.Idx → EReal)
  s3 : s.s3 = (M (acc (mg I) (dmo I) b) : S1024x1024.Idx → EReal)
  s4 : s.s4 = (M (acc (ya I) (dpa I) b) : S1024x1024.Idx → EReal)
  s5 : s.s5 = (M (acc (yb I) (dpb I) b) : S512x1024.Idx → EReal)
  s6 : s.s6 = (M (sh b (dconvE I)) : S8x1024.Idx → EReal)

variable {m c I b t}

theorem Blocks.ldP (h : Blocks m c I b t) {C' : ℕ} (k : ℕ) (inb) :
    View.ld (Val := Elt Ideal) (S := S256x6656) (e' := .bf16) (iblk m c 0 t) (Rect.unit ![0, k] ![256, C'] inb) = (M (sh b fun r c => I.P r (k + c)) : (⟨2, ![256, C']⟩ : Shape).Idx → EReal) := by
  rw [h.x0]
  refine (ld_M 0 k inb _).trans (M_congr fun r c _ _ => ?_)
  unfold sh; rw [Nat.zero_add]

theorem ldP0 (h : Blocks m c I b t) (inb) :
    View.ld (Val := Elt Ideal) (S := S256x6656) (e' := .bf16) (iblk m c 0 t) (Rect.unit ![0, 0] ![256, 1024] inb) = (M (sh b (B I)) : S256x1024.Idx → EReal) :=
  h.ldP 0 inb
theorem ldP1024 (h : Blocks m c I b t) (inb) :
    View.ld (Val := Elt Ideal) (S := S256x6656) (e' := .bf16) (iblk m c 0 t) (Rect.unit ![0, 1024] ![256, 1024] inb) = (M (sh b (Cc I)) : S256x1024.Idx → EReal) :=
  h.ldP 1024 inb
theorem ldP2048 (h : Blocks m c I b t) (inb) :
    View.ld (Val := Elt Ideal) (S := S256x6656) (e' := .bf16) (iblk m c 0 t) (Rect.unit ![0, 2048] ![256, 1024] inb) = (M (sh b (X I)) : S256x1024.Idx → EReal) :=
  h.ldP 2048 inb
theorem ldP3072 (h : Blocks m c I b t) (inb) :
    View.ld (Val := Elt Ideal) (S := S256x6656) (e' := .bf16) (iblk m c 0 t) (Rect.unit ![0, 3072] ![256, 1024] inb) = (M (sh b (Z I)) : S256x1024.Idx → EReal) :=
  h.ldP 3072 inb
theorem ldP4096 (h : Blocks m c I b t) (inb) :
    View.ld (Val := Elt Ideal) (S := S256x6656) (e' := .bf16) (iblk m c 0 t) (Rect.unit ![0, 4096] ![256, 512] inb) = (M (sh b (ZB I)) : S256x512.Idx → EReal) :=
  h.ldP 4096 inb
theorem ldP4608 (h : Blocks m c I b t) (inb) :
    View.ld (Val := Elt Ideal) (S := S256x6656) (e' := .bf16) (iblk m c 0 t) (Rect.unit ![0, 4608] ![256, 1024] inb) = (M (sh b (GA I)) : S256x1024.Idx → EReal) :=
  h.ldP 4608 inb
theorem ldP5632 (h : Blocks m c I b t) (inb) :
    View.ld (Val := Elt Ideal) (S := S256x6656) (e' := .bf16) (iblk m c 0 t) (Rect.unit ![0, 5632] ![256, 1024] inb) = (M (sh b (GB I)) : S256x1024.Idx → EReal) :=
  h.ldP 5632 inb

theorem Blocks.ldG (h : Blocks m c I b t) (inb) :
    View.ld (Val := Elt Ideal) (S := S1x3072) (e' := .f32) (iblk m c 11 t) (Rect.unit ![0, 2048] ![1, 1024] inb) = (M (gate I) : S1x1024.Idx → EReal) := by
  rw [h.x11]
  refine (ld_M 0 2048 inb _).trans (M_congr fun r c _ _ => ?_)
  unfold gate; rw [Nat.zero_add]

theorem Blocks.ldW (h : Blocks m c I b t) (k : ℕ) (hk : k < 3) (inb) :
    View.ld (Val := Elt Ideal) (S := S8x1024) (e' := .f32) (iblk m c 12 t) (Rect.unit ![k, 0] ![1, 1024] inb) = (M (W I k) : S1x1024.Idx → EReal) := by
  obtain ⟨f, hf, hw⟩ := h.cw
  rw [hf]
  refine (ld_M k 0 inb _).trans (M_congr fun r c hr _ => ?_)
  have : r = 0 := by omega
  subst this
  unfold W; rw [Nat.zero_add]; exact hw k hk c

/-- One row of the vector gradients so far. -/
theorem ldV (B k : ℕ) (inb) (h : ℕ → ℝ) (e : ∀ c, vecs I B k c = h c) :
    View.ld (Val := Elt Ideal) (S := S8x1024) (e' := .f32) (M (vecs I B) : S8x1024.Idx → EReal) (Rect.unit ![k, 0] ![1, 1024] inb) = (M fun _ c => h c : S1x1024.Idx → EReal) := by
  refine (ld_M k 0 inb _).trans (M_congr fun r c hr _ => ?_)
  have : r = 0 := by omega
  subst this
  rw [Nat.zero_add]; exact e c

theorem ldV0 (B : ℕ) (inb) :
    View.ld (Val := Elt Ideal) (S := S8x1024) (e' := .f32) (M (vecs I B) : S8x1024.Idx → EReal) (Rect.unit ![0, 0] ![1, 1024] inb) = (M fun _ c => csum (dout I) (mo I) B c : S1x1024.Idx → EReal) :=
  ldV B 0 inb _ fun c => rfl
theorem ldV1 (B : ℕ) (inb) :
    View.ld (Val := Elt Ideal) (S := S8x1024) (e' := .f32) (M (vecs I B) : S8x1024.Idx → EReal) (Rect.unit ![1, 0] ![1, 1024] inb) = (M fun _ c => csum (dconv I) (u2 I) B c : S1x1024.Idx → EReal) :=
  ldV B 1 inb _ fun c => rfl
theorem ldV2 (B : ℕ) (inb) :
    View.ld (Val := Elt Ideal) (S := S8x1024) (e' := .f32) (M (vecs I B) : S8x1024.Idx → EReal) (Rect.unit ![2, 0] ![1, 1024] inb) = (M fun _ c => csum (dconv I) (u1 I) B c : S1x1024.Idx → EReal) :=
  ldV B 2 inb _ fun c => rfl
theorem ldV3 (B : ℕ) (inb) :
    View.ld (Val := Elt Ideal) (S := S8x1024) (e' := .f32) (M (vecs I B) : S8x1024.Idx → EReal) (Rect.unit ![3, 0] ![1, 1024] inb) = (M fun _ c => csum (dconv I) (u I) B c : S1x1024.Idx → EReal) :=
  ldV B 3 inb _ fun c => rfl
theorem ldV4 (B : ℕ) (inb) :
    View.ld (Val := Elt Ideal) (S := S8x1024) (e' := .f32) (M (vecs I B) : S8x1024.Idx → EReal) (Rect.unit ![4, 0] ![1, 1024] inb) = (M fun _ c => csum (diff I) (diff I) B c : S1x1024.Idx → EReal) :=
  ldV B 4 inb _ fun c => rfl

variable (I b) in
/-- The five rows of the vector gradients a tile stores, over earlier stores. -/
def L19 (L : List (View.Piece (Elt Ideal) S8x1024 .f32)) : List (View.Piece (Elt Ideal) S8x1024 .f32) :=
  ⟨Rect.unit ![3, 0] S1x1024.size inb_S8x1024_S1x1024_3_0, (M fun _ c => csum (dconv I) (u I) b c : S1x1024.Idx → EReal)⟩ ::
    ⟨Rect.unit ![2, 0] S1x1024.size inb_S8x1024_S1x1024_2_0, (M fun _ c => csum (dconv I) (u1 I) b c : S1x1024.Idx → EReal)⟩ ::
    ⟨Rect.unit ![1, 0] S1x1024.size inb_S8x1024_S1x1024_1_0, (M fun _ c => csum (dconv I) (u2 I) b c : S1x1024.Idx → EReal)⟩ ::
    ⟨Rect.unit ![0, 0] S1x1024.size inb_S8x1024_S1x1024_0_0, (M fun _ c => csum (dout I) (mo I) b c : S1x1024.Idx → EReal)⟩ ::
    ⟨Rect.unit ![4, 0] S1x1024.size inb_S8x1024_S1x1024_4_0, (M fun _ c => csum (diff I) (diff I) b c : S1x1024.Idx → EReal)⟩ ::
    L

/-- The five rows of the vector gradients laid over what was there before the tile. -/
theorem rows_vecs :
    (M fun r c => if r = 3 then csum (dconv I) (u I) b c else if r = 2 then csum (dconv I) (u1 I) b c else if r = 1 then csum (dconv I) (u2 I) b c
      else if r = 0 then csum (dout I) (mo I) b c else if r = 4 then csum (diff I) (diff I) b c else vecs I (b + 256) r c : S8x1024.Idx → EReal) = M (vecs I b) := by
  refine M_congr fun r c hr _ => ?_
  unfold vecs
  by_cases h0 : r = 0
  · subst h0; simp
  by_cases h1 : r = 1
  · subst h1; simp
  by_cases h2 : r = 2
  · subst h2; simp
  by_cases h3 : r = 3
  · subst h3; simp
  by_cases h4 : r = 4
  · subst h4; simp
  simp [h0, h1, h2, h3, h4]

/-- The tile's rows over the vector gradients so far. -/
theorem canon_L19 (L) (h : View.canon L = (M (vecs I (b + 256)) : S8x1024.Idx → EReal)) : View.canon (L19 I b L) = (M (vecs I b) : S8x1024.Idx → EReal) := by
  unfold L19
  simp only [View.canon_cons, h]
  rw [overlay_row 4, overlay_row 0, overlay_row 1, overlay_row 2, overlay_row 3]
  exact rows_vecs

/-- The tile's rows over the vector gradients left by the tile before. -/
theorem read_L19 (v : View sig .tc .vmem S8x1024 .f32) (f : v.ty.Contents (Elt Ideal)) (h : v.read (Elt Ideal) f = (M (vecs I (b + 256)) : S8x1024.Idx → EReal)) :
    v.read (Elt Ideal) (v.writes (Elt Ideal) f (L19 I b [])) = (M (vecs I b) : S8x1024.Idx → EReal) := by
  unfold L19
  simp only [read_writes_overlay, View.writes_nil, h]
  rw [overlay_row 4, overlay_row 0, overlay_row 1, overlay_row 2, overlay_row 3]
  exact rows_vecs

/-- One store of the whole matrix, over nothing known. -/
theorem read_left {sp : Space} {R C : ℕ} {e : EltTy} (v : View sig .tc sp ⟨2, ![R, C]⟩ e) (L) (Z : (⟨2, ![R, C]⟩ : Shape).Idx → Elt Ideal e) (inb)
    (L') (h : L = (⟨Rect.unit ![0, 0] ![R, C] inb, Z⟩ :: L' : List (View.Piece (Elt Ideal) ⟨2, ![R, C]⟩ e))) :
    v.read (Elt Ideal) (v.writes (Elt Ideal) v.junk L) = Z := by
  rw [View.read_writes_junk_eq_canon, h, canon_whole]

/-- A copy into the whole matrix, over nothing known. -/
theorem read_left_copied {sp : Space} {s : Shape} {e : EltTy} (v : View sig .tc sp s e) (L) (Z : s.Idx → Elt Ideal e)
    (h : L = [⟨Rect.whole s, Z⟩]) : v.read (Elt Ideal) (v.writes (Elt Ideal) v.junk L) = Z := by
  rw [View.read_writes_junk_eq_canon, h, canon_copied]

variable (I b) in
/-- The seven parts of the projection's gradient. -/
def L14 : List (View.Piece (Elt Ideal) S256x6656 .bf16) :=
    [⟨Rect.unit ![0, 2048] ![256, 1024] inb_S256x6656_S256x1024_0_2048, (M (sh b (dX I)) : S256x1024.Idx → EReal)⟩,
    ⟨Rect.unit ![0, 1024] ![256, 1024] inb_S256x6656_S256x1024_0_1024, (M (sh b (dC I)) : S256x1024.Idx → EReal)⟩,
    ⟨Rect.unit ![0, 3072] S256x1024.size inb_S256x6656_S256x1024_0_3072, (M (sh b (dZ I)) : S256x1024.Idx → EReal)⟩,
    ⟨Rect.unit ![0, 0] S256x1024.size inb_S256x6656_S256x1024_0_0, (M (sh b (dBA I)) : S256x1024.Idx → EReal)⟩,
    ⟨Rect.unit ![0, 4096] S256x512.size inb_S256x6656_S256x512_0_4096, (M (sh b (dZB I)) : S256x512.Idx → EReal)⟩,
    ⟨Rect.unit ![0, 5632] S256x1024.size inb_S256x6656_S256x1024_0_5632, (M (sh b (dGB I)) : S256x1024.Idx → EReal)⟩,
    ⟨Rect.unit ![0, 4608] S256x1024.size inb_S256x6656_S256x1024_0_4608, (M (sh b (dGA I)) : S256x1024.Idx → EReal)⟩]

theorem parts_dP : View.PiecesOf (M (sh b (dP I)) : S256x6656.Idx → EReal) (L14 I b) := by
  refine ⟨piece_M 0 2048 inb_S256x6656_S256x1024_0_2048 _ _ fun r c _ hc => ?_, piece_M 0 1024 inb_S256x6656_S256x1024_0_1024 _ _ fun r c _ hc => ?_, piece_M 0 3072 inb_S256x6656_S256x1024_0_3072 _ _ fun r c _ hc => ?_,
    piece_M 0 0 inb_S256x6656_S256x1024_0_0 _ _ fun r c _ hc => ?_, piece_M 0 4096 inb_S256x6656_S256x512_0_4096 _ _ fun r c _ hc => ?_, piece_M 0 5632 inb_S256x6656_S256x1024_0_5632 _ _ fun r c _ hc => ?_,
    piece_M 0 4608 inb_S256x6656_S256x1024_0_4608 _ _ fun r c _ hc => ?_, trivial⟩
  all_goals
    unfold sh dP
    rw [Nat.zero_add]
    simp (disch := omega) only [if_pos, if_neg, Nat.add_sub_cancel_left, Nat.zero_add]

/-- The seven parts cover the gradient. -/
theorem cover_L14 (y : S256x6656.Idx) : ∃ p ∈ L14 I b, y ∈ p.1.set := by
  have h0 := ValueIdx.idx2_lt0 y
  have h1 := ValueIdx.idx2_lt1 y
  have key : ∀ (k w : ℕ) (inb), k ≤ (y 1).val → (y 1).val < k + w → y ∈ (Rect.unit (s := S256x6656) ![0, k] ![256, w] inb).set := by
    intro k w inb ha hb
    rw [Rect.mem_set_unit]
    intro a
    fin_cases a
    · exact ⟨Nat.zero_le _, by show (y 0).val < 0 + 256; omega⟩
    · exact ⟨ha, hb⟩
  by_cases c0 : (y 1).val < 1024
  · exact ⟨_, .tail _ (.tail _ (.tail _ (.head _))), key 0 1024 inb_S256x6656_S256x1024_0_0 (by omega) (by omega)⟩
  by_cases c1 : (y 1).val < 2048
  · exact ⟨_, .tail _ (.head _), key 1024 1024 inb_S256x6656_S256x1024_0_1024 (by omega) (by omega)⟩
  by_cases c2 : (y 1).val < 3072
  · exact ⟨_, .head _, key 2048 1024 inb_S256x6656_S256x1024_0_2048 (by omega) (by omega)⟩
  by_cases c3 : (y 1).val < 4096
  · exact ⟨_, .tail _ (.tail _ (.head _)), key 3072 1024 inb_S256x6656_S256x1024_0_3072 (by omega) (by omega)⟩
  by_cases c4 : (y 1).val < 4608
  · exact ⟨_, .tail _ (.tail _ (.tail _ (.tail _ (.head _)))), key 4096 512 inb_S256x6656_S256x512_0_4096 (by omega) (by omega)⟩
  by_cases c5 : (y 1).val < 5632
  · exact ⟨_, .tail _ (.tail _ (.tail _ (.tail _ (.tail _ (.tail _ (.head _)))))), key 4608 1024 inb_S256x6656_S256x1024_0_4608 (by omega) (by omega)⟩
  exact ⟨_, .tail _ (.tail _ (.tail _ (.tail _ (.tail _ (.head _))))), key 5632 1024 inb_S256x6656_S256x1024_0_5632 (by omega) (by omega)⟩

/-- One store of the whole matrix. -/
theorem read_writes_one {sp : Space} {R C : ℕ} {e : EltTy} (v : View sig .tc sp ⟨2, ![R, C]⟩ e) (f : v.ty.Contents (Elt Ideal)) (Z : (⟨2, ![R, C]⟩ : Shape).Idx → Elt Ideal e) (inb) :
    v.read (Elt Ideal) (v.writes (Elt Ideal) f [⟨Rect.unit ![0, 0] ![R, C] inb, Z⟩]) = Z := by
  have hc : ∀ y, ∃ p ∈ ([⟨Rect.unit ![0, 0] ![R, C] inb, Z⟩] : List (View.Piece (Elt Ideal) ⟨2, ![R, C]⟩ e)), y ∈ p.1.set :=
    fun y => ⟨⟨Rect.unit ![0, 0] ![R, C] inb, Z⟩, List.mem_singleton_self _, View.mem_set_unit_zero (S := ⟨2, ![R, C]⟩) hz inb y⟩
  exact (View.read_writes_eq_canon v f _ hc).trans (canon_whole Z inb [])

/-- The seven parts, over nothing known. -/
theorem read_L14 (v : View sig .tc .vmem S256x6656 .bf16) (L) (h : L = L14 I b) :
    v.read (Elt Ideal) (v.writes (Elt Ideal) v.junk L) = (M (sh b (dP I)) : S256x6656.Idx → EReal) := by
  subst h
  rw [View.read_writes_junk_eq_canon]
  exact canon_eq_of_pieces _ _ parts_dP cover_L14

end Cert.KernelIdeal.Mid
-- ==== Proof.Mid.Join.lean ====
module

public import proofs.«01_k».proof.Proof.Mid.Lift
public import Idealize.ShloMosaic.Lib.Pointwise.SelectCore
public import Idealize.ShloMosaic.Lib.KernelVsHost

@[expose] public section

set_option maxRecDepth 16384

/-!
# Matrices set side by side, one above another, padded and summed by heads
-/

noncomputable section

namespace Cert.Lift

open Idealize.ShloMosaic Idealize.ShloMosaic.ValueIdx
open scoped BigOperators

variable {R C : ℕ}

/-- Of matrices side by side, each with its width, the one a column falls in, at its own column. -/
def pickCol : List (ℕ × (ℕ → ℕ → ℝ)) → ℕ → ℕ → ℝ
  | [], _, _ => 0
  | (n, f) :: l, r, c => if c < n then f r c else pickCol l r (c - n)
/-- The same of matrices one above another, each with its height. -/
def pickRow : List (ℕ × (ℕ → ℕ → ℝ)) → ℕ → ℕ → ℝ
  | [], _, _ => 0
  | (n, f) :: l, r, c => if r < n then f r c else pickRow l (r - n) c

/-- The pieces of a concatenation by columns. -/
def colPiece (R : ℕ) (p : ℕ × (ℕ → ℕ → ℝ)) : (s : Shape) × (s.Idx → EReal) := ⟨⟨2, ![R, p.1]⟩, M p.2⟩
/-- The pieces of a concatenation by rows. -/
def rowPiece (C : ℕ) (p : ℕ × (ℕ → ℕ → ℝ)) : (s : Shape) × (s.Idx → EReal) := ⟨⟨2, ![p.1, C]⟩, M p.2⟩

theorem catAt_col (j : (⟨2, ![R, C]⟩ : Shape).Idx) : ∀ (l : List (ℕ × (ℕ → ℕ → ℝ))) (hs) (c : ℕ) (hc),
    concatenateAt (⟨2, ![R, C]⟩ : Shape) 1 j (l.map (colPiece R)) hs c hc = ((pickCol l (j 0).val c : ℝ) : EReal)
  | [], hs, c, hc => absurd hc (by simp)
  | [(n, f)], hs, c, hc => by
    have hn : c < n := by simpa [axisSizes, colPiece] using hc
    refine (concatenateAt_singleton (t := ⟨2, ![R, C]⟩) (1 : Fin 2) j (M f : (⟨2, ![R, n]⟩ : Shape).Idx → EReal) hs c hc).trans ?_
    show ((f (if (0 : ℕ) = 1 then c else (j 0).val) (if (1 : ℕ) = 1 then c else (j 1).val) : ℝ) : EReal) = _
    rw [if_neg (by decide), if_pos rfl]
    show _ = ((if c < n then f (j 0).val c else 0 : ℝ) : EReal)
    rw [if_pos hn]
  | (n, f) :: q :: l, hs, c, hc => by
    refine (concatenateAt_cons (t := ⟨2, ![R, C]⟩) (1 : Fin 2) j (M f : (⟨2, ![R, n]⟩ : Shape).Idx → EReal) (colPiece R q) (l.map (colPiece R)) hs c hc).trans ?_
    show _ = ((if c < n then f (j 0).val c else pickCol (q :: l) (j 0).val (c - n) : ℝ) : EReal)
    by_cases hn : c < n
    · rw [if_pos hn]
      refine (dif_pos hn).trans ?_
      show ((f (if (0 : ℕ) = 1 then c else (j 0).val) (if (1 : ℕ) = 1 then c else (j 1).val) : ℝ) : EReal) = _
      rw [if_neg (by decide), if_pos rfl]
    · rw [if_neg hn]
      exact (dif_neg hn).trans (catAt_col j (q :: l) _ _ _)

theorem catAt_row (j : (⟨2, ![R, C]⟩ : Shape).Idx) : ∀ (l : List (ℕ × (ℕ → ℕ → ℝ))) (hs) (r : ℕ) (hr),
    concatenateAt (⟨2, ![R, C]⟩ : Shape) 0 j (l.map (rowPiece C)) hs r hr = ((pickRow l r (j 1).val : ℝ) : EReal)
  | [], hs, c, hc => absurd hc (by simp)
  | [(n, f)], hs, c, hc => by
    have hn : c < n := by simpa [axisSizes, rowPiece] using hc
    refine (concatenateAt_singleton (t := ⟨2, ![R, C]⟩) (0 : Fin 2) j (M f : (⟨2, ![n, C]⟩ : Shape).Idx → EReal) hs c hc).trans ?_
    show ((f (if (0 : ℕ) = 0 then c else (j 0).val) (if (1 : ℕ) = 0 then c else (j 1).val) : ℝ) : EReal) = _
    rw [if_neg (show ¬(1 : ℕ) = 0 by decide), if_pos rfl]
    show _ = ((if c < n then f c (j 1).val else 0 : ℝ) : EReal)
    rw [if_pos hn]
  | (n, f) :: q :: l, hs, c, hc => by
    refine (concatenateAt_cons (t := ⟨2, ![R, C]⟩) (0 : Fin 2) j (M f : (⟨2, ![n, C]⟩ : Shape).Idx → EReal) (rowPiece C q) (l.map (rowPiece C)) hs c hc).trans ?_
    show _ = ((if c < n then f c (j 1).val else pickRow (q :: l) (c - n) (j 1).val : ℝ) : EReal)
    by_cases hn : c < n
    · rw [if_pos hn]
      refine (dif_pos hn).trans ?_
      show ((f (if (0 : ℕ) = 0 then c else (j 0).val) (if (1 : ℕ) = 0 then c else (j 1).val) : ℝ) : EReal) = _
      rw [if_neg (show ¬(1 : ℕ) = 0 by decide), if_pos rfl]
    · rw [if_neg hn]
      exact (dif_neg hn).trans (catAt_row j (q :: l) _ _ _)

/-- Matrices side by side. -/
theorem cat_col (l : List (ℕ × (ℕ → ℕ → ℝ))) (h) :
    concatenate (⟨2, ![R, C]⟩ : Shape) 1 (l.map (colPiece R)) h = M (pickCol l) := by
  funext j
  rw [concatenate_apply]
  exact catAt_col j l _ _ _
/-- Matrices one above another. -/
theorem cat_row (l : List (ℕ × (ℕ → ℕ → ℝ))) (h) :
    concatenate (⟨2, ![R, C]⟩ : Shape) 0 (l.map (rowPiece C)) h = M (pickRow l) := by
  funext j
  rw [concatenate_apply]
  exact catAt_row j l _ _ _

/-- Rows of zeros above and below. -/
theorem pad_M {R' : ℕ} (a b : ℕ) (f : ℕ → ℕ → ℝ) (h) (hu) :
    pad (s := ⟨2, ![R, C]⟩) (⟨2, ![R', C]⟩ : Shape) ![a, 0] ![b, 0] ![0, 0] (M f) (constant (F := Ideal) ⟨0, ![]⟩ .f32 0x00000000#32) h hu
      = M fun r c => if a ≤ r ∧ r < a + R then f (r - a) c else 0 := by
  funext j
  by_cases hr : a ≤ (j 0).val ∧ (j 0).val < a + R
  · refine (pad_apply_of_inside _ _ _ _ _ h hu j (ValueIdx.ix2 ⟨(j 0).val - a, by omega⟩ ⟨(j 1).val, idx2_lt1 j⟩) ?_).trans ?_
    · intro x
      match x with
      | ⟨0, _⟩ => show (j 0).val = a + ((j 0).val - a) * 1; omega
      | ⟨1, _⟩ => show (j 1).val = 0 + (j 1).val * 1; omega
    · show _ = ((if a ≤ (j 0).val ∧ (j 0).val < a + R then _ else _ : ℝ) : EReal)
      rw [if_pos hr]; rfl
  · refine (pad_apply_of_not_inside _ _ _ _ _ h hu j 0 ?_).trans ?_
    · intro hx
      have h1 : a ≤ (j 0).val := hx.1
      have h2 : ((j 0).val - a) / 1 < R := hx.2.2
      rw [Nat.div_one] at h2
      exact hr ⟨h1, by omega⟩
    · show Ideal.ofBits .f32 0x00000000#32 = ((if a ≤ (j 0).val ∧ (j 0).val < a + R then _ else _ : ℝ) : EReal)
      rw [if_neg hr]; exact w0

/-- The sum over each head's 64 columns, spread over the head again. -/
theorem headsum_M (f : ℕ → ℕ → ℝ) (h1 h2 h3 h4 hu h5) (h : (⟨3, ![R, 8, 64]⟩ : Shape).Reduces [2] ⟨2, ![R, 8]⟩) :
    shapeCast (⟨2, ![R, 512]⟩ : Shape) (broadcastInDim (s := ⟨3, ![R, 8, 1]⟩) (⟨3, ![R, 8, 64]⟩ : Shape) ![0, 1, 2] h1
      (broadcastInDim (s := ⟨2, ![R, 8]⟩) (⟨3, ![R, 8, 1]⟩ : Shape) ![0, 1] h2
        (Host.reduceAdd (F := Ideal) (φ := .f32) (s := ⟨3, ![R, 8, 64]⟩) (axes := [2])
          (shapeCast (⟨3, ![R, 8, 64]⟩ : Shape) (M f : (⟨2, ![R, 512]⟩ : Shape).Idx → EReal) h3)
          (constant (F := Ideal) ⟨0, ![]⟩ .f32 0x00000000#32) h4 hu))) h5
      = M fun r c => ∑ d ∈ Finset.range 64, f r (64 * (c / 64) + d) := by
  funext j
  have hr := idx2_lt0 j
  have hc : (j 1).val < 512 := idx2_lt1 j
  refine (shapeCast_apply _ h5 j (ValueIdx.ix3 ⟨(j 0).val, hr⟩ ⟨(j 1).val / 64, by omega⟩ ⟨(j 1).val % 64, by omega⟩) ?_).trans ?_
  · rw [Shape.rowMajor_val_two, Shape.rowMajor_val_three]
    show ((j 0).val * 8 + (j 1).val / 64) * 64 + (j 1).val % 64 = (j 0).val * 512 + (j 1).val
    omega
  refine (broadcastInDim_apply _ h1 _ _ (ValueIdx.ix3 ⟨(j 0).val, hr⟩ ⟨(j 1).val / 64, by omega⟩ ⟨0, by omega⟩) ?_).trans ?_
  · intro a
    match a with
    | ⟨0, _⟩ =>
      show (j 0).val = if R = 1 then 0 else (j 0).val
      split <;> omega
    | ⟨1, _⟩ => rfl
    | ⟨2, _⟩ => rfl
  refine (broadcastInDim_apply _ h2 _ _ (ValueIdx.ix2 ⟨(j 0).val, hr⟩ ⟨(j 1).val / 64, by omega⟩) ?_).trans ?_
  · intro a
    match a with
    | ⟨0, _⟩ =>
      show (j 0).val = if R = 1 then 0 else (j 0).val
      split <;> omega
    | ⟨1, _⟩ => rfl
  show Ideal.hostReduceAdd h4 _ (Ideal.ofBits .f32 0x00000000#32) _ = _
  rw [Ideal.hostReduceAdd_single h4 h, Ideal.ofBits_zero_f32, zero_add]
  refine Eq.trans ?_ (coe_sum_fin 64 fun d => f (j 0).val (64 * ((j 1).val / 64) + d))
  refine Finset.sum_congr rfl fun k _ => ?_
  refine (shapeCast_apply _ h3 _ (ValueIdx.ix2 ⟨(j 0).val, hr⟩ ⟨64 * ((j 1).val / 64) + k.val, by have : k.val < 64 := k.isLt; omega⟩) ?_).trans rfl
  rw [Shape.rowMajor_val_two, Shape.rowMajor_val_three]
  show (j 0).val * 512 + (64 * ((j 1).val / 64) + k.val) = ((j 0).val * 8 + (j 1).val / 64) * 64 + k.val
  omega

end Cert.Lift
-- ==== Proof.Mid.Host.lean ====
module

public import proofs.«01_k».proof.Proof.Mid.Reads
public import proofs.«01_k».proof.Proof.Mid.Join
public import Idealize.ShloMosaic.Lib.StableHlo.RunRead

@[expose] public section

set_option maxRecDepth 16384

/-!
# What the host prepares

The short filter with rows of zeros below it, and the matrix that is one where two columns belong to one head.
-/

noncomputable section

namespace Cert.KernelIdeal.Mid

open Cert.KernelIdeal.Gen Idealize.ShloMosaic Idealize.ShloMosaic.TcCoe Cert.Lift Cert.Spec
open Idealize.SL.Sem

variable (m : (ℓ : Loc nD τ sig) → Buf (Elt Ideal) ℓ) (c : Dev nD)

/-- The number of the head column `x` belongs to, as the host computes it. -/
def headOf (x : BitVec 32) : BitVec 32 :=
  select (s := ⟨0, ![]⟩) (andi (cmpi .ne (signi fun _ => x) (signi fun _ => 64#32)) (cmpi .ne (Host.remsi (fun _ => x) fun _ => 64#32) fun _ => 0#32))
    (subi (Host.divsi (fun _ => x) fun _ => 64#32) fun _ => 1#32) (Host.divsi (fun _ => x) fun _ => 64#32) fun a => a.elim0

theorem headOf_col : ∀ k : Fin 512, headOf (BitVec.ofNat 32 k.val) = BitVec.ofNat 32 (k.val / 64) := by
  decide +kernel

theorem head_eq : ∀ i j : Fin 8, (BitVec.ofNat 32 i.val = BitVec.ofNat 32 j.val) ↔ i = j := by
  decide +kernel

/-- The same for a whole array. -/
def headsOf {s : Shape} (hb : S_.BroadcastsInDim s ![]) (x : IVec s 32) : IVec s 32 :=
  select (andi (cmpi .ne (signi x) (broadcastInDim s ![] hb (signi (constantI S_ 32 64#32))))
      (cmpi .ne (Host.remsi x (broadcastInDim s ![] hb (constantI S_ 32 64#32))) (broadcastInDim s ![] hb (constantI S_ 32 0#32))))
    (subi (Host.divsi x (broadcastInDim s ![] hb (constantI S_ 32 64#32))) (broadcastInDim s ![] hb (constantI S_ 32 1#32)))
    (Host.divsi x (broadcastInDim s ![] hb (constantI S_ 32 64#32)))

theorem headsOf_apply {s : Shape} (hb : S_.BroadcastsInDim s ![]) (x : IVec s 32) (i : s.Idx) : headsOf hb x i = headOf (x i) := rfl

/-- The host's matrix of heads. -/
theorem V_v9 : V m c main_v9 = (M heads : S512x512.Idx → EReal) := by
  show StableHlo.after (List.flatten [hostOps0, hostOps0_1, hostOps0_2, hostOps0_3, hostOps0_4, hostOps0_5, hostOps0_6]) _ (Proc.devRef .tc main_v9) = _
  simp only [List.flatten_cons, List.flatten_nil, List.append_nil, List.cons_append, List.nil_append]
  after_reads_simp
  show (uitofp .bf16 (cmpi .eq (broadcastInDim S512x512 ![0, 1] bcast_S512x1_S512x512_0_1 (headsOf bcast_S_S512x1 (broadcastInDim S512x1 ![0] bcast_S512_S512x1_0 (iotaInDim S512 32 0))))
    (broadcastInDim S512x512 ![0, 1] bcast_S1x512_S512x512_0_1 (headsOf bcast_S_S1x512 (broadcastInDim S1x512 ![1] bcast_S512_S1x512_1 (iotaInDim S512 32 0))))) : FVec Ideal S512x512 .bf16) = _
  funext i
  have c0 : broadcastInDim S512x512 ![0, 1] bcast_S512x1_S512x512_0_1 (headsOf bcast_S_S512x1 (broadcastInDim S512x1 ![0] bcast_S512_S512x1_0 (iotaInDim S512 32 0))) i = headOf (BitVec.ofNat 32 (i 0).val) := rfl
  have c1 : broadcastInDim S512x512 ![0, 1] bcast_S1x512_S512x512_0_1 (headsOf bcast_S_S1x512 (broadcastInDim S1x512 ![1] bcast_S512_S1x512_1 (iotaInDim S512 32 0))) i = headOf (BitVec.ofNat 32 (i 1).val) := rfl
  show (((IntOp.cmpi .eq _ _).toNat : ℝ) : EReal) = _
  rw [c0, c1]
  show (((BitVec.ofBool (headOf (BitVec.ofNat 32 (i 0).val) == headOf (BitVec.ofNat 32 (i 1).val))).toNat : ℝ) : EReal) = _
  have h0 : (i 0).val < 512 := ValueIdx.idx2_lt0 i
  have h1 : (i 1).val < 512 := ValueIdx.idx2_lt1 i
  have e0 := headOf_col ⟨(i 0).val, h0⟩
  have e1 := headOf_col ⟨(i 1).val, h1⟩
  have e := head_eq ⟨(i 0).val / 64, by omega⟩ ⟨(i 1).val / 64, by omega⟩
  dsimp only at e0 e1 e
  rw [e0, e1]
  unfold Lift.M heads
  by_cases hk : (i 0).val / 64 = (i 1).val / 64
  · rw [if_pos hk, beq_iff_eq.mpr (e.mpr (Fin.ext hk))]
    simp
  · rw [if_neg hk, beq_eq_false_iff_ne.mpr fun h => hk (congrArg Fin.val (e.mp h))]
    simp

/-- The short filter, with rows of zeros below it. -/
theorem V_v0 (f : ℕ → ℕ → ℝ) (h : m ((c : Thread nD τ).loc main_arg10) = (M f : S3x1024.Idx → EReal)) :
    V m c main_v0 = (M (fun r c => if 0 ≤ r ∧ r < 0 + 3 then f (r - 0) c else 0) : S8x1024.Idx → EReal) := by
  show StableHlo.after (List.flatten [hostOps0, hostOps0_1, hostOps0_2, hostOps0_3, hostOps0_4, hostOps0_5, hostOps0_6]) _ (Proc.devRef .tc main_v0) = _
  simp only [List.flatten_cons, List.flatten_nil, List.append_nil, List.cons_append, List.nil_append]
  after_reads_simp
  have z : sitofp (F := Ideal) .f32 (constantI S_ 32 0#32) = constant (F := Ideal) S_ .f32 0x00000000#32 := by
    funext i
    show ((((0#32 : BitVec 32).toInt : ℤ) : ℝ) : EReal) = Ideal.ofBits .f32 0x00000000#32
    rw [w0]; simp
  refine Eq.trans ?_ (pad_M (R := 3) (C := 1024) (R' := 8) 0 5 f pads_S3x1024_S8x1024_050_000 h_S_)
  show pad S8x1024 ![0, 0] ![5, 0] ![0, 0] (m (c, Proc.tc.devRef main_arg10)) (sitofp (F := Ideal) .f32 (constantI S_ 32 0#32)) pads_S3x1024_S8x1024_050_000 h_S_ = _
  rw [z]
  exact congrArg (fun x : S3x1024.Idx → EReal => pad S8x1024 ![0, 0] ![5, 0] ![0, 0] x (constant (F := Ideal) S_ .f32 0x00000000#32) pads_S3x1024_S8x1024_050_000 h_S_) h

end Cert.KernelIdeal.Mid
-- ==== Proof.Mid.Geom.lean ====
module

public import proofs.«01_k».proof.Proof.Mid.Host

@[expose] public section

set_option maxRecDepth 16384

/-!
# The input blocks of each point

Point `t` takes the rows from `256 * (31 - t)` on of every array it tiles, the sixteen rows before them for the
convolution, and the small arrays whole.
-/

noncomputable section

namespace Cert.KernelIdeal.Mid

open Cert.KernelIdeal.Gen Idealize.ShloMosaic Idealize.ShloMosaic.TcCoe Cert.Lift Cert.Spec
open Idealize.SL.Sem

variable (m : (ℓ : Loc nD τ sig) → Buf (Elt Ideal) ℓ) (c : Dev nD) (I : In)

/-- The memory holds the real inputs `I` in the arguments. -/
structure Mem : Prop where
  a0 : m ((c : Thread nD τ).loc main_arg0) = (M I.P : S8192x6656.Idx → EReal)
  a1 : m ((c : Thread nD τ).loc main_arg1) = (M I.o0 : S8192x512.Idx → EReal)
  a2 : m ((c : Thread nD τ).loc main_arg2) = (M I.o1 : S8192x512.Idx → EReal)
  a3 : m ((c : Thread nD τ).loc main_arg3) = (M I.o2 : S8192x512.Idx → EReal)
  a4 : m ((c : Thread nD τ).loc main_arg4) = (M I.l0 : S8192x512.Idx → EReal)
  a5 : m ((c : Thread nD τ).loc main_arg5) = (M I.l1 : S8192x512.Idx → EReal)
  a6 : m ((c : Thread nD τ).loc main_arg6) = (M I.l2 : S8192x512.Idx → EReal)
  a7 : m ((c : Thread nD τ).loc main_arg7) = (M I.x : S8192x1024.Idx → EReal)
  a8 : m ((c : Thread nD τ).loc main_arg8) = (M I.tg : S8192x1024.Idx → EReal)
  a9 : m ((c : Thread nD τ).loc main_arg9) = (M I.md : S1x3072.Idx → EReal)
  a10 : m ((c : Thread nD τ).loc main_arg10) = (M I.cw : S3x1024.Idx → EReal)
  a11 : m ((c : Thread nD τ).loc main_arg11) = (M I.wc : S1024x1024.Idx → EReal)
  a12 : m ((c : Thread nD τ).loc main_arg12) = (M I.wa : S512x1024.Idx → EReal)
  a13 : m ((c : Thread nD τ).loc main_arg13) = (M I.wo : S1024x1024.Idx → EReal)

/-- The first row of the tile point `t` works on. -/
def base (t : Fin cfg0.N) : ℕ := 256 * (31 - t.val)

/-- A real matrix read at indices offset by `a` rows and `b` columns. -/
theorem at_M {R C R' C' : ℕ} (a b : ℕ) (f : ℕ → ℕ → ℝ) (e : (⟨2, ![R', C']⟩ : Shape).Idx → (⟨2, ![R, C]⟩ : Shape).Idx)
    (h0 : ∀ y, (e y 0).val = a + (y 0).val) (h1 : ∀ y, (e y 1).val = b + (y 1).val) :
    (fun y => (M f : (⟨2, ![R, C]⟩ : Shape).Idx → EReal) (e y)) = M (R := R') (C := C') fun r c => f (a + r) (b + c) := by
  funext y
  unfold Lift.M
  rw [h0, h1]

/-- Whole rows of a real matrix from row `a` on. -/
theorem rows_M {R C R' C' : ℕ} (a : ℕ) (f : ℕ → ℕ → ℝ) (e : (⟨2, ![R', C']⟩ : Shape).Idx → (⟨2, ![R, C]⟩ : Shape).Idx)
    (h0 : ∀ y, (e y 0).val = a + (y 0).val) (h1 : ∀ y, (e y 1).val = (y 1).val) :
    (fun y => (M f : (⟨2, ![R, C]⟩ : Shape).Idx → EReal) (e y)) = M (R := R') (C := C') (sh a f) :=
  (at_M a 0 f e h0 fun y => (h1 y).trans (Nat.zero_add _).symm).trans (M_congr fun r c _ _ => by rw [Nat.zero_add]; rfl)

/-- A real matrix read whole. -/
theorem all_M {R C : ℕ} (f : ℕ → ℕ → ℝ) (e : (⟨2, ![R, C]⟩ : Shape).Idx → (⟨2, ![R, C]⟩ : Shape).Idx)
    (h0 : ∀ y, (e y 0).val = (y 0).val) (h1 : ∀ y, (e y 1).val = (y 1).val) :
    (fun y => (M f : (⟨2, ![R, C]⟩ : Shape).Idx → EReal) (e y)) = M f :=
  funext fun y => by unfold Lift.M; rw [h0, h1]

section Tiles
variable {m c I} (A : Mem m c I) (t : Fin cfg0.N)
include A

theorem blk0 : iblk m c 0 t = (M (sh (base t) I.P) : S256x6656.Idx → EReal) := by
  have hi : ∀ t : Fin cfg0.N, win0_0.index t 0 * win0_0.size 0 = base t ∧ win0_0.index t 1 = 0 := by decide +kernel
  have e : iblk m c 0 t = fun y => (V m c main_arg0 : S8192x6656.Idx → EReal) ((win0_0.rect t).emb y) := rfl
  rw [e, V_main_arg0, A.a0]
  exact rows_M (R := 8192) (R' := 256) (C := 6656) (C' := 6656) _ _ _ (fun y => (win0_0.rect_emb_val t y 0).trans (by rw [(hi t).1])) (win0_0.rect_emb_val_of_index_zero t 1 (hi t).2)

theorem blk3 : iblk m c 3 t = (M (sh (base t) I.o0) : S256x512.Idx → EReal) := by
  have hi : ∀ t : Fin cfg0.N, win0_3.index t 0 * win0_3.size 0 = base t ∧ win0_3.index t 1 = 0 := by decide +kernel
  have e : iblk m c 3 t = fun y => (V m c main_arg1 : S8192x512.Idx → EReal) ((win0_3.rect t).emb y) := rfl
  rw [e, V_main_arg1, A.a1]
  exact rows_M (R := 8192) (R' := 256) (C := 512) (C' := 512) _ _ _ (fun y => (win0_3.rect_emb_val t y 0).trans (by rw [(hi t).1])) (win0_3.rect_emb_val_of_index_zero t 1 (hi t).2)

theorem blk4 : iblk m c 4 t = (M (sh (base t) I.o1) : S256x512.Idx → EReal) := by
  have hi : ∀ t : Fin cfg0.N, win0_4.index t 0 * win0_4.size 0 = base t ∧ win0_4.index t 1 = 0 := by decide +kernel
  have e : iblk m c 4 t = fun y => (V m c main_arg2 : S8192x512.Idx → EReal) ((win0_4.rect t).emb y) := rfl
  rw [e, V_main_arg2, A.a2]
  exact rows_M (R := 8192) (R' := 256) (C := 512) (C' := 512) _ _ _ (fun y => (win0_4.rect_emb_val t y 0).trans (by rw [(hi t).1])) (win0_4.rect_emb_val_of_index_zero t 1 (hi t).2)

theorem blk5 : iblk m c 5 t = (M (sh (base t) I.o2) : S256x512.Idx → EReal) := by
  have hi : ∀ t : Fin cfg0.N, win0_5.index t 0 * win0_5.size 0 = base t ∧ win0_5.index t 1 = 0 := by decide +kernel
  have e : iblk m c 5 t = fun y => (V m c main_arg3 : S8192x512.Idx → EReal) ((win0_5.rect t).emb y) := rfl
  rw [e, V_main_arg3, A.a3]
  exact rows_M (R := 8192) (R' := 256) (C := 512) (C' := 512) _ _ _ (fun y => (win0_5.rect_emb_val t y 0).trans (by rw [(hi t).1])) (win0_5.rect_emb_val_of_index_zero t 1 (hi t).2)

theorem blk6 : iblk m c 6 t = (M (sh (base t) I.l0) : S256x512.Idx → EReal) := by
  have hi : ∀ t : Fin cfg0.N, win0_6.index t 0 * win0_6.size 0 = base t ∧ win0_6.index t 1 = 0 := by decide +kernel
  have e : iblk m c 6 t = fun y => (V m c main_arg4 : S8192x512.Idx → EReal) ((win0_6.rect t).emb y) := rfl
  rw [e, V_main_arg4, A.a4]
  exact rows_M (R := 8192) (R' := 256) (C := 512) (C' := 512) _ _ _ (fun y => (win0_6.rect_emb_val t y 0).trans (by rw [(hi t).1])) (win0_6.rect_emb_val_of_index_zero t 1 (hi t).2)

theorem blk7 : iblk m c 7 t = (M (sh (base t) I.l1) : S256x512.Idx → EReal) := by
  have hi : ∀ t : Fin cfg0.N, win0_7.index t 0 * win0_7.size 0 = base t ∧ win0_7.index t 1 = 0 := by decide +kernel
  have e : iblk m c 7 t = fun y => (V m c main_arg5 : S8192x512.Idx → EReal) ((win0_7.rect t).emb y) := rfl
  rw [e, V_main_arg5, A.a5]
  exact rows_M (R := 8192) (R' := 256) (C := 512) (C' := 512) _ _ _ (fun y => (win0_7.rect_emb_val t y 0).trans (by rw [(hi t).1])) (win0_7.rect_emb_val_of_index_zero t 1 (hi t).2)

theorem blk8 : iblk m c 8 t = (M (sh (base t) I.l2) : S256x512.Idx → EReal) := by
  have hi : ∀ t : Fin cfg0.N, win0_8.index t 0 * win0_8.size 0 = base t ∧ win0_8.index t 1 = 0 := by decide +kernel
  have e : iblk m c 8 t = fun y => (V m c main_arg6 : S8192x512.Idx → EReal) ((win0_8.rect t).emb y) := rfl
  rw [e, V_main_arg6, A.a6]
  exact rows_M (R := 8192) (R' := 256) (C := 512) (C' := 512) _ _ _ (fun y => (win0_8.rect_emb_val t y 0).trans (by rw [(hi t).1])) (win0_8.rect_emb_val_of_index_zero t 1 (hi t).2)

theorem blk9 : iblk m c 9 t = (M (sh (base t) I.x) : S256x1024.Idx → EReal) := by
  have hi : ∀ t : Fin cfg0.N, win0_9.index t 0 * win0_9.size 0 = base t ∧ win0_9.index t 1 = 0 := by decide +kernel
  have e : iblk m c 9 t = fun y => (V m c main_arg7 : S8192x1024.Idx → EReal) ((win0_9.rect t).emb y) := rfl
  rw [e, V_main_arg7, A.a7]
  exact rows_M (R := 8192) (R' := 256) (C := 1024) (C' := 1024) _ _ _ (fun y => (win0_9.rect_emb_val t y 0).trans (by rw [(hi t).1])) (win0_9.rect_emb_val_of_index_zero t 1 (hi t).2)

theorem blk10 : iblk m c 10 t = (M (sh (base t) I.tg) : S256x1024.Idx → EReal) := by
  have hi : ∀ t : Fin cfg0.N, win0_10.index t 0 * win0_10.size 0 = base t ∧ win0_10.index t 1 = 0 := by decide +kernel
  have e : iblk m c 10 t = fun y => (V m c main_arg8 : S8192x1024.Idx → EReal) ((win0_10.rect t).emb y) := rfl
  rw [e, V_main_arg8, A.a8]
  exact rows_M (R := 8192) (R' := 256) (C := 1024) (C' := 1024) _ _ _ (fun y => (win0_10.rect_emb_val t y 0).trans (by rw [(hi t).1])) (win0_10.rect_emb_val_of_index_zero t 1 (hi t).2)

theorem blk11 : iblk m c 11 t = (M (I.md) : S1x3072.Idx → EReal) := by
  have hi : ∀ t : Fin cfg0.N, win0_11.index t 0 = 0 ∧ win0_11.index t 1 = 0 := by decide +kernel
  have e : iblk m c 11 t = fun y => (V m c main_arg9 : S1x3072.Idx → EReal) ((win0_11.rect t).emb y) := rfl
  rw [e, V_main_arg9, A.a9]
  exact all_M (R := 1) (C := 3072) _ _ (win0_11.rect_emb_val_of_index_zero t 0 (hi t).1) (win0_11.rect_emb_val_of_index_zero t 1 (hi t).2)

theorem blk12 : iblk m c 12 t = (M (fun r c => if 0 ≤ r ∧ r < 0 + 3 then I.cw (r - 0) c else 0) : S8x1024.Idx → EReal) := by
  have hi : ∀ t : Fin cfg0.N, win0_12.index t 0 = 0 ∧ win0_12.index t 1 = 0 := by decide +kernel
  have e : iblk m c 12 t = fun y => (V m c main_v0 : S8x1024.Idx → EReal) ((win0_12.rect t).emb y) := rfl
  rw [e, V_v0 m c I.cw A.a10]
  exact all_M (R := 8) (C := 1024) _ _ (win0_12.rect_emb_val_of_index_zero t 0 (hi t).1) (win0_12.rect_emb_val_of_index_zero t 1 (hi t).2)

omit A in
theorem blk13 : iblk m c 13 t = (M (heads) : S512x512.Idx → EReal) := by
  have hi : ∀ t : Fin cfg0.N, win0_13.index t 0 = 0 ∧ win0_13.index t 1 = 0 := by decide +kernel
  have e : iblk m c 13 t = fun y => (V m c main_v9 : S512x512.Idx → EReal) ((win0_13.rect t).emb y) := rfl
  rw [e, V_v9]
  exact all_M (R := 512) (C := 512) _ _ (win0_13.rect_emb_val_of_index_zero t 0 (hi t).1) (win0_13.rect_emb_val_of_index_zero t 1 (hi t).2)

theorem halo1 : X0_1 m c t = (M (fun r c => I.P (base t - 16 + r) (1024 + c)) : S16x1024.Idx → EReal) := by
  have hi : ∀ t : Fin cfg0.N, win0_1.index t 0 * win0_1.size 0 = base t - 16 ∧ win0_1.index t 1 * win0_1.size 1 = 1024 := by decide +kernel
  have e : X0_1 m c t = fun y => (V m c main_arg0 : S8192x6656.Idx → EReal) ((win0_1.rect t).emb fun a => ⟨(y a).val, (y a).isLt.trans_eq (xsize0_1 t a).symm⟩) := by
    funext y
    unfold X0_1 Pipeline.Window.fill
    rw [dif_pos (moved0_1 t y)]
    rfl
  rw [e, V_main_arg0, A.a0]
  exact at_M (R := 8192) (C := 6656) (R' := 16) (C' := 1024) _ _ _ _ (fun y => (win0_1.rect_emb_val t _ 0).trans (by rw [(hi t).1])) (fun y => (win0_1.rect_emb_val t _ 1).trans (by rw [(hi t).2]))

theorem halo2 : X0_2 m c t = (M (fun r c => I.P (base t - 16 + r) (2048 + c)) : S16x1024.Idx → EReal) := by
  have hi : ∀ t : Fin cfg0.N, win0_2.index t 0 * win0_2.size 0 = base t - 16 ∧ win0_2.index t 1 * win0_2.size 1 = 2048 := by decide +kernel
  have e : X0_2 m c t = fun y => (V m c main_arg0 : S8192x6656.Idx → EReal) ((win0_2.rect t).emb fun a => ⟨(y a).val, (y a).isLt.trans_eq (xsize0_2 t a).symm⟩) := by
    funext y
    unfold X0_2 Pipeline.Window.fill
    rw [dif_pos (moved0_2 t y)]
    rfl
  rw [e, V_main_arg0, A.a0]
  exact at_M (R := 8192) (C := 6656) (R' := 16) (C' := 1024) _ _ _ _ (fun y => (win0_2.rect_emb_val t _ 0).trans (by rw [(hi t).1])) (fun y => (win0_2.rect_emb_val t _ 1).trans (by rw [(hi t).2]))

/-- The rows before the tile, times the flag that there are any. -/
theorem halo : k0_pay18 (F := Ideal) (grid0.coords t) (X0_1 m c t) (X0_2 m c t) = M (H I (base t)) := by
  have hc : ∀ t : Fin cfg0.N, ((grid0.coords t) 0).val = t.val := by decide +kernel
  rw [halo1 A t, halo2 A t, p18]
  have ht : t.val < 32 := t.isLt
  refine M_congr fun r c hr _ => ?_
  rw [hc]
  unfold H base u Cc X
  by_cases h : t.val < 31
  · rw [if_pos h, if_neg (by omega), mul_one]
    have e : 256 * (31 - t.val) + r - 16 = 256 * (31 - t.val) - 16 + r := by omega
    rw [e]
  · rw [if_neg h, if_pos (by omega), mul_zero]

/-- What point `t` takes in. -/
theorem blocks : Blocks m c I (base t) t := by
  have ht : t.val < 32 := t.isLt
  exact {
    hb := by unfold base; omega
    hb' := by unfold base; omega
    x0 := blk0 A t, x12 := halo A t, x3 := blk3 A t, x4 := blk4 A t, x5 := blk5 A t, x6 := blk6 A t, x7 := blk7 A t, x8 := blk8 A t
    x9 := blk9 A t, x10 := blk10 A t, x11 := blk11 A t
    cw := ⟨_, blk12 A t, fun r hr c => if_pos ⟨Nat.zero_le _, by omega⟩⟩
    x13 := blk13 t }

end Tiles

end Cert.KernelIdeal.Mid
-- ==== Proof.Mid.Good.lean ====
module

public import proofs.«01_k».proof.Proof.Mid.Reads

@[expose] public section

set_option maxRecDepth 16384

/-!
# What a point leaves, from the stores it makes
-/

noncomputable section

namespace Cert.KernelIdeal.Mid

open Cert.KernelIdeal.Gen Idealize.ShloMosaic Cert.Lift Cert.Spec
open Idealize.SL.Sem

variable (c : Dev nD) {I : In} {b : ℕ}

/-- What the first point leaves, of its lists of stores. -/
def ofA (T14 : List (View.Piece (Elt Ideal) S256x6656 .bf16)) (T15 : List (View.Piece (Elt Ideal) S256x512 .bf16)) (T16 : List (View.Piece (Elt Ideal) S256x512 .f32)) (T17 : List (View.Piece (Elt Ideal) S256x512 .f32)) (T18 : List (View.Piece (Elt Ideal) S256x1024 .bf16)) (T19 : List (View.Piece (Elt Ideal) S8x1024 .f32)) (K0 : List (View.Piece (Elt Ideal) S1024x1024 .bf16)) (K1 : List (View.Piece (Elt Ideal) S512x1024 .bf16)) (K2 : List (View.Piece (Elt Ideal) S1024x1024 .bf16)) (K3 : List (View.Piece (Elt Ideal) S1024x1024 .f32)) (K4 : List (View.Piece (Elt Ideal) S1024x1024 .f32)) (K5 : List (View.Piece (Elt Ideal) S512x1024 .f32)) (K6 : List (View.Piece (Elt Ideal) S8x1024 .f32))
    (w3 : HbBuf0 (F := Ideal) c hbM0_3) (w4 : HbBuf0 (F := Ideal) c hbM0_4) (w5 : HbBuf0 (F := Ideal) c hbM0_5) : St Ideal c where
  o14 := VO0_14.read (Elt Ideal) (VO0_14.writes (Elt Ideal) VO0_14.junk T14)
  o15 := VO0_15.read (Elt Ideal) (VO0_15.writes (Elt Ideal) VO0_15.junk T15)
  o16 := VO0_16.read (Elt Ideal) (VO0_16.writes (Elt Ideal) VO0_16.junk T16)
  o17 := VO0_17.read (Elt Ideal) (VO0_17.writes (Elt Ideal) VO0_17.junk T17)
  o18 := VO0_18.read (Elt Ideal) (VO0_18.writes (Elt Ideal) VO0_18.junk T18)
  o19 := VO0_19.read (Elt Ideal) (VO0_19.writes (Elt Ideal) VO0_19.junk T19)
  s0 := VS0_0.read (Elt Ideal) (VS0_0.writes (Elt Ideal) VS0_0.junk K0)
  s1 := VS0_1.read (Elt Ideal) (VS0_1.writes (Elt Ideal) VS0_1.junk K1)
  s2 := VS0_2.read (Elt Ideal) (VS0_2.writes (Elt Ideal) VS0_2.junk K2)
  s3 := VS0_3.read (Elt Ideal) (VS0_3.writes (Elt Ideal) VS0_3.junk K3)
  s4 := VS0_4.read (Elt Ideal) (VS0_4.writes (Elt Ideal) VS0_4.junk K4)
  s5 := VS0_5.read (Elt Ideal) (VS0_5.writes (Elt Ideal) VS0_5.junk K5)
  s6 := VS0_6.read (Elt Ideal) (VS0_6.writes (Elt Ideal) VS0_6.junk K6)
  w3 := w3
  w4 := w4
  w5 := w5

theorem goodOfA {T14 : List (View.Piece (Elt Ideal) S256x6656 .bf16)} {T15 : List (View.Piece (Elt Ideal) S256x512 .bf16)} {T16 : List (View.Piece (Elt Ideal) S256x512 .f32)} {T17 : List (View.Piece (Elt Ideal) S256x512 .f32)} {T18 : List (View.Piece (Elt Ideal) S256x1024 .bf16)} {T19 : List (View.Piece (Elt Ideal) S8x1024 .f32)} {K0 : List (View.Piece (Elt Ideal) S1024x1024 .bf16)} {K1 : List (View.Piece (Elt Ideal) S512x1024 .bf16)} {K2 : List (View.Piece (Elt Ideal) S1024x1024 .bf16)} {K3 : List (View.Piece (Elt Ideal) S1024x1024 .f32)} {K4 : List (View.Piece (Elt Ideal) S1024x1024 .f32)} {K5 : List (View.Piece (Elt Ideal) S512x1024 .f32)} {K6 : List (View.Piece (Elt Ideal) S8x1024 .f32)}
    (w3 : HbBuf0 (F := Ideal) c hbM0_3) (w4 : HbBuf0 (F := Ideal) c hbM0_4) (w5 : HbBuf0 (F := Ideal) c hbM0_5)
    (e14 : T14 = L14 I b)
    (e15 : T15 = [⟨Rect.unit ![0, 0] S256x512.size inb_S256x512_S256x512_0_0, (M (sh b (dattn I)) : S256x512.Idx → EReal)⟩])
    (e16 : T16 = [⟨Rect.unit ![0, 0] S256x512.size inb_S256x512_S256x512_0_0, (M (sh b (lse I)) : S256x512.Idx → EReal)⟩])
    (e17 : T17 = [⟨Rect.unit ![0, 0] S256x512.size inb_S256x512_S256x512_0_0, (M (sh b (delta I)) : S256x512.Idx → EReal)⟩])
    (e18 : T18 = [⟨Rect.unit ![0, 0] S256x1024.size inb_S256x1024_S256x1024_0_0, (M (sh b (dout I)) : S256x1024.Idx → EReal)⟩])
    (e19 : T19 = L19 I b [⟨Rect.unit ![0, 0] S8x1024.size inb_S8x1024_S8x1024_0_0, (M (vecs I (b + 256)) : S8x1024.Idx → EReal)⟩])
    (f0 : K0 = [⟨Rect.whole S1024x1024, (M I.wc : S1024x1024.Idx → EReal)⟩])
    (f1 : K1 = [⟨Rect.whole S512x1024, (M I.wa : S512x1024.Idx → EReal)⟩])
    (f2 : K2 = [⟨Rect.whole S1024x1024, (M I.wo : S1024x1024.Idx → EReal)⟩])
    (f3 : K3 = [⟨Rect.unit ![0, 0] S1024x1024.size inb_S1024x1024_S1024x1024_0_0, (M (acc (mg I) (dmo I) b) : S1024x1024.Idx → EReal)⟩, ⟨Rect.unit ![0, 0] S1024x1024.size inb_S1024x1024_S1024x1024_0_0, (M (acc (mg I) (dmo I) (b + 256)) : S1024x1024.Idx → EReal)⟩])
    (f4 : K4 = [⟨Rect.unit ![0, 0] S1024x1024.size inb_S1024x1024_S1024x1024_0_0, (M (acc (ya I) (dpa I) b) : S1024x1024.Idx → EReal)⟩, ⟨Rect.unit ![0, 0] S1024x1024.size inb_S1024x1024_S1024x1024_0_0, (M (acc (ya I) (dpa I) (b + 256)) : S1024x1024.Idx → EReal)⟩])
    (f5 : K5 = [⟨Rect.unit ![0, 0] S512x1024.size inb_S512x1024_S512x1024_0_0, (M (acc (yb I) (dpb I) b) : S512x1024.Idx → EReal)⟩, ⟨Rect.unit ![0, 0] S512x1024.size inb_S512x1024_S512x1024_0_0, (M (acc (yb I) (dpb I) (b + 256)) : S512x1024.Idx → EReal)⟩])
    (f6 : K6 = [⟨Rect.unit ![0, 0] S8x1024.size inb_S8x1024_S8x1024_0_0, (M (sh b (dconvE I)) : S8x1024.Idx → EReal)⟩, ⟨Rect.unit ![0, 0] S8x1024.size inb_S8x1024_S8x1024_0_0, (M (sh (b + 256) (dconvE I)) : S8x1024.Idx → EReal)⟩]) :
    Good c I b (ofA c T14 T15 T16 T17 T18 T19 K0 K1 K2 K3 K4 K5 K6 w3 w4 w5) := by
  constructor <;> dsimp only [ofA]
  · exact read_L14 VO0_14 _ (by assumption)
  · exact read_left (R := 256) (C := 512) VO0_15 _ _ _ _ (by assumption)
  · exact read_left (R := 256) (C := 512) VO0_16 _ _ _ _ (by assumption)
  · exact read_left (R := 256) (C := 512) VO0_17 _ _ _ _ (by assumption)
  · exact read_left (R := 256) (C := 1024) VO0_18 _ _ _ _ (by assumption)
  · rw [View.read_writes_junk_eq_canon, e19]; exact canon_L19 _ (canon_whole _ _ _)
  · exact read_left_copied VS0_0 _ _ (by assumption)
  · exact read_left_copied VS0_1 _ _ (by assumption)
  · exact read_left_copied VS0_2 _ _ (by assumption)
  · exact read_left (R := 1024) (C := 1024) VS0_3 _ _ _ _ (by assumption)
  · exact read_left (R := 1024) (C := 1024) VS0_4 _ _ _ _ (by assumption)
  · exact read_left (R := 512) (C := 1024) VS0_5 _ _ _ _ (by assumption)
  · exact read_left (R := 8) (C := 1024) VS0_6 _ _ _ _ (by assumption)

/-- What a later point leaves, of its lists of stores. -/
def ofB (t : Fin cfg0.N) (s : St Ideal c) (T14 : List (View.Piece (Elt Ideal) S256x6656 .bf16)) (T15 : List (View.Piece (Elt Ideal) S256x512 .bf16)) (T16 : List (View.Piece (Elt Ideal) S256x512 .f32)) (T17 : List (View.Piece (Elt Ideal) S256x512 .f32)) (T18 : List (View.Piece (Elt Ideal) S256x1024 .bf16)) (T19 : List (View.Piece (Elt Ideal) S8x1024 .f32)) (K3 : List (View.Piece (Elt Ideal) S1024x1024 .f32)) (K4 : List (View.Piece (Elt Ideal) S1024x1024 .f32)) (K5 : List (View.Piece (Elt Ideal) S512x1024 .f32)) (K6 : List (View.Piece (Elt Ideal) S8x1024 .f32))
    (w3 : HbBuf0 (F := Ideal) c hbM0_3) (w4 : HbBuf0 (F := Ideal) c hbM0_4) (w5 : HbBuf0 (F := Ideal) c hbM0_5) : St Ideal c where
  o14 := VO0_14.read (Elt Ideal) (VO0_14.writes (Elt Ideal) VO0_14.junk T14)
  o15 := VO0_15.read (Elt Ideal) (VO0_15.writes (Elt Ideal) VO0_15.junk T15)
  o16 := VO0_16.read (Elt Ideal) (VO0_16.writes (Elt Ideal) VO0_16.junk T16)
  o17 := VO0_17.read (Elt Ideal) (VO0_17.writes (Elt Ideal) VO0_17.junk T17)
  o18 := VO0_18.read (Elt Ideal) (VO0_18.writes (Elt Ideal) VO0_18.junk T18)
  o19 := (ms0_19 t).view.read (Elt Ideal) ((ms0_19 t).view.writes (Elt Ideal) ((hs0_19 t).unread s.o19) T19)
  s0 := s.s0
  s1 := s.s1
  s2 := s.s2
  s3 := VS0_3.read (Elt Ideal) (VS0_3.writes (Elt Ideal) VS0_3.junk K3)
  s4 := VS0_4.read (Elt Ideal) (VS0_4.writes (Elt Ideal) VS0_4.junk K4)
  s5 := VS0_5.read (Elt Ideal) (VS0_5.writes (Elt Ideal) VS0_5.junk K5)
  s6 := VS0_6.read (Elt Ideal) (VS0_6.writes (Elt Ideal) VS0_6.junk K6)
  w3 := w3
  w4 := w4
  w5 := w5

theorem goodOfB (t : Fin cfg0.N) {s : St Ideal c} (G : Good c I (b + 256) s) {T14 : List (View.Piece (Elt Ideal) S256x6656 .bf16)} {T15 : List (View.Piece (Elt Ideal) S256x512 .bf16)} {T16 : List (View.Piece (Elt Ideal) S256x512 .f32)} {T17 : List (View.Piece (Elt Ideal) S256x512 .f32)} {T18 : List (View.Piece (Elt Ideal) S256x1024 .bf16)} {T19 : List (View.Piece (Elt Ideal) S8x1024 .f32)} {K3 : List (View.Piece (Elt Ideal) S1024x1024 .f32)} {K4 : List (View.Piece (Elt Ideal) S1024x1024 .f32)} {K5 : List (View.Piece (Elt Ideal) S512x1024 .f32)} {K6 : List (View.Piece (Elt Ideal) S8x1024 .f32)}
    (w3 : HbBuf0 (F := Ideal) c hbM0_3) (w4 : HbBuf0 (F := Ideal) c hbM0_4) (w5 : HbBuf0 (F := Ideal) c hbM0_5)
    (e14 : T14 = L14 I b)
    (e15 : T15 = [⟨Rect.unit ![0, 0] S256x512.size inb_S256x512_S256x512_0_0, (M (sh b (dattn I)) : S256x512.Idx → EReal)⟩])
    (e16 : T16 = [⟨Rect.unit ![0, 0] S256x512.size inb_S256x512_S256x512_0_0, (M (sh b (lse I)) : S256x512.Idx → EReal)⟩])
    (e17 : T17 = [⟨Rect.unit ![0, 0] S256x512.size inb_S256x512_S256x512_0_0, (M (sh b (delta I)) : S256x512.Idx → EReal)⟩])
    (e18 : T18 = [⟨Rect.unit ![0, 0] S256x1024.size inb_S256x1024_S256x1024_0_0, (M (sh b (dout I)) : S256x1024.Idx → EReal)⟩])
    (e19 : T19 = L19 I b [])
    (f3 : K3 = [⟨Rect.unit ![0, 0] S1024x1024.size inb_S1024x1024_S1024x1024_0_0, (M (acc (mg I) (dmo I) b) : S1024x1024.Idx → EReal)⟩])
    (f4 : K4 = [⟨Rect.unit ![0, 0] S1024x1024.size inb_S1024x1024_S1024x1024_0_0, (M (acc (ya I) (dpa I) b) : S1024x1024.Idx → EReal)⟩])
    (f5 : K5 = [⟨Rect.unit ![0, 0] S512x1024.size inb_S512x1024_S512x1024_0_0, (M (acc (yb I) (dpb I) b) : S512x1024.Idx → EReal)⟩])
    (f6 : K6 = [⟨Rect.unit ![0, 0] S8x1024.size inb_S8x1024_S8x1024_0_0, (M (sh b (dconvE I)) : S8x1024.Idx → EReal)⟩]) :
    Good c I b (ofB c t s T14 T15 T16 T17 T18 T19 K3 K4 K5 K6 w3 w4 w5) := by
  constructor <;> dsimp only [ofB]
  · exact read_L14 VO0_14 _ (by assumption)
  · exact read_left (R := 256) (C := 512) VO0_15 _ _ _ _ (by assumption)
  · exact read_left (R := 256) (C := 512) VO0_16 _ _ _ _ (by assumption)
  · exact read_left (R := 256) (C := 512) VO0_17 _ _ _ _ (by assumption)
  · exact read_left (R := 256) (C := 1024) VO0_18 _ _ _ _ (by assumption)
  · rw [e19]; exact read_L19 _ _ (((hs0_19 t).read_unread _).trans G.o19)
  · exact G.s0
  · exact G.s1
  · exact G.s2
  · exact read_left (R := 1024) (C := 1024) VS0_3 _ _ _ _ (by assumption)
  · exact read_left (R := 1024) (C := 1024) VS0_4 _ _ _ _ (by assumption)
  · exact read_left (R := 512) (C := 1024) VS0_5 _ _ _ _ (by assumption)
  · exact read_left (R := 8) (C := 1024) VS0_6 _ _ _ _ (by assumption)

end Cert.KernelIdeal.Mid
-- ==== Proof.Mid.StoresA.lean ====
module

public import proofs.«01_k».proof.Proof.Mid.Good

@[expose] public section

set_option maxRecDepth 16384

/-!
# The first point on the reals

The stores of this point's run, read at real inputs, and so what the point leaves.
-/

noncomputable section

namespace Cert.KernelIdeal.Mid

open Cert.KernelIdeal.Gen Idealize.ShloMosaic Cert.Lift Cert.Spec
open Idealize.SL.Sem

variable {m : (ℓ : Loc nD τ sig) → Buf (Elt Ideal) ℓ} {c : Dev nD} {I : In} {b : ℕ} {t : Fin cfg0.N}

set_option maxHeartbeats 2000000 in
/-- The run's stores are the tile's values. -/
theorem storesA (h : Blocks m c I b t) (hA : b + 256 = 8192) (h0 : t.val % 32 = 0) (h1 : ¬t.val % 32 = 31)
    (hw0 : View.read (Elt Ideal) (View.whole main_arg11) (V m c main_arg11) = (M I.wc : S1024x1024.Idx → EReal))
    (hw1 : View.read (Elt Ideal) (View.whole main_arg12) (V m c main_arg12) = (M I.wa : S512x1024.Idx → EReal))
    (hw2 : View.read (Elt Ideal) (View.whole main_arg13) (V m c main_arg13) = (M I.wo : S1024x1024.Idx → EReal)) :
    (rA m c t h0 h1).1 = L14 I b
    ∧ (rA m c t h0 h1).2.1 = [⟨Rect.unit ![0, 0] S256x512.size inb_S256x512_S256x512_0_0, (M (sh b (dattn I)) : S256x512.Idx → EReal)⟩]
    ∧ (rA m c t h0 h1).2.2.1 = [⟨Rect.unit ![0, 0] S256x512.size inb_S256x512_S256x512_0_0, (M (sh b (lse I)) : S256x512.Idx → EReal)⟩]
    ∧ (rA m c t h0 h1).2.2.2.1 = [⟨Rect.unit ![0, 0] S256x512.size inb_S256x512_S256x512_0_0, (M (sh b (delta I)) : S256x512.Idx → EReal)⟩]
    ∧ (rA m c t h0 h1).2.2.2.2.1 = [⟨Rect.unit ![0, 0] S256x1024.size inb_S256x1024_S256x1024_0_0, (M (sh b (dout I)) : S256x1024.Idx → EReal)⟩]
    ∧ (rA m c t h0 h1).2.2.2.2.2.1 = L19 I b [⟨Rect.unit ![0, 0] S8x1024.size inb_S8x1024_S8x1024_0_0, (M (vecs I (b + 256)) : S8x1024.Idx → EReal)⟩]
    ∧ (rA m c t h0 h1).2.2.2.2.2.2.1 = [⟨Rect.whole S1024x1024, (M I.wc : S1024x1024.Idx → EReal)⟩]
    ∧ (rA m c t h0 h1).2.2.2.2.2.2.2.1 = [⟨Rect.whole S512x1024, (M I.wa : S512x1024.Idx → EReal)⟩]
    ∧ (rA m c t h0 h1).2.2.2.2.2.2.2.2.1 = [⟨Rect.whole S1024x1024, (M I.wo : S1024x1024.Idx → EReal)⟩]
    ∧ (rA m c t h0 h1).2.2.2.2.2.2.2.2.2.1 = [⟨Rect.unit ![0, 0] S1024x1024.size inb_S1024x1024_S1024x1024_0_0, (M (acc (mg I) (dmo I) b) : S1024x1024.Idx → EReal)⟩, ⟨Rect.unit ![0, 0] S1024x1024.size inb_S1024x1024_S1024x1024_0_0, (M (acc (mg I) (dmo I) (b + 256)) : S1024x1024.Idx → EReal)⟩]
    ∧ (rA m c t h0 h1).2.2.2.2.2.2.2.2.2.2.1 = [⟨Rect.unit ![0, 0] S1024x1024.size inb_S1024x1024_S1024x1024_0_0, (M (acc (ya I) (dpa I) b) : S1024x1024.Idx → EReal)⟩, ⟨Rect.unit ![0, 0] S1024x1024.size inb_S1024x1024_S1024x1024_0_0, (M (acc (ya I) (dpa I) (b + 256)) : S1024x1024.Idx → EReal)⟩]
    ∧ (rA m c t h0 h1).2.2.2.2.2.2.2.2.2.2.2.1 = [⟨Rect.unit ![0, 0] S512x1024.size inb_S512x1024_S512x1024_0_0, (M (acc (yb I) (dpb I) b) : S512x1024.Idx → EReal)⟩, ⟨Rect.unit ![0, 0] S512x1024.size inb_S512x1024_S512x1024_0_0, (M (acc (yb I) (dpb I) (b + 256)) : S512x1024.Idx → EReal)⟩]
    ∧ (rA m c t h0 h1).2.2.2.2.2.2.2.2.2.2.2.2.1 = [⟨Rect.unit ![0, 0] S8x1024.size inb_S8x1024_S8x1024_0_0, (M (sh b (dconvE I)) : S8x1024.Idx → EReal)⟩, ⟨Rect.unit ![0, 0] S8x1024.size inb_S8x1024_S8x1024_0_0, (M (sh (b + 256) (dconvE I)) : S8x1024.Idx → EReal)⟩] := by
  have q5 : k0_pay5 (F := Ideal) = M (acc (mg I) (dmo I) (b + 256)) := by rw [hA]; exact p5 _ _
  have q6 : k0_pay6 (F := Ideal) = M (acc (ya I) (dpa I) (b + 256)) := by rw [hA]; exact p6 _ _
  have q7 : k0_pay7 (F := Ideal) = M (acc (yb I) (dpb I) (b + 256)) := by rw [hA]; exact p7 _ _
  have q8 : k0_pay8 (F := Ideal) = M (sh (b + 256) (dconvE I)) := by rw [hA]; exact p8 I
  have q9 : k0_pay9 (F := Ideal) = M (vecs I (b + 256)) := by rw [hA]; exact p9 I
  unfold rA runA
  dsimp only
  simp (disch := decide) only [runA.sl.H19_1, runA.sl.H19_2, runA.sl.H19_3, runA.sl.H19_4, runA.sl.H19_5, runA.sl.HS3_1, runA.sl.HS4_1, runA.sl.HS5_1, runA.sl.HS6_1, runA.sl.dma0, runA.sl.dma0_1, runA.sl.dma0_2, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_38, runA.sl.r_39, runA.sl.r_4, runA.sl.r_40, runA.sl.r_41, runA.sl.r_5, runA.sl.r_6, runA.sl.r_7, runA.sl.r_8, runA.sl.r_9, runA.sl.v120, runA.sl.v144, runA.sl.v156, runA.sl.v163, runA.sl.v193, runA.sl.v199, runA.sl.v205, runA.sl.v251, runA.sl.v258, runA.sl.v265, runA.sl.v272, runA.sl.v31, runA.sl.v4, runA.sl.v81,
    readCov_copied, readCov_whole, readCov_row_skip, hw0, hw1, hw2, q5, q6, q7, q8, q9,
        View.readAt_eq_ld, Memref.IsWhole.read_unread, read_unread_whole, ld_whole, ReadAs.apply_same,
    h.x3, h.x4, h.x5, h.x6, h.x7, h.x8, h.x9, h.x10, h.x12, h.x13, h.ldG, h.ldW 0 (by decide), h.ldW 1 (by decide), h.ldW 2 (by decide),
    ldP0 h, ldP1024 h, ldP2048 h, ldP3072 h, ldP4096 h, ldP4608 h, ldP5632 h, ldV0, ldV1, ldV2, ldV3, ldV4,
    p10, p11, p12, p13, p14, p15, p16, p17 I b, p21 I b h.hb, p22 I b h.hb, p23 I b h.hb, p24 I b, p25 I b, p26 I b h.hb, p27, p28 I b, p34 I b, p35 I b, p36, p37 I b, p38 I b, p39 I b, p40 I b, p41 I b, p42 I b, p43 I b, p44 I b, p45 I b, p46 I b, p47 I b, p50 I b, p52 I b, p53 I b, p54 I b, p55 I b, p59 I b, p61 I b, p62 I b, p63, p64, p65 I b, p66 I b, p67 I b, p68 I b, p48 I b h.hb', p49 I b h.hb', p56 I b h.hb', p57 I b h.hb', p58 I b h.hb', p69 I b h.hb', p70 I b h.hb', p71 I b h.hb', p74 I b h.hb', p2 I b h.hb', p3 I b h.hb', p4 I b h.hb', p72, p73]
  and_intros <;> first | exact trivial | rfl

end Cert.KernelIdeal.Mid
-- ==== Proof.Mid.BlockA.lean ====
module

public import proofs.«01_k».proof.Proof.Mid.StoresA

@[expose] public section

set_option maxRecDepth 16384

/-!
# The first point on the reals

The stores of this point's run, read at real inputs, and so what the point leaves.
-/

noncomputable section

namespace Cert.KernelIdeal.Mid

open Cert.KernelIdeal.Gen Idealize.ShloMosaic Cert.Lift Cert.Spec
open Idealize.SL.Sem

variable {m : (ℓ : Loc nD τ sig) → Buf (Elt Ideal) ℓ} {c : Dev nD} {I : In} {b : ℕ} {t : Fin cfg0.N}

theorem stA_eq (h0 : t.val % 32 = 0) (h1 : ¬t.val % 32 = 31) :
    stA m c t h0 h1 = ofA c (rA m c t h0 h1).1 (rA m c t h0 h1).2.1 (rA m c t h0 h1).2.2.1 (rA m c t h0 h1).2.2.2.1 (rA m c t h0 h1).2.2.2.2.1 (rA m c t h0 h1).2.2.2.2.2.1 (rA m c t h0 h1).2.2.2.2.2.2.1 (rA m c t h0 h1).2.2.2.2.2.2.2.1 (rA m c t h0 h1).2.2.2.2.2.2.2.2.1 (rA m c t h0 h1).2.2.2.2.2.2.2.2.2.1 (rA m c t h0 h1).2.2.2.2.2.2.2.2.2.2.1 (rA m c t h0 h1).2.2.2.2.2.2.2.2.2.2.2.1 (rA m c t h0 h1).2.2.2.2.2.2.2.2.2.2.2.2.1 (rA m c t h0 h1).2.2.2.2.2.2.2.2.2.2.2.2.2.1 (rA m c t h0 h1).2.2.2.2.2.2.2.2.2.2.2.2.2.2.1 (rA m c t h0 h1).2.2.2.2.2.2.2.2.2.2.2.2.2.2.2.1 := by
  unfold stA ofA; rfl

set_option maxHeartbeats 400000 in
/-- What the point leaves are the tile's values. -/
theorem goodA (h : Blocks m c I b t) (hA : b + 256 = 8192) (h0 : t.val % 32 = 0) (h1 : ¬t.val % 32 = 31)
    (hw0 : View.read (Elt Ideal) (View.whole main_arg11) (V m c main_arg11) = (M I.wc : S1024x1024.Idx → EReal))
    (hw1 : View.read (Elt Ideal) (View.whole main_arg12) (V m c main_arg12) = (M I.wa : S512x1024.Idx → EReal))
    (hw2 : View.read (Elt Ideal) (View.whole main_arg13) (V m c main_arg13) = (M I.wo : S1024x1024.Idx → EReal)) : Good c I b (stA m c t h0 h1) := by
  have S := storesA h hA h0 h1 hw0 hw1 hw2
  rw [stA_eq]
  refine goodOfA c _ _ _ ?_ ?_ ?_ ?_ ?_ ?_ ?_ ?_ ?_ ?_ ?_ ?_ ?_
  · exact S.1
  · exact S.2.1
  · exact S.2.2.1
  · exact S.2.2.2.1
  · exact S.2.2.2.2.1
  · exact S.2.2.2.2.2.1
  · exact S.2.2.2.2.2.2.1
  · exact S.2.2.2.2.2.2.2.1
  · exact S.2.2.2.2.2.2.2.2.1
  · exact S.2.2.2.2.2.2.2.2.2.1
  · exact S.2.2.2.2.2.2.2.2.2.2.1
  · exact S.2.2.2.2.2.2.2.2.2.2.2.1
  · exact S.2.2.2.2.2.2.2.2.2.2.2.2

end Cert.KernelIdeal.Mid
-- ==== Proof.Mid.BlockB.lean ====
module

public import proofs.«01_k».proof.Proof.Mid.Good

@[expose] public section

set_option maxRecDepth 16384

/-!
# A middle point on the reals

The stores of this point's run, read at real inputs, and so what the point leaves.
-/

noncomputable section

namespace Cert.KernelIdeal.Mid

open Cert.KernelIdeal.Gen Idealize.ShloMosaic Cert.Lift Cert.Spec
open Idealize.SL.Sem

variable {m : (ℓ : Loc nD τ sig) → Buf (Elt Ideal) ℓ} {c : Dev nD} {I : In} {b : ℕ} {t : Fin cfg0.N}

set_option maxHeartbeats 2000000 in
/-- The run's stores are the tile's values. -/
theorem storesB (h : Blocks m c I b t) (h0 : ¬t.val % 32 = 0) (h1 : ¬t.val % 32 = 31)
    {s : St Ideal c} (G : Good c I (b + 256) s) :
    (rB m c t h0 h1 s).1 = L14 I b
    ∧ (rB m c t h0 h1 s).2.1 = [⟨Rect.unit ![0, 0] S256x512.size inb_S256x512_S256x512_0_0, (M (sh b (dattn I)) : S256x512.Idx → EReal)⟩]
    ∧ (rB m c t h0 h1 s).2.2.1 = [⟨Rect.unit ![0, 0] S256x512.size inb_S256x512_S256x512_0_0, (M (sh b (lse I)) : S256x512.Idx → EReal)⟩]
    ∧ (rB m c t h0 h1 s).2.2.2.1 = [⟨Rect.unit ![0, 0] S256x512.size inb_S256x512_S256x512_0_0, (M (sh b (delta I)) : S256x512.Idx → EReal)⟩]
    ∧ (rB m c t h0 h1 s).2.2.2.2.1 = [⟨Rect.unit ![0, 0] S256x1024.size inb_S256x1024_S256x1024_0_0, (M (sh b (dout I)) : S256x1024.Idx → EReal)⟩]
    ∧ (rB m c t h0 h1 s).2.2.2.2.2.1 = L19 I b []
    ∧ (rB m c t h0 h1 s).2.2.2.2.2.2.2.2.2.1 = [⟨Rect.unit ![0, 0] S1024x1024.size inb_S1024x1024_S1024x1024_0_0, (M (acc (mg I) (dmo I) b) : S1024x1024.Idx → EReal)⟩]
    ∧ (rB m c t h0 h1 s).2.2.2.2.2.2.2.2.2.2.1 = [⟨Rect.unit ![0, 0] S1024x1024.size inb_S1024x1024_S1024x1024_0_0, (M (acc (ya I) (dpa I) b) : S1024x1024.Idx → EReal)⟩]
    ∧ (rB m c t h0 h1 s).2.2.2.2.2.2.2.2.2.2.2.1 = [⟨Rect.unit ![0, 0] S512x1024.size inb_S512x1024_S512x1024_0_0, (M (acc (yb I) (dpb I) b) : S512x1024.Idx → EReal)⟩]
    ∧ (rB m c t h0 h1 s).2.2.2.2.2.2.2.2.2.2.2.2.1 = [⟨Rect.unit ![0, 0] S8x1024.size inb_S8x1024_S8x1024_0_0, (M (sh b (dconvE I)) : S8x1024.Idx → EReal)⟩] := by
  unfold rB runB
  dsimp only
  simp (disch := decide) only [runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_24, runB.sl.r_25, runB.sl.r_26, runB.sl.r_27, runB.sl.r_28, runB.sl.r_29, runB.sl.r_3, runB.sl.r_30, runB.sl.r_31, runB.sl.r_32, runB.sl.r_33, runB.sl.r_34, runB.sl.r_35, runB.sl.r_36, runB.sl.r_37, runB.sl.r_38, runB.sl.r_39, runB.sl.r_4, runB.sl.r_40, runB.sl.r_41, runB.sl.r_5, runB.sl.r_6, runB.sl.r_7, runB.sl.r_8, runB.sl.r_9, runB.sl.v163, runB.sl.v251, runB.sl.v258, runB.sl.v265, runB.sl.v31, runB.sl.v4,
    G.o19, G.s0, G.s1, G.s2, G.s3, G.s4, G.s5, G.s6,
        View.readAt_eq_ld, Memref.IsWhole.read_unread, read_unread_whole, ld_whole, ReadAs.apply_same,
    h.x3, h.x4, h.x5, h.x6, h.x7, h.x8, h.x9, h.x10, h.x12, h.x13, h.ldG, h.ldW 0 (by decide), h.ldW 1 (by decide), h.ldW 2 (by decide),
    ldP0 h, ldP1024 h, ldP2048 h, ldP3072 h, ldP4096 h, ldP4608 h, ldP5632 h, ldV0, ldV1, ldV2, ldV3, ldV4,
    p10, p11, p12, p13, p14, p15, p16, p17 I b, p21 I b h.hb, p22 I b h.hb, p23 I b h.hb, p24 I b, p25 I b, p26 I b h.hb, p27, p28 I b, p34 I b, p35 I b, p36, p37 I b, p38 I b, p39 I b, p40 I b, p41 I b, p42 I b, p43 I b, p44 I b, p45 I b, p46 I b, p47 I b, p50 I b, p52 I b, p53 I b, p54 I b, p55 I b, p59 I b, p61 I b, p62 I b, p63, p64, p65 I b, p66 I b, p67 I b, p68 I b, p48 I b h.hb', p49 I b h.hb', p56 I b h.hb', p57 I b h.hb', p58 I b h.hb', p69 I b h.hb', p70 I b h.hb', p71 I b h.hb', p74 I b h.hb', p2 I b h.hb', p3 I b h.hb', p4 I b h.hb', p72, p73]
  and_intros <;> first | exact trivial | rfl

theorem stB_eq (h0 : ¬t.val % 32 = 0) (h1 : ¬t.val % 32 = 31) (s : St Ideal c) :
    stB m c t h0 h1 s = ofB c t s (rB m c t h0 h1 s).1 (rB m c t h0 h1 s).2.1 (rB m c t h0 h1 s).2.2.1 (rB m c t h0 h1 s).2.2.2.1 (rB m c t h0 h1 s).2.2.2.2.1 (rB m c t h0 h1 s).2.2.2.2.2.1 (rB m c t h0 h1 s).2.2.2.2.2.2.2.2.2.1 (rB m c t h0 h1 s).2.2.2.2.2.2.2.2.2.2.1 (rB m c t h0 h1 s).2.2.2.2.2.2.2.2.2.2.2.1 (rB m c t h0 h1 s).2.2.2.2.2.2.2.2.2.2.2.2.1 (rB m c t h0 h1 s).2.2.2.2.2.2.2.2.2.2.2.2.2.1 (rB m c t h0 h1 s).2.2.2.2.2.2.2.2.2.2.2.2.2.2.1 (rB m c t h0 h1 s).2.2.2.2.2.2.2.2.2.2.2.2.2.2.2.1 := by
  unfold stB ofB; rfl

/-- What the point leaves are the tile's values. -/
theorem goodB (h : Blocks m c I b t) (h0 : ¬t.val % 32 = 0) (h1 : ¬t.val % 32 = 31)
    {s : St Ideal c} (G : Good c I (b + 256) s) : Good c I b (stB m c t h0 h1 s) := by
  have S := storesB h h0 h1 G
  rw [stB_eq]
  exact goodOfB c t G _ _ _ S.1 S.2.1 S.2.2.1 S.2.2.2.1 S.2.2.2.2.1 S.2.2.2.2.2.1 S.2.2.2.2.2.2.1 S.2.2.2.2.2.2.2.1 S.2.2.2.2.2.2.2.2.1 S.2.2.2.2.2.2.2.2.2

end Cert.KernelIdeal.Mid
-- ==== Proof.Mid.StoresC.lean ====
module

public import proofs.«01_k».proof.Proof.Mid.Good

@[expose] public section

set_option maxRecDepth 16384

/-!
# The last point on the reals

The stores of this point's run, read at real inputs, and so what the point leaves.
-/

noncomputable section

namespace Cert.KernelIdeal.Mid

open Cert.KernelIdeal.Gen Idealize.ShloMosaic Cert.Lift Cert.Spec
open Idealize.SL.Sem

variable {m : (ℓ : Loc nD τ sig) → Buf (Elt Ideal) ℓ} {c : Dev nD} {I : In} {b : ℕ} {t : Fin cfg0.N}

set_option maxHeartbeats 2000000 in
/-- The run's stores are the tile's values. -/
theorem storesC (h : Blocks m c I b t) (h0 : ¬t.val % 32 = 0) (h1 : t.val % 32 = 31)
    {s : St Ideal c} (G : Good c I (b + 256) s) :
    (rC m c t h0 h1 s).1 = L14 I b
    ∧ (rC m c t h0 h1 s).2.1 = [⟨Rect.unit ![0, 0] S256x512.size inb_S256x512_S256x512_0_0, (M (sh b (dattn I)) : S256x512.Idx → EReal)⟩]
    ∧ (rC m c t h0 h1 s).2.2.1 = [⟨Rect.unit ![0, 0] S256x512.size inb_S256x512_S256x512_0_0, (M (sh b (lse I)) : S256x512.Idx → EReal)⟩]
    ∧ (rC m c t h0 h1 s).2.2.2.1 = [⟨Rect.unit ![0, 0] S256x512.size inb_S256x512_S256x512_0_0, (M (sh b (delta I)) : S256x512.Idx → EReal)⟩]
    ∧ (rC m c t h0 h1 s).2.2.2.2.1 = [⟨Rect.unit ![0, 0] S256x1024.size inb_S256x1024_S256x1024_0_0, (M (sh b (dout I)) : S256x1024.Idx → EReal)⟩]
    ∧ (rC m c t h0 h1 s).2.2.2.2.2.1 = L19 I b []
    ∧ (rC m c t h0 h1 s).2.2.2.2.2.2.2.2.2.1 = [⟨Rect.unit ![0, 0] S1024x1024.size inb_S1024x1024_S1024x1024_0_0, (M (acc (mg I) (dmo I) b) : S1024x1024.Idx → EReal)⟩]
    ∧ (rC m c t h0 h1 s).2.2.2.2.2.2.2.2.2.2.1 = [⟨Rect.unit ![0, 0] S1024x1024.size inb_S1024x1024_S1024x1024_0_0, (M (acc (ya I) (dpa I) b) : S1024x1024.Idx → EReal)⟩]
    ∧ (rC m c t h0 h1 s).2.2.2.2.2.2.2.2.2.2.2.1 = [⟨Rect.unit ![0, 0] S512x1024.size inb_S512x1024_S512x1024_0_0, (M (acc (yb I) (dpb I) b) : S512x1024.Idx → EReal)⟩]
    ∧ (rC m c t h0 h1 s).2.2.2.2.2.2.2.2.2.2.2.2.1 = [⟨Rect.unit ![0, 0] S8x1024.size inb_S8x1024_S8x1024_0_0, (M (sh b (dconvE I)) : S8x1024.Idx → EReal)⟩]
    ∧ (rC m c t h0 h1 s).2.2.2.2.2.2.2.2.2.2.2.2.2.1 = View.write (Elt Ideal) (View.whole main_v10_6) s.w3 (M (acc (mg I) (dmo I) b) : S1024x1024.Idx → EReal) Finset.univ
    ∧ (rC m c t h0 h1 s).2.2.2.2.2.2.2.2.2.2.2.2.2.2.1 = View.write (Elt Ideal) (View.whole main_v10_7) s.w4 (M (acc (ya I) (dpa I) b) : S1024x1024.Idx → EReal) Finset.univ
    ∧ (rC m c t h0 h1 s).2.2.2.2.2.2.2.2.2.2.2.2.2.2.2.1 = View.write (Elt Ideal) (View.whole main_v10_8) s.w5 (M (acc (yb I) (dpb I) b) : S512x1024.Idx → EReal) Finset.univ := by
  unfold rC runC
  dsimp only
  simp (disch := decide) only [runC.sl.HS3_1, runC.sl.HS4_1, runC.sl.HS5_1, runC.sl.dma77, runC.sl.dma77_1, runC.sl.dma77_2, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_40, runC.sl.r_41, runC.sl.r_5, runC.sl.r_6, runC.sl.r_7, runC.sl.r_8, runC.sl.r_9, runC.sl.v163, runC.sl.v251, runC.sl.v258, runC.sl.v265, runC.sl.v31, runC.sl.v4,
    read_writes_one, G.o19, G.s0, G.s1, G.s2, G.s3, G.s4, G.s5, G.s6,
        View.readAt_eq_ld, Memref.IsWhole.read_unread, read_unread_whole, ld_whole, ReadAs.apply_same,
    h.x3, h.x4, h.x5, h.x6, h.x7, h.x8, h.x9, h.x10, h.x12, h.x13, h.ldG, h.ldW 0 (by decide), h.ldW 1 (by decide), h.ldW 2 (by decide),
    ldP0 h, ldP1024 h, ldP2048 h, ldP3072 h, ldP4096 h, ldP4608 h, ldP5632 h, ldV0, ldV1, ldV2, ldV3, ldV4,
    p10, p11, p12, p13, p14, p15, p16, p17 I b, p21 I b h.hb, p22 I b h.hb, p23 I b h.hb, p24 I b, p25 I b, p26 I b h.hb, p27, p28 I b, p34 I b, p35 I b, p36, p37 I b, p38 I b, p39 I b, p40 I b, p41 I b, p42 I b, p43 I b, p44 I b, p45 I b, p46 I b, p47 I b, p50 I b, p52 I b, p53 I b, p54 I b, p55 I b, p59 I b, p61 I b, p62 I b, p63, p64, p65 I b, p66 I b, p67 I b, p68 I b, p48 I b h.hb', p49 I b h.hb', p56 I b h.hb', p57 I b h.hb', p58 I b h.hb', p69 I b h.hb', p70 I b h.hb', p71 I b h.hb', p74 I b h.hb', p2 I b h.hb', p3 I b h.hb', p4 I b h.hb', p72, p73]
  and_intros <;> first | exact trivial | rfl

end Cert.KernelIdeal.Mid
-- ==== Proof.Mid.BlockC.lean ====
module

public import proofs.«01_k».proof.Proof.Mid.StoresC

@[expose] public section

set_option maxRecDepth 16384

/-!
# The last point on the reals

The stores of this point's run, read at real inputs, and so what the point leaves.
-/

noncomputable section

namespace Cert.KernelIdeal.Mid

open Cert.KernelIdeal.Gen Idealize.ShloMosaic Cert.Lift Cert.Spec
open Idealize.SL.Sem

variable {m : (ℓ : Loc nD τ sig) → Buf (Elt Ideal) ℓ} {c : Dev nD} {I : In} {b : ℕ} {t : Fin cfg0.N}

section
variable (c) (t) {s : St Ideal c} {T14 : List (View.Piece (Elt Ideal) S256x6656 .bf16)} {T15 : List (View.Piece (Elt Ideal) S256x512 .bf16)} {T16 : List (View.Piece (Elt Ideal) S256x512 .f32)} {T17 : List (View.Piece (Elt Ideal) S256x512 .f32)} {T18 : List (View.Piece (Elt Ideal) S256x1024 .bf16)} {T19 : List (View.Piece (Elt Ideal) S8x1024 .f32)} {K3 : List (View.Piece (Elt Ideal) S1024x1024 .f32)} {K4 : List (View.Piece (Elt Ideal) S1024x1024 .f32)} {K5 : List (View.Piece (Elt Ideal) S512x1024 .f32)} {K6 : List (View.Piece (Elt Ideal) S8x1024 .f32)}
    {w3 : HbBuf0 (F := Ideal) c hbM0_3} {w4 : HbBuf0 (F := Ideal) c hbM0_4} {w5 : HbBuf0 (F := Ideal) c hbM0_5}

theorem readB3 {old} {x : S1024x1024.Idx → EReal} (e : w3 = View.write (Elt Ideal) (View.whole main_v10_6) old x Finset.univ) :
    View.read (Elt Ideal) (View.whole main_v10_6) (ofB c t s T14 T15 T16 T17 T18 T19 K3 K4 K5 K6 w3 w4 w5).w3 = x := by
  subst e
  exact View.read_write_univ _ _

theorem readB4 {old} {x : S1024x1024.Idx → EReal} (e : w4 = View.write (Elt Ideal) (View.whole main_v10_7) old x Finset.univ) :
    View.read (Elt Ideal) (View.whole main_v10_7) (ofB c t s T14 T15 T16 T17 T18 T19 K3 K4 K5 K6 w3 w4 w5).w4 = x := by
  subst e
  exact View.read_write_univ _ _

theorem readB5 {old} {x : S512x1024.Idx → EReal} (e : w5 = View.write (Elt Ideal) (View.whole main_v10_8) old x Finset.univ) :
    View.read (Elt Ideal) (View.whole main_v10_8) (ofB c t s T14 T15 T16 T17 T18 T19 K3 K4 K5 K6 w3 w4 w5).w5 = x := by
  subst e
  exact View.read_write_univ _ _

end

theorem stC_eq (h0 : ¬t.val % 32 = 0) (h1 : t.val % 32 = 31) (s : St Ideal c) :
    stC m c t h0 h1 s = ofB c t s (rC m c t h0 h1 s).1 (rC m c t h0 h1 s).2.1 (rC m c t h0 h1 s).2.2.1 (rC m c t h0 h1 s).2.2.2.1 (rC m c t h0 h1 s).2.2.2.2.1 (rC m c t h0 h1 s).2.2.2.2.2.1 (rC m c t h0 h1 s).2.2.2.2.2.2.2.2.2.1 (rC m c t h0 h1 s).2.2.2.2.2.2.2.2.2.2.1 (rC m c t h0 h1 s).2.2.2.2.2.2.2.2.2.2.2.1 (rC m c t h0 h1 s).2.2.2.2.2.2.2.2.2.2.2.2.1 (rC m c t h0 h1 s).2.2.2.2.2.2.2.2.2.2.2.2.2.1 (rC m c t h0 h1 s).2.2.2.2.2.2.2.2.2.2.2.2.2.2.1 (rC m c t h0 h1 s).2.2.2.2.2.2.2.2.2.2.2.2.2.2.2.1 := by
  unfold stC ofB; rfl

set_option maxHeartbeats 2000000 in
/-- What the point leaves are the tile's values. -/
theorem goodC (h : Blocks m c I b t) (h0 : ¬t.val % 32 = 0) (h1 : t.val % 32 = 31)
    {s : St Ideal c} (G : Good c I (b + 256) s) : Good c I b (stC m c t h0 h1 s) := by
  have S := storesC h h0 h1 G
  rw [stC_eq]
  exact goodOfB c t G _ _ _ S.1 S.2.1 S.2.2.1 S.2.2.2.1 S.2.2.2.2.1 S.2.2.2.2.2.1 S.2.2.2.2.2.2.1 S.2.2.2.2.2.2.2.1 S.2.2.2.2.2.2.2.2.1 S.2.2.2.2.2.2.2.2.2.1

/-- The gradient copied out by the last point. -/
theorem outC3 (h : Blocks m c I b t) (h0 : ¬t.val % 32 = 0) (h1 : t.val % 32 = 31)
    {s : St Ideal c} (G : Good c I (b + 256) s) :
    View.read (Elt Ideal) (View.whole main_v10_6) (stC m c t h0 h1 s).w3 = (M (acc (mg I) (dmo I) b) : S1024x1024.Idx → EReal) := by
  have e := (storesC h h0 h1 G).2.2.2.2.2.2.2.2.2.2.1
  rw [stC_eq]
  exact readB3 c t e

/-- The gradient copied out by the last point. -/
theorem outC4 (h : Blocks m c I b t) (h0 : ¬t.val % 32 = 0) (h1 : t.val % 32 = 31)
    {s : St Ideal c} (G : Good c I (b + 256) s) :
    View.read (Elt Ideal) (View.whole main_v10_7) (stC m c t h0 h1 s).w4 = (M (acc (ya I) (dpa I) b) : S1024x1024.Idx → EReal) := by
  have e := (storesC h h0 h1 G).2.2.2.2.2.2.2.2.2.2.2.1
  rw [stC_eq]
  exact readB4 c t e

/-- The gradient copied out by the last point. -/
theorem outC5 (h : Blocks m c I b t) (h0 : ¬t.val % 32 = 0) (h1 : t.val % 32 = 31)
    {s : St Ideal c} (G : Good c I (b + 256) s) :
    View.read (Elt Ideal) (View.whole main_v10_8) (stC m c t h0 h1 s).w5 = (M (acc (yb I) (dpb I) b) : S512x1024.Idx → EReal) := by
  have e := (storesC h h0 h1 G).2.2.2.2.2.2.2.2.2.2.2.2
  rw [stC_eq]
  exact readB5 c t e

end Cert.KernelIdeal.Mid
-- ==== Proof.Mid.Fold.lean ====
module

public import proofs.«01_k».proof.Proof.Mid.Geom
public import proofs.«01_k».proof.Proof.Mid.BlockA
public import proofs.«01_k».proof.Proof.Mid.BlockB
public import proofs.«01_k».proof.Proof.Mid.BlockC

@[expose] public section

set_option maxRecDepth 16384

/-!
# The points in order
-/

noncomputable section

namespace Cert.KernelIdeal.Mid

open Cert.KernelIdeal.Gen Idealize.ShloMosaic Idealize.ShloMosaic.TcCoe Cert.Lift Cert.Spec
open Idealize.SL.Sem

variable {m : (ℓ : Loc nD τ sig) → Buf (Elt Ideal) ℓ} {c : Dev nD} {I : In} (A : Mem m c I)

theorem lt32 (t : Fin cfg0.N) : t.val < 32 := lt_of_lt_of_eq t.isLt (show cfg0.N = 32 from N_0)

theorem base_pred (t : Fin cfg0.N) (h : t.val ≠ 0) (h' : t.val - 1 < cfg0.N) : base ⟨t.val - 1, h'⟩ = base t + 256 := by
  have := lt32 t
  unfold base
  dsimp only
  omega

include A

/-- Every point leaves what the mathematics says of the rows from its tile's first row on. -/
theorem good : ∀ (n : ℕ) (hn : n < cfg0.N), Good c I (base ⟨n, hn⟩) (outsAt m c n hn) := by
  intro n
  induction n with
  | zero =>
    intro hn
    rw [outsAt_A m c ⟨0, hn⟩ rfl (show ¬(0 : ℕ) % 32 = 31 by decide)]
    exact goodA (blocks A _) rfl _ _ ((V_main_arg11 m c).trans A.a11) ((V_main_arg12 m c).trans A.a12) ((V_main_arg13 m c).trans A.a13)
  | succ n ih =>
    intro hn
    have hl : n + 1 < 32 := lt32 ⟨n + 1, hn⟩
    have h0 : ¬(n + 1) % 32 = 0 := by omega
    have G : Good c I (base ⟨n + 1, hn⟩ + 256) (outsAt m c n (Nat.lt_of_succ_lt hn)) := by
      rw [← base_pred ⟨n + 1, hn⟩ (Nat.succ_ne_zero n) (Nat.lt_of_succ_lt hn)]
      exact ih _
    by_cases h1 : (n + 1) % 32 = 31
    · rw [outsAt_C m c ⟨n + 1, hn⟩ h0 h1]
      exact goodC (blocks A _) h0 h1 G
    · rw [outsAt_B m c ⟨n + 1, hn⟩ h0 h1]
      exact goodB (blocks A _) h0 h1 G

/-- The last point copies the three weight gradients out. -/
theorem copied (n : ℕ) (hn : n < cfg0.N) (h : n = 31) :
    (outsAt m c n hn).w3 = (M (acc (mg I) (dmo I) 0) : S1024x1024.Idx → EReal) ∧
    (outsAt m c n hn).w4 = (M (acc (ya I) (dpa I) 0) : S1024x1024.Idx → EReal) ∧
    (outsAt m c n hn).w5 = (M (acc (yb I) (dpb I) 0) : S512x1024.Idx → EReal) := by
  subst h
  have G : Good c I (base ⟨31, hn⟩ + 256) (outsAt m c 30 (Nat.lt_of_succ_lt hn)) := good A 30 _
  rw [outsAt_C m c ⟨31, hn⟩ (show ¬(31 : ℕ) % 32 = 0 by decide) rfl]
  exact ⟨outC3 (blocks A _) (show ¬(31 : ℕ) % 32 = 0 by decide) rfl G, outC4 (blocks A _) (show ¬(31 : ℕ) % 32 = 0 by decide) rfl G, outC5 (blocks A _) (show ¬(31 : ℕ) % 32 = 0 by decide) rfl G⟩

end Cert.KernelIdeal.Mid
-- ==== Proof.Mid.Frame.lean ====
/- The frame of the kernel: proof data of its pipeline, the body at every point, and the launch. -/
module

public import proofs.«01_k».proof.Proof.Mid.State
public import Idealize.ShloMosaic.Lib.Claim

@[expose] public section

set_option maxRecDepth 16384

noncomputable section

namespace Cert.KernelIdeal.Mid

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt`'s scratch components) and each result held by value at its `outsAt` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt m c n hn).s0) ∗ owns (c : Thread nD τ) scM0_1 fullShare ((outsAt m c n hn).s1) ∗ owns (c : Thread nD τ) scM0_2 fullShare ((outsAt m c n hn).s2) ∗ owns (c : Thread nD τ) scM0_3 fullShare ((outsAt m c n hn).s3) ∗ owns (c : Thread nD τ) scM0_4 fullShare ((outsAt m c n hn).s4) ∗ owns (c : Thread nD τ) scM0_5 fullShare ((outsAt m c n hn).s5) ∗ owns (c : Thread nD τ) scM0_6 fullShare ((outsAt m c n hn).s6)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_arg11) ∗ hbPt0 c hbM0_1 (V m c main_arg12) ∗ hbPt0 c hbM0_2 (V m c main_arg13)) ∗ iprop(hbPt0 c hbM0_3 ((outsAt m c n hn).w3) ∗ hbPt0 c hbM0_4 ((outsAt m c n hn).w4) ∗ hbPt0 c hbM0_5 ((outsAt m c n hn).w5)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt m c n hn).s0) ∗ owns (c : Thread nD τ) scM0_1 fullShare ((outsAt m c n hn).s1) ∗ owns (c : Thread nD τ) scM0_2 fullShare ((outsAt m c n hn).s2) ∗ owns (c : Thread nD τ) scM0_3 fullShare ((outsAt m c n hn).s3) ∗ owns (c : Thread nD τ) scM0_4 fullShare ((outsAt m c n hn).s4) ∗ owns (c : Thread nD τ) scM0_5 fullShare ((outsAt m c n hn).s5) ∗ owns (c : Thread nD τ) scM0_6 fullShare ((outsAt m c n hn).s6)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_arg11) ∗ hbPt0 c hbM0_1 (V m c main_arg12) ∗ hbPt0 c hbM0_2 (V m c main_arg13)) ∗ iprop(hbPt0 c hbM0_3 ((outsAt m c n hn).w3) ∗ hbPt0 c hbM0_4 ((outsAt m c n hn).w4) ∗ hbPt0 c hbM0_5 ((outsAt m c n hn).w5))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).s0) ∗ owns (c : Thread nD τ) scM0_1 fullShare ((outsAt m c (n - 1) (by omega)).s1) ∗ owns (c : Thread nD τ) scM0_2 fullShare ((outsAt m c (n - 1) (by omega)).s2) ∗ owns (c : Thread nD τ) scM0_3 fullShare ((outsAt m c (n - 1) (by omega)).s3) ∗ owns (c : Thread nD τ) scM0_4 fullShare ((outsAt m c (n - 1) (by omega)).s4) ∗ owns (c : Thread nD τ) scM0_5 fullShare ((outsAt m c (n - 1) (by omega)).s5) ∗ owns (c : Thread nD τ) scM0_6 fullShare ((outsAt m c (n - 1) (by omega)).s6)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_arg11) ∗ hbPt0 c hbM0_1 (V m c main_arg12) ∗ hbPt0 c hbM0_2 (V m c main_arg13)) ∗ iprop(hbPt0 c hbM0_3 ((outsAt m c (n - 1) (by omega)).w3) ∗ hbPt0 c hbM0_4 ((outsAt m c (n - 1) (by omega)).w4) ∗ hbPt0 c hbM0_5 ((outsAt m c (n - 1) (by omega)).w5))) := by
  cases n with
  | zero => exact absurd rfl hz
  | succ n => rfl

/-! ## The pipeline's proof data -/

/-- The proof data of the one pipeline on core `c`: the arrays as the region finds them (`V`); after the body at
    point `t` each input's buffer at its block and the outputs' at `outsAt`; the invariant
    (`PhiS`: Lib/Pipeline/FrameValue.lean `ΦDRG` before the first point — the scoped rest, the generator register, the own cells at zero,
    the HBM operands read and those written at their launch contents —, then the same with each written operand and each carried scratch
    at `outsAt`'s component for the point before); nothing owed; each input's share of its array
    (`Pipeline.shareOf`: the full share of an array several windows stage, dealt among them). -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt m c t.val t.isLt).o14
    | ⟨15, _⟩ => (outsAt m c t.val t.isLt).o15
    | ⟨16, _⟩ => (outsAt m c t.val t.isLt).o16
    | ⟨17, _⟩ => (outsAt m c t.val t.isLt).o17
    | ⟨18, _⟩ => (outsAt m c t.val t.isLt).o18
    | ⟨19, _⟩ => (outsAt m c t.val t.isLt).o19
    | ⟨_ + 20, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt m c t.val t.isLt).o14 := by dsimp only [dats]
theorem after0_15 (c : Dev nD) (t : Fin cfg0.N) : (dats m 0 c).after 15 t = (outsAt m c t.val t.isLt).o15 := by dsimp only [dats]
theorem after0_16 (c : Dev nD) (t : Fin cfg0.N) : (dats m 0 c).after 16 t = (outsAt m c t.val t.isLt).o16 := by dsimp only [dats]
theorem after0_17 (c : Dev nD) (t : Fin cfg0.N) : (dats m 0 c).after 17 t = (outsAt m c t.val t.isLt).o17 := by dsimp only [dats]
theorem after0_18 (c : Dev nD) (t : Fin cfg0.N) : (dats m 0 c).after 18 t = (outsAt m c t.val t.isLt).o18 := by dsimp only [dats]
theorem after0_19 (c : Dev nD) (t : Fin cfg0.N) : (dats m 0 c).after 19 t = (outsAt m c t.val t.isLt).o19 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 32 = 0) (h1 : ¬t.val % 32 = 31) (d) :
    (dats m 0 c).before 19 t d = (outsAt m c (t.val - 1) (Nat.lt_of_le_of_lt (Nat.sub_le _ _) t.isLt)).o19 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case C output 19's current staging buffer holds what the body left at the point before: the point is
    not the first, the buffer was not written back between (`flush0_19`), the window is live and uncut (Lib/Pipeline/Frame.lean
    `Dat.before_out_kept`). -/
theorem before0_19_C (c : Dev nD) (t : Fin cfg0.N) (h0 : ¬t.val % 32 = 0) (h1 : t.val % 32 = 31) (d) :
    (dats m 0 c).before 19 t d = (outsAt m c (t.val - 1) (Nat.lt_of_le_of_lt (Nat.sub_le _ _) t.isLt)).o19 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 6000000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17, after0_18, after0_19]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 31
    · exfalso; omega
    · by_cases hz : t.val = 0
      · rw [PhiS_castSucc m c t, PhiS_zero m c _ _ hz, PhiDRG0_in_eq]
        rw [outsAt_A m c t h0 h1]
        dsimp only [stA]
        iintro ⟨⟨⟨HS0, HS1, HS2, HS3, HS4, HS5, HS6⟩, Hg, ⟨Hq0, Hq1, Hq2, Hq3, Hq4, Hq5⟩, ⟨Hh0, Hh1, Hh2⟩, ⟨Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((rA m c t h0 h1).2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%es0, HS0⟩, ⟨%es1, HS1⟩, ⟨%es2, HS2⟩, ⟨%es3, HS3⟩, ⟨%es4, HS4⟩, ⟨%es5, HS5⟩, ⟨%es6, HS6⟩, Hq0, Hq1, Hq2, Hq3, Hq4, Hq5, Hh0, Hh1, Hh2, Hh3, Hh4, Hh5, ⟨%W', HW'⟩⟩
        isplitl [HS0 HS1 HS2 HS3 HS4 HS5 HS6 Hg Hq0 Hq1 Hq2 Hq3 Hq4 Hq5 Hh0 Hh1 Hh2 Hh3 Hh4 Hh5]
        · isplitl [HS0 HS1 HS2 HS3 HS4 HS5 HS6]
          · isplitl [HS0]
            · unfold owns; iexists _; isplitr
              swap; · iexact HS0
              ipureintro; exact View.read_writes_of_cover _ _ _ _ _ (coverA_s0 m c t h0 h1)
            isplitl [HS1]
            · unfold owns; iexists _; isplitr
              swap; · iexact HS1
              ipureintro; exact View.read_writes_of_cover _ _ _ _ _ (coverA_s1 m c t h0 h1)
            isplitl [HS2]
            · unfold owns; iexists _; isplitr
              swap; · iexact HS2
              ipureintro; exact View.read_writes_of_cover _ _ _ _ _ (coverA_s2 m c t h0 h1)
            isplitl [HS3]
            · unfold owns; iexists _; isplitr
              swap; · iexact HS3
              ipureintro; exact View.read_writes_of_cover _ _ _ _ _ (coverA_s3 m c t h0 h1)
            isplitl [HS4]
            · unfold owns; iexists _; isplitr
              swap; · iexact HS4
              ipureintro; exact View.read_writes_of_cover _ _ _ _ _ (coverA_s4 m c t h0 h1)
            isplitl [HS5]
            · unfold owns; iexists _; isplitr
              swap; · iexact HS5
              ipureintro; exact View.read_writes_of_cover _ _ _ _ _ (coverA_s5 m c t h0 h1)
            unfold owns; iexists _; isplitr
            swap; · iexact HS6
            ipureintro; exact View.read_writes_of_cover _ _ _ _ _ (coverA_s6 m c t h0 h1)
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0 Hh1 Hh2]
          · isplitl [Hh0]; · iexact Hh0
            isplitl [Hh1]; · iexact Hh1
            iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]
        · unfold owns; iexists _; isplitr
          swap; · iexact H14
          ipureintro; exact View.read_writes_of_cover _ _ _ _ _ (coverA_o14 m c t h0 h1)
        isplitl [H15]
        · unfold owns; iexists _; isplitr
          swap; · iexact H15
          ipureintro; exact View.read_writes_of_cover _ _ _ _ _ (coverA_o15 m c t h0 h1)
        isplitl [H16]
        · unfold owns; iexists _; isplitr
          swap; · iexact H16
          ipureintro; exact View.read_writes_of_cover _ _ _ _ _ (coverA_o16 m c t h0 h1)
        isplitl [H17]
        · unfold owns; iexists _; isplitr
          swap; · iexact H17
          ipureintro; exact View.read_writes_of_cover _ _ _ _ _ (coverA_o17 m c t h0 h1)
        isplitl [H18]
        · unfold owns; iexists _; isplitr
          swap; · iexact H18
          ipureintro; exact View.read_writes_of_cover _ _ _ _ _ (coverA_o18 m c t h0 h1)
        unfold owns; iexists _; isplitr
        swap; · iexact H19
        ipureintro; exact View.read_writes_of_cover _ _ _ _ _ (coverA_o19 m c t h0 h1)
      · exfalso; have hN : t.val < 32 := lt_of_lt_of_eq t.isLt (show cfg0.N = 32 from N_0); omega
  · by_cases h1 : t.val % 32 = 31
    · by_cases hz : t.val = 0
      · exfalso; have hN : t.val < 32 := lt_of_lt_of_eq t.isLt (show cfg0.N = 32 from N_0); omega
      · rw [PhiS_castSucc m c t, PhiS_pos m c _ _ hz]
        rw [outsAt_C m c t h0 h1]
        simp only [before0_19_C m c t h0 h1]
        dsimp only [stC]
        iintro ⟨⟨⟨HS0, HS1, HS2, HS3, HS4, HS5, HS6⟩, Hg, ⟨Hq0, Hq1, Hq2, Hq3, Hq4, Hq5⟩, ⟨Hh0, Hh1, Hh2⟩, ⟨Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((rC m c t h0 h1 (outsAt m c (t.val - 1) (Nat.lt_of_le_of_lt (Nat.sub_le _ _) t.isLt))).2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexact H19
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, H10, H11, H12, H13, ⟨%e14, H14⟩, ⟨%e15, H15⟩, ⟨%e16, H16⟩, ⟨%e17, H17⟩, ⟨%e18, H18⟩, H19, HS0, HS1, HS2, ⟨%es3, HS3⟩, ⟨%es4, HS4⟩, ⟨%es5, HS5⟩, ⟨%es6, HS6⟩, Hq0, Hq1, Hq2, Hq3, Hq4, Hq5, Hh0, Hh1, Hh2, Hh3, Hh4, Hh5, ⟨%W', HW'⟩⟩
        isplitl [HS0 HS1 HS2 HS3 HS4 HS5 HS6 Hg Hq0 Hq1 Hq2 Hq3 Hq4 Hq5 Hh0 Hh1 Hh2 Hh3 Hh4 Hh5]
        · isplitl [HS0 HS1 HS2 HS3 HS4 HS5 HS6]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (coverC_s3 m c t h0 h1 _)
            isplitl [HS4]
            · unfold owns; iexists _; isplitr
              swap; · iexact HS4
              ipureintro; exact View.read_writes_of_cover _ _ _ _ _ (coverC_s4 m c t h0 h1 _)
            isplitl [HS5]
            · unfold owns; iexists _; isplitr
              swap; · iexact HS5
              ipureintro; exact View.read_writes_of_cover _ _ _ _ _ (coverC_s5 m c t h0 h1 _)
            unfold owns; iexists _; isplitr
            swap; · iexact HS6
            ipureintro; exact View.read_writes_of_cover _ _ _ _ _ (coverC_s6 m c t h0 h1 _)
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0 Hh1 Hh2]
          · isplitl [Hh0]; · iexact Hh0
            isplitl [Hh1]; · iexact Hh1
            iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]
        · unfold owns; iexists _; isplitr
          swap; · iexact H14
          ipureintro; exact View.read_writes_of_cover _ _ _ _ _ (coverC_o14 m c t h0 h1 _)
        isplitl [H15]
        · unfold owns; iexists _; isplitr
          swap; · iexact H15
          ipureintro; exact View.read_writes_of_cover _ _ _ _ _ (coverC_o15 m c t h0 h1 _)
        isplitl [H16]
        · unfold owns; iexists _; isplitr
          swap; · iexact H16
          ipureintro; exact View.read_writes_of_cover _ _ _ _ _ (coverC_o16 m c t h0 h1 _)
        isplitl [H17]
        · unfold owns; iexists _; isplitr
          swap; · iexact H17
          ipureintro; exact View.read_writes_of_cover _ _ _ _ _ (coverC_o17 m c t h0 h1 _)
        isplitl [H18]
        · unfold owns; iexists _; isplitr
          swap; · iexact H18
          ipureintro; exact View.read_writes_of_cover _ _ _ _ _ (coverC_o18 m c t h0 h1 _)
        unfold owns; iexists _; isplitr
        swap; · iexact H19
        ipureintro; rfl
    · by_cases hz : t.val = 0
      · exfalso; have hN : t.val < 32 := lt_of_lt_of_eq t.isLt (show cfg0.N = 32 from N_0); omega
      · rw [PhiS_castSucc m c t, PhiS_pos m c _ _ hz]
        rw [outsAt_B m c t h0 h1]
        simp only [before0_19_B m c t h0 h1]
        dsimp only [stB]
        iintro ⟨⟨⟨HS0, HS1, HS2, HS3, HS4, HS5, HS6⟩, Hg, ⟨Hq0, Hq1, Hq2, Hq3, Hq4, Hq5⟩, ⟨Hh0, Hh1, Hh2⟩, ⟨Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((rB m c t h0 h1 (outsAt m c (t.val - 1) (Nat.lt_of_le_of_lt (Nat.sub_le _ _) t.isLt))).2.2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexact H19
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, H10, H11, H12, H13, ⟨%e14, H14⟩, ⟨%e15, H15⟩, ⟨%e16, H16⟩, ⟨%e17, H17⟩, ⟨%e18, H18⟩, H19, HS0, HS1, HS2, ⟨%es3, HS3⟩, ⟨%es4, HS4⟩, ⟨%es5, HS5⟩, ⟨%es6, HS6⟩, Hq0, Hq1, Hq2, Hq3, Hq4, Hq5, Hh0, Hh1, Hh2, Hh3, Hh4, Hh5, ⟨%W', HW'⟩⟩
        isplitl [HS0 HS1 HS2 HS3 HS4 HS5 HS6 Hg Hq0 Hq1 Hq2 Hq3 Hq4 Hq5 Hh0 Hh1 Hh2 Hh3 Hh4 Hh5]
        · isplitl [HS0 HS1 HS2 HS3 HS4 HS5 HS6]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (coverB_s3 m c t h0 h1 _)
            isplitl [HS4]
            · unfold owns; iexists _; isplitr
              swap; · iexact HS4
              ipureintro; exact View.read_writes_of_cover _ _ _ _ _ (coverB_s4 m c t h0 h1 _)
            isplitl [HS5]
            · unfold owns; iexists _; isplitr
              swap; · iexact HS5
              ipureintro; exact View.read_writes_of_cover _ _ _ _ _ (coverB_s5 m c t h0 h1 _)
            unfold owns; iexists _; isplitr
            swap; · iexact HS6
            ipureintro; exact View.read_writes_of_cover _ _ _ _ _ (coverB_s6 m c t h0 h1 _)
          isplitl [Hg]
          · iexact Hg
          isplitl [Hq0 Hq1 Hq2 Hq3 Hq4 Hq5]
          · isplitl [Hq0]; · iexact Hq0
            isplitl [Hq1]; · iexact Hq1
            isplitl [Hq2]; · iexact Hq2
            isplitl [Hq3]; · iexact Hq3
            isplitl [Hq4]; · iexact Hq4
            iexact Hq5
          isplitl [Hh0 Hh1 Hh2]
          · isplitl [Hh0]; · iexact Hh0
            isplitl [Hh1]; · iexact Hh1
            iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]
        · unfold owns; iexists _; isplitr
          swap; · iexact H14
          ipureintro; exact View.read_writes_of_cover _ _ _ _ _ (coverB_o14 m c t h0 h1 _)
        isplitl [H15]
        · unfold owns; iexists _; isplitr
          swap; · iexact H15
          ipureintro; exact View.read_writes_of_cover _ _ _ _ _ (coverB_o15 m c t h0 h1 _)
        isplitl [H16]
        · unfold owns; iexists _; isplitr
          swap; · iexact H16
          ipureintro; exact View.read_writes_of_cover _ _ _ _ _ (coverB_o16 m c t h0 h1 _)
        isplitl [H17]
        · unfold owns; iexists _; isplitr
          swap; · iexact H17
          ipureintro; exact View.read_writes_of_cover _ _ _ _ _ (coverB_o17 m c t h0 h1 _)
        isplitl [H18]
        · unfold owns; iexists _; isplitr
          swap; · iexact H18
          ipureintro; exact View.read_writes_of_cover _ _ _ _ _ (coverB_o18 m c t h0 h1 _)
        unfold owns; iexists _; isplitr
        swap; · iexact H19
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update (Function.update (Function.update ((V m) c) main_v10_6 (outsAt m c ((Fin.last cfg0.N).val - 1) (by rw [Fin.val_last]; have : cfg0.N = 32 := N_0; omega)).w3) main_v10_7 (outsAt m c ((Fin.last cfg0.N).val - 1) (by rw [Fin.val_last]; have : cfg0.N = 32 := N_0; omega)).w4) main_v10_8 (outsAt m c ((Fin.last cfg0.N).val - 1) (by rw [Fin.val_last]; have : cfg0.N = 32 := N_0; omega)).w5
/-- `hbG0` at `main_v10_6`: `outsAt`'s component. -/
theorem hbG0_3 (c : Dev nD) : hbG0 m c main_v10_6 = (outsAt m c ((Fin.last cfg0.N).val - 1) (by rw [Fin.val_last]; have : cfg0.N = 32 := N_0; omega)).w3 := by
  unfold hbG0; simp only [Function.update_of_ne (show (main_v10_6 : Ref sig .tc) ≠ main_v10_7 by decide), Function.update_of_ne (show (main_v10_6 : Ref sig .tc) ≠ main_v10_8 by decide), Function.update_self]
/-- `hbG0` at `main_v10_7`: `outsAt`'s component. -/
theorem hbG0_4 (c : Dev nD) : hbG0 m c main_v10_7 = (outsAt m c ((Fin.last cfg0.N).val - 1) (by rw [Fin.val_last]; have : cfg0.N = 32 := N_0; omega)).w4 := by
  unfold hbG0; simp only [Function.update_of_ne (show (main_v10_7 : Ref sig .tc) ≠ main_v10_8 by decide), Function.update_self]
/-- `hbG0` at `main_v10_8`: `outsAt`'s component. -/
theorem hbG0_5 (c : Dev nD) : hbG0 m c main_v10_8 = (outsAt m c ((Fin.last cfg0.N).val - 1) (by rw [Fin.val_last]; have : cfg0.N = 32 := N_0; omega)).w5 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_3 ((outsAt m c ((Fin.last cfg0.N).val - 1) (by rw [Fin.val_last]; have : cfg0.N = 32 := N_0; omega)).w3) ∗ hbPt0 c hbM0_4 ((outsAt m c ((Fin.last cfg0.N).val - 1) (by rw [Fin.val_last]; have : cfg0.N = 32 := N_0; omega)).w4) ∗ hbPt0 c hbM0_5 ((outsAt m c ((Fin.last cfg0.N).val - 1) (by rw [Fin.val_last]; have : cfg0.N = 32 := N_0; omega)).w5)) := by
  unfold Pipeline.routed; rw [BI.bigSep_eq_bigSepL_of_eq [main_v10_6, main_v10_7, main_v10_8] (by decide) (by decide)]
  simp only [BI.bigSepL_cons_cons, BI.bigSepL_singleton, hbG0_3, hbG0_4, hbG0_5]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_arg11) ∗ hbPt0 c hbM0_1 (V m c main_arg12) ∗ hbPt0 c hbM0_2 (V m c main_arg13)) ∗ iprop(hbPt0 c hbM0_3 ((outsAt m c ((Fin.last cfg0.N).val - 1) (by rw [Fin.val_last]; have : cfg0.N = 32 := N_0; omega)).w3) ∗ hbPt0 c hbM0_4 ((outsAt m c ((Fin.last cfg0.N).val - 1) (by rw [Fin.val_last]; have : cfg0.N = 32 := N_0; omega)).w4) ∗ hbPt0 c hbM0_5 ((outsAt m c ((Fin.last cfg0.N).val - 1) (by rw [Fin.val_last]; have : cfg0.N = 32 := N_0; omega)).w5))) := by
  rw [Pipeline.ΦDRG_eq, scopedRest0_eq, ownSems00_eq, hbmPts0_eq, heldG0_eq]; simp only [scM0_0, scM0_1, scM0_2, scM0_3, scM0_4, scM0_5, scM0_6, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiDRG0_out_eq]
  iintro ⟨⟨HS0, HS1, HS2, HS3, HS4, HS5, HS6⟩, Hg, ⟨Hq0, Hq1, Hq2, Hq3, Hq4, Hq5⟩, ⟨Hh0, Hh1, Hh2⟩, ⟨Hh3, Hh4, Hh5⟩⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexists _; iexact HS6
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0 Hh1 Hh2]
  · isplitl [Hh0]; · iexact Hh0
    isplitl [Hh1]; · iexact Hh1
    iexact Hh2
  isplitl [Hh3]; · iexact Hh3
  isplitl [Hh4]; · iexact Hh4
  iexact Hh5

/-! ## The run and the frame -/

set_option backward.isDefEq.respectTransparency.types false in
/-- The launch: every array at what the proof data says, and every semaphore counter at zero, at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m) (G := hbG0 m)
    (hin := hin m) (hout := hout m)

/-- The launch without the counters. -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) ((θ_run defs _ _).mono (fun _ h => h.toR) (run_main m ρ))

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Mid

end
-- ==== Proof.Mid.Value.lean ====
module

public import proofs.«01_k».proof.Proof.Mid.Fold
public import proofs.«01_k».proof.Proof.Mid.Frame
public import Idealize.ShloMosaic.Lib.Pipeline.ValueKit

@[expose] public section

set_option maxRecDepth 16384

/-!
# The arrays the call leaves
-/

noncomputable section

namespace Cert.KernelIdeal.Mid

open Cert.KernelIdeal.Gen Idealize.ShloMosaic Idealize.ShloMosaic.TcCoe Cert.Lift Cert.Spec
open Idealize.SL.Sem

theorem lt31 : 31 < cfg0.N := by rw [show cfg0.N = 32 from N_0]; decide

variable {m : (ℓ : Loc nD τ sig) → Buf (Elt Ideal) ℓ} {c : Dev nD} {I : In} (A : Mem m c I)
include A

theorem arr14 : (dats m 0 c).arrAt 14 cfg0.N = (M (dP I) : S8192x6656.Idx → EReal) := by
  have hi : ∀ t : Fin cfg0.N, win0_14.index t 0 * win0_14.size 0 = base t ∧ win0_14.index t 1 = 0 := by decide +kernel
  refine (dats m 0 c).arrAt_eq_of_covers 14 _ (by decide +kernel) fun t _ y => ?_
  refine (congrFun ((after0_14 m c t).trans (good A t.val t.isLt).o14) _).trans ?_
  exact congrArg Real.toEReal (congrArg₂ (dP I) ((win0_14.rect_emb_val t y 0).trans (by rw [(hi t).1])).symm
    (win0_14.rect_emb_val_of_index_zero t 1 (hi t).2 y).symm)

theorem arr15 : (dats m 0 c).arrAt 15 cfg0.N = (M (dattn I) : S8192x512.Idx → EReal) := by
  have hi : ∀ t : Fin cfg0.N, win0_15.index t 0 * win0_15.size 0 = base t ∧ win0_15.index t 1 = 0 := by decide +kernel
  refine (dats m 0 c).arrAt_eq_of_covers 15 _ (by decide +kernel) fun t _ y => ?_
  refine (congrFun ((after0_15 m c t).trans (good A t.val t.isLt).o15) _).trans ?_
  exact congrArg Real.toEReal (congrArg₂ (dattn I) ((win0_15.rect_emb_val t y 0).trans (by rw [(hi t).1])).symm
    (win0_15.rect_emb_val_of_index_zero t 1 (hi t).2 y).symm)

theorem arr16 : (dats m 0 c).arrAt 16 cfg0.N = (M (lse I) : S8192x512.Idx → EReal) := by
  have hi : ∀ t : Fin cfg0.N, win0_16.index t 0 * win0_16.size 0 = base t ∧ win0_16.index t 1 = 0 := by decide +kernel
  refine (dats m 0 c).arrAt_eq_of_covers 16 _ (by decide +kernel) fun t _ y => ?_
  refine (congrFun ((after0_16 m c t).trans (good A t.val t.isLt).o16) _).trans ?_
  exact congrArg Real.toEReal (congrArg₂ (lse I) ((win0_16.rect_emb_val t y 0).trans (by rw [(hi t).1])).symm
    (win0_16.rect_emb_val_of_index_zero t 1 (hi t).2 y).symm)

theorem arr17 : (dats m 0 c).arrAt 17 cfg0.N = (M (delta I) : S8192x512.Idx → EReal) := by
  have hi : ∀ t : Fin cfg0.N, win0_17.index t 0 * win0_17.size 0 = base t ∧ win0_17.index t 1 = 0 := by decide +kernel
  refine (dats m 0 c).arrAt_eq_of_covers 17 _ (by decide +kernel) fun t _ y => ?_
  refine (congrFun ((after0_17 m c t).trans (good A t.val t.isLt).o17) _).trans ?_
  exact congrArg Real.toEReal (congrArg₂ (delta I) ((win0_17.rect_emb_val t y 0).trans (by rw [(hi t).1])).symm
    (win0_17.rect_emb_val_of_index_zero t 1 (hi t).2 y).symm)

theorem arr18 : (dats m 0 c).arrAt 18 cfg0.N = (M (dout I) : S8192x1024.Idx → EReal) := by
  have hi : ∀ t : Fin cfg0.N, win0_18.index t 0 * win0_18.size 0 = base t ∧ win0_18.index t 1 = 0 := by decide +kernel
  refine (dats m 0 c).arrAt_eq_of_covers 18 _ (by decide +kernel) fun t _ y => ?_
  refine (congrFun ((after0_18 m c t).trans (good A t.val t.isLt).o18) _).trans ?_
  exact congrArg Real.toEReal (congrArg₂ (dout I) ((win0_18.rect_emb_val t y 0).trans (by rw [(hi t).1])).symm
    (win0_18.rect_emb_val_of_index_zero t 1 (hi t).2 y).symm)

theorem arr19 : (dats m 0 c).arrAt 19 cfg0.N = (M (vecs I 0) : S8x1024.Idx → EReal) := by
  refine (dats m 0 c).arrAt_eq_of_after_last 19 ⟨31, lt31⟩ (by decide +kernel) _ fun j => ?_
  exact congrFun ((after0_19 m c ⟨31, lt31⟩).trans (good A 31 lt31).o19) _

end Cert.KernelIdeal.Mid
-- ==== Proof.Mid.Ref.lean ====
module

public import proofs.«01_k».proof.Proof.Mid.Pay
public import proofs.«01_k».proof.Proof.Mid.Join
public import proofs.«01_k».proof.Proof.Gen.ReferenceIdeal.Run

@[expose] public section

set_option maxRecDepth 16384

/-!
# The reference's values are the specification's
-/

noncomputable section

namespace Cert.ReferenceIdeal.Mid

open Cert.ReferenceIdeal Cert.ReferenceIdeal.Gen Cert.ReferenceIdeal.Value Idealize.ShloMosaic Cert.Lift Cert.Spec
open Cert.KernelIdeal.Mid (den_pos)
open Idealize.SL.Sem
open scoped BigOperators

variable {W : Valuation τ sig (Elt Ideal)} {I : In}

/-- The arguments are the real inputs. -/
structure Args (W : Valuation τ sig (Elt Ideal)) (I : In) : Prop where
  a0 : W (Proc.devRef .tc main_arg0) = (Lift.M I.P : S8192x6656.Idx → EReal)
  a1 : W (Proc.devRef .tc main_arg1) = (Lift.M I.o0 : S8192x512.Idx → EReal)
  a2 : W (Proc.devRef .tc main_arg2) = (Lift.M I.o1 : S8192x512.Idx → EReal)
  a3 : W (Proc.devRef .tc main_arg3) = (Lift.M I.o2 : S8192x512.Idx → EReal)
  a4 : W (Proc.devRef .tc main_arg4) = (Lift.M I.l0 : S8192x512.Idx → EReal)
  a5 : W (Proc.devRef .tc main_arg5) = (Lift.M I.l1 : S8192x512.Idx → EReal)
  a6 : W (Proc.devRef .tc main_arg6) = (Lift.M I.l2 : S8192x512.Idx → EReal)
  a7 : W (Proc.devRef .tc main_arg7) = (Lift.M I.x : S8192x1024.Idx → EReal)
  a8 : W (Proc.devRef .tc main_arg8) = (Lift.M I.tg : S8192x1024.Idx → EReal)
  a9 : W (Proc.devRef .tc main_arg9) = (Lift.M I.md : S1x3072.Idx → EReal)
  a10 : W (Proc.devRef .tc main_arg10) = (Lift.M I.cw : S3x1024.Idx → EReal)
  a11 : W (Proc.devRef .tc main_arg11) = (Lift.M I.wc : S1024x1024.Idx → EReal)
  a12 : W (Proc.devRef .tc main_arg12) = (Lift.M I.wa : S512x1024.Idx → EReal)
  a13 : W (Proc.devRef .tc main_arg13) = (Lift.M I.wo : S1024x1024.Idx → EReal)

/-- The logistic function as the host spells it. -/
theorem sg_neg (z : ℝ) : 1 / (1 + Real.exp (-z)) = sg z := by unfold sg; rw [zero_sub]

theorem one_exp_ne (f : ℕ → ℕ → ℝ) (r c : ℕ) : (1 : ℝ) + Real.exp (f r c) ≠ 0 := by positivity

/-- The sum over 512 columns of those of one head. -/
theorem head_sum (g : ℕ → ℝ) (q : ℕ) (hq : q < 8) :
    (∑ d ∈ Finset.range 64, g (64 * q + d)) = ∑ k ∈ Finset.range 512, g k * (if k / 64 = q then 1 else 0) := by
  simp only [mul_ite, mul_one, mul_zero]
  rw [← Finset.sum_filter]
  refine Finset.sum_nbij (fun d => 64 * q + d) ?_ ?_ ?_ (fun _ _ => rfl)
  · intro d hd
    have := Finset.mem_range.mp hd
    exact Finset.mem_filter.mpr ⟨Finset.mem_range.mpr (by omega), by omega⟩
  · intro d _ e _ h
    have : 64 * q + d = 64 * q + e := h
    omega
  · intro k hk
    obtain ⟨h1, h2⟩ := Finset.mem_filter.mp (Finset.mem_coe.mp hk)
    exact ⟨k % 64, Finset.mem_coe.mpr (Finset.mem_range.mpr (by omega)), (by omega : 64 * q + k % 64 = k)⟩

/-- The convolution's input below two rows of zeros. -/
def upad (I : In) : ℕ → ℕ → ℝ := pickRow [(2, fun _ _ => 0), (8192, u I)]

variable (A : Args W I)
include A

theorem v1 : res_main_v1 W = (Lift.M (mx I) : S8192x512.Idx → EReal) := by
  unfold res_main_v1
  simp only [A.a4, A.a5, A.a6, maximumf_M]
  rfl
theorem v3 : res_main_v3 W = (Lift.M (e0 I) : S8192x512.Idx → EReal) := by
  unfold res_main_v3
  simp only [A.a4, v1 A, subf_M, hexp_M]
  rfl
theorem v5 : res_main_v5 W = (Lift.M (e1 I) : S8192x512.Idx → EReal) := by
  unfold res_main_v5
  simp only [A.a5, v1 A, subf_M, hexp_M]
  rfl
theorem v7 : res_main_v7 W = (Lift.M (e2 I) : S8192x512.Idx → EReal) := by
  unfold res_main_v7
  simp only [A.a6, v1 A, subf_M, hexp_M]
  rfl
theorem v11 : res_main_v11 W = (Lift.M (den I) : S8192x512.Idx → EReal) := by
  unfold res_main_v11
  simp only [v3 A, v5 A, v7 A, bid0_M, addf_M]
  exact M_congr fun r c hr hc => by rw [zero_add]; rfl
theorem v19 : res_main_v19 W = (Lift.M (attn I) : S8192x512.Idx → EReal) := by
  unfold res_main_v19
  simp only [v3 A, v5 A, v7 A, v11 A, A.a1, A.a2, A.a3, bid0_M, mulf_M, addf_M]
  rw [hdivf_M _ (den I) (fun r c => (den_pos I r c).ne')]
  exact M_congr fun r c hr hc => by rw [zero_add]; rfl
theorem v22 : res_main_v22 W = (Lift.M (gate I) : S1x1024.Idx → EReal) := by
  unfold res_main_v22
  rw [A.a9, slice_M]
  exact M_congr fun r c hr hc => by rw [Nat.zero_add]; rfl
theorem v23 : res_main_v23 W = (Lift.M I.P : S8192x6656.Idx → EReal) := by
  unfold res_main_v23
  simp only [A.a0, extf_M]
theorem v24 : res_main_v24 W = (Lift.M I.wc : S1024x1024.Idx → EReal) := by
  unfold res_main_v24
  simp only [A.a11, extf_M]
theorem v25 : res_main_v25 W = (Lift.M I.wa : S512x1024.Idx → EReal) := by
  unfold res_main_v25
  simp only [A.a12, extf_M]
theorem v26 : res_main_v26 W = (Lift.M I.wo : S1024x1024.Idx → EReal) := by
  unfold res_main_v26
  simp only [A.a13, extf_M]
theorem v27 : res_main_v27 W = (Lift.M (B I) : S8192x1024.Idx → EReal) := by
  unfold res_main_v27
  rw [v23 A, slice_M]
  exact M_congr fun r c hr hc => by rw [Nat.zero_add]; rfl
theorem v28 : res_main_v28 W = (Lift.M (Cc I) : S8192x1024.Idx → EReal) := by
  unfold res_main_v28
  rw [v23 A, slice_M]
  exact M_congr fun r c hr hc => by rw [Nat.zero_add]; rfl
theorem v29 : res_main_v29 W = (Lift.M (X I) : S8192x1024.Idx → EReal) := by
  unfold res_main_v29
  rw [v23 A, slice_M]
  exact M_congr fun r c hr hc => by rw [Nat.zero_add]; rfl
theorem v30 : res_main_v30 W = (Lift.M (Z I) : S8192x1024.Idx → EReal) := by
  unfold res_main_v30
  rw [v23 A, slice_M]
  exact M_congr fun r c hr hc => by rw [Nat.zero_add]; rfl
theorem v31 : res_main_v31 W = (Lift.M (ZB I) : S8192x512.Idx → EReal) := by
  unfold res_main_v31
  rw [v23 A, slice_M]
  exact M_congr fun r c hr hc => by rw [Nat.zero_add]; rfl
theorem v36 : res_main_v36 W = (Lift.M (upad I) : S8194x1024.Idx → EReal) := by
  unfold res_main_v36
  rw [v28 A, v29 A, bid0_M, mulf_M]
  exact cat_row (R := 8194) (C := 1024) [(2, fun _ _ => 0), (8192, u I)] concatenates_S2x1024_S8192x1024_S8194x1024_d0
theorem v38 : res_main_v38 W = (Lift.M (fun _ c => I.cw 0 c) : S1x1024.Idx → EReal) := by
  unfold res_main_v38
  rw [A.a10, slice_M]
  exact M_congr fun r c hr hc => by
    obtain rfl : r = 0 := by omega
    simp only [Nat.zero_add, Nat.add_zero]
theorem v42 : res_main_v42 W = (Lift.M (fun _ c => I.cw 1 c) : S1x1024.Idx → EReal) := by
  unfold res_main_v42
  rw [A.a10, slice_M]
  exact M_congr fun r c hr hc => by
    obtain rfl : r = 0 := by omega
    simp only [Nat.zero_add, Nat.add_zero]
theorem v47 : res_main_v47 W = (Lift.M (fun _ c => I.cw 2 c) : S1x1024.Idx → EReal) := by
  unfold res_main_v47
  rw [A.a10, slice_M]
  exact M_congr fun r c hr hc => by
    obtain rfl : r = 0 := by omega
    simp only [Nat.zero_add, Nat.add_zero]
theorem v39 : res_main_v39 W = (Lift.M (u2 I) : S8192x1024.Idx → EReal) := by
  unfold res_main_v39
  rw [v36 A, slice_M]
  exact M_congr fun r c hr hc => by
    simp only [upad, pickRow, u2, Nat.zero_add]
    split_ifs <;> first | rfl | omega | (congr 1; omega)
theorem v43 : res_main_v43 W = (Lift.M (u1 I) : S8192x1024.Idx → EReal) := by
  unfold res_main_v43
  rw [v36 A, slice_M]
  exact M_congr fun r c hr hc => by
    simp only [upad, pickRow, u1, Nat.zero_add]
    split_ifs <;> first | rfl | omega | (congr 1; omega)
theorem v48 : res_main_v48 W = (Lift.M (u I) : S8192x1024.Idx → EReal) := by
  unfold res_main_v48
  rw [v36 A, slice_M]
  exact M_congr fun r c hr hc => by
    simp only [upad, pickRow, Nat.zero_add]
    split_ifs <;> first | rfl | omega | (congr 1; omega)
theorem v51 : res_main_v51 W = (Lift.M (conv I) : S8192x1024.Idx → EReal) := by
  unfold res_main_v51
  rw [v38 A, v42 A, v47 A, v39 A, v43 A, v48 A, bidRow_M (fun _ c => I.cw 0 c), bidRow_M (fun _ c => I.cw 1 c), bidRow_M (fun _ c => I.cw 2 c)]
  simp only [mulf_M, addf_M]
  rfl
theorem v52 : res_main_v52 W = (Lift.M (fun r c => B I r c * conv I r c) : S8192x1024.Idx → EReal) := by
  unfold res_main_v52
  simp only [v27 A, v51 A, mulf_M]
theorem v53_2 : res_main_v53_2 W = (Lift.M (sgZ I) : S8192x1024.Idx → EReal) := by
  unfold res_main_v53_2
  rw [v30 A]
  simp only [bid1_M, hnegf_M, hexp_M, addf_M]
  rw [hdivf_M _ _ (one_exp_ne _)]
  exact M_congr fun r c hr hc => by exact sg_neg _
theorem v55_2 : res_main_v55_2 W = (Lift.M (sgB I) : S8192x512.Idx → EReal) := by
  unfold res_main_v55_2
  rw [v31 A]
  simp only [bid1_M, hnegf_M, hexp_M, addf_M]
  rw [hdivf_M _ _ (one_exp_ne _)]
  exact M_congr fun r c hr hc => by exact sg_neg _
theorem v62 : res_main_v62 W = (Lift.M (gA I) : S8192x1024.Idx → EReal) := by
  unfold res_main_v62
  rw [v23 A, slice_M]
  simp only [bid1_M, hnegf_M, hexp_M, addf_M]
  rw [hdivf_M _ _ (one_exp_ne _)]
  exact M_congr fun r c hr hc => by rw [Nat.zero_add]; exact sg_neg _
theorem v73 : res_main_v73 W = (Lift.M (gB I) : S8192x1024.Idx → EReal) := by
  unfold res_main_v73
  rw [v23 A, slice_M]
  simp only [bid1_M, hnegf_M, hexp_M, addf_M]
  rw [hdivf_M _ _ (one_exp_ne _)]
  exact M_congr fun r c hr hc => by rw [Nat.zero_add]; exact sg_neg _
theorem v53_0 : res_main_v53_0 W = (Lift.M (silu I) : S8192x1024.Idx → EReal) := by
  unfold res_main_v53_0
  simp only [v30 A, v53_2 A, mulf_M]
  rfl
theorem v54 : res_main_v54 W = (Lift.M (ya I) : S8192x1024.Idx → EReal) := by
  unfold res_main_v54
  simp only [v52 A, v53_0 A, mulf_M]
  rfl
theorem v55_0 : res_main_v55_0 W = (Lift.M (siluB I) : S8192x512.Idx → EReal) := by
  unfold res_main_v55_0
  simp only [v31 A, v55_2 A, mulf_M]
  rfl
theorem v56 : res_main_v56 W = (Lift.M (yb I) : S8192x512.Idx → EReal) := by
  unfold res_main_v56
  simp only [v19 A, v55_0 A, mulf_M]
  rfl
theorem v66 : res_main_v66 W = (Lift.M (pa I) : S8192x1024.Idx → EReal) := by
  unfold res_main_v66
  rw [v54 A, v24 A, hdot]
  exact mm_nn rfl _ _ _
theorem v77 : res_main_v77 W = (Lift.M (pb I) : S8192x1024.Idx → EReal) := by
  unfold res_main_v77
  rw [v56 A, v25 A, hdot]
  exact mm_nn rfl _ _ _
theorem v79 : res_main_v79 W = (Lift.M (mg I) : S8192x1024.Idx → EReal) := by
  unfold res_main_v79
  simp only [v62 A, v66 A, v73 A, v77 A, mulf_M, addf_M]
  rfl
theorem v80 : res_main_v80 W = (Lift.M (mo I) : S8192x1024.Idx → EReal) := by
  unfold res_main_v80
  rw [v79 A, v26 A, hdot]
  exact mm_nn rfl _ _ _
theorem v84 : res_main_v84 W = (Lift.M (diff I) : S8192x1024.Idx → EReal) := by
  unfold res_main_v84
  rw [A.a7, A.a8, v22 A, v80 A, bidRow_M]
  simp only [mulf_M, addf_M, subf_M]
  rfl
theorem v85 : res_main_v85 W = (Lift.M (fun r c => diff I r c * diff I r c) : S8192x1024.Idx → EReal) := by
  unfold res_main_v85
  simp only [v84 A, mulf_M]
theorem v100 : res_main_v100 W = (Lift.M (dout I) : S8192x1024.Idx → EReal) := by
  unfold res_main_v100
  simp only [v84 A, bidhalf_V, bid1024_V, bid2_M, mulf_M]
  rw [hdivf_V _ _ (fun _ => by norm_num)]
  rw [bidCol_V, mulf_M]
  exact M_congr fun r c hr hc => by unfold dout; ring
theorem v102 : res_main_v102 W = (Lift.M (dmo I) : S8192x1024.Idx → EReal) := by
  unfold res_main_v102
  rw [v22 A, v100 A, bidRow_M]
  simp only [mulf_M]
  exact M_congr fun r c hr hc => by unfold dmo; ring
theorem v108 : res_main_v108 W = (Lift.M (dmg I) : S8192x1024.Idx → EReal) := by
  unfold res_main_v108
  rw [v102 A, v26 A, hdot]
  exact mm_nt rfl _ _ _
theorem v109 : res_main_v109 W = (Lift.M (dpb I) : S8192x1024.Idx → EReal) := by
  unfold res_main_v109
  simp only [v73 A, v108 A, mulf_M]
  exact M_congr fun r c hr hc => by unfold dpb; ring
theorem v113 : res_main_v113 W = (Lift.M (dyb I) : S8192x512.Idx → EReal) := by
  unfold res_main_v113
  rw [v109 A, v25 A, hdot]
  exact mm_nt rfl _ _ _
theorem v115 : res_main_v115 W = (Lift.M (dpa I) : S8192x1024.Idx → EReal) := by
  unfold res_main_v115
  simp only [v62 A, v108 A, mulf_M]
  exact M_congr fun r c hr hc => by unfold dpa; ring
theorem v119 : res_main_v119 W = (Lift.M (dya I) : S8192x1024.Idx → EReal) := by
  unfold res_main_v119
  rw [v115 A, v24 A, hdot]
  exact mm_nt rfl _ _ _
theorem v121 : res_main_v121 W = (Lift.M (fun r c => attn I r c * dyb I r c) : S8192x512.Idx → EReal) := by
  unfold res_main_v121
  simp only [v19 A, v113 A, mulf_M]
theorem v122 : res_main_v122 W = (Lift.M (dattn I) : S8192x512.Idx → EReal) := by
  unfold res_main_v122
  simp only [v113 A, v55_0 A, mulf_M]
  rfl
theorem v124 : res_main_v124 W = (Lift.M (fun r c => B I r c * conv I r c * dya I r c) : S8192x1024.Idx → EReal) := by
  unfold res_main_v124
  simp only [v52 A, v119 A, mulf_M]
theorem v125 : res_main_v125 W = (Lift.M (fun r c => dya I r c * silu I r c) : S8192x1024.Idx → EReal) := by
  unfold res_main_v125
  simp only [v119 A, v53_0 A, mulf_M]
theorem v127 : res_main_v127 W = (Lift.M (dconv I) : S8192x1024.Idx → EReal) := by
  unfold res_main_v127
  simp only [v27 A, v125 A, mulf_M]
  exact M_congr fun r c hr hc => by unfold dconv; ring
/-- The gradient of the convolution's input, two rows further down. -/
def dupad (I : In) : ℕ → ℕ → ℝ := fun r c =>
  (if 2 ≤ r ∧ r < 2 + 8192 then I.cw 2 c * dconv I (r - 2) c else 0)
    + (if 1 ≤ r ∧ r < 1 + 8192 then I.cw 1 c * dconv I (r - 1) c else 0)
    + (if 0 ≤ r ∧ r < 0 + 8192 then I.cw 0 c * dconv I (r - 0) c else 0)
theorem v151 : res_main_v151 W = (Lift.M (dupad I) : S8194x1024.Idx → EReal) := by
  unfold res_main_v151
  rw [v38 A, v42 A, v47 A, v127 A, bidRow_M (fun _ c => I.cw 0 c), bidRow_M (fun _ c => I.cw 1 c), bidRow_M (fun _ c => I.cw 2 c)]
  simp only [mulf_M, pad_M, addf_M]
  rfl
theorem v155 : res_main_v155 W = (Lift.M (du I) : S8192x1024.Idx → EReal) := by
  unfold res_main_v155
  rw [v151 A, slice_M]
  exact M_congr fun r c hr hc => by
    unfold dupad du dc1 dc2 dconvE
    have e1 : 2 + r - 2 = r := by omega
    have e2 : 2 + r - 1 = r + 1 := by omega
    have e3 : 2 + r - 0 = r + 2 := by omega
    have e4 : 0 + c = c := by omega
    rw [e1, e2, e3, e4, if_pos (by omega)]
    congr 1
    · congr 1
      by_cases h : r + 1 < 8192
      · rw [if_pos h, if_pos (by omega)]
      · rw [if_neg h, if_neg (by omega), mul_zero]
    · by_cases h : r + 2 < 8192
      · rw [if_pos h, if_pos (by omega)]
      · rw [if_neg h, if_neg (by omega), mul_zero]
/-- The gradient of the merged attention. -/
theorem out168 : (truncf .bf16 (res_main_v122 W) bitsLt_bf16_f32 : FVec Ideal S8192x512 .bf16) = (Lift.M (dattn I) : S8192x512.Idx → EReal) := by
  rw [v122 A]
  rfl
/-- The gradient of the block's output. -/
theorem out169 : (truncf .bf16 (res_main_v100 W) bitsLt_bf16_f32 : FVec Ideal S8192x1024 .bf16) = (Lift.M (dout I) : S8192x1024.Idx → EReal) := by
  rw [v100 A]
  rfl
/-- The merged log sum. -/
theorem out21 : (addf (res_main_v1 W) (Host.log (res_main_v11 W)) : FVec Ideal S8192x512 .f32) = (Lift.M (lse I) : S8192x512.Idx → EReal) := by
  rw [v1 A, v11 A, hlog_M _ (den_pos I), addf_M]
  rfl
/-- The attention's row sums by heads. -/
theorem out164 : (shapeCast S8192x512 (broadcastInDim S8192x8x64 ![0, 1, 2] bcast_S8192x8x1_S8192x8x64_0_1_2 (broadcastInDim S8192x8x1 ![0, 1] bcast_S8192x8_S8192x8x1_0_1 (Host.reduceAdd (shapeCast _ (mulf (res_main_v122 W) (res_main_v19 W)) shapeCasts_S8192x512_S8192x8x64) (constant (F := Ideal) S_ .f32 0x00000000#32) reducesTo_S8192x8x64_S8192x8_d2 h_S_))) shapeCasts_S8192x8x64_S8192x512 : FVec Ideal S8192x512 .f32) = (Lift.M (delta I) : S8192x512.Idx → EReal) := by
  rw [v122 A, v19 A, mulf_M, headsum_M _ _ _ _ _ _ _ (by decide)]
  exact M_congr fun r c hr hc => by
    unfold delta
    exact head_sum (fun k => dattn I r k * attn I r k) (c / 64) (by omega)
/-- A weight gradient. -/
theorem out107 : (transpose S1024x1024 [1, 0] (Host.dotGeneral (φ₁ := .f32) (φ₂ := .f32) dot_S8192x1024_S8192x1024_S1024x1024_0_0_1_1_n_n none (res_main_v102 W) (res_main_v79 W)) transposes_S1024x1024_S1024x1024_1_0 : FVec Ideal S1024x1024 .f32) = (Lift.M (acc (mg I) (dmo I) 0) : S1024x1024.Idx → EReal) := by
  rw [v102 A, v79 A, hdot, mm_tn (d := dot_S8192x1024_S8192x1024_S1024x1024_0_0_1_1_n_n) rfl, transpose_M]
  exact M_congr fun r c hr hc => by
    unfold acc
    exact Finset.sum_congr rfl fun k _ => by rw [Nat.zero_add, mul_comm]
/-- A weight gradient. -/
theorem out118 : (transpose S1024x1024 [1, 0] (Host.dotGeneral (φ₁ := .f32) (φ₂ := .f32) dot_S8192x1024_S8192x1024_S1024x1024_0_0_1_1_n_n none (res_main_v115 W) (res_main_v54 W)) transposes_S1024x1024_S1024x1024_1_0 : FVec Ideal S1024x1024 .f32) = (Lift.M (acc (ya I) (dpa I) 0) : S1024x1024.Idx → EReal) := by
  rw [v115 A, v54 A, hdot, mm_tn (d := dot_S8192x1024_S8192x1024_S1024x1024_0_0_1_1_n_n) rfl, transpose_M]
  exact M_congr fun r c hr hc => by
    unfold acc
    exact Finset.sum_congr rfl fun k _ => by rw [Nat.zero_add, mul_comm]
/-- A weight gradient. -/
theorem out112 : (transpose S512x1024 [1, 0] (Host.dotGeneral (φ₁ := .f32) (φ₂ := .f32) dot_S8192x1024_S8192x512_S1024x512_0_0_1_1_n_n none (res_main_v109 W) (res_main_v56 W)) transposes_S1024x512_S512x1024_1_0 : FVec Ideal S512x1024 .f32) = (Lift.M (acc (yb I) (dpb I) 0) : S512x1024.Idx → EReal) := by
  rw [v109 A, v56 A, hdot, mm_tn (d := dot_S8192x1024_S8192x512_S1024x512_0_0_1_1_n_n) rfl, transpose_M]
  exact M_congr fun r c hr hc => by
    unfold acc
    exact Finset.sum_congr rfl fun k _ => by rw [Nat.zero_add, mul_comm]
/-- The projection's gradient. -/
theorem out167 : (truncf .bf16 ((concatenate S8192x6656 1 [⟨S8192x1024, ((mulf (res_main_v125 W) (res_main_v51 W)) : (⟨S8192x1024, .f32⟩ : BufTy).Contents (Elt Ideal))⟩, ⟨S8192x1024, ((mulf (res_main_v155 W) (res_main_v29 W)) : (⟨S8192x1024, .f32⟩ : BufTy).Contents (Elt Ideal))⟩, ⟨S8192x1024, ((mulf (res_main_v28 W) (res_main_v155 W)) : (⟨S8192x1024, .f32⟩ : BufTy).Contents (Elt Ideal))⟩, ⟨S8192x1024, ((addf (mulf (res_main_v124 W) (res_main_v53_2 W)) (mulf (mulf (res_main_v30 W) (res_main_v124 W)) (mulf (res_main_v53_2 W) (subf (broadcastInDim S8192x1024 ![] bcast_S_S8192x1024 (constant (F := Ideal) S_ .f32 0x3F800000#32)) (res_main_v53_2 W))))) : (⟨S8192x1024, .f32⟩ : BufTy).Contents (Elt Ideal))⟩, ⟨S8192x512, ((addf (mulf (res_main_v121 W) (res_main_v55_2 W)) (mulf (mulf (res_main_v31 W) (res_main_v121 W)) (mulf (res_main_v55_2 W) (subf (broadcastInDim S8192x512 ![] bcast_S_S8192x512 (constant (F := Ideal) S_ .f32 0x3F800000#32)) (res_main_v55_2 W))))) : (⟨S8192x512, .f32⟩ : BufTy).Contents (Elt Ideal))⟩, ⟨S8192x1024, ((mulf (mulf (res_main_v108 W) (res_main_v66 W)) (mulf (res_main_v62 W) (subf (broadcastInDim S8192x1024 ![] bcast_S_S8192x1024 (constant (F := Ideal) S_ .f32 0x3F800000#32)) (res_main_v62 W)))) : (⟨S8192x1024, .f32⟩ : BufTy).Contents (Elt Ideal))⟩, ⟨S8192x1024, ((mulf (mulf (res_main_v108 W) (res_main_v77 W)) (mulf (res_main_v73 W) (subf (broadcastInDim S8192x1024 ![] bcast_S_S8192x1024 (constant (F := Ideal) S_ .f32 0x3F800000#32)) (res_main_v73 W)))) : (⟨S8192x1024, .f32⟩ : BufTy).Contents (Elt Ideal))⟩] concatenates_S8192x1024_S8192x1024_S8192x1024_S8192x1024_S8192x512_S8192x1024_S8192x1024_S8192x6656_d1 : (⟨S8192x6656, .f32⟩ : BufTy).Contents (Elt Ideal))) bitsLt_bf16_f32 : FVec Ideal S8192x6656 .bf16) = (Lift.M (dP I) : S8192x6656.Idx → EReal) := by
  have q0 : ((mulf (res_main_v125 W) (res_main_v51 W)) : FVec Ideal S8192x1024 .f32) = Lift.M (fun r c => dya I r c * silu I r c * conv I r c) := by
    rw [v125 A, v51 A]
    simp only [bid1_M, subf_M, mulf_M, addf_M]
  have q1 : ((mulf (res_main_v155 W) (res_main_v29 W)) : FVec Ideal S8192x1024 .f32) = Lift.M (fun r c => du I r c * X I r c) := by
    rw [v155 A, v29 A]
    simp only [bid1_M, subf_M, mulf_M, addf_M]
  have q2 : ((mulf (res_main_v28 W) (res_main_v155 W)) : FVec Ideal S8192x1024 .f32) = Lift.M (fun r c => Cc I r c * du I r c) := by
    rw [v155 A, v28 A]
    simp only [bid1_M, subf_M, mulf_M, addf_M]
  have q3 : ((addf (mulf (res_main_v124 W) (res_main_v53_2 W)) (mulf (mulf (res_main_v30 W) (res_main_v124 W)) (mulf (res_main_v53_2 W) (subf (broadcastInDim S8192x1024 ![] bcast_S_S8192x1024 (constant S_ .f32 0x3F800000#32)) (res_main_v53_2 W))))) : FVec Ideal S8192x1024 .f32) = Lift.M (fun r c => B I r c * conv I r c * dya I r c * sgZ I r c + Z I r c * (B I r c * conv I r c * dya I r c) * (sgZ I r c * (1 - sgZ I r c))) := by
    rw [v124 A, v30 A, v53_2 A]
    simp only [bid1_M, subf_M, mulf_M, addf_M]
  have q4 : ((addf (mulf (res_main_v121 W) (res_main_v55_2 W)) (mulf (mulf (res_main_v31 W) (res_main_v121 W)) (mulf (res_main_v55_2 W) (subf (broadcastInDim S8192x512 ![] bcast_S_S8192x512 (constant S_ .f32 0x3F800000#32)) (res_main_v55_2 W))))) : FVec Ideal S8192x512 .f32) = Lift.M (fun r c => attn I r c * dyb I r c * sgB I r c + ZB I r c * (attn I r c * dyb I r c) * (sgB I r c * (1 - sgB I r c))) := by
    rw [v121 A, v31 A, v55_2 A]
    simp only [bid1_M, subf_M, mulf_M, addf_M]
  have q5 : ((mulf (mulf (res_main_v108 W) (res_main_v66 W)) (mulf (res_main_v62 W) (subf (broadcastInDim S8192x1024 ![] bcast_S_S8192x1024 (constant S_ .f32 0x3F800000#32)) (res_main_v62 W)))) : FVec Ideal S8192x1024 .f32) = Lift.M (fun r c => dmg I r c * pa I r c * (gA I r c * (1 - gA I r c))) := by
    rw [v108 A, v62 A, v66 A]
    simp only [bid1_M, subf_M, mulf_M, addf_M]
  have q6 : ((mulf (mulf (res_main_v108 W) (res_main_v77 W)) (mulf (res_main_v73 W) (subf (broadcastInDim S8192x1024 ![] bcast_S_S8192x1024 (constant S_ .f32 0x3F800000#32)) (res_main_v73 W)))) : FVec Ideal S8192x1024 .f32) = Lift.M (fun r c => dmg I r c * pb I r c * (gB I r c * (1 - gB I r c))) := by
    rw [v108 A, v73 A, v77 A]
    simp only [bid1_M, subf_M, mulf_M, addf_M]
  rw [q0, q1, q2, q3, q4, q5, q6]
  refine (congrArg (fun x => truncf (F := Ideal) .bf16 x bitsLt_bf16_f32) (cat_col (R := 8192) (C := 6656) [(1024, fun r c => dya I r c * silu I r c * conv I r c), (1024, fun r c => du I r c * X I r c), (1024, fun r c => Cc I r c * du I r c), (1024, fun r c => B I r c * conv I r c * dya I r c * sgZ I r c + Z I r c * (B I r c * conv I r c * dya I r c) * (sgZ I r c * (1 - sgZ I r c))), (512, fun r c => attn I r c * dyb I r c * sgB I r c + ZB I r c * (attn I r c * dyb I r c) * (sgB I r c * (1 - sgB I r c))), (1024, fun r c => dmg I r c * pa I r c * (gA I r c * (1 - gA I r c))), (1024, fun r c => dmg I r c * pb I r c * (gB I r c * (1 - gB I r c)))] concatenates_S8192x1024_S8192x1024_S8192x1024_S8192x1024_S8192x512_S8192x1024_S8192x1024_S8192x6656_d1)).trans ?_
  rw [truncf_M]
  exact M_congr fun r c hr hc => by
    simp only [pickCol, dP, dBA, dC, dX, dZ, dZB, dGA, dGB, Nat.sub_sub]
    have hc' : c < 6656 := hc
    split_ifs <;> first | omega | skip
    all_goals norm_num
    all_goals ring
/-- The vector gradients. -/
theorem out166 : ((concatenate S8x1024 0 [⟨S1x1024, ((shapeCast _ (Host.reduceAdd (mulf (res_main_v100 W) (res_main_v80 W)) (constant (F := Ideal) S_ .f32 0x00000000#32) reducesTo_S8192x1024_S1024_d0 h_S_) shapeCasts_S1024_S1x1024) : (⟨S1x1024, .f32⟩ : BufTy).Contents (Elt Ideal))⟩, ⟨S3x1024, ((addf (addf (pad S3x1024 ![2, 0] ![0, 0] ![0, 0] (shapeCast _ (Host.reduceAdd (mulf (res_main_v127 W) (res_main_v48 W)) (constant (F := Ideal) S_ .f32 0x00000000#32) reducesTo_S8192x1024_S1024_d0 h_S_) shapeCasts_S1024_S1x1024) (constant (F := Ideal) S_ .f32 0x00000000#32) pads_S1x1024_S3x1024_200_000 h_S_) (pad S3x1024 ![1, 0] ![1, 0] ![0, 0] (shapeCast _ (Host.reduceAdd (mulf (res_main_v127 W) (res_main_v43 W)) (constant (F := Ideal) S_ .f32 0x00000000#32) reducesTo_S8192x1024_S1024_d0 h_S_) shapeCasts_S1024_S1x1024) (constant (F := Ideal) S_ .f32 0x00000000#32) pads_S1x1024_S3x1024_110_000 h_S_)) (pad S3x1024 ![0, 0] ![2, 0] ![0, 0] (shapeCast _ (Host.reduceAdd (mulf (res_main_v127 W) (res_main_v39 W)) (constant (F := Ideal) S_ .f32 0x00000000#32) reducesTo_S8192x1024_S1024_d0 h_S_) shapeCasts_S1024_S1x1024) (constant (F := Ideal) S_ .f32 0x00000000#32) pads_S1x1024_S3x1024_020_000 h_S_)) : (⟨S3x1024, .f32⟩ : BufTy).Contents (Elt Ideal))⟩, ⟨S1x1024, ((broadcastInDim S1x1024 ![1] bcast_S1024_S1x1024_1 (Host.reduceAdd (res_main_v85 W) (constant (F := Ideal) S_ .f32 0x00000000#32) reducesTo_S8192x1024_S1024_d0 h_S_)) : (⟨S1x1024, .f32⟩ : BufTy).Contents (Elt Ideal))⟩, ⟨S3x1024, ((broadcastInDim (α := EReal) S3x1024 ![] bcast_S_S3x1024 (constant (F := Ideal) S_ .f32 0x00000000#32)) : (⟨S3x1024, .f32⟩ : BufTy).Contents (Elt Ideal))⟩] concatenates_S1x1024_S3x1024_S1x1024_S3x1024_S8x1024_d0 : (⟨S8x1024, .f32⟩ : BufTy).Contents (Elt Ideal)) : FVec Ideal S8x1024 .f32) = (Lift.M (vecs I 0) : S8x1024.Idx → EReal) := by
  have hs (f g : ℕ → ℕ → ℝ) (c : ℕ) : (∑ k ∈ Finset.range 8192, f k c * g k c) = csum f g 0 c := by
    unfold csum
    exact Finset.sum_congr rfl fun k _ => by rw [Nat.zero_add]
  have hr (f g : ℕ → ℕ → ℝ) : Host.reduceAdd (F := Ideal) (φ := .f32) (s := S8192x1024) (Lift.M fun r c => f r c * g r c) (constant S_ .f32 0x00000000#32) reducesTo_S8192x1024_S1024_d0 h_S_ = (Lift.V (csum f g 0) : S1024.Idx → EReal) := by
    refine (hcolsum_M _ _ (by decide) _).trans ?_
    exact congrArg _ (funext fun c => hs f g c)
  have w0_ : ((shapeCast S1x1024 (Host.reduceAdd (mulf (res_main_v100 W) (res_main_v80 W)) (constant (F := Ideal) S_ .f32 0x00000000#32) reducesTo_S8192x1024_S1024_d0 h_S_) shapeCasts_S1024_S1x1024) : FVec Ideal S1x1024 .f32) = Lift.M (fun _ c => csum (dout I) (mo I) 0 c) := by
    rw [v100 A, v80 A, mulf_M, hr, shapeCast_V]
  have w1_ : ((addf (addf (pad S3x1024 ![2, 0] ![0, 0] ![0, 0] (shapeCast S1x1024 (Host.reduceAdd (mulf (res_main_v127 W) (res_main_v48 W)) (constant (F := Ideal) S_ .f32 0x00000000#32) reducesTo_S8192x1024_S1024_d0 h_S_) shapeCasts_S1024_S1x1024) (constant (F := Ideal) S_ .f32 0x00000000#32) pads_S1x1024_S3x1024_200_000 h_S_) (pad S3x1024 ![1, 0] ![1, 0] ![0, 0] (shapeCast S1x1024 (Host.reduceAdd (mulf (res_main_v127 W) (res_main_v43 W)) (constant (F := Ideal) S_ .f32 0x00000000#32) reducesTo_S8192x1024_S1024_d0 h_S_) shapeCasts_S1024_S1x1024) (constant (F := Ideal) S_ .f32 0x00000000#32) pads_S1x1024_S3x1024_110_000 h_S_)) (pad S3x1024 ![0, 0] ![2, 0] ![0, 0] (shapeCast S1x1024 (Host.reduceAdd (mulf (res_main_v127 W) (res_main_v39 W)) (constant (F := Ideal) S_ .f32 0x00000000#32) reducesTo_S8192x1024_S1024_d0 h_S_) shapeCasts_S1024_S1x1024) (constant (F := Ideal) S_ .f32 0x00000000#32) pads_S1x1024_S3x1024_020_000 h_S_)) : FVec Ideal S3x1024 .f32) = Lift.M (fun r c => (if 2 ≤ r ∧ r < 2 + 1 then csum (dconv I) (u I) 0 c else 0) + (if 1 ≤ r ∧ r < 1 + 1 then csum (dconv I) (u1 I) 0 c else 0) + (if 0 ≤ r ∧ r < 0 + 1 then csum (dconv I) (u2 I) 0 c else 0)) := by
    rw [v127 A, v48 A, v43 A, v39 A]
    simp only [mulf_M, hr]
    rw [shapeCast_V, shapeCast_V, shapeCast_V, pad_M, pad_M, pad_M]
    simp only [addf_M]
  have w2_ : ((broadcastInDim S1x1024 ![1] bcast_S1024_S1x1024_1 (Host.reduceAdd (res_main_v85 W) (constant (F := Ideal) S_ .f32 0x00000000#32) reducesTo_S8192x1024_S1024_d0 h_S_)) : FVec Ideal S1x1024 .f32) = Lift.M (fun _ c => csum (diff I) (diff I) 0 c) := by
    rw [v85 A, hr, bidVec_V]
  rw [w0_, w1_, w2_, bid0_M]
  refine (cat_row (R := 8) (C := 1024) [(1, fun _ c => csum (dout I) (mo I) 0 c), (3, fun r c => (if 2 ≤ r ∧ r < 2 + 1 then csum (dconv I) (u I) 0 c else 0) + (if 1 ≤ r ∧ r < 1 + 1 then csum (dconv I) (u1 I) 0 c else 0) + (if 0 ≤ r ∧ r < 0 + 1 then csum (dconv I) (u2 I) 0 c else 0)), (1, fun _ c => csum (diff I) (diff I) 0 c), (3, fun _ _ => 0)] concatenates_S1x1024_S3x1024_S1x1024_S3x1024_S8x1024_d0).trans ?_
  exact M_congr fun r c hr hc => by
    have hr' : r < 8 := hr
    simp only [pickRow, vecs]
    interval_cases r <;> simp

end Cert.ReferenceIdeal.Mid
-- ==== Proof.Mid.Kern.lean ====
module

public import proofs.«01_k».proof.Defs
public import proofs.«01_k».proof.Proof.Mid.Value
public import proofs.«01_k».proof.Proof.Mid.Ref
public import proofs.«01_k».proof.Proof.Gen.Kernel
public import proofs.«01_k».proof.Proof.Gen.Pre_finite

@[expose] public section

set_option maxRecDepth 16384

/-!
# The kernel computes what the reference computes
-/

noncomputable section

namespace Cert.KernelIdeal.Mid

open Cert.KernelIdeal.Gen Idealize.ShloMosaic Idealize.ShloMosaic.TcCoe Cert.Lift Cert.Spec
open Idealize.SL.Sem Idealize.ShloMosaic.StableHlo

theorem wtop : Ideal.ofBits .f32 0x7F800000#32 = ⊤ := by simp [Ideal.ofBits, Ideal.ieee]

/-- An array every element of which is below infinity in size is a real matrix. -/
theorem real_of_finite {R C : ℕ} {d} {h} {x : (⟨2, ![R, C]⟩ : Shape).Idx → EReal}
    (hx : cmpf .olt (Host.absf (F := Ideal) (φ := .f32) x) (broadcastInDim (⟨2, ![R, C]⟩ : Shape) d h (constant (F := Ideal) ⟨0, ![]⟩ .f32 0x7F800000#32)) = fun _ => 1#1) :
    ∃ f : ℕ → ℕ → ℝ, x = M f := by
  have fin : ∀ i, x i ≠ ⊤ ∧ x i ≠ ⊥ := by
    intro i
    have hi : Ideal.cmp .olt (max (x i) (-(x i))) (Ideal.ofBits .f32 0x7F800000#32) = 1#1 := congrFun hx i
    rw [wtop] at hi
    unfold Ideal.cmp at hi
    dsimp only at hi
    have hl : max (x i) (-(x i)) < ⊤ := by
      by_contra hn
      rw [decide_eq_false hn] at hi
      exact absurd hi (by decide)
    have h2 := max_lt_iff.mp hl
    exact ⟨h2.1.ne, fun e => by rw [e] at h2; exact absurd h2.2 (by simp)⟩
  refine ⟨fun r c => if hr : r < R then if hc : c < C then (x (ValueIdx.ix2 ⟨r, hr⟩ ⟨c, hc⟩)).toReal else 0 else 0, funext fun i => ?_⟩
  unfold Lift.M
  dsimp only
  rw [dif_pos (ValueIdx.idx2_lt0 i), dif_pos (ValueIdx.idx2_lt1 i)]
  have e : ValueIdx.ix2 ⟨(i 0).val, ValueIdx.idx2_lt0 i⟩ ⟨(i 1).val, ValueIdx.idx2_lt1 i⟩ = i := by
    funext a
    match a with
    | ⟨0, _⟩ => rfl
    | ⟨1, _⟩ => rfl
  rw [e, EReal.coe_toReal (fin i).1 (fin i).2]

/-- Finite arguments are real inputs. -/
theorem inputs (m : (ℓ : Loc nD τ sig) → Buf (Elt Ideal) ℓ) (h : Cert.Pre_KernelIdeal_finite m) (c : Dev nD) : ∃ I : In, Mem m c I := by
  have H := h c
  obtain ⟨f0, e0⟩ := real_of_finite (R := 8192) (C := 6656) (x := m ((c : Thread nD τ).loc main_arg0)) H.1
  obtain ⟨f1, e1⟩ := real_of_finite (R := 8192) (C := 512) (x := m ((c : Thread nD τ).loc main_arg1)) H.2.1
  obtain ⟨f2, e2⟩ := real_of_finite (R := 8192) (C := 512) (x := m ((c : Thread nD τ).loc main_arg2)) H.2.2.1
  obtain ⟨f3, e3⟩ := real_of_finite (R := 8192) (C := 512) (x := m ((c : Thread nD τ).loc main_arg3)) H.2.2.2.1
  obtain ⟨f4, e4⟩ := real_of_finite (R := 8192) (C := 512) (x := m ((c : Thread nD τ).loc main_arg4)) H.2.2.2.2.1
  obtain ⟨f5, e5⟩ := real_of_finite (R := 8192) (C := 512) (x := m ((c : Thread nD τ).loc main_arg5)) H.2.2.2.2.2.1
  obtain ⟨f6, e6⟩ := real_of_finite (R := 8192) (C := 512) (x := m ((c : Thread nD τ).loc main_arg6)) H.2.2.2.2.2.2.1
  obtain ⟨f7, e7⟩ := real_of_finite (R := 8192) (C := 1024) (x := m ((c : Thread nD τ).loc main_arg7)) H.2.2.2.2.2.2.2.1
  obtain ⟨f8, e8⟩ := real_of_finite (R := 8192) (C := 1024) (x := m ((c : Thread nD τ).loc main_arg8)) H.2.2.2.2.2.2.2.2.1
  obtain ⟨f9, e9⟩ := real_of_finite (R := 1) (C := 3072) (x := m ((c : Thread nD τ).loc main_arg9)) H.2.2.2.2.2.2.2.2.2.1
  obtain ⟨f10, e10⟩ := real_of_finite (R := 3) (C := 1024) (x := m ((c : Thread nD τ).loc main_arg10)) H.2.2.2.2.2.2.2.2.2.2.1
  obtain ⟨f11, e11⟩ := real_of_finite (R := 1024) (C := 1024) (x := m ((c : Thread nD τ).loc main_arg11)) H.2.2.2.2.2.2.2.2.2.2.2.1
  obtain ⟨f12, e12⟩ := real_of_finite (R := 512) (C := 1024) (x := m ((c : Thread nD τ).loc main_arg12)) H.2.2.2.2.2.2.2.2.2.2.2.2.1
  obtain ⟨f13, e13⟩ := real_of_finite (R := 1024) (C := 1024) (x := m ((c : Thread nD τ).loc main_arg13)) H.2.2.2.2.2.2.2.2.2.2.2.2.2
  exact ⟨⟨f0, f1, f2, f3, f4, f5, f6, f7, f8, f9, f10, f11, f12, f13⟩, ⟨e0, e1, e2, e3, e4, e5, e6, e7, e8, e9, e10, e11, e12, e13⟩⟩

set_option maxHeartbeats 2000000 in
/-- What the kernel leaves in its results. -/
theorem results {m : (ℓ : Loc nD τ sig) → Buf (Elt Ideal) ℓ} (ρ : Dev nD → PrngReg) {I : Dev nD → In} (A : ∀ c, Mem m c (I c)) :
    θ_run (defs (F := Ideal)) (onTc (τ := τ) (main (F := Ideal))) ⟨m, fun _ => 0, ρ⟩ (fun r => ∀ c : Dev nD,
      r.2.mem ((c.tc : Thread nD τ).loc main_v10_0) = (M (dP (I c)) : S8192x6656.Idx → EReal)
      ∧ r.2.mem ((c.tc : Thread nD τ).loc main_v10_1) = (M (dattn (I c)) : S8192x512.Idx → EReal)
      ∧ r.2.mem ((c.tc : Thread nD τ).loc main_v10_2) = (M (lse (I c)) : S8192x512.Idx → EReal)
      ∧ r.2.mem ((c.tc : Thread nD τ).loc main_v10_3) = (M (delta (I c)) : S8192x512.Idx → EReal)
      ∧ r.2.mem ((c.tc : Thread nD τ).loc main_v10_4) = (M (dout (I c)) : S8192x1024.Idx → EReal)
      ∧ r.2.mem ((c.tc : Thread nD τ).loc main_v10_5) = (M (vecs (I c) 0) : S8x1024.Idx → EReal)
      ∧ r.2.mem ((c.tc : Thread nD τ).loc main_v10_6) = (M (acc (mg (I c)) (dmo (I c)) 0) : S1024x1024.Idx → EReal)
      ∧ r.2.mem ((c.tc : Thread nD τ).loc main_v10_7) = (M (acc (ya (I c)) (dpa (I c)) 0) : S1024x1024.Idx → EReal)
      ∧ r.2.mem ((c.tc : Thread nD τ).loc main_v10_8) = (M (acc (yb (I c)) (dpb (I c)) 0) : S512x1024.Idx → EReal)) := by
  refine (θ_run defs _ _).mono (fun r h c => ?_) (run_main m ρ)
  have hN : (Fin.last cfg0.N).val - 1 = 31 := by rw [Fin.val_last, show cfg0.N = 32 from N_0]
  have W := copied (A c) ((Fin.last cfg0.N).val - 1) (by rw [Fin.val_last]; have : cfg0.N = 32 := N_0; omega) hN
  refine ⟨?_, ?_, ?_, ?_, ?_, ?_, ?_, ?_, ?_⟩
  · exact ((h.toR c).1 14).trans (arr14 (A c))
  · exact ((h.toR c).1 15).trans (arr15 (A c))
  · exact ((h.toR c).1 16).trans (arr16 (A c))
  · exact ((h.toR c).1 17).trans (arr17 (A c))
  · exact ((h.toR c).1 18).trans (arr18 (A c))
  · exact ((h.toR c).1 19).trans (arr19 (A c))
  · exact ((h.written c (by decide : main_v10_6 ∈ R0)).trans (hbG0_3 m c)).trans W.1
  · exact ((h.written c (by decide : main_v10_7 ∈ R0)).trans (hbG0_4 m c)).trans W.2.1
  · exact ((h.written c (by decide : main_v10_8 ∈ R0)).trans (hbG0_5 m c)).trans W.2.2

end Cert.KernelIdeal.Mid
-- ==== Proof.Mid.Final.lean ====
module

public import proofs.«01_k».proof.Proof.Mid.Kern

@[expose] public section

set_option maxRecDepth 16384

/-!
# The claims
-/

noncomputable section

namespace Cert.Mid

open Idealize.ShloMosaic Idealize.ShloMosaic.TcCoe Cert.Lift Cert.Spec
open Idealize.SL.Sem Idealize.ShloMosaic.StableHlo

/-- From finite arguments the kernel and the reference leave the same results. -/
theorem algebraic : Cert.algebraic_KernelIdeal_ReferenceIdeal_pre_finite := by
  intro m g m' g' hpre hargs
  choose I A using KernelIdeal.Mid.inputs m hpre
  have B : ∀ c, ReferenceIdeal.Mid.Args (launchContents m' c) (I c) := fun c => ⟨(hargs c).1.trans (A c).a0,
    (hargs c).2.1.trans (A c).a1,
    (hargs c).2.2.1.trans (A c).a2,
    (hargs c).2.2.2.1.trans (A c).a3,
    (hargs c).2.2.2.2.1.trans (A c).a4,
    (hargs c).2.2.2.2.2.1.trans (A c).a5,
    (hargs c).2.2.2.2.2.2.1.trans (A c).a6,
    (hargs c).2.2.2.2.2.2.2.1.trans (A c).a7,
    (hargs c).2.2.2.2.2.2.2.2.1.trans (A c).a8,
    (hargs c).2.2.2.2.2.2.2.2.2.1.trans (A c).a9,
    (hargs c).2.2.2.2.2.2.2.2.2.2.1.trans (A c).a10,
    (hargs c).2.2.2.2.2.2.2.2.2.2.2.1.trans (A c).a11,
    (hargs c).2.2.2.2.2.2.2.2.2.2.2.2.1.trans (A c).a12,
    (hargs c).2.2.2.2.2.2.2.2.2.2.2.2.2.trans (A c).a13⟩
  refine ⟨fun c => M (dP (I c)), fun c => M (dattn (I c)), fun c => M (lse (I c)), fun c => M (delta (I c)), fun c => M (dout (I c)), fun c => M (vecs (I c) 0), fun c => M (acc (mg (I c)) (dmo (I c)) 0), fun c => M (acc (ya (I c)) (dpa (I c)) 0), fun c => M (acc (yb (I c)) (dpb (I c)) 0), ?_, ?_⟩
  · refine (θ_run _ _ _).mono (fun r h c => ?_) (θ_run_and (KernelIdeal.Mid.results g A) (KernelIdeal.Mid.unchanged m g))
    have h1 := h.1 c
    exact ⟨h1.1, h1.2.1, h1.2.2.1, h1.2.2.2.1, h1.2.2.2.2.1, h1.2.2.2.2.2.1, h1.2.2.2.2.2.2.1, h1.2.2.2.2.2.2.2.1, h1.2.2.2.2.2.2.2.2, h.2 c⟩
  · refine (θ_run _ _ _).mono (fun r h c => ?_) (ReferenceIdeal.Value.run (F := Ideal) m' g')
    have h1 := h c
    exact ⟨(h1.1).trans (ReferenceIdeal.Mid.out167 (B c)),
      (h1.2.1).trans (ReferenceIdeal.Mid.out168 (B c)),
      (h1.2.2.1).trans (ReferenceIdeal.Mid.out21 (B c)),
      (h1.2.2.2.1).trans (ReferenceIdeal.Mid.out164 (B c)),
      (h1.2.2.2.2.1).trans (ReferenceIdeal.Mid.out169 (B c)),
      (h1.2.2.2.2.2.1).trans (ReferenceIdeal.Mid.out166 (B c)),
      (h1.2.2.2.2.2.2.1).trans (ReferenceIdeal.Mid.out107 (B c)),
      (h1.2.2.2.2.2.2.2.1).trans (ReferenceIdeal.Mid.out118 (B c)),
      (h1.2.2.2.2.2.2.2.2.1).trans (ReferenceIdeal.Mid.out112 (B c)),
      h1.2.2.2.2.2.2.2.2.2⟩

end Cert.Mid
-- ==== Proof.Mid.Same.lean ====
module

public import proofs.«01_k».proof.Defs
public import proofs.«01_k».proof.Proof.Mid.Frame
public import proofs.«01_k».proof.Proof.Gen.Kernel

@[expose] public section

set_option maxRecDepth 16384

/-!
# The kernel's frame, from the run of its other reading

`Kernel` and `KernelIdeal` are one text under two names: their bodies, tables and host code are equal by unfolding.
-/

noncomputable section

namespace Cert.Mid

open Idealize.ShloMosaic Idealize.ShloMosaic.TcCoe Idealize.SL.Sem

set_option maxHeartbeats 2000000 in
set_option backward.isDefEq.respectTransparency false in
set_option backward.isDefEq.respectTransparency.types false in
theorem defs0_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

set_option maxHeartbeats 2000000 in
set_option backward.isDefEq.respectTransparency false in
set_option backward.isDefEq.respectTransparency.types false in
theorem defs_eq : Cert.Kernel.defs (F := Bits) = Cert.KernelIdeal.defs (F := Bits) := by
  unfold Cert.Kernel.defs Cert.KernelIdeal.defs
  rw [defs0_eq]
  rfl

set_option maxHeartbeats 2000000 in
set_option backward.isDefEq.respectTransparency false in
set_option backward.isDefEq.respectTransparency.types false in
theorem main_eq : Cert.Kernel.main (F := Bits) = Cert.KernelIdeal.main (F := Bits) := by
  unfold Cert.Kernel.main Cert.KernelIdeal.main
  rfl

set_option maxHeartbeats 2000000 in
set_option backward.isDefEq.respectTransparency false in
set_option backward.isDefEq.respectTransparency.types false in
/-- The kernel ends with its arguments unchanged and every counter at zero. -/
theorem frame_kernel : Cert.quiescent_Kernel := fun m ρ _ => by
  rw [defs_eq, main_eq]
  exact Cert.KernelIdeal.Mid.frame (F := Bits) m ρ

end Cert.Mid
-- ==== Proof.Rest.C2.lean ====
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
-- ==== Proof.Rest.Prod.lean ====
module

public import proofs.«01_k».proof.Proof.Mid.Reads

@[expose] public section

/-!
# Products at an index
-/

noncomputable section

namespace Cert.Prod

open Idealize.ShloMosaic Idealize.ShloMosaic.ValueIdx

variable {R K C : ℕ}

/-- An entry of `[R,K]` by `[K,C]`, whatever the entries are. -/
theorem nn {φ₁ φ₂ : FTy} {d : DotDims ⟨2, ![R, K]⟩ ⟨2, ![K, C]⟩ ⟨2, ![R, C]⟩} (hd : d = DotDims.plain R K C) (prec)
    (x : FVec Ideal ⟨2, ![R, K]⟩ φ₁) (y : FVec Ideal ⟨2, ![K, C]⟩ φ₂) (i : (⟨2, ![R, C]⟩ : Shape).Idx) :
    matmul (F := Ideal) d prec x y (constant ⟨2, ![R, C]⟩ .f32 0x00000000#32) i = ∑ k : Fin K, x (ix2 (i 0) k) * y (ix2 k (i 1)) := by
  subst hd
  refine (eq_ix2 i).symm ▸ (?_ : ∀ (r : Fin R) (c : Fin C), matmul (F := Ideal) _ prec x y _ (ix2 r c) = ∑ k : Fin K, x (ix2 r k) * y (ix2 k c)) (i 0) (i 1)
  intro r c
  refine (Ideal.matmul_plain_apply prec _ _ _ r c).trans ?_
  rw [Cert.Lift.zeroAcc, zero_add]

/-- An entry of `[R,K]` by the transpose of `[C,K]`, whatever the entries are. -/
theorem nt {φ₁ φ₂ : FTy} {d : DotDims ⟨2, ![R, K]⟩ ⟨2, ![C, K]⟩ ⟨2, ![R, C]⟩} (hd : d = DotDims.transposedRhs R K C) (prec)
    (x : FVec Ideal ⟨2, ![R, K]⟩ φ₁) (y : FVec Ideal ⟨2, ![C, K]⟩ φ₂) (i : (⟨2, ![R, C]⟩ : Shape).Idx) :
    matmul (F := Ideal) d prec x y (constant ⟨2, ![R, C]⟩ .f32 0x00000000#32) i = ∑ k : Fin K, x (ix2 (i 0) k) * y (ix2 (i 1) k) := by
  subst hd
  refine (eq_ix2 i).symm ▸ (?_ : ∀ (r : Fin R) (c : Fin C), matmul (F := Ideal) _ prec x y _ (ix2 r c) = ∑ k : Fin K, x (ix2 r k) * y (ix2 c k)) (i 0) (i 1)
  intro r c
  refine (Ideal.matmul_transposedRhs_apply prec _ _ _ r c).trans ?_
  rw [Cert.Lift.zeroAcc, zero_add]

/-- What a store of the whole matrix leaves. -/
theorem read_stored {sig : RefSig} {κ : Kind} {sp : Space} {e : EltTy} (v : View sig κ sp ⟨2, ![R, C]⟩ e) (f : v.ty.Contents (Elt Ideal)) (Z : (⟨2, ![R, C]⟩ : Shape).Idx → Elt Ideal e) (inb) :
    v.read (Elt Ideal) (v.writes (Elt Ideal) f [⟨Rect.unit ![0, 0] ![R, C] inb, Z⟩]) = Z :=
  (View.read_writes_eq_canon v f _ (fun y => ⟨⟨Rect.unit ![0, 0] ![R, C] inb, Z⟩, List.mem_singleton_self _, View.mem_set_unit_zero (S := ⟨2, ![R, C]⟩) Cert.KernelIdeal.Mid.hz inb y⟩)).trans
    (Cert.KernelIdeal.Mid.canon_whole Z inb [])

/-- What a copy into the whole matrix leaves. -/
theorem read_copied {sig : RefSig} {κ : Kind} {sp : Space} {s : Shape} {e : EltTy} (v : View sig κ sp s e) (f : v.ty.Contents (Elt Ideal)) (Z : s.Idx → Elt Ideal e) :
    v.read (Elt Ideal) (v.writes (Elt Ideal) f [⟨Rect.whole s, Z⟩]) = Z :=
  (View.read_writes_eq_canon v f _ (fun y => ⟨⟨Rect.whole s, Z⟩, List.mem_singleton_self _, by rw [Rect.set_whole]; exact Finset.mem_univ y⟩)).trans
    (Cert.KernelIdeal.Mid.canon_copied Z [])

/-- Two places of a matrix with the same row and column are one. -/
theorem idx_ext {i j : (⟨2, ![R, C]⟩ : Shape).Idx} (h0 : (i 0).val = (j 0).val) (h1 : (i 1).val = (j 1).val) : i = j := by
  funext a
  refine Fin.ext ?_
  match a with
  | ⟨0, _⟩ => exact h0
  | ⟨1, _⟩ => exact h1

/-- A block of rows by a block of columns gives the entries of the whole product at its place. -/
theorem slab {P N : ℕ} (A : (⟨2, ![P, K]⟩ : Shape).Idx → EReal) (B : (⟨2, ![K, N]⟩ : Shape).Idx → EReal)
    {e : (⟨2, ![R, K]⟩ : Shape).Idx → (⟨2, ![P, K]⟩ : Shape).Idx} {f : (⟨2, ![K, C]⟩ : Shape).Idx → (⟨2, ![K, N]⟩ : Shape).Idx}
    (y : (⟨2, ![R, C]⟩ : Shape).Idx) (j : (⟨2, ![P, N]⟩ : Shape).Idx)
    (e0 : ∀ z, (z 0).val = (y 0).val → (e z 0).val = (j 0).val) (e1 : ∀ z, (e z 1).val = (z 1).val)
    (f0 : ∀ z, (f z 0).val = (z 0).val) (f1 : ∀ z, (z 1).val = (y 1).val → (f z 1).val = (j 1).val) :
    ∑ k : Fin K, A (e (ix2 (y 0) k)) * B (f (ix2 k (y 1))) = ∑ k : Fin K, A (ix2 (j 0) k) * B (ix2 k (j 1)) :=
  Finset.sum_congr rfl fun _ _ => congrArg₂ (· * ·) (congrArg A (idx_ext (e0 _ rfl) (e1 _))) (congrArg B (idx_ext (f0 _) (f1 _ rfl)))

/-- A whole matrix laid over another. -/
theorem overlay_all {e : EltTy} (inb) (X Z : (⟨2, ![R, C]⟩ : Shape).Idx → Elt Ideal e) : (Rect.unit (s := ⟨2, ![R, C]⟩) ![0, 0] ![R, C] inb).overlay X Z = Z := by
  funext y
  have hy : (Rect.unit (s := ⟨2, ![R, C]⟩) ![0, 0] ![R, C] inb).emb y = y :=
    idx_ext (show 0 + 1 * (y 0).val = (y 0).val by omega) (show 0 + 1 * (y 1).val = (y 1).val by omega)
  exact (congrArg _ hy.symm).trans ((Rect.unit (s := ⟨2, ![R, C]⟩) ![0, 0] ![R, C] inb).overlay_emb X Z y)

end Cert.Prod
end
-- ==== Proof.Rest.K2.lean ====
module

public import proofs.«01_k».proof.Proof.Rest.C2
public import proofs.«01_k».proof.Proof.Rest.Prod
public import proofs.«01_k».proof.Proof.Mid.Reads
public import proofs.«01_k».proof.Proof.Gen.Kernel2Ideal
public import Idealize.ShloMosaic.Lib.Pipeline.ValueKit
public import Idealize.ShloMosaic.Lib.Pipeline.ReadBack
public import proofs.«01_k».proof.Defs

@[expose] public section

set_option maxRecDepth 16384

/-!
# The gradient of the input projection's weights

Every point multiplies the same left operand, copied into scratch at the first point, by its block of columns.
-/

noncomputable section

namespace Cert.Kernel2Ideal.Val

open Cert.Kernel2Ideal Cert.Kernel2Ideal.Gen Idealize.ShloMosaic Idealize.ShloMosaic.TcCoe
open Idealize.SL.Sem
open Cert.KernelIdeal.Mid (ld_whole readCov_copied)
open Cert.Prod (read_stored read_copied)

variable (m : (ℓ : Loc nD τ sig) → Buf (Elt Ideal) ℓ) (c : Dev nD)

/-- The stores of the first point. -/
theorem outA (t : Fin cfg0.N) (h0 : t.val % 13 = 0) :
    outsAt0 m c t.val t.isLt = (k0_pay1 (V m c main_arg0) (iblk m c 0 t), V m c main_arg0) := by
  rw [outsAt0_A m c t h0]
  unfold out0_A_1 sout0_A_0 kernelRun0_A
  dsimp only
  simp (disch := decide) only [kernelRun0_A.sl.v3, kernelRun0_A.sl.dma0, View.readAt_eq_ld, Memref.IsWhole.read_unread, readCov_copied, ld_whole, ReadAs.apply_same, read_copied]
  refine congrArg₂ Prod.mk (read_stored _ _ _ _) rfl

/-- The stores of a later point: the scratch stays. -/
theorem outB (t : Fin cfg0.N) (h0 : ¬t.val % 13 = 0) :
    outsAt0 m c t.val t.isLt = (k0_pay1 (outsAt0 m c (t.val - 1) (Nat.lt_of_le_of_lt (Nat.sub_le _ _) t.isLt)).2 (iblk m c 0 t), (outsAt0 m c (t.val - 1) (Nat.lt_of_le_of_lt (Nat.sub_le _ _) t.isLt)).2) := by
  rw [outsAt0_B m c t h0]
  unfold out0_B_1 sout0_B_0 kernelRun0_B
  dsimp only
  simp (disch := decide) only [View.readAt_eq_ld, Memref.IsWhole.read_unread, read_unread_whole, ld_whole, ReadAs.apply_same]
  exact congrArg₂ Prod.mk (read_stored _ _ _ _) rfl

/-- After every point the scratch holds the left operand. -/
theorem scratch (n : ℕ) (hn : n < cfg0.N) : (outsAt0 m c n hn).2 = V m c main_arg0 := by
  induction n with
  | zero => exact congrArg Prod.snd (outA m c ⟨0, hn⟩ rfl)
  | succ n ih =>
    by_cases h0 : (n + 1) % 13 = 0
    · exact congrArg Prod.snd (outA m c ⟨n + 1, hn⟩ h0)
    · exact (congrArg Prod.snd (outB m c ⟨n + 1, hn⟩ h0)).trans (ih _)

/-- What every point leaves in its block. -/
theorem block (t : Fin cfg0.N) : (outsAt0 m c t.val t.isLt).1 = k0_pay1 (V m c main_arg0) (iblk m c 0 t) := by
  by_cases h0 : t.val % 13 = 0
  · exact congrArg Prod.fst (outA m c t h0)
  · exact (congrArg Prod.fst (outB m c t h0)).trans (by rw [scratch])

/-- The reference's entry. -/
theorem ref_apply (x0 : S1024x8192.Idx → EReal) (x1 : S8192x6656.Idx → EReal) (i : S1024x6656.Idx) :
    Cert.Reference2Ideal.Read.val_main_v7 (F := Ideal) x0 x1 i = ∑ k : Fin 8192, x0 (ValueIdx.ix2 (i 0) k) * x1 (ValueIdx.ix2 k (i 1)) := by
  rw [Cert.Reference2Ideal.Read.val_main_v7_apply, Cert.Reference2Ideal.Read.val_main_v6_apply]
  refine (Cert.Reference2Ideal.Read.val_main_v5_apply x0 x1 _).trans (Finset.sum_congr rfl fun k _ => ?_)
  rw [Cert.Reference2Ideal.Read.val_main_v4_apply, Cert.Reference2Ideal.Read.val_main_v1_apply, Cert.Reference2Ideal.Read.val_main_v0_apply]
  refine (mul_comm _ _).trans (congrArg₂ (· * ·) (congrArg x0 ?_) (congrArg x1 ?_))
  · exact Cert.Prod.idx_ext rfl rfl
  · exact Cert.Prod.idx_ext rfl rfl

/-- The array the call leaves is the reference's. -/
theorem arr : (dats m 0 c).arrAt 1 cfg0.N = Cert.Reference2Ideal.Read.val_main_v7 (F := Ideal) (V m c main_arg0) (V m c main_arg1) := by
  have hi : ∀ t : Fin cfg0.N, win0_1.index t 0 = 0 ∧ win0_0.index t 0 = 0 ∧ win0_0.index t 1 * win0_0.size 1 = win0_1.index t 1 * win0_1.size 1 := by decide +kernel
  refine (dats m 0 c).arrAt_eq_of_covers 1 _ (by decide +kernel) fun t _ y => ?_
  refine (congrFun ((after0_1 m c t).trans (block m c t)) _).trans ?_
  have e : iblk m c 0 t = fun y => (V m c main_arg1 : S8192x6656.Idx → EReal) ((win0_0.rect t).emb y) := rfl
  refine (Cert.Prod.nn (R := 1024) (K := 8192) (C := 512) (φ₁ := .bf16) (φ₂ := .bf16) rfl none (V m c main_arg0) (iblk m c 0 t) _).trans ?_
  refine Eq.trans ?_ (ref_apply _ _ _).symm
  rw [e]
  exact Cert.Prod.slab (R := 1024) (K := 8192) (C := 512) (V m c main_arg0 : S1024x8192.Idx → EReal) (V m c main_arg1 : S8192x6656.Idx → EReal) (e := id) y _
    (fun z hz => hz.trans (win0_1.rect_emb_val_of_index_zero t 0 (hi t).1 y).symm) (fun _ => rfl)
    (win0_0.rect_emb_val_of_index_zero t 0 (hi t).2.1)
    (fun z hz => (win0_0.rect_emb_val t z 1).trans ((congrArg₂ (· + ·) (hi t).2.2 hz).trans (win0_1.rect_emb_val t y 1).symm))

/-- The kernel and the reference leave the same gradient, whatever the arguments hold. -/
theorem algebraic : Cert.algebraic_Kernel2Ideal_Reference2Ideal := by
  intro m g m' g' _ hargs
  refine ⟨fun c => Cert.Reference2Ideal.Read.val_main_v7 (F := Ideal) (V m c main_arg0) (V m c main_arg1), ?_, ?_⟩
  · exact (θ_run _ _ _).mono (fun r h c => ⟨(h c).1.trans (arr m c), (h c).2⟩) (Cert.Kernel2Ideal.Value.run_blocks m g)
  · refine (θ_run _ _ _).mono (fun r h c => ⟨(h c).1.trans ?_, (h c).2⟩) (Cert.Reference2Ideal.Value.run (F := Ideal) m' g')
    rw [(hargs c).1, (hargs c).2]
    rfl

end Cert.Kernel2Ideal.Val
end
-- ==== Proof.Rest.C3.lean ====
module

public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
-- ==== Proof.Rest.Ext.lean ====
module

public import proofs.«01_k».proof.Proof.Mid.Reads
public import proofs.«01_k».proof.Proof.Mid.Join
public import Idealize.ShloMosaic.Lib.ValueLayoutCasts

@[expose] public section

set_option maxRecDepth 16384

/-!
# Matrices of extended real numbers

`E f` is the matrix whose element at `(r, c)` is the extended real number `f r c`, and `W f` the same of one axis. Every
matrix is one. Each operation sends such matrices to such a matrix, without a condition on the entries.
-/

noncomputable section

namespace Cert.Ext

open Idealize.ShloMosaic Idealize.ShloMosaic.ValueIdx
open scoped BigOperators

/-- The `[R, C]` matrix of the numbers `f r c`. -/
def E {R C : ℕ} (f : ℕ → ℕ → EReal) : (⟨2, ![R, C]⟩ : Shape).Idx → EReal := fun i => f (i 0).val (i 1).val
/-- The `[C]` vector of the numbers `f c`. -/
def W {C : ℕ} (f : ℕ → EReal) : (⟨1, ![C]⟩ : Shape).Idx → EReal := fun i => f (i 0).val

variable {R C : ℕ} {φ : FTy}

theorem E_congr {f g : ℕ → ℕ → EReal} (h : ∀ r c, r < R → c < C → f r c = g r c) : (E f : (⟨2, ![R, C]⟩ : Shape).Idx → EReal) = E g := by
  funext i; exact h _ _ (idx2_lt0 i) (idx2_lt1 i)

/-- Every matrix is one. -/
theorem exists_E (x : (⟨2, ![R, C]⟩ : Shape).Idx → EReal) : ∃ f, x = E f := by
  refine ⟨fun r c => if h : r < R ∧ c < C then x (ValueIdx.ix2 ⟨r, h.1⟩ ⟨c, h.2⟩) else 0, ?_⟩
  funext i
  show x i = dite ((i 0).val < R ∧ (i 1).val < C) _ _
  rw [dif_pos ⟨idx2_lt0 i, idx2_lt1 i⟩]
  refine congrArg x (funext fun a => ?_)
  match a with
  | ⟨0, _⟩ => rfl
  | ⟨1, _⟩ => rfl

/-- The rows from `b` on. -/
def sh (b : ℕ) (f : ℕ → ℕ → EReal) (r c : ℕ) : EReal := f (b + r) c

/-! ## Operations -/

theorem mulf_E (f g : ℕ → ℕ → EReal) : mulf (F := Ideal) (φ := φ) (s := ⟨2, ![R, C]⟩) (E f) (E g) = E fun r c => f r c * g r c := rfl
theorem addf_E (f g : ℕ → ℕ → EReal) : addf (F := Ideal) (φ := φ) (s := ⟨2, ![R, C]⟩) (E f) (E g) = E fun r c => f r c + g r c := rfl
theorem subf_E (f g : ℕ → ℕ → EReal) : subf (F := Ideal) (φ := φ) (s := ⟨2, ![R, C]⟩) (E f) (E g) = E fun r c => f r c - g r c := rfl
theorem divf_E (f g : ℕ → ℕ → EReal) : divf (F := Ideal) (φ := φ) (s := ⟨2, ![R, C]⟩) (E f) (E g) = E fun r c => Ideal.div (f r c) (g r c) := rfl
theorem hdivf_E (f g : ℕ → ℕ → EReal) : Host.divf (F := Ideal) (φ := φ) (s := ⟨2, ![R, C]⟩) (E f) (E g) = E fun r c => Ideal.div (f r c) (g r c) := rfl
theorem rsqrt_E (f : ℕ → ℕ → EReal) : rsqrt (F := Ideal) (φ := φ) (s := ⟨2, ![R, C]⟩) (E f) = E fun r c => Ideal.rsqrt (f r c) := rfl
theorem hrsqrt_E (f : ℕ → ℕ → EReal) : Host.rsqrt (F := Ideal) (φ := φ) (s := ⟨2, ![R, C]⟩) (E f) = E fun r c => Ideal.rsqrt (f r c) := rfl
theorem extf_E (f : ℕ → ℕ → EReal) (h) : extf (F := Ideal) (φ := .bf16) (s := ⟨2, ![R, C]⟩) .f32 (E f) h = E f := rfl

/-- A number spread over a matrix. -/
theorem bc_E {w : BitVec 32} {a : EReal} (h : Ideal.ofBits .f32 w = a) :
    broadcast (⟨2, ![R, C]⟩ : Shape) (Scalar.ofBits (F := Ideal) .f32 w) = (E fun _ _ => a : (⟨2, ![R, C]⟩ : Shape).Idx → EReal) := by
  funext i; exact h
/-- The host's number spread over a matrix. -/
theorem bid_E {w : BitVec 32} {a : EReal} (hw : Ideal.ofBits .f32 w = a) (d) (h) :
    broadcastInDim (⟨2, ![R, C]⟩ : Shape) d h (constant (F := Ideal) ⟨0, ![]⟩ .f32 w) = (E fun _ _ => a : (⟨2, ![R, C]⟩ : Shape).Idx → EReal) := by
  funext i; exact hw

theorem slice_E {R' C' : ℕ} (a b : ℕ) (f : ℕ → ℕ → EReal) (h) :
    extractStridedSlice (⟨2, ![R', C']⟩ : Shape) ![a, b] (E f : (⟨2, ![R, C]⟩ : Shape).Idx → EReal) h = E fun r c => f (a + r) (b + c) := rfl

/-! ## Sums -/

theorem sum_fin (n : ℕ) (f : ℕ → EReal) : (∑ k : Fin n, f k.val) = ∑ k ∈ Finset.range n, f k := Fin.sum_univ_eq_sum_range f n

/-- The column sums. -/
theorem colsum_E (f : ℕ → ℕ → EReal) (acc) (h : (⟨2, ![R, C]⟩ : Shape).Reduces [0] ⟨1, ![C]⟩) (hφ) (hacc) :
    multiReduction (F := Ideal) (φ := φ) (s := ⟨2, ![R, C]⟩) .add [0] ⟨1, ![C]⟩ (E f) acc h hφ hacc = W fun c => ∑ r ∈ Finset.range R, f r c := by
  funext i
  rw [Ideal.multiReduction_add_single]
  exact sum_fin R fun r => f r (i 0).val
/-- The row sums. -/
theorem rowsum_E (f : ℕ → ℕ → EReal) (acc) (h : (⟨2, ![R, C]⟩ : Shape).Reduces [1] ⟨1, ![R]⟩) (hφ) (hacc) :
    multiReduction (F := Ideal) (φ := φ) (s := ⟨2, ![R, C]⟩) .add [1] ⟨1, ![R]⟩ (E f) acc h hφ hacc = W fun r => ∑ c ∈ Finset.range C, f r c := by
  funext i
  rw [Ideal.multiReduction_add_single]
  exact sum_fin C fun c => f (i 0).val c
/-- The host's column sums from zero. -/
theorem hcolsum_E (f : ℕ → ℕ → EReal) (h' : (⟨2, ![R, C]⟩ : Shape).ReducesTo [0] ⟨1, ![C]⟩) (h : (⟨2, ![R, C]⟩ : Shape).Reduces [0] ⟨1, ![C]⟩) (hu) :
    Host.reduceAdd (F := Ideal) (φ := .f32) (s := ⟨2, ![R, C]⟩) (E f) (constant (F := Ideal) ⟨0, ![]⟩ .f32 0x00000000#32) h' hu = W fun c => ∑ r ∈ Finset.range R, f r c := by
  funext i
  show Ideal.hostReduceAdd h' (E f) (Ideal.ofBits .f32 0x00000000#32) i = _
  rw [Ideal.hostReduceAdd_single h' h, Ideal.ofBits_zero_f32, zero_add]
  exact sum_fin R fun r => f r (i 0).val
/-- The host's row sums from zero. -/
theorem hrowsum_E (f : ℕ → ℕ → EReal) (h' : (⟨2, ![R, C]⟩ : Shape).ReducesTo [1] ⟨1, ![R]⟩) (h : (⟨2, ![R, C]⟩ : Shape).Reduces [1] ⟨1, ![R]⟩) (hu) :
    Host.reduceAdd (F := Ideal) (φ := .f32) (s := ⟨2, ![R, C]⟩) (E f) (constant (F := Ideal) ⟨0, ![]⟩ .f32 0x00000000#32) h' hu = W fun r => ∑ c ∈ Finset.range C, f r c := by
  funext i
  show Ideal.hostReduceAdd h' (E f) (Ideal.ofBits .f32 0x00000000#32) i = _
  rw [Ideal.hostReduceAdd_single h' h, Ideal.ofBits_zero_f32, zero_add]
  exact sum_fin C fun c => f (i 0).val c

/-! ## Re-indexings -/

/-- A vector as the one row of a matrix. -/
theorem shapeCastRow_E (f : ℕ → EReal) (h) : shapeCast (⟨2, ![1, C]⟩ : Shape) (W f : (⟨1, ![C]⟩ : Shape).Idx → EReal) h = E fun _ c => f c := by
  funext i; exact shapeCast_addUnit_apply ![C] _ h i
/-- A vector as the one column of a matrix. -/
theorem shapeCastCol_E (f : ℕ → EReal) (h) : shapeCast (⟨2, ![R, 1]⟩ : Shape) (W f : (⟨1, ![R]⟩ : Shape).Idx → EReal) h = E fun r _ => f r := by
  funext i
  obtain ⟨a, b, rfl⟩ : ∃ a b, i = ValueIdx.ix2 a b := ⟨_, _, (ix2_eta i).symm⟩
  exact ValueIdx.shapeCast_a_a1_apply _ h a b

/-- An index below `n` is zero where `n` is one. -/
theorem ite_one {n k : ℕ} (h : k < n) : (if n = 1 then 0 else k) = k := by split <;> omega

/-- A row spread over the rows. -/
theorem broadcastTo_E (f : ℕ → ℕ → EReal) (h) : broadcastTo (⟨2, ![R, C]⟩ : Shape) (E f : (⟨2, ![1, C]⟩ : Shape).Idx → EReal) h = E fun _ c => f 0 c := by
  funext i
  unfold broadcastTo E
  have h1 := idx2_lt1 i
  by_cases hC : C = 1
  · subst hC
    have : (i 1).val = 0 := by omega
    simp [this]
  · simp [hC]
/-- A column spread over the columns. -/
theorem broadcastToCol_E (f : ℕ → ℕ → EReal) (h) : broadcastTo (⟨2, ![R, C]⟩ : Shape) (E f : (⟨2, ![R, 1]⟩ : Shape).Idx → EReal) h = E fun r _ => f r 0 := by
  funext i
  unfold broadcastTo E
  have h1 := idx2_lt0 i
  by_cases hC : R = 1
  · subst hC
    have : (i 0).val = 0 := by omega
    simp [this]
  · simp [hC]
/-- The host's row spread over the rows. -/
theorem bidRow_E (f : ℕ → ℕ → EReal) (h) : broadcastInDim (s := ⟨2, ![1, C]⟩) (⟨2, ![R, C]⟩ : Shape) ![0, 1] h (E f : (⟨2, ![1, C]⟩ : Shape).Idx → EReal) = E fun _ c => f 0 c := by
  funext i
  refine broadcastInDim_apply _ h _ i (ValueIdx.ix2 0 (i 1)) fun a => ?_
  match a with
  | ⟨0, _⟩ => rfl
  | ⟨1, _⟩ => exact (ite_one (idx2_lt1 i)).symm
/-- The host's column spread over the columns. -/
theorem bidCol_E (f : ℕ → ℕ → EReal) (h) : broadcastInDim (s := ⟨2, ![R, 1]⟩) (⟨2, ![R, C]⟩ : Shape) ![0, 1] h (E f : (⟨2, ![R, 1]⟩ : Shape).Idx → EReal) = E fun r _ => f r 0 := by
  funext i
  refine broadcastInDim_apply _ h _ i (ValueIdx.ix2 (i 0) 0) fun a => ?_
  match a with
  | ⟨0, _⟩ => exact (ite_one (idx2_lt0 i)).symm
  | ⟨1, _⟩ => rfl
/-- The host's vector spread over the columns. -/
theorem bidVec_E (f : ℕ → EReal) (h) : broadcastInDim (s := ⟨1, ![R]⟩) (⟨2, ![R, C]⟩ : Shape) ![0] h (W f : (⟨1, ![R]⟩ : Shape).Idx → EReal) = E fun r _ => f r := by
  funext i
  refine broadcastInDim_apply _ h _ i (ValueIdx.ix1 (i 0)) fun a => ?_
  match a with
  | ⟨0, _⟩ => exact (ite_one (idx2_lt0 i)).symm

/-! ## Reading, laying over, setting one above another -/

/-- A block read through a rectangle. -/
theorem ld_E {R' C' : ℕ} (a b : ℕ) (inb) (f : ℕ → ℕ → EReal) :
    (fun x => (E f : (⟨2, ![R, C]⟩ : Shape).Idx → EReal) ((Rect.unit (s := ⟨2, ![R, C]⟩) ![a, b] ![R', C'] inb).idx x)) = E (R := R') (C := C') fun r c => f (a + r) (b + c) := by
  funext x
  exact congrArg₂ f (show a + 1 * (x 0).val = _ by omega) (show b + 1 * (x 1).val = _ by omega)

/-- The rows from `a` on. -/
theorem rows_E {R' : ℕ} (a : ℕ) (f : ℕ → ℕ → EReal) (e : (⟨2, ![R', C]⟩ : Shape).Idx → (⟨2, ![R, C]⟩ : Shape).Idx)
    (h0 : ∀ y, (e y 0).val = a + (y 0).val) (h1 : ∀ y, (e y 1).val = (y 1).val) :
    (fun y => (E f : (⟨2, ![R, C]⟩ : Shape).Idx → EReal) (e y)) = E fun r c => f (a + r) c := by
  funext y
  exact congrArg₂ f (h0 y) (h1 y)

/-- The whole matrix. -/
theorem all_E (f : ℕ → ℕ → EReal) (e : (⟨2, ![R, C]⟩ : Shape).Idx → (⟨2, ![R, C]⟩ : Shape).Idx)
    (h0 : ∀ y, (e y 0).val = (y 0).val) (h1 : ∀ y, (e y 1).val = (y 1).val) :
    (fun y => (E f : (⟨2, ![R, C]⟩ : Shape).Idx → EReal) (e y)) = E f := by
  funext y
  exact congrArg₂ f (h0 y) (h1 y)

/-- One row laid over a matrix. -/
theorem overlay_row_E (k : ℕ) (inb) (g h : ℕ → ℕ → EReal) :
    (Rect.unit (s := ⟨2, ![R, C]⟩) ![k, 0] ![1, C] inb).overlay (E g : (⟨2, ![R, C]⟩ : Shape).Idx → EReal) (E h : (⟨2, ![1, C]⟩ : Shape).Idx → EReal)
      = E fun r c => if r = k then h 0 c else g r c := by
  funext y
  by_cases hy : y ∈ (Rect.unit (s := ⟨2, ![R, C]⟩) ![k, 0] ![1, C] inb).set
  · obtain ⟨x, rfl⟩ : ∃ x, (Rect.unit (s := ⟨2, ![R, C]⟩) ![k, 0] ![1, C] inb).emb x = y := Cert.KernelIdeal.Mid.exists_emb _ hy
    rw [Rect.overlay_emb]
    have h0 : (x 0).val = 0 := by have := idx2_lt0 x; omega
    have e0 : (((Rect.unit (s := ⟨2, ![R, C]⟩) ![k, 0] ![1, C] inb).emb x) 0).val = k := by
      show k + 1 * (x 0).val = k
      omega
    have e1 : (((Rect.unit (s := ⟨2, ![R, C]⟩) ![k, 0] ![1, C] inb).emb x) 1).val = (x 1).val := by
      show 0 + 1 * (x 1).val = (x 1).val
      omega
    unfold E
    rw [e0, e1, h0]
    exact (if_pos rfl).symm
  · rw [Rect.overlay_of_not_mem _ _ _ hy]
    refine (if_neg fun hk : (y 0).val = k => hy ?_).symm
    rw [Rect.mem_set_unit]
    intro a
    have := idx2_lt1 y
    match a with
    | ⟨0, _⟩ => exact ⟨hk.ge, show (y 0).val < k + 1 by omega⟩
    | ⟨1, _⟩ => exact ⟨Nat.zero_le _, show (y 1).val < 0 + C by omega⟩

/-- Of matrices one above another, each with its height, the one a row falls in, at its own row. -/
def pick : List (ℕ × (ℕ → ℕ → EReal)) → ℕ → ℕ → EReal
  | [], _, _ => 0
  | (n, f) :: l, r, c => if r < n then f r c else pick l (r - n) c
/-- The pieces of a concatenation by rows. -/
def piece (C : ℕ) (p : ℕ × (ℕ → ℕ → EReal)) : (s : Shape) × (s.Idx → EReal) := ⟨⟨2, ![p.1, C]⟩, E p.2⟩

theorem catAt_E (j : (⟨2, ![R, C]⟩ : Shape).Idx) : ∀ (l : List (ℕ × (ℕ → ℕ → EReal))) (hs) (r : ℕ) (hr),
    concatenateAt (⟨2, ![R, C]⟩ : Shape) 0 j (l.map (piece C)) hs r hr = pick l r (j 1).val
  | [], _, _, hc => absurd hc (by simp)
  | [(n, f)], hs, r, hr => by
    have hn : r < n := by simpa [axisSizes, piece] using hr
    exact (concatenateAt_singleton (t := ⟨2, ![R, C]⟩) (0 : Fin 2) j (E f : (⟨2, ![n, C]⟩ : Shape).Idx → EReal) hs r hr).trans (if_pos hn).symm
  | (n, f) :: q :: l, hs, r, hr => by
    refine (concatenateAt_cons (t := ⟨2, ![R, C]⟩) (0 : Fin 2) j (E f : (⟨2, ![n, C]⟩ : Shape).Idx → EReal) (piece C q) (l.map (piece C)) hs r hr).trans ?_
    by_cases hn : r < n
    · exact (dif_pos hn).trans (if_pos hn).symm
    · exact ((dif_neg hn).trans (catAt_E j (q :: l) _ _ _)).trans (if_neg hn).symm

/-- Matrices one above another. -/
theorem cat_E (l : List (ℕ × (ℕ → ℕ → EReal))) (h) : concatenate (⟨2, ![R, C]⟩ : Shape) 0 (l.map (piece C)) h = E (pick l) := by
  funext j
  rw [concatenate_apply]
  exact catAt_E j l _ _ _

end Cert.Ext
end
-- ==== Proof.Rest.Norm.lean ====
module

public import proofs.«01_k».proof.Proof.Rest.C3
public import proofs.«01_k».proof.Proof.Rest.Ext
public import proofs.«01_k».proof.Proof.Gen.Kernel3Ideal

@[expose] public section

set_option maxRecDepth 16384

/-!
# The gradient of the normalisation

What the normalisation's gradient is, over the extended real numbers, what the reference makes of the gradient at the rows, and
what the kernel's values are over a tile.
-/

noncomputable section

namespace Cert.Norm

open Idealize.ShloMosaic Idealize.ShloMosaic.ValueIdx Cert.Ext
open scoped BigOperators

/-! ## The specification -/

/-- The inputs: the gradient arriving, the rows, the gradient beside, the modulation and the weights. -/
structure In where
  d : ℕ → ℕ → EReal
  x : ℕ → ℕ → EReal
  o : ℕ → ℕ → EReal
  md : ℕ → ℕ → EReal
  nw : ℕ → ℕ → EReal

/-- The number added to the mean of the squares. -/
def eps : ℝ := 8796093 / 8796093022208
/-- The number of columns. -/
def cols : ℝ := 1024

variable (x : ℕ → ℕ → EReal) (I : In)

/-- The mean of a row's squares, and the number added. -/
def ms (r : ℕ) : EReal := Ideal.div (∑ c ∈ Finset.range 1024, x r c * x r c) (cols : EReal) + (eps : EReal)
/-- One over the root of it. -/
def rs (r : ℕ) : EReal := Ideal.rsqrt (ms x r)
/-- The normalised row. -/
def xh (r c : ℕ) : EReal := x r c * rs x r
/-- One and the scale. -/
def sc (c : ℕ) : EReal := ((1 : ℝ) : EReal) + I.md 0 (1024 + c)
/-- The gradient at the normalised row. -/
def g (r c : ℕ) : EReal := I.d r c * sc I c * I.nw 0 c
/-- The gradient at the row, the gradient beside added. -/
def gx (r c : ℕ) : EReal := I.o r c + rs I.x r * (g I r c - xh I.x r c * Ideal.div (∑ k ∈ Finset.range 1024, g I r k * xh I.x r k) (cols : EReal))
/-- A row's part in the gradient of the shift, the scale and the weights. -/
def part (k r c : ℕ) : EReal :=
  if k = 0 then I.d r c else if k = 1 then I.d r c * (xh I.x r c * I.nw 0 c) else if k = 2 then I.d r c * sc I c * xh I.x r c else 0
/-- The three gradients over the first `n` rows, in the first three of eight rows. -/
def st (n k c : ℕ) : EReal := ∑ r ∈ Finset.range n, part I k r c

/-- The first `n + k` rows are the first `n` and the next `k`. -/
theorem st_add (n l k c : ℕ) : st I (n + l) k c = st I n k c + ∑ r ∈ Finset.range l, part I k (n + r) c := by
  unfold st
  exact Finset.sum_range_add _ _ _

/-! ## The reference's gradient at the rows -/

theorem eps_pos : 0 < eps := by unfold eps; norm_num
theorem cols_ne : cols ≠ 0 := by unfold cols; norm_num

/-- A square is not negative. -/
theorem sq_nonneg' : ∀ a : EReal, 0 ≤ a * a
  | ⊥ => by simp
  | ⊤ => by simp
  | (a : ℝ) => by rw [← EReal.coe_mul]; exact EReal.coe_nonneg.mpr (mul_self_nonneg a)

/-- The mean of the squares with the number added is infinite, or a positive number. -/
theorem ms_cases (r : ℕ) : ms x r = ⊤ ∨ ∃ y : ℝ, 0 < y ∧ ms x r = (y : EReal) := by
  have h : (0 : EReal) ≤ Ideal.div (∑ c ∈ Finset.range 1024, x r c * x r c) (cols : EReal) := by
    rw [Ideal.div_coe cols_ne]
    exact mul_nonneg (Finset.sum_nonneg fun c _ => sq_nonneg' _) (EReal.coe_nonneg.mpr (by unfold cols; norm_num))
  have h' : (eps : EReal) ≤ ms x r := (zero_add (eps : EReal)).symm.le.trans (add_le_add_left h _)
  induction hm : ms x r using EReal.rec with
  | bot => rw [hm] at h'; exact absurd h' (not_le.mpr (EReal.bot_lt_coe _))
  | top => exact Or.inl rfl
  | coe y => rw [hm] at h'; exact Or.inr ⟨y, eps_pos.trans_le (EReal.coe_le_coe_iff.mp h'), rfl⟩

/-- A sum times a number that is not negative. -/
theorem sum_mul' {s : ℝ} (hs : 0 ≤ s) (n : ℕ) (f : ℕ → EReal) : (∑ k ∈ Finset.range n, f k * (s : EReal)) = (∑ k ∈ Finset.range n, f k) * (s : EReal) := by
  induction n with
  | zero => simp
  | succ n ih =>
    rw [Finset.sum_range_succ, Finset.sum_range_succ, ih, mul_comm _ (s : EReal), mul_comm _ (s : EReal), mul_comm _ (s : EReal)]
    exact (EReal.left_distrib_of_nonneg_of_ne_top (EReal.coe_nonneg.mpr hs) (EReal.coe_ne_top s) _ _).symm

/-- The gradient through the mean, as the reference computes it. -/
def thr (r : ℕ) : EReal := Ideal.div ((∑ k ∈ Finset.range 1024, I.x r k * g I r k) * (((-1 / 2 : ℝ) : EReal) * Ideal.div (rs I.x r) (ms I.x r))) (cols : EReal)

/-- The reference's gradient at the rows is the specification's. -/
theorem gx_ref (r c : ℕ) : I.o r c + (g I r c * rs I.x r + I.x r c * thr I r + thr I r * I.x r c) = gx I r c := by
  unfold gx
  congr 1
  unfold thr xh rs
  rcases ms_cases I.x r with h | ⟨y, hy, h⟩
  · rw [h, Ideal.rsqrt_top, Ideal.div_coe cols_ne, Ideal.div_coe cols_ne]
    have h0 : Ideal.div 0 ⊤ = 0 := by simp [Ideal.div]
    rw [h0]
    simp
  · have hr : Ideal.rsqrt (y : EReal) = (((Real.sqrt y)⁻¹ : ℝ) : EReal) := by rw [Ideal.rsqrt_coe, if_neg (not_lt.mpr hy.le), if_neg hy.ne']
    rw [h, hr, Ideal.div_coe cols_ne, Ideal.div_coe cols_ne, Ideal.div_coe hy.ne']
    have hq : (Real.sqrt y)⁻¹ * (Real.sqrt y)⁻¹ = 1 / y := by rw [← mul_inv, Real.mul_self_sqrt hy.le, one_div]
    have hs : (0 : ℝ) ≤ (Real.sqrt y)⁻¹ := inv_nonneg.mpr (Real.sqrt_nonneg y)
    rw [← hq]
    generalize (Real.sqrt y)⁻¹ = s at hs
    have hT : (∑ k ∈ Finset.range 1024, g I r k * (I.x r k * (s : EReal))) = (∑ k ∈ Finset.range 1024, I.x r k * g I r k) * (s : EReal) := by
      rw [← sum_mul' hs]
      exact Finset.sum_congr rfl fun k _ => by rw [← mul_assoc, mul_comm (g I r k)]
    rw [hT, sub_eq_add_neg, EReal.left_distrib_of_nonneg_of_ne_top (EReal.coe_nonneg.mpr hs) (EReal.coe_ne_top s), add_assoc, mul_comm (g I r c)]
    congr 1
    generalize (∑ k ∈ Finset.range 1024, I.x r k * g I r k) = T
    generalize I.x r c = z
    have e1 : z * (T * (((-1 / 2 : ℝ) : EReal) * ((s : EReal) * ((s * s : ℝ) : EReal))) * ((1 / cols : ℝ) : EReal)) = (z * T) * ((-1 / 2 * (s * (s * s)) * (1 / cols) : ℝ) : EReal) := by
      simp only [EReal.coe_mul]
      ac_rfl
    have e2 : (s : EReal) * -(z * (s : EReal) * (T * (s : EReal) * ((1 / cols : ℝ) : EReal))) = (z * T) * ((-(s * s * s * (1 / cols)) : ℝ) : EReal) := by
      rw [EReal.coe_neg, mul_neg, mul_neg]
      simp only [EReal.coe_mul]
      congr 1
      ac_rfl
    rw [mul_comm _ z, e1, e2]
    have e3 : ((-(s * s * s * (1 / cols)) : ℝ) : EReal) = ((2 : ℝ) : EReal) * ((-1 / 2 * (s * (s * s)) * (1 / cols) : ℝ) : EReal) := by
      rw [← EReal.coe_mul]; congr 1; ring
    have e4 : ((2 : ℝ) : EReal) = 1 + 1 := by rw [← EReal.coe_one, ← EReal.coe_add]; congr 1; norm_num
    rw [e3, e4]
    generalize ((-1 / 2 * (s * (s * s)) * (1 / cols) : ℝ) : EReal) = q
    generalize z * T = w
    rw [mul_left_comm, EReal.right_distrib_of_nonneg zero_le_one zero_le_one, one_mul]

/-! ## Constants -/

theorem weps : Ideal.ofBits .f32 0x358637BD#32 = (eps : EReal) := by
  unfold eps
  simp [Ideal.ofBits, Ideal.ieee, -EReal.coe_mul]; norm_num
theorem wmhalf : Ideal.ofBits .f32 0xBF000000#32 = ((-1 / 2 : ℝ) : EReal) := by
  simp [Ideal.ofBits, Ideal.ieee, -EReal.coe_mul]; norm_num
theorem wcols : Ideal.ofBits .f32 0x44800000#32 = (cols : EReal) := Lift.w1024

/-! ## The kernel's values over a tile -/

section Pay
open Cert.Kernel3Ideal Cert.Kernel3Ideal.Gen Cert.KernelIdeal.Mid

variable (x d o nw md : ℕ → ℕ → EReal)

/-- The column sums as the kernel body states them. -/
theorem colsum (f : ℕ → ℕ → EReal) (h : (⟨2, ![512, 1024]⟩ : Shape).Reduces [0] S1024) (hφ : FTy.f32 = .f32 ∨ FTy.f32 = .bf16) (hacc : (0#32 : BitVec 32) = 0#32) :
    multiReduction (F := Ideal) (φ := .f32) (s := ⟨2, ![512, 1024]⟩) .add [0] S1024 (E f) 0x00000000#32 h hφ hacc = W fun c => ∑ r ∈ Finset.range 512, f r c :=
  colsum_E f _ _ _ _
/-- The row sums as the kernel body states them. -/
theorem rowsum (f : ℕ → ℕ → EReal) (h : (⟨2, ![512, 1024]⟩ : Shape).Reduces [1] S512) (hφ : FTy.f32 = .f32 ∨ FTy.f32 = .bf16) (hacc : (0#32 : BitVec 32) = 0#32) :
    multiReduction (F := Ideal) (φ := .f32) (s := ⟨2, ![512, 1024]⟩) .add [1] S512 (E f) 0x00000000#32 h hφ hacc = W fun r => ∑ c ∈ Finset.range 1024, f r c :=
  rowsum_E f _ _ _ _

theorem p4 : k0_pay4 (F := Ideal) = E fun _ _ => 0 := bc_E Ideal.ofBits_zero_f32

theorem p6 : k0_pay6 (F := Ideal) (E x) = E fun r _ => rs x r := by
  unfold k0_pay6
  dsimp only
  rw [mulf_E, rowsum, shapeCastCol_E, bc_E wcols, bc_E weps, divf_E, addf_E]
  rfl

theorem p7 : k0_pay7 (F := Ideal) (E x) = E (xh x) := by
  unfold k0_pay7
  dsimp only
  rw [p6, broadcastToCol_E, mulf_E]
  rfl

theorem p8 : k0_pay8 (F := Ideal) (E d) (E md) = E fun r c => d r c * (((1 : ℝ) : EReal) + md 0 c) := by
  unfold k0_pay8 k0_pay5
  dsimp only
  rw [bc_E Lift.w1, addf_E, broadcastTo_E, extf_E, mulf_E]

theorem p9 : k0_pay9 (F := Ideal) (E d) (E md) (E nw) (E x) (E o) = E fun r c => o r c + rs x r * (d r c * (((1 : ℝ) : EReal) + md 0 c) * nw 0 c
    - xh x r c * Ideal.div (∑ k ∈ Finset.range 1024, d r k * (((1 : ℝ) : EReal) + md 0 k) * nw 0 k * xh x r k) (cols : EReal)) := by
  unfold k0_pay9
  dsimp only
  rw [p8, p7, p6, broadcastTo_E, mulf_E, mulf_E, rowsum, shapeCastCol_E, bc_E wcols, divf_E, broadcastToCol_E,
    broadcastToCol_E, mulf_E, subf_E, mulf_E, extf_E, addf_E]

variable (a y : ℕ → ℕ → EReal)

theorem p1 : k0_pay1 (F := Ideal) (E d) (E a) = E fun _ c => a 0 c + ∑ r ∈ Finset.range 512, d r c := by
  unfold k0_pay1
  dsimp only
  rw [Lift.shapeCast_same, colsum, shapeCastRow_E, addf_E]
  exact E_congr fun r c hr _ => by rw [show r = 0 by omega]

theorem p2 : k0_pay2 (F := Ideal) (E d) (E nw) (E y) (E a) = E fun _ c => a 0 c + ∑ r ∈ Finset.range 512, d r c * (y r c * nw 0 c) := by
  unfold k0_pay2
  dsimp only
  rw [Lift.shapeCast_same, broadcastTo_E, mulf_E, mulf_E, colsum, shapeCastRow_E, addf_E]
  exact E_congr fun r c hr _ => by rw [show r = 0 by omega]

theorem p3 : k0_pay3 (F := Ideal) (E y) (E d) (E a) = E fun _ c => a 0 c + ∑ r ∈ Finset.range 512, d r c * y r c := by
  unfold k0_pay3
  dsimp only
  rw [Lift.shapeCast_same, mulf_E, colsum, shapeCastRow_E, addf_E]
  exact E_congr fun r c hr _ => by rw [show r = 0 by omega]

end Pay

end Cert.Norm
end
-- ==== Proof.Rest.NormRef.lean ====
module

public import proofs.«01_k».proof.Proof.Rest.Norm
public import proofs.«01_k».proof.Proof.Gen.Reference3Ideal

@[expose] public section

set_option maxRecDepth 16384

/-!
# The reference's gradient of the normalisation
-/

noncomputable section

namespace Cert.Reference3Ideal.Val

open Cert.Reference3Ideal Cert.Reference3Ideal.Gen Cert.Reference3Ideal.Read Idealize.ShloMosaic Cert.Ext Cert.Norm
open scoped BigOperators

variable (I : Norm.In)

/-- The mean of the squares. -/
theorem v8 : val_main_v8 (F := Ideal) (E I.x : S8192x1024.Idx → EReal) = (E (fun r _ => ms I.x r) : S8192x1.Idx → EReal) := by
  unfold val_main_v8 val_main_v6 val_main_v4 val_main_v3 val_main_v2 val_main_cst val_main_v5 val_main_cst_0 val_main_v7 val_main_cst_1
  rw [mulf_E, hrowsum_E _ _ (by decide), bidVec_E, bid_E wcols, bid_E weps, hdivf_E, addf_E]
  rfl

/-- One over its root. -/
theorem v9 : val_main_v9 (F := Ideal) (E I.x : S8192x1024.Idx → EReal) = (E (fun r _ => rs I.x r) : S8192x1.Idx → EReal) := by
  unfold val_main_v9
  rw [v8]
  rfl

/-- The derivative of one over the root. -/
theorem v12 : val_main_v12 (F := Ideal) (E I.x : S8192x1024.Idx → EReal) = (E (fun r _ => ((-1 / 2 : ℝ) : EReal) * Ideal.div (rs I.x r) (ms I.x r)) : S8192x1.Idx → EReal) := by
  unfold val_main_v12 val_main_v11 val_main_cst_2 val_main_v10
  rw [v8, v9, bid_E wmhalf, hdivf_E, mulf_E]

/-- The normalised rows. -/
theorem v14 : val_main_v14 (F := Ideal) (E I.x : S8192x1024.Idx → EReal) = (E (xh I.x) : S8192x1024.Idx → EReal) := by
  unfold val_main_v14 val_main_v13
  rw [v9, bidCol_E, mulf_E]
  rfl

/-- One and the scale. -/
theorem v18 : val_main_v18 (F := Ideal) (E I.md : S1x3072.Idx → EReal) = (E (fun _ c => sc I c) : S1x1024.Idx → EReal) := by
  unfold val_main_v18 val_main_v17 val_main_cst_3 val_main_v1
  rw [slice_E, bid_E Lift.w1, addf_E]
  exact E_congr fun r c hr _ => by rw [show r = 0 by omega]; rfl

/-- The gradient at the weighted rows. -/
theorem v30 : val_main_v30 (F := Ideal) (E I.d : S8192x1024.Idx → EReal) (E I.md : S1x3072.Idx → EReal) = (E (fun r c => I.d r c * sc I c) : S8192x1024.Idx → EReal) := by
  unfold val_main_v30 val_main_v29 val_main_v23
  rw [v18, bidRow_E, extf_E, mulf_E]

/-- The gradient at the normalised rows. -/
theorem v35 : val_main_v35 (F := Ideal) (E I.d : S8192x1024.Idx → EReal) (E I.md : S1x3072.Idx → EReal) (E I.nw : S1x1024.Idx → EReal) = (E (g I) : S8192x1024.Idx → EReal) := by
  unfold val_main_v35 val_main_v34
  rw [v30, bidRow_E, mulf_E]
  rfl

/-- The gradient through the mean. -/
theorem v45 : val_main_v45 (F := Ideal) (E I.d : S8192x1024.Idx → EReal) (E I.x : S8192x1024.Idx → EReal) (E I.md : S1x3072.Idx → EReal) (E I.nw : S1x1024.Idx → EReal) = (E (fun r _ => thr I r) : S8192x1024.Idx → EReal) := by
  unfold val_main_v45 val_main_v44 val_main_v43 val_main_v41 val_main_v38 val_main_v37 val_main_v36 val_main_v42 val_main_cst_7 val_main_cst_8 val_main_cst_9
  rw [v35, v12, mulf_E, hrowsum_E _ _ (by decide), shapeCastCol_E, mulf_E, bid_E wcols, hdivf_E, hrowsum_E _ _ (by decide), bidVec_E]
  exact E_congr fun r c _ _ => by simp only [Finset.sum_range_one]; rfl

/-- The gradient at the rows. -/
theorem v51 : val_main_v51 (F := Ideal) (E I.d : S8192x1024.Idx → EReal) (E I.x : S8192x1024.Idx → EReal) (E I.o : S8192x1024.Idx → EReal) (E I.md : S1x3072.Idx → EReal) (E I.nw : S1x1024.Idx → EReal) = (E (gx I) : S8192x1024.Idx → EReal) := by
  unfold val_main_v51 val_main_v50 val_main_v49 val_main_v48 val_main_v47 val_main_v46 val_main_v40 val_main_v39
  rw [v45, v35, v9, bidCol_E, mulf_E, mulf_E, mulf_E, addf_E, addf_E, extf_E, addf_E]
  exact E_congr fun r c _ _ => gx_ref I r c

/-- The gradient of the shift. -/
theorem v25 : val_main_v25 (F := Ideal) (E I.d : S8192x1024.Idx → EReal) = (E (fun _ c => st I 8192 0 c) : S1x1024.Idx → EReal) := by
  unfold val_main_v25 val_main_v24 val_main_v23 val_main_cst_4
  rw [extf_E, hcolsum_E _ _ (by decide), shapeCastRow_E]
  rfl

/-- The gradient of the scale. -/
theorem v28 : val_main_v28 (F := Ideal) (E I.d : S8192x1024.Idx → EReal) (E I.x : S8192x1024.Idx → EReal) (E I.nw : S1x1024.Idx → EReal) = (E (fun _ c => st I 8192 1 c) : S1x1024.Idx → EReal) := by
  unfold val_main_v28 val_main_v27 val_main_v26 val_main_v23 val_main_v16 val_main_v15 val_main_cst_5
  rw [v14, bidRow_E, mulf_E, extf_E, mulf_E, hcolsum_E _ _ (by decide), shapeCastRow_E]
  exact E_congr fun r c _ _ => Finset.sum_congr rfl fun k _ => mul_comm _ _

/-- The gradient of the weights. -/
theorem v33 : val_main_v33 (F := Ideal) (E I.d : S8192x1024.Idx → EReal) (E I.x : S8192x1024.Idx → EReal) (E I.md : S1x3072.Idx → EReal) = (E (fun _ c => st I 8192 2 c) : S1x1024.Idx → EReal) := by
  unfold val_main_v33 val_main_v32 val_main_v31 val_main_cst_6
  rw [v14, v30, mulf_E, hcolsum_E _ _ (by decide), shapeCastRow_E]
  exact E_congr fun r c _ _ => Finset.sum_congr rfl fun k _ => mul_comm _ _

/-- The gradients of the vectors. -/
theorem v53 : val_main_v53 (F := Ideal) (E I.d : S8192x1024.Idx → EReal) (E I.x : S8192x1024.Idx → EReal) (E I.md : S1x3072.Idx → EReal) (E I.nw : S1x1024.Idx → EReal) = (E (st I 8192) : S8x1024.Idx → EReal) := by
  unfold val_main_v53 val_main_v52 val_main_cst_10
  rw [v25, v28, v33, bid_E Ideal.ofBits_zero_f32]
  refine (cat_E (R := 8) (C := 1024) [(1, fun _ c => st I 8192 0 c), (1, fun _ c => st I 8192 1 c), (1, fun _ c => st I 8192 2 c), (5, fun _ _ => 0)] concatenates_S1x1024_S1x1024_S1x1024_S5x1024_S8x1024_d0).trans ?_
  refine E_congr fun r c hr _ => ?_
  have hz : ∀ r, 3 ≤ r → st I 8192 r c = 0 := fun r h => Finset.sum_eq_zero fun k _ => by
    unfold part; rw [if_neg (by omega), if_neg (by omega), if_neg (by omega)]
  simp only [pick]
  split_ifs with h0 h1 h2
  · rw [show r = 0 by omega]
  · rw [show r = 1 by omega]
  · rw [show r = 2 by omega]
  all_goals exact (hz r (by omega)).symm

end Cert.Reference3Ideal.Val
end
-- ==== Proof.Rest.K3.lean ====
module

public import proofs.«01_k».proof.Proof.Rest.NormRef
public import proofs.«01_k».proof.Proof.Rest.Prod
public import Idealize.ShloMosaic.Lib.Pipeline.ValueKit
public import proofs.«01_k».proof.Defs
public import Idealize.ShloMosaic.Lib.Pipeline.ReadBack

@[expose] public section

set_option maxRecDepth 16384

/-!
# The kernel of the normalisation's gradient

Every point leaves its rows of the gradient and adds its rows' part to the three gradients of vectors.
-/

noncomputable section

namespace Cert.Kernel3Ideal.Val

open Cert.Kernel3Ideal Cert.Kernel3Ideal.Gen Idealize.ShloMosaic Idealize.ShloMosaic.TcCoe
open Idealize.SL.Sem
open Cert.Ext Cert.Norm
open Cert.KernelIdeal.Mid (ld_whole readCov_whole readCov_row_skip read_writes_overlay)
open Cert.Prod (read_stored overlay_all)

variable (m : (ℓ : Loc nD τ sig) → Buf (Elt Ideal) ℓ) (c : Dev nD) (I : Norm.In) (b : ℕ) (t : Fin cfg0.N)

/-- The tile's input blocks are the rows from `b` on of the inputs. -/
structure Blocks : Prop where
  x0 : iblk m c 0 t = (E (sh b I.d) : S512x1024.Idx → EReal)
  x1 : iblk m c 1 t = (E (sh b I.x) : S512x1024.Idx → EReal)
  x2 : iblk m c 2 t = (E (sh b I.o) : S512x1024.Idx → EReal)
  x3 : iblk m c 3 t = (E I.md : S1x3072.Idx → EReal)
  x4 : iblk m c 4 t = (E I.nw : S1x1024.Idx → EReal)

/-- Three rows of partial sums laid over the sums so far are the sums with the tile taken in. -/
theorem rows_st (g : ℕ → ℕ → EReal) (hg : ∀ r c, g r c = st I b r c) :
    (E (fun r c => if r = 2 then g 2 c + ∑ k ∈ Finset.range 512, part I 2 (b + k) c else if r = 1 then g 1 c + ∑ k ∈ Finset.range 512, part I 1 (b + k) c
      else if r = 0 then g 0 c + ∑ k ∈ Finset.range 512, part I 0 (b + k) c else g r c) : S8x1024.Idx → EReal) = E (st I (b + 512)) := by
  refine E_congr fun r c _ _ => ?_
  rw [st_add, ← hg]
  split_ifs with h2 h1 h0
  · rw [h2]
  · rw [h1]
  · rw [h0]
  · rw [Finset.sum_eq_zero fun k _ => by unfold part; rw [if_neg h0, if_neg h1, if_neg h2], add_zero]

variable {m c I b t}

theorem ldRow {k : ℕ} (inb) (f : ℕ → ℕ → EReal) :
    View.ld (Val := Elt Ideal) (S := S8x1024) (e' := .f32) (E f : S8x1024.Idx → EReal) (Rect.unit ![k, 0] ![1, 1024] inb) = (E (fun r c => f (k + r) (0 + c)) : S1x1024.Idx → EReal) :=
  ld_E k 0 inb f
theorem ldMod (inb) (f : ℕ → ℕ → EReal) :
    View.ld (Val := Elt Ideal) (S := S1x3072) (e' := .f32) (E f : S1x3072.Idx → EReal) (Rect.unit ![0, 1024] ![1, 1024] inb) = (E (fun r c => f (0 + r) (1024 + c)) : S1x1024.Idx → EReal) :=
  ld_E 0 1024 inb f

/-- Before any row the sums are zero. -/
theorem zero_st : k0_pay4 (F := Ideal) = (E (st I 0) : S8x1024.Idx → EReal) := p4

variable (b) in
/-- What a point stores over the sums so far. -/
theorem stores (inb0 inb1 inb2 inb3) (Y : S512x1024.Idx → EReal) :
    ((Rect.unit (s := S512x1024) ![0, 0] ![512, 1024] inb3).overlay Y (k0_pay9 (F := Ideal) (E (sh b I.d)) (E fun r c => I.md (0 + r) (1024 + c)) (E I.nw) (E (sh b I.x)) (E (sh b I.o))),
      (Rect.unit (s := S8x1024) ![2, 0] ![1, 1024] inb2).overlay
        ((Rect.unit (s := S8x1024) ![1, 0] ![1, 1024] inb1).overlay
          ((Rect.unit (s := S8x1024) ![0, 0] ![1, 1024] inb0).overlay (E (st I b) : S8x1024.Idx → EReal)
            (k0_pay1 (F := Ideal) (k0_pay5 (E (sh b I.d))) (E fun r c => st I b (0 + r) (0 + c))))
          (k0_pay2 (F := Ideal) (k0_pay5 (E (sh b I.d))) (E I.nw) (k0_pay7 (E (sh b I.x))) (E fun r c => st I b (1 + r) (0 + c))))
        (k0_pay3 (F := Ideal) (k0_pay7 (E (sh b I.x))) (k0_pay8 (E (sh b I.d)) (E fun r c => I.md (0 + r) (1024 + c))) (E fun r c => st I b (2 + r) (0 + c))))
      = ((E (sh b (gx I)) : S512x1024.Idx → EReal), (E (st I (b + 512)) : S8x1024.Idx → EReal)) := by
  have h9 := p9 (sh b I.x) (sh b I.d) (sh b I.o) I.nw fun r c => I.md (0 + r) (1024 + c)
  rw [h9, overlay_all (R := 512) (C := 1024) (e := .f32)]
  refine congrArg₂ Prod.mk (E_congr fun r c _ _ => ?_) ?_
  · simp only [gx, g, xh, rs, ms, sc, sh, Nat.zero_add]
  have h5 : k0_pay5 (F := Ideal) (E (sh b I.d)) = E (sh b I.d) := extf_E _ _
  rw [h5, p7, p8, p1, p2, p3, overlay_row_E 0, overlay_row_E 1, overlay_row_E 2]
  refine Eq.trans (E_congr fun r c _ _ => ?_) (rows_st I b (st I b) fun _ _ => rfl)
  simp only [Nat.zero_add, Nat.add_zero]
  rfl

/-- The stores of the first point. -/
theorem outA (h : Blocks m c I 0 t) (h0 : t.val % 16 = 0) :
    outsAt0 m c t.val t.isLt = ((E (sh 0 (gx I)) : S512x1024.Idx → EReal), (E (st I (0 + 512)) : S8x1024.Idx → EReal)) := by
  rw [outsAt0_A m c t h0]
  unfold out0_A_5 out0_A_6 kernelRun0_A
  dsimp only
  simp (disch := decide) only [kernelRun0_A.sl.r_4, kernelRun0_A.sl.r_3, kernelRun0_A.sl.r_2, kernelRun0_A.sl.r_1, kernelRun0_A.sl.r, kernelRun0_A.sl.v53, kernelRun0_A.sl.v44, kernelRun0_A.sl.v38,
    kernelRun0_A.sl.H6_3, kernelRun0_A.sl.H6_2, kernelRun0_A.sl.H6_1, View.readAt_eq_ld, Memref.IsWhole.read_unread, ld_whole, readCov_whole, readCov_row_skip, read_writes_overlay]
  simp only [h.x0, h.x1, h.x2, h.x3, h.x4, zero_st (I := I), ldMod, ldRow]
  rw [overlay_all (R := 8) (C := 1024) (e := .f32)]
  exact stores 0 _ _ _ _ _

/-- The stores of a later point. -/
theorem outB (h : Blocks m c I b t) (h0 : ¬t.val % 16 = 0) (hp : (outsAt0 m c (t.val - 1) (Nat.lt_of_le_of_lt (Nat.sub_le _ _) t.isLt)).2 = (E (st I b) : S8x1024.Idx → EReal)) :
    outsAt0 m c t.val t.isLt = ((E (sh b (gx I)) : S512x1024.Idx → EReal), (E (st I (b + 512)) : S8x1024.Idx → EReal)) := by
  rw [outsAt0_B m c t h0, hp]
  unfold out0_B_5 out0_B_6 kernelRun0_B
  dsimp only
  simp (disch := decide) only [kernelRun0_B.sl.r_4, kernelRun0_B.sl.r_3, kernelRun0_B.sl.r_2, kernelRun0_B.sl.r_1, kernelRun0_B.sl.r, kernelRun0_B.sl.v53, kernelRun0_B.sl.v44,
    View.readAt_eq_ld, Memref.IsWhole.read_unread, ld_whole, read_writes_overlay, View.writes_nil, h.x0, h.x1, h.x2, h.x3, h.x4, ldMod, ldRow]
  exact stores b _ _ _ _ _

/-! ## From the arguments to the results -/

variable (m c I) in
/-- The memory holds the inputs `I` in the arguments. -/
structure Mem : Prop where
  a0 : m ((c : Thread nD τ).loc main_arg0) = (E I.d : S8192x1024.Idx → EReal)
  a1 : m ((c : Thread nD τ).loc main_arg1) = (E I.x : S8192x1024.Idx → EReal)
  a2 : m ((c : Thread nD τ).loc main_arg2) = (E I.o : S8192x1024.Idx → EReal)
  a3 : m ((c : Thread nD τ).loc main_arg3) = (E I.md : S1x3072.Idx → EReal)
  a4 : m ((c : Thread nD τ).loc main_arg4) = (E I.nw : S1x1024.Idx → EReal)

/-- The blocks a point reads. -/
theorem blocks (A : Mem m c I) (t : Fin cfg0.N) : Blocks m c I (512 * t.val) t := by
  have hi : ∀ t : Fin cfg0.N, (win0_0.index t 0 * win0_0.size 0 = 512 * t.val ∧ win0_0.index t 1 = 0) ∧ (win0_1.index t 0 * win0_1.size 0 = 512 * t.val ∧ win0_1.index t 1 = 0)
      ∧ (win0_2.index t 0 * win0_2.size 0 = 512 * t.val ∧ win0_2.index t 1 = 0) ∧ (win0_3.index t 0 = 0 ∧ win0_3.index t 1 = 0) ∧ (win0_4.index t 0 = 0 ∧ win0_4.index t 1 = 0) := by decide +kernel
  obtain ⟨h0, h1, h2, h3, h4⟩ := hi t
  have e0 : iblk m c 0 t = fun y => (V m c main_arg0 : S8192x1024.Idx → EReal) ((win0_0.rect t).emb y) := rfl
  have e1 : iblk m c 1 t = fun y => (V m c main_arg1 : S8192x1024.Idx → EReal) ((win0_1.rect t).emb y) := rfl
  have e2 : iblk m c 2 t = fun y => (V m c main_arg2 : S8192x1024.Idx → EReal) ((win0_2.rect t).emb y) := rfl
  have e3 : iblk m c 3 t = fun y => (V m c main_arg3 : S1x3072.Idx → EReal) ((win0_3.rect t).emb y) := rfl
  have e4 : iblk m c 4 t = fun y => (V m c main_arg4 : S1x1024.Idx → EReal) ((win0_4.rect t).emb y) := rfl
  rw [V_main_arg0, A.a0] at e0
  rw [V_main_arg1, A.a1] at e1
  rw [V_main_arg2, A.a2] at e2
  rw [V_main_arg3, A.a3] at e3
  rw [V_main_arg4, A.a4] at e4
  refine ⟨e0.trans ?_, e1.trans ?_, e2.trans ?_, e3.trans ?_, e4.trans ?_⟩
  · exact rows_E (R := 8192) (R' := 512) (C := 1024) _ _ _ (fun y => (win0_0.rect_emb_val t y 0).trans (by rw [h0.1])) (win0_0.rect_emb_val_of_index_zero t 1 h0.2)
  · exact rows_E (R := 8192) (R' := 512) (C := 1024) _ _ _ (fun y => (win0_1.rect_emb_val t y 0).trans (by rw [h1.1])) (win0_1.rect_emb_val_of_index_zero t 1 h1.2)
  · exact rows_E (R := 8192) (R' := 512) (C := 1024) _ _ _ (fun y => (win0_2.rect_emb_val t y 0).trans (by rw [h2.1])) (win0_2.rect_emb_val_of_index_zero t 1 h2.2)
  · exact all_E (R := 1) (C := 3072) _ _ (win0_3.rect_emb_val_of_index_zero t 0 h3.1) (win0_3.rect_emb_val_of_index_zero t 1 h3.2)
  · exact all_E (R := 1) (C := 1024) _ _ (win0_4.rect_emb_val_of_index_zero t 0 h4.1) (win0_4.rect_emb_val_of_index_zero t 1 h4.2)

/-- What every point leaves: its rows of the gradient, and the sums with its rows taken in. -/
theorem after (A : Mem m c I) (n : ℕ) (hn : n < cfg0.N) :
    outsAt0 m c n hn = ((E (sh (512 * n) (gx I)) : S512x1024.Idx → EReal), (E (st I (512 * n + 512)) : S8x1024.Idx → EReal)) := by
  have hN : cfg0.N = 16 := N_0
  induction n with
  | zero => exact outA (t := ⟨0, hn⟩) (blocks A ⟨0, hn⟩) rfl
  | succ n ih => exact outB (t := ⟨n + 1, hn⟩) (blocks A ⟨n + 1, hn⟩) (show ¬(n + 1) % 16 = 0 by omega) (congrArg Prod.snd (ih (Nat.lt_of_succ_lt hn)))

theorem arr5 (A : Mem m c I) : (dats m 0 c).arrAt 5 cfg0.N = (E (gx I) : S8192x1024.Idx → EReal) := by
  have hi : ∀ t : Fin cfg0.N, win0_5.index t 0 * win0_5.size 0 = 512 * t.val ∧ win0_5.index t 1 = 0 := by decide +kernel
  refine (dats m 0 c).arrAt_eq_of_covers 5 _ (by decide +kernel) fun t _ y => ?_
  refine (congrFun ((after0_5 m c t).trans (congrArg Prod.fst (after A t.val t.isLt))) _).trans ?_
  exact (congrArg₂ (gx I) ((win0_5.rect_emb_val t y 0).trans (by rw [(hi t).1])).symm
    (win0_5.rect_emb_val_of_index_zero t 1 (hi t).2 y).symm)

theorem lt15 : 15 < cfg0.N := by have : cfg0.N = 16 := N_0; omega

theorem arr6 (A : Mem m c I) : (dats m 0 c).arrAt 6 cfg0.N = (E (st I 8192) : S8x1024.Idx → EReal) := by
  refine (dats m 0 c).arrAt_eq_of_after_last 6 ⟨15, lt15⟩ (by decide +kernel) _ fun j => ?_
  exact congrFun ((after0_6 m c ⟨15, lt15⟩).trans (congrArg Prod.snd (after A 15 lt15))) _

/-- The arguments are inputs. -/
theorem inputs (m : (ℓ : Loc nD τ sig) → Buf (Elt Ideal) ℓ) (c : Dev nD) : ∃ I : Norm.In, Mem m c I := by
  obtain ⟨f0, e0⟩ := exists_E (R := 8192) (C := 1024) (m ((c : Thread nD τ).loc main_arg0))
  obtain ⟨f1, e1⟩ := exists_E (R := 8192) (C := 1024) (m ((c : Thread nD τ).loc main_arg1))
  obtain ⟨f2, e2⟩ := exists_E (R := 8192) (C := 1024) (m ((c : Thread nD τ).loc main_arg2))
  obtain ⟨f3, e3⟩ := exists_E (R := 1) (C := 3072) (m ((c : Thread nD τ).loc main_arg3))
  obtain ⟨f4, e4⟩ := exists_E (R := 1) (C := 1024) (m ((c : Thread nD τ).loc main_arg4))
  exact ⟨⟨f0, f1, f2, f3, f4⟩, ⟨e0, e1, e2, e3, e4⟩⟩

/-- The kernel and the reference leave the same gradients, whatever the arguments hold. -/
theorem algebraic : Cert.algebraic_Kernel3Ideal_Reference3Ideal := by
  intro m g m' g' _ hargs
  choose I A using inputs m
  refine ⟨fun c => E (gx (I c)), fun c => E (st (I c) 8192), ?_, ?_⟩
  · exact (θ_run _ _ _).mono (fun r h c => ⟨(h c).1.trans (arr5 (A c)), (h c).2.1.trans (arr6 (A c)), (h c).2.2⟩) (Cert.Kernel3Ideal.Value.run_blocks m g)
  · refine (θ_run _ _ _).mono (fun r h c => ⟨(h c).1.trans ?_, (h c).2.1.trans ?_, (h c).2.2⟩) (Cert.Reference3Ideal.Value.run (F := Ideal) m' g')
    · rw [Cert.Reference3Ideal.Read.val_main_v51_eq, (hargs c).1, (hargs c).2.1, (hargs c).2.2.1, (hargs c).2.2.2.1, (hargs c).2.2.2.2, (A c).a0, (A c).a1, (A c).a2, (A c).a3, (A c).a4]
      exact Cert.Reference3Ideal.Val.v51 (I c)
    · refine (Cert.Reference3Ideal.Read.val_main_v53_eq _ _ _ _).trans ?_
      rw [(hargs c).1, (hargs c).2.1, (hargs c).2.2.2.1, (hargs c).2.2.2.2, (A c).a0, (A c).a1, (A c).a3, (A c).a4]
      exact Cert.Reference3Ideal.Val.v53 (I c)

end Cert.Kernel3Ideal.Val
end
-- ==== Proof.Rest.C4.lean ====
module

public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
-- ==== Proof.Rest.K4.lean ====
module

public import proofs.«01_k».proof.Proof.Rest.C4
public import proofs.«01_k».proof.Proof.Rest.Prod
public import proofs.«01_k».proof.Proof.Gen.Kernel4Ideal
public import Idealize.ShloMosaic.Lib.Pipeline.ValueKit
public import Idealize.ShloMosaic.Lib.Pipeline.ReadBack
public import proofs.«01_k».proof.Defs

@[expose] public section

set_option maxRecDepth 16384

/-!
# The gradient of the projections' input

The first point copies both weights into scratch; every point adds two products, one for each block of rows.
-/

noncomputable section

namespace Cert.Kernel4Ideal.Val

open Cert.Kernel4Ideal Cert.Kernel4Ideal.Gen Idealize.ShloMosaic Idealize.ShloMosaic.TcCoe
open Idealize.SL.Sem
open Cert.KernelIdeal.Mid (ld_whole readCov_copied)
open Cert.Prod (read_stored read_copied)

variable (m : (ℓ : Loc nD τ sig) → Buf (Elt Ideal) ℓ) (c : Dev nD)

/-- The stores of the first point. -/
theorem outA (t : Fin cfg0.N) (h0 : t.val % 16 = 0) :
    outsAt0 m c t.val t.isLt
      = (k0_pay1 (iblk m c 0 t) (V m c main_arg2) (iblk m c 1 t) (V m c main_arg3), V m c main_arg2, V m c main_arg3) := by
  rw [outsAt0_A m c t h0]
  unfold out0_A_2 sout0_A_0 sout0_A_1 kernelRun0_A
  dsimp only
  simp (disch := decide) only [kernelRun0_A.sl.v4, kernelRun0_A.sl.v7, kernelRun0_A.sl.dma0, kernelRun0_A.sl.dma0_1, View.readAt_eq_ld, Memref.IsWhole.read_unread, readCov_copied, ld_whole, ReadAs.apply_same, read_copied]
  exact congrArg₂ Prod.mk (read_stored _ _ _ _) rfl

/-- The stores of a later point: both scratches stay. -/
theorem outB (t : Fin cfg0.N) (h0 : ¬t.val % 16 = 0) (p) (hp : p = outsAt0 m c (t.val - 1) (Nat.lt_of_le_of_lt (Nat.sub_le _ _) t.isLt)) :
    outsAt0 m c t.val t.isLt = (k0_pay1 (iblk m c 0 t) p.2.1 (iblk m c 1 t) p.2.2, p.2.1, p.2.2) := by
  rw [outsAt0_B m c t h0]
  subst hp
  unfold out0_B_2 sout0_B_0 sout0_B_1 kernelRun0_B
  dsimp only
  simp (disch := decide) only [View.readAt_eq_ld, Memref.IsWhole.read_unread, read_unread_whole, ld_whole, ReadAs.apply_same]
  exact congrArg₂ Prod.mk (read_stored _ _ _ _) rfl

/-- After every point the scratches hold the two weights. -/
theorem scratch (n : ℕ) (hn : n < cfg0.N) : (outsAt0 m c n hn).2 = (V m c main_arg2, V m c main_arg3) := by
  induction n with
  | zero => exact congrArg Prod.snd (outA m c ⟨0, hn⟩ rfl)
  | succ n ih =>
    by_cases h0 : (n + 1) % 16 = 0
    · exact congrArg Prod.snd (outA m c ⟨n + 1, hn⟩ h0)
    · exact (congrArg Prod.snd (outB m c ⟨n + 1, hn⟩ h0 _ rfl)).trans (ih _)

/-- What every point leaves in its block. -/
theorem block (t : Fin cfg0.N) :
    (outsAt0 m c t.val t.isLt).1 = k0_pay1 (iblk m c 0 t) (V m c main_arg2) (iblk m c 1 t) (V m c main_arg3) := by
  by_cases h0 : t.val % 16 = 0
  · exact congrArg Prod.fst (outA m c t h0)
  · exact (congrArg Prod.fst (outB m c t h0 _ rfl)).trans (by rw [scratch])

/-- The reference's entry. -/
theorem ref_apply (x0 : S8192x6656.Idx → EReal) (x1 : S8192x4608.Idx → EReal) (x2 : S1024x6656.Idx → EReal) (x3 : S1024x4608.Idx → EReal) (i : S8192x1024.Idx) :
    Cert.Reference4Ideal.Read.val_main_v10 (F := Ideal) x0 x1 x2 x3 i
      = (∑ k : Fin 6656, x0 (ValueIdx.ix2 (i 0) k) * x2 (ValueIdx.ix2 (i 1) k)) + ∑ k : Fin 4608, x1 (ValueIdx.ix2 (i 0) k) * x3 (ValueIdx.ix2 (i 1) k) := by
  rw [Cert.Reference4Ideal.Read.val_main_v10_apply, Cert.Reference4Ideal.Read.val_main_v9_apply]
  refine (add_comm _ _).trans (congrArg₂ (· + ·) ?_ ?_)
  · refine (Cert.Reference4Ideal.Read.val_main_v8_apply x0 x2 _).trans (Finset.sum_congr rfl fun k _ => ?_)
    rw [Cert.Reference4Ideal.Read.val_main_v5_apply, Cert.Reference4Ideal.Read.val_main_v1_apply]
    exact congrArg₂ (· * ·) (congrArg x0 (Cert.Prod.idx_ext rfl rfl)) (congrArg x2 (Cert.Prod.idx_ext rfl rfl))
  · refine (Cert.Reference4Ideal.Read.val_main_v7_apply x1 x3 _).trans (Finset.sum_congr rfl fun k _ => ?_)
    rw [Cert.Reference4Ideal.Read.val_main_v6_apply, Cert.Reference4Ideal.Read.val_main_v3_apply]
    exact congrArg₂ (· * ·) (congrArg x1 (Cert.Prod.idx_ext rfl rfl)) (congrArg x3 (Cert.Prod.idx_ext rfl rfl))

/-- The array the call leaves is the reference's. -/
theorem arr : (dats m 0 c).arrAt 2 cfg0.N
    = Cert.Reference4Ideal.Read.val_main_v10 (F := Ideal) (V m c main_arg0) (V m c main_arg1) (V m c main_arg2) (V m c main_arg3) := by
  have hi : ∀ t : Fin cfg0.N, win0_2.index t 1 = 0 ∧ win0_0.index t 1 = 0 ∧ win0_1.index t 1 = 0
      ∧ win0_0.index t 0 * win0_0.size 0 = win0_2.index t 0 * win0_2.size 0 ∧ win0_1.index t 0 * win0_1.size 0 = win0_2.index t 0 * win0_2.size 0 := by decide +kernel
  refine (dats m 0 c).arrAt_eq_of_covers 2 _ (by decide +kernel) fun t _ y => ?_
  refine (congrFun ((after0_2 m c t).trans (block m c t)) _).trans ?_
  have e0 : iblk m c 0 t = fun y => (V m c main_arg0 : S8192x6656.Idx → EReal) ((win0_0.rect t).emb y) := rfl
  have e1 : iblk m c 1 t = fun y => (V m c main_arg1 : S8192x4608.Idx → EReal) ((win0_1.rect t).emb y) := rfl
  refine (congrArg₂ (· + ·) (Cert.Prod.nt (R := 512) (K := 6656) (C := 1024) (φ₁ := .bf16) (φ₂ := .bf16) rfl none (iblk m c 0 t) (V m c main_arg2) _)
    (Cert.Prod.nt (R := 512) (K := 4608) (C := 1024) (φ₁ := .bf16) (φ₂ := .bf16) rfl none (iblk m c 1 t) (V m c main_arg3) _)).trans ?_
  refine Eq.trans ?_ (ref_apply _ _ _ _ _).symm
  refine congrArg₂ (· + ·) (Finset.sum_congr rfl fun k _ => congrArg₂ (· * ·) ?_ (congrArg (V m c main_arg2 : S1024x6656.Idx → EReal) (Cert.Prod.idx_ext ?_ rfl)))
    (Finset.sum_congr rfl fun k _ => congrArg₂ (· * ·) ?_ (congrArg (V m c main_arg3 : S1024x4608.Idx → EReal) (Cert.Prod.idx_ext ?_ rfl)))
  · rw [e0]
    refine congrArg (V m c main_arg0 : S8192x6656.Idx → EReal) (Cert.Prod.idx_ext ?_ ?_)
    · exact (win0_0.rect_emb_val t _ 0).trans ((congrArg (· + (y 0).val) (hi t).2.2.2.1).trans (win0_2.rect_emb_val t y 0).symm)
    · exact win0_0.rect_emb_val_of_index_zero t 1 (hi t).2.1 _
  · exact (win0_2.rect_emb_val_of_index_zero t 1 (hi t).1 y).symm
  · rw [e1]
    refine congrArg (V m c main_arg1 : S8192x4608.Idx → EReal) (Cert.Prod.idx_ext ?_ ?_)
    · exact (win0_1.rect_emb_val t _ 0).trans ((congrArg (· + (y 0).val) (hi t).2.2.2.2).trans (win0_2.rect_emb_val t y 0).symm)
    · exact win0_1.rect_emb_val_of_index_zero t 1 (hi t).2.2.1 _
  · exact (win0_2.rect_emb_val_of_index_zero t 1 (hi t).1 y).symm

/-- The kernel and the reference leave the same gradient, whatever the arguments hold. -/
theorem algebraic : Cert.algebraic_Kernel4Ideal_Reference4Ideal := by
  intro m g m' g' _ hargs
  refine ⟨fun c => Cert.Reference4Ideal.Read.val_main_v10 (F := Ideal) (V m c main_arg0) (V m c main_arg1) (V m c main_arg2) (V m c main_arg3), ?_, ?_⟩
  · exact (θ_run _ _ _).mono (fun r h c => ⟨(h c).1.trans (arr m c), (h c).2⟩) (Cert.Kernel4Ideal.Value.run_blocks m g)
  · refine (θ_run _ _ _).mono (fun r h c => ⟨(h c).1.trans ?_, (h c).2⟩) (Cert.Reference4Ideal.Value.run (F := Ideal) m' g')
    rw [(hargs c).1, (hargs c).2.1, (hargs c).2.2.1, (hargs c).2.2.2]
    rfl

end Cert.Kernel4Ideal.Val
end
-- ==== Proof.Rest.C5.lean ====
module

public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
-- ==== Proof.Rest.K5.lean ====
module

public import proofs.«01_k».proof.Proof.Rest.C5
public import proofs.«01_k».proof.Proof.Rest.Prod
public import proofs.«01_k».proof.Proof.Mid.Reads
public import proofs.«01_k».proof.Proof.Gen.Kernel5Ideal
public import Idealize.ShloMosaic.Lib.Pipeline.ValueKit
public import Idealize.ShloMosaic.Lib.Pipeline.ReadBack
public import proofs.«01_k».proof.Defs

@[expose] public section

set_option maxRecDepth 16384

/-!
# The gradient of the weights of the queries, keys and values

The kernel of `K2` at nine blocks of columns: every point multiplies the same left operand, copied into scratch at the first point, by its block of columns.
-/

noncomputable section

namespace Cert.Kernel5Ideal.Val

open Cert.Kernel5Ideal Cert.Kernel5Ideal.Gen Idealize.ShloMosaic Idealize.ShloMosaic.TcCoe
open Idealize.SL.Sem
open Cert.KernelIdeal.Mid (ld_whole readCov_copied)
open Cert.Prod (read_stored read_copied)

variable (m : (ℓ : Loc nD τ sig) → Buf (Elt Ideal) ℓ) (c : Dev nD)

/-- The stores of the first point. -/
theorem outA (t : Fin cfg0.N) (h0 : t.val % 9 = 0) :
    outsAt0 m c t.val t.isLt = (k0_pay1 (V m c main_arg0) (iblk m c 0 t), V m c main_arg0) := by
  rw [outsAt0_A m c t h0]
  unfold out0_A_1 sout0_A_0 kernelRun0_A
  dsimp only
  simp (disch := decide) only [kernelRun0_A.sl.v3, kernelRun0_A.sl.dma0, View.readAt_eq_ld, Memref.IsWhole.read_unread, readCov_copied, ld_whole, ReadAs.apply_same, read_copied]
  refine congrArg₂ Prod.mk (read_stored _ _ _ _) rfl

/-- The stores of a later point: the scratch stays. -/
theorem outB (t : Fin cfg0.N) (h0 : ¬t.val % 9 = 0) :
    outsAt0 m c t.val t.isLt = (k0_pay1 (outsAt0 m c (t.val - 1) (Nat.lt_of_le_of_lt (Nat.sub_le _ _) t.isLt)).2 (iblk m c 0 t), (outsAt0 m c (t.val - 1) (Nat.lt_of_le_of_lt (Nat.sub_le _ _) t.isLt)).2) := by
  rw [outsAt0_B m c t h0]
  unfold out0_B_1 sout0_B_0 kernelRun0_B
  dsimp only
  simp (disch := decide) only [View.readAt_eq_ld, Memref.IsWhole.read_unread, read_unread_whole, ld_whole, ReadAs.apply_same]
  exact congrArg₂ Prod.mk (read_stored _ _ _ _) rfl

/-- After every point the scratch holds the left operand. -/
theorem scratch (n : ℕ) (hn : n < cfg0.N) : (outsAt0 m c n hn).2 = V m c main_arg0 := by
  induction n with
  | zero => exact congrArg Prod.snd (outA m c ⟨0, hn⟩ rfl)
  | succ n ih =>
    by_cases h0 : (n + 1) % 9 = 0
    · exact congrArg Prod.snd (outA m c ⟨n + 1, hn⟩ h0)
    · exact (congrArg Prod.snd (outB m c ⟨n + 1, hn⟩ h0)).trans (ih _)

/-- What every point leaves in its block. -/
theorem block (t : Fin cfg0.N) : (outsAt0 m c t.val t.isLt).1 = k0_pay1 (V m c main_arg0) (iblk m c 0 t) := by
  by_cases h0 : t.val % 9 = 0
  · exact congrArg Prod.fst (outA m c t h0)
  · exact (congrArg Prod.fst (outB m c t h0)).trans (by rw [scratch])

/-- The reference's entry. -/
theorem ref_apply (x0 : S1024x8192.Idx → EReal) (x1 : S8192x4608.Idx → EReal) (i : S1024x4608.Idx) :
    Cert.Reference5Ideal.Read.val_main_v7 (F := Ideal) x0 x1 i = ∑ k : Fin 8192, x0 (ValueIdx.ix2 (i 0) k) * x1 (ValueIdx.ix2 k (i 1)) := by
  rw [Cert.Reference5Ideal.Read.val_main_v7_apply, Cert.Reference5Ideal.Read.val_main_v6_apply]
  refine (Cert.Reference5Ideal.Read.val_main_v5_apply x0 x1 _).trans (Finset.sum_congr rfl fun k _ => ?_)
  rw [Cert.Reference5Ideal.Read.val_main_v4_apply, Cert.Reference5Ideal.Read.val_main_v1_apply, Cert.Reference5Ideal.Read.val_main_v0_apply]
  refine (mul_comm _ _).trans (congrArg₂ (· * ·) (congrArg x0 ?_) (congrArg x1 ?_))
  · exact Cert.Prod.idx_ext rfl rfl
  · exact Cert.Prod.idx_ext rfl rfl

/-- The array the call leaves is the reference's. -/
theorem arr : (dats m 0 c).arrAt 1 cfg0.N = Cert.Reference5Ideal.Read.val_main_v7 (F := Ideal) (V m c main_arg0) (V m c main_arg1) := by
  have hi : ∀ t : Fin cfg0.N, win0_1.index t 0 = 0 ∧ win0_0.index t 0 = 0 ∧ win0_0.index t 1 * win0_0.size 1 = win0_1.index t 1 * win0_1.size 1 := by decide +kernel
  refine (dats m 0 c).arrAt_eq_of_covers 1 _ (by decide +kernel) fun t _ y => ?_
  refine (congrFun ((after0_1 m c t).trans (block m c t)) _).trans ?_
  have e : iblk m c 0 t = fun y => (V m c main_arg1 : S8192x4608.Idx → EReal) ((win0_0.rect t).emb y) := rfl
  refine (Cert.Prod.nn (R := 1024) (K := 8192) (C := 512) (φ₁ := .bf16) (φ₂ := .bf16) rfl none (V m c main_arg0) (iblk m c 0 t) _).trans ?_
  refine Eq.trans ?_ (ref_apply _ _ _).symm
  rw [e]
  exact Cert.Prod.slab (R := 1024) (K := 8192) (C := 512) (V m c main_arg0 : S1024x8192.Idx → EReal) (V m c main_arg1 : S8192x4608.Idx → EReal) (e := id) y _
    (fun z hz => hz.trans (win0_1.rect_emb_val_of_index_zero t 0 (hi t).1 y).symm) (fun _ => rfl)
    (win0_0.rect_emb_val_of_index_zero t 0 (hi t).2.1)
    (fun z hz => (win0_0.rect_emb_val t z 1).trans ((congrArg₂ (· + ·) (hi t).2.2 hz).trans (win0_1.rect_emb_val t y 1).symm))

/-- The kernel and the reference leave the same gradient, whatever the arguments hold. -/
theorem algebraic : Cert.algebraic_Kernel5Ideal_Reference5Ideal := by
  intro m g m' g' _ hargs
  refine ⟨fun c => Cert.Reference5Ideal.Read.val_main_v7 (F := Ideal) (V m c main_arg0) (V m c main_arg1), ?_, ?_⟩
  · exact (θ_run _ _ _).mono (fun r h c => ⟨(h c).1.trans (arr m c), (h c).2⟩) (Cert.Kernel5Ideal.Value.run_blocks m g)
  · refine (θ_run _ _ _).mono (fun r h c => ⟨(h c).1.trans ?_, (h c).2⟩) (Cert.Reference5Ideal.Value.run (F := Ideal) m' g')
    rw [(hargs c).1, (hargs c).2]
    rfl

end Cert.Kernel5Ideal.Val
end
-- ==== Proof.Rest.C6.lean ====
module

public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
-- ==== Proof.Rest.K6.lean ====
module

public import proofs.«01_k».proof.Proof.Rest.C6
public import proofs.«01_k».proof.Proof.Rest.Prod
public import proofs.«01_k».proof.Proof.Mid.Reads
public import proofs.«01_k».proof.Proof.Gen.Kernel6Ideal
public import Idealize.ShloMosaic.Lib.Pipeline.ValueKit
public import Idealize.ShloMosaic.Lib.Pipeline.ReadBack
public import proofs.«01_k».proof.Defs

@[expose] public section

set_option maxRecDepth 16384

/-!
# The projection to queries, keys and values

Every point multiplies a block of rows by a block of columns.
-/

noncomputable section

namespace Cert.Kernel6Ideal.Val

open Cert.Kernel6Ideal Cert.Kernel6Ideal.Gen Idealize.ShloMosaic Idealize.ShloMosaic.TcCoe
open Idealize.SL.Sem
open Cert.KernelIdeal.Mid (ld_whole canon_whole)

variable (m : (ℓ : Loc nD τ sig) → Buf (Elt Ideal) ℓ) (c : Dev nD)

/-- What every point leaves in its block. -/
theorem block (t : Fin cfg0.N) : (dats m 0 c).after 2 t = k0_pay1 (iblk m c 0 t) (iblk m c 1 t) := by
  rw [after0_2]
  unfold out0_2
  refine (canon_whole _ _ []).trans ?_
  rw [ld_whole, ld_whole]

/-- The reference's entry. -/
theorem ref_apply (x0 : S8192x1024.Idx → EReal) (x1 : S1024x4608.Idx → EReal) (i : S8192x4608.Idx) :
    Cert.Reference6Ideal.Read.val_main_v3 (F := Ideal) x0 x1 i = ∑ k : Fin 1024, x0 (ValueIdx.ix2 (i 0) k) * x1 (ValueIdx.ix2 k (i 1)) := by
  rw [Cert.Reference6Ideal.Read.val_main_v3_apply]
  refine (Cert.Reference6Ideal.Read.val_main_v2_apply x0 x1 _).trans (Finset.sum_congr rfl fun k _ => ?_)
  rw [Cert.Reference6Ideal.Read.val_main_v1_apply, Cert.Reference6Ideal.Read.val_main_v0_apply]
  exact congrArg₂ (· * ·) (congrArg x0 (Cert.Prod.idx_ext rfl rfl)) (congrArg x1 (Cert.Prod.idx_ext rfl rfl))

/-- The array the call leaves is the reference's. -/
theorem arr : (dats m 0 c).arrAt 2 cfg0.N = Cert.Reference6Ideal.Read.val_main_v3 (F := Ideal) (V m c main_arg0) (V m c main_arg1) := by
  have hi : ∀ t : Fin cfg0.N, win0_0.index t 0 * win0_0.size 0 = win0_2.index t 0 * win0_2.size 0 ∧ win0_0.index t 1 = 0
      ∧ win0_1.index t 0 = 0 ∧ win0_1.index t 1 * win0_1.size 1 = win0_2.index t 1 * win0_2.size 1 := by decide +kernel
  refine (dats m 0 c).arrAt_eq_of_covers 2 _ (by decide +kernel) fun t _ y => ?_
  refine (congrFun (block m c t) _).trans ?_
  have e0 : iblk m c 0 t = fun y => (V m c main_arg0 : S8192x1024.Idx → EReal) ((win0_0.rect t).emb y) := rfl
  have e1 : iblk m c 1 t = fun y => (V m c main_arg1 : S1024x4608.Idx → EReal) ((win0_1.rect t).emb y) := rfl
  refine (Cert.Prod.nn (R := 1024) (K := 1024) (C := 1536) (φ₁ := .bf16) (φ₂ := .bf16) rfl none (iblk m c 0 t) (iblk m c 1 t) _).trans ?_
  refine Eq.trans ?_ (ref_apply _ _ _).symm
  rw [e0, e1]
  exact Cert.Prod.slab (R := 1024) (K := 1024) (C := 1536) (V m c main_arg0 : S8192x1024.Idx → EReal) (V m c main_arg1 : S1024x4608.Idx → EReal) y _
    (fun z hz => (win0_0.rect_emb_val t z 0).trans ((congrArg₂ (· + ·) (hi t).1 hz).trans (win0_2.rect_emb_val t y 0).symm))
    (win0_0.rect_emb_val_of_index_zero t 1 (hi t).2.1) (win0_1.rect_emb_val_of_index_zero t 0 (hi t).2.2.1)
    (fun z hz => (win0_1.rect_emb_val t z 1).trans ((congrArg₂ (· + ·) (hi t).2.2.2 hz).trans (win0_2.rect_emb_val t y 1).symm))

/-- The kernel and the reference leave the same projection, whatever the arguments hold. -/
theorem algebraic : Cert.algebraic_Kernel6Ideal_Reference6Ideal := by
  intro m g m' g' _ hargs
  refine ⟨fun c => Cert.Reference6Ideal.Read.val_main_v3 (F := Ideal) (V m c main_arg0) (V m c main_arg1), ?_, ?_⟩
  · exact (θ_run _ _ _).mono (fun r h c => ⟨(h c).1.trans (arr m c), (h c).2⟩) (Cert.Kernel6Ideal.Value.run_blocks m g)
  · refine (θ_run _ _ _).mono (fun r h c => ⟨(h c).1.trans ?_, (h c).2⟩) (Cert.Reference6Ideal.Value.run (F := Ideal) m' g')
    rw [(hargs c).1, (hargs c).2]
    rfl

end Cert.Kernel6Ideal.Val
end
-- ==== Proof.Rest.C7.lean ====
module

public import proofs.«01_k».proof.Proof.Gen.Kernel7.Frame
public import proofs.«01_k».proof.Proof.Gen.Reference7Ideal.Run
public import proofs.«01_k».proof.Proof.Gen.Reference7Ideal.Read
public import proofs.«01_k».proof.Proof.Gen.Kernel7Ideal.Frame
public import proofs.«01_k».proof.Proof.Gen.Kernel7Ideal.Skeleton
-- ==== Proof.Rest.Run7.lean ====
/- The kernel body of the forward projection, what it stores and what a run of it says. -/
module

public import proofs.«01_k».proof.Proof.Rest.C7

@[expose] public section

set_option maxRecDepth 16384

noncomputable section

namespace Cert.Kernel7Ideal.Run

open Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the very first point. -/
def first (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

variable (c : Dev nD) (i : grid0.Coords)
  (arg2 : Memref sig .tc .vmem S1024x1024 .f32) (harg2 : arg2.IsWhole) (arg3 : Memref sig .tc .vmem S1x3072 .f32) (harg3 : arg3.IsWhole)
  (arg4 : Memref sig .tc .vmem S1x1024 .f32) (harg4 : arg4.IsWhole) (arg5 : Memref sig .tc .vmem S1024x1664 .bf16) (harg5 : arg5.IsWhole)
  (arg6 : Memref sig .tc .vmem S1024x1664 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x1024 .bf16) (harg11 : arg11.IsWhole)
  (arg12 : Memref sig .tc .vmem S1024x1024 .bf16) (harg12 : arg12.IsWhole)
  (x0 : Vec F S1024x1024 .f32) (x1 : Vec F S1x3072 .f32) (x2 : Vec F S1x1024 .f32) (x3 : Vec F S1024x1664 .bf16)

/-- What the body holds: the inputs, the three outputs and the four scratch buffers. -/
def Held (o4 : Vec F S1024x1664 .bf16) (o5 o6 s0 s1 s2 s3 : Vec F S1024x1024 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare o4 ∗ owns (c : Thread nD τ) arg7 fullShare o5 ∗ owns (c : Thread nD τ) arg8 fullShare o6
    ∗ owns (c : Thread nD τ) arg9 fullShare s0 ∗ owns (c : Thread nD τ) arg10 fullShare s1 ∗ owns (c : Thread nD τ) arg11 fullShare s2 ∗ owns (c : Thread nD τ) arg12 fullShare s3)

theorem hz : (![0, 0] : Fin 2 → ℕ) = fun _ => 0 := by funext a; fin_cases a <;> rfl

section Over
variable {Val : EltTy → Type} [∀ e, Nonempty (Val e)] {sg : RefSig} {κ : Kind} {sp : Space} {s : Shape} {e : EltTy}

/-- What a store of the whole buffer leaves. -/
theorem stored (v : View sg κ sp s e) (f : v.ty.Contents Val) {off : Fin s.rank → ℕ} (h0 : off = fun _ => 0) (inb) (w w' : s.Idx → Val e) (h : w = w') :
    v.read Val (v.writes Val f [⟨Rect.unit off s.size inb, w⟩]) = w' := by
  subst h h0
  refine (View.read_writes_eq_canon v f _ fun y => ⟨_, List.mem_cons_self, ?_⟩).trans (View.canon_cons_unit_zero rfl inb w [])
  exact (Rect.mem_set_unit (inb := inb)).mpr fun a => ⟨Nat.zero_le _, (y a).isLt.trans_eq (Nat.zero_add _).symm⟩

/-- A load of the whole of an untouched buffer. -/
theorem loaded {m : Memref sg κ sp s e} (h : m.IsWhole) (X : s.Idx → Val e) {off : Fin s.rank → ℕ} (h0 : off = fun _ => 0) (inb) :
    m.view.readAt Val (Rect.unit (s := s) off s.size inb).toLoadRect (h.unread X) = X := by
  rw [View.readAt_eq_ld, h.read_unread]
  exact View.ld_unit_zero h0 inb X

/-- A load of a whole buffer just filled. -/
theorem back (v : View sg κ sp s e) (L : List (View.Piece Val s e)) {off : Fin s.rank → ℕ} (h0 : off = fun _ => 0) (inb) :
    v.readCov L (Rect.unit (s := s) off s.size inb).toLoadRect = View.canon L := by
  rw [View.readCov_eq_canon']
  exact View.ld_unit_zero h0 inb (View.canon L)
end Over

/-- A chunk of rows, normalised, scaled and shifted. -/
def rowPay (sh sc : Vec F S1x1024 .f32) (r : Vec F S256x1024 .f32) (nw : Vec F S1x1024 .f32) : Vec F S256x1024 .bf16 := k0_pay33 sh (k0_pay20 sc) r nw
/-- The same chunk, turned. -/
def colPay (sh sc : Vec F S1x1024 .f32) (r : Vec F S256x1024 .f32) (nw : Vec F S1x1024 .f32) : Vec F S1024x256 .bf16 := k0_pay5 (k0_pay34 sh (k0_pay20 sc) r nw)

/-- The rows from `o` of a tile. -/
abbrev rows (x0 : Vec F S1024x1024 .f32) (o : ℕ) (inb : ∀ a, (![o, 0] : Fin 2 → ℕ) a + S256x1024.size a ≤ S1024x1024.size a) : Vec F S256x1024 .f32 := View.ld x0 (Rect.unit (s := S1024x1024) ![o, 0] S256x1024.size inb)
abbrev shiftOf (x1 : Vec F S1x3072 .f32) : Vec F S1x1024 .f32 := View.ld x1 (Rect.unit (s := S1x3072) ![0, 0] S1x1024.size inb_S1x3072_S1x1024_0_0)
abbrev scaleOf (x1 : Vec F S1x3072 .f32) : Vec F S1x1024 .f32 := View.ld x1 (Rect.unit (s := S1x3072) ![0, 1024] S1x1024.size inb_S1x3072_S1x1024_0_1024)
abbrev weightOf (x2 : Vec F S1x1024 .f32) : Vec F S1x1024 .f32 := View.ld x2 (Rect.unit (s := S1x1024) ![0, 0] S1x1024.size inb_S1x1024_S1x1024_0_0)

/-- The four stores of a normalised tile. -/
def hPieces : List (View.Piece (Elt F) S1024x1024 .bf16) :=
  [⟨Rect.unit ![768, 0] S256x1024.size inb_S1024x1024_S256x1024_768_0, rowPay (shiftOf x1) (scaleOf x1) (rows x0 768 inb_S1024x1024_S256x1024_768_0) (weightOf x2)⟩,
   ⟨Rect.unit ![512, 0] S256x1024.size inb_S1024x1024_S256x1024_512_0, rowPay (shiftOf x1) (scaleOf x1) (rows x0 512 inb_S1024x1024_S256x1024_512_0) (weightOf x2)⟩,
   ⟨Rect.unit ![256, 0] S256x1024.size inb_S1024x1024_S256x1024_256_0, rowPay (shiftOf x1) (scaleOf x1) (rows x0 256 inb_S1024x1024_S256x1024_256_0) (weightOf x2)⟩,
   ⟨Rect.unit ![0, 0] S256x1024.size inb_S1024x1024_S256x1024_0_0, rowPay (shiftOf x1) (scaleOf x1) (rows x0 0 inb_S1024x1024_S256x1024_0_0) (weightOf x2)⟩]
/-- The four stores of it, turned. -/
def tPieces : List (View.Piece (Elt F) S1024x1024 .bf16) :=
  [⟨Rect.unit ![0, 768] S1024x256.size inb_S1024x1024_S1024x256_0_768, colPay (shiftOf x1) (scaleOf x1) (rows x0 768 inb_S1024x1024_S256x1024_768_0) (weightOf x2)⟩,
   ⟨Rect.unit ![0, 512] S1024x256.size inb_S1024x1024_S1024x256_0_512, colPay (shiftOf x1) (scaleOf x1) (rows x0 512 inb_S1024x1024_S256x1024_512_0) (weightOf x2)⟩,
   ⟨Rect.unit ![0, 256] S1024x256.size inb_S1024x1024_S1024x256_0_256, colPay (shiftOf x1) (scaleOf x1) (rows x0 256 inb_S1024x1024_S256x1024_256_0) (weightOf x2)⟩,
   ⟨Rect.unit ![0, 0] S1024x256.size inb_S1024x1024_S1024x256_0_0, colPay (shiftOf x1) (scaleOf x1) (rows x0 0 inb_S1024x1024_S256x1024_0_0) (weightOf x2)⟩]

theorem hCover : ∀ y, ∃ p ∈ hPieces x0 x1 x2, y ∈ p.1.set := View.cover_of_tiledL _ S256x1024.size (by sl_kernel_rfl)
theorem tCover : ∀ y, ∃ p ∈ tPieces x0 x1 x2, y ∈ p.1.set := View.cover_of_tiledL _ S1024x256.size (by sl_kernel_rfl)

/-- The normalised tile. -/
def hOf : Vec F S1024x1024 .bf16 := View.canon (hPieces x0 x1 x2)
/-- The normalised tile, turned. -/
def tOf : Vec F S1024x1024 .bf16 := View.canon (tPieces x0 x1 x2)

/-- The four stores leave the normalised tile. -/
theorem hLeft {sg : RefSig} {κ : Kind} {sp : Space} (v : View sg κ sp S1024x1024 .bf16) (f : v.ty.Contents (Elt F)) (L) (h : L = hPieces x0 x1 x2) :
    v.read (Elt F) (v.writes (Elt F) f L) = hOf x0 x1 x2 := h ▸ View.read_writes_eq_canon v f _ (hCover x0 x1 x2)
theorem tLeft {sg : RefSig} {κ : Kind} {sp : Space} (v : View sg κ sp S1024x1024 .bf16) (f : v.ty.Contents (Elt F)) (L) (h : L = tPieces x0 x1 x2) :
    v.read (Elt F) (v.writes (Elt F) f L) = tOf x0 x1 x2 := h ▸ View.read_writes_eq_canon v f _ (tCover x0 x1 x2)

/-- The stores as the body computes them, off the whole buffers it loads from. -/
theorem hRead {m2 : Memref sig .tc .vmem S1024x1024 .f32} {m3 : Memref sig .tc .vmem S1x3072 .f32} {m4 : Memref sig .tc .vmem S1x1024 .f32} (h2 : m2.IsWhole) (h3 : m3.IsWhole) (h4 : m4.IsWhole) :
    hPieces (m2.view.read (Elt F) (h2.unread x0)) (m3.view.read (Elt F) (h3.unread x1)) (m4.view.read (Elt F) (h4.unread x2)) = hPieces x0 x1 x2 := by
  rw [h2.read_unread, h3.read_unread, h4.read_unread]
theorem tRead {m2 : Memref sig .tc .vmem S1024x1024 .f32} {m3 : Memref sig .tc .vmem S1x3072 .f32} {m4 : Memref sig .tc .vmem S1x1024 .f32} (h2 : m2.IsWhole) (h3 : m3.IsWhole) (h4 : m4.IsWhole) :
    tPieces (m2.view.read (Elt F) (h2.unread x0)) (m3.view.read (Elt F) (h3.unread x1)) (m4.view.read (Elt F) (h4.unread x2)) = tPieces x0 x1 x2 := by
  rw [h2.read_unread, h3.read_unread, h4.read_unread]

/-- A load of a whole tile just stored. -/
theorem hBack {sg : RefSig} {κ : Kind} {sp : Space} (v : View sg κ sp S1024x1024 .bf16) (L) (inb) (h : L = hPieces x0 x1 x2) :
    v.readCov L (Rect.unit (s := S1024x1024) ![0, 0] S1024x1024.size inb).toLoadRect = hOf x0 x1 x2 := h ▸ back v _ hz inb
theorem tBack {sg : RefSig} {κ : Kind} {sp : Space} (v : View sg κ sp S1024x1024 .bf16) (L) (inb) (h : L = tPieces x0 x1 x2) :
    v.readCov L (Rect.unit (s := S1024x1024) ![0, 0] S1024x1024.size inb).toLoadRect = tOf x0 x1 x2 := h ▸ back v _ hz inb

/-- From `Held` at some contents the body runs on to `Held` at others. -/
def Goes (o4 : Vec F S1024x1664 .bf16) (o5 o6 s0 s1 s2 s3 : Vec F S1024x1024 .bf16) (p4 : Vec F S1024x1664 .bf16) (p5 p6 q0 q1 q2 q3 : Vec F S1024x1024 .bf16) : Prop :=
  ∀ K : PUnit → sProp 𝕄,
    iprop(Held c arg2 arg3 arg4 arg5 arg6 arg7 arg8 arg9 arg10 arg11 arg12 x0 x1 x2 x3 o4 o5 o6 s0 s1 s2 s3
      ∗ (Held c arg2 arg3 arg4 arg5 arg6 arg7 arg8 arg9 arg10 arg11 arg12 x0 x1 x2 x3 p4 p5 p6 q0 q1 q2 q3 -∗ K ⟨⟩))
      ⊢ wp frame (wpE (defs₀ (F := F)) Variants.none c none) Set.univ (cc0_inproj_nat i arg2 harg2 arg3 harg3 arg4 harg4 arg5 harg5 arg6 harg6 arg7 harg7 arg8 harg8 arg9 harg9 arg10 harg10 arg11 harg11 arg12 harg12) K

variable (o4 : Vec F S1024x1664 .bf16) (o5 o6 s0 s1 s2 s3 : Vec F S1024x1024 .bf16)

end Cert.Kernel7Ideal.Run

end
-- ==== Proof.Rest.Run7A.lean ====
/- The kernel body of the forward projection, run at the first point. -/
module

public import proofs.«01_k».proof.Proof.Rest.Run7

@[expose] public section

set_option maxRecDepth 16384

noncomputable section

namespace Cert.Kernel7Ideal.Run

open Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole) (arg3 : Memref sig .tc .vmem S1x3072 .f32) (harg3 : arg3.IsWhole)
  (arg4 : Memref sig .tc .vmem S1x1024 .f32) (harg4 : arg4.IsWhole) (arg5 : Memref sig .tc .vmem S1024x1664 .bf16) (harg5 : arg5.IsWhole)
  (arg6 : Memref sig .tc .vmem S1024x1664 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x1024 .bf16) (harg11 : arg11.IsWhole)
  (arg12 : Memref sig .tc .vmem S1024x1024 .bf16) (harg12 : arg12.IsWhole)
  (x0 : Vec F S1024x1024 .f32) (x1 : Vec F S1x3072 .f32) (x2 : Vec F S1x1024 .f32) (x3 : Vec F S1024x1664 .bf16)

variable (o4 : Vec F S1024x1664 .bf16) (o5 o6 s0 s1 s2 s3 : Vec F S1024x1024 .bf16)

set_option maxHeartbeats 4800000 in
/-- The first point: its tile is made, handed out and projected. -/
theorem runA (h1 : first i) (h2 : k0_cond2 i = 1#1) (h3 : k0_cond3 i = 1#1) (h4 : ¬k0_cond4 i = 1#1) (h5 : k0_cond5 i = 1#1) (h6 : ¬k0_cond6 i = 1#1) :
    Goes c i arg2 harg2 arg3 harg3 arg4 harg4 arg5 harg5 arg6 harg6 arg7 harg7 arg8 harg8 arg9 harg9 arg10 harg10 arg11 harg11 arg12 harg12 x0 x1 x2 x3 o4 o5 o6 s0 s1 s2 s3
      (k0_pay6 (hOf x0 x1 x2) x3) (hOf x0 x1 x2) (tOf x0 x1 x2) (hOf x0 x1 x2) (tOf x0 x1 x2) s2 s3 := by
  intro K
  simp only [cc0_inproj_nat_eq_skeleton]; unfold cc0_inproj_nat_skel Held owns
  simp only [k0_part1_eq_skeleton, k0_part2_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4 | sl_exact h5 | sl_exact h6)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact stored _ _ hz _ _ _ (congrArg₂ k0_pay6 (hBack x0 x1 x2 _ _ _ (hRead x0 x1 x2 harg2 harg3 harg4)) (loaded harg5 _ hz _))
  isplitl [H5]
  · iexists _; isplitr
    swap; · iexact H5
    ipureintro; exact stored _ _ hz _ _ _ (hBack x0 x1 x2 _ _ _ (hRead x0 x1 x2 harg2 harg3 harg4))
  isplitl [H6]
  · iexists _; isplitr
    swap; · iexact H6
    ipureintro; exact stored _ _ hz _ _ _ (tBack x0 x1 x2 _ _ _ (tRead x0 x1 x2 harg2 harg3 harg4))
  isplitl [H7]
  · iexists _; isplitr
    swap; · iexact H7
    ipureintro; refine hLeft x0 x1 x2 _ _ _ ?_; exact hRead x0 x1 x2 harg2 harg3 harg4
  isplitl [H8]
  · iexists _; isplitr
    swap; · iexact H8
    ipureintro; refine tLeft x0 x1 x2 _ _ _ ?_; exact tRead x0 x1 x2 harg2 harg3 harg4
  isplitl [H9]
  · iexists _; isplitr
    swap; · iexact H9
    ipureintro; exact harg11.read_unread _
  iexists _; isplitr
  swap; · iexact H10
  ipureintro; exact harg12.read_unread _

end Cert.Kernel7Ideal.Run

end
-- ==== Proof.Rest.Run7B.lean ====
/- The kernel body of the forward projection, run at the points of the even tiles. -/
module

public import proofs.«01_k».proof.Proof.Rest.Run7

@[expose] public section

set_option maxRecDepth 16384

noncomputable section

namespace Cert.Kernel7Ideal.Run

open Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole) (arg3 : Memref sig .tc .vmem S1x3072 .f32) (harg3 : arg3.IsWhole)
  (arg4 : Memref sig .tc .vmem S1x1024 .f32) (harg4 : arg4.IsWhole) (arg5 : Memref sig .tc .vmem S1024x1664 .bf16) (harg5 : arg5.IsWhole)
  (arg6 : Memref sig .tc .vmem S1024x1664 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x1024 .bf16) (harg11 : arg11.IsWhole)
  (arg12 : Memref sig .tc .vmem S1024x1024 .bf16) (harg12 : arg12.IsWhole)
  (x0 : Vec F S1024x1024 .f32) (x1 : Vec F S1x3072 .f32) (x2 : Vec F S1x1024 .f32) (x3 : Vec F S1024x1664 .bf16)

variable (o4 : Vec F S1024x1664 .bf16) (o5 o6 s0 s1 s2 s3 : Vec F S1024x1024 .bf16)

set_option maxHeartbeats 4800000 in
/-- The first column of an even tile: the tile made before is handed out and projected. -/
theorem runB0 (h1 : ¬first i) (h2 : k0_cond2 i = 1#1) (h3 : k0_cond3 i = 1#1) (h4 : ¬k0_cond4 i = 1#1) (h5 : k0_cond5 i = 1#1) (h6 : ¬k0_cond6 i = 1#1) :
    Goes c i arg2 harg2 arg3 harg3 arg4 harg4 arg5 harg5 arg6 harg6 arg7 harg7 arg8 harg8 arg9 harg9 arg10 harg10 arg11 harg11 arg12 harg12 x0 x1 x2 x3 o4 o5 o6 s0 s1 s2 s3
      (k0_pay6 s0 x3) s0 s1 s0 s1 s2 s3 := by
  intro K
  simp only [cc0_inproj_nat_eq_skeleton]; unfold cc0_inproj_nat_skel Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4 | sl_exact h5 | sl_exact h6)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact stored _ _ hz _ _ _ (congrArg₂ k0_pay6 (loaded harg9 _ hz _) (loaded harg5 _ hz _))
  isplitl [H5]
  · iexists _; isplitr
    swap; · iexact H5
    ipureintro; exact stored _ _ hz _ _ _ (loaded harg9 _ hz _)
  isplitl [H6]
  · iexists _; isplitr
    swap; · iexact H6
    ipureintro; exact stored _ _ hz _ _ _ (loaded harg10 _ hz _)
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  iexists _; isplitr
  swap; · iexact H10
  ipureintro; exact harg12.read_unread _

set_option maxHeartbeats 4800000 in
/-- A column of an even tile that is neither the first nor followed by another tile: it is projected. -/
theorem runB1 (h1 : ¬first i) (h2 : k0_cond2 i = 1#1) (h3 : ¬k0_cond3 i = 1#1) (h4 : ¬k0_cond4 i = 1#1) (h5 : k0_cond5 i = 1#1) (h6 : ¬k0_cond6 i = 1#1) :
    Goes c i arg2 harg2 arg3 harg3 arg4 harg4 arg5 harg5 arg6 harg6 arg7 harg7 arg8 harg8 arg9 harg9 arg10 harg10 arg11 harg11 arg12 harg12 x0 x1 x2 x3 o4 o5 o6 s0 s1 s2 s3
      (k0_pay6 s0 x3) o5 o6 s0 s1 s2 s3 := by
  intro K
  simp only [cc0_inproj_nat_eq_skeleton]; unfold cc0_inproj_nat_skel Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4 | sl_exact h5 | sl_exact h6)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact stored _ _ hz _ _ _ (congrArg₂ k0_pay6 (loaded harg9 _ hz _) (loaded harg5 _ hz _))
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  iexists _; isplitr
  swap; · iexact H10
  ipureintro; exact harg12.read_unread _

set_option maxHeartbeats 4800000 in
/-- The last column of an even tile with another to come: it is projected, and the next tile made. -/
theorem runB3 (h1 : ¬first i) (h2 : k0_cond2 i = 1#1) (h3 : ¬k0_cond3 i = 1#1) (h4 : k0_cond4 i = 1#1) (h5 : ¬k0_cond5 i = 1#1) (h6 : ¬k0_cond6 i = 1#1) :
    Goes c i arg2 harg2 arg3 harg3 arg4 harg4 arg5 harg5 arg6 harg6 arg7 harg7 arg8 harg8 arg9 harg9 arg10 harg10 arg11 harg11 arg12 harg12 x0 x1 x2 x3 o4 o5 o6 s0 s1 s2 s3
      (k0_pay6 s0 x3) o5 o6 s0 s1 (hOf x0 x1 x2) (tOf x0 x1 x2) := by
  intro K
  simp only [cc0_inproj_nat_eq_skeleton]; unfold cc0_inproj_nat_skel Held owns
  simp only [k0_part3_eq_skeleton, k0_part4_eq_skeleton, k0_part5_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h2 | sl_exact h3 | sl_exact h4 | sl_exact h5 | sl_exact h6)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact stored _ _ hz _ _ _ (congrArg₂ k0_pay6 (loaded harg9 _ hz _) (loaded harg5 _ hz _))
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; refine hLeft x0 x1 x2 _ _ _ ?_; exact hRead x0 x1 x2 harg2 harg3 harg4
  iexists _; isplitr
  swap; · iexact H10
  ipureintro; refine tLeft x0 x1 x2 _ _ _ ?_; exact tRead x0 x1 x2 harg2 harg3 harg4

end Cert.Kernel7Ideal.Run

end
-- ==== Proof.Rest.Run7C.lean ====
/- The kernel body of the forward projection, run at the points of the odd tiles. -/
module

public import proofs.«01_k».proof.Proof.Rest.Run7

@[expose] public section

set_option maxRecDepth 16384

noncomputable section

namespace Cert.Kernel7Ideal.Run

open Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole) (arg3 : Memref sig .tc .vmem S1x3072 .f32) (harg3 : arg3.IsWhole)
  (arg4 : Memref sig .tc .vmem S1x1024 .f32) (harg4 : arg4.IsWhole) (arg5 : Memref sig .tc .vmem S1024x1664 .bf16) (harg5 : arg5.IsWhole)
  (arg6 : Memref sig .tc .vmem S1024x1664 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole) (arg11 : Memref sig .tc .vmem S1024x1024 .bf16) (harg11 : arg11.IsWhole)
  (arg12 : Memref sig .tc .vmem S1024x1024 .bf16) (harg12 : arg12.IsWhole)
  (x0 : Vec F S1024x1024 .f32) (x1 : Vec F S1x3072 .f32) (x2 : Vec F S1x1024 .f32) (x3 : Vec F S1024x1664 .bf16)

variable (o4 : Vec F S1024x1664 .bf16) (o5 o6 s0 s1 s2 s3 : Vec F S1024x1024 .bf16)

set_option maxHeartbeats 4800000 in
/-- The first column of an odd tile: the tile made before is handed out and projected. -/
theorem runC0 (h1 : ¬first i) (h6 : k0_cond6 i = 1#1) (h7 : k0_cond7 i = 1#1) (h8 : ¬k0_cond8 i = 1#1) (h9 : k0_cond9 i = 1#1) (h2 : ¬k0_cond2 i = 1#1) :
    Goes c i arg2 harg2 arg3 harg3 arg4 harg4 arg5 harg5 arg6 harg6 arg7 harg7 arg8 harg8 arg9 harg9 arg10 harg10 arg11 harg11 arg12 harg12 x0 x1 x2 x3 o4 o5 o6 s0 s1 s2 s3
      (k0_pay6 s2 x3) s2 s3 s0 s1 s2 s3 := by
  intro K
  simp only [cc0_inproj_nat_eq_skeleton]; unfold cc0_inproj_nat_skel Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h6 | sl_exact h7 | sl_exact h8 | sl_exact h9 | sl_exact h2)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact stored _ _ hz _ _ _ (congrArg₂ k0_pay6 (loaded harg11 _ hz _) (loaded harg5 _ hz _))
  isplitl [H5]
  · iexists _; isplitr
    swap; · iexact H5
    ipureintro; exact stored _ _ hz _ _ _ (loaded harg11 _ hz _)
  isplitl [H6]
  · iexists _; isplitr
    swap; · iexact H6
    ipureintro; exact stored _ _ hz _ _ _ (loaded harg12 _ hz _)
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  iexists _; isplitr
  swap; · iexact H10
  ipureintro; exact harg12.read_unread _

set_option maxHeartbeats 4800000 in
/-- A column of an odd tile that is neither the first nor followed by another tile: it is projected. -/
theorem runC1 (h1 : ¬first i) (h6 : k0_cond6 i = 1#1) (h7 : ¬k0_cond7 i = 1#1) (h8 : ¬k0_cond8 i = 1#1) (h9 : k0_cond9 i = 1#1) (h2 : ¬k0_cond2 i = 1#1) :
    Goes c i arg2 harg2 arg3 harg3 arg4 harg4 arg5 harg5 arg6 harg6 arg7 harg7 arg8 harg8 arg9 harg9 arg10 harg10 arg11 harg11 arg12 harg12 x0 x1 x2 x3 o4 o5 o6 s0 s1 s2 s3
      (k0_pay6 s2 x3) o5 o6 s0 s1 s2 s3 := by
  intro K
  simp only [cc0_inproj_nat_eq_skeleton]; unfold cc0_inproj_nat_skel Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h6 | sl_exact h7 | sl_exact h8 | sl_exact h9 | sl_exact h2)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact stored _ _ hz _ _ _ (congrArg₂ k0_pay6 (loaded harg11 _ hz _) (loaded harg5 _ hz _))
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  iexists _; isplitr
  swap; · iexact H10
  ipureintro; exact harg12.read_unread _

set_option maxHeartbeats 4800000 in
/-- The last column of an odd tile with another to come: it is projected, and the next tile made. -/
theorem runC3 (h1 : ¬first i) (h6 : k0_cond6 i = 1#1) (h7 : ¬k0_cond7 i = 1#1) (h8 : k0_cond8 i = 1#1) (h9 : ¬k0_cond9 i = 1#1) (h2 : ¬k0_cond2 i = 1#1) :
    Goes c i arg2 harg2 arg3 harg3 arg4 harg4 arg5 harg5 arg6 harg6 arg7 harg7 arg8 harg8 arg9 harg9 arg10 harg10 arg11 harg11 arg12 harg12 x0 x1 x2 x3 o4 o5 o6 s0 s1 s2 s3
      (k0_pay6 s2 x3) o5 o6 (hOf x0 x1 x2) (tOf x0 x1 x2) s2 s3 := by
  intro K
  simp only [cc0_inproj_nat_eq_skeleton]; unfold cc0_inproj_nat_skel Held owns
  simp only [k0_part6_eq_skeleton, k0_part7_eq_skeleton, k0_part8_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact h1 | sl_exact h6 | sl_exact h7 | sl_exact h8 | sl_exact h9 | sl_exact h2)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact stored _ _ hz _ _ _ (congrArg₂ k0_pay6 (loaded harg11 _ hz _) (loaded harg5 _ hz _))
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; refine hLeft x0 x1 x2 _ _ _ ?_; exact hRead x0 x1 x2 harg2 harg3 harg4
  isplitl [H8]
  · iexists _; isplitr
    swap; · iexact H8
    ipureintro; refine tLeft x0 x1 x2 _ _ _ ?_; exact tRead x0 x1 x2 harg2 harg3 harg4
  isplitl [H9]
  · iexists _; isplitr
    swap; · iexact H9
    ipureintro; exact harg11.read_unread _
  iexists _; isplitr
  swap; · iexact H10
  ipureintro; exact harg12.read_unread _

end Cert.Kernel7Ideal.Run

end
-- ==== Proof.Rest.Frame7.lean ====
/- The forward projection, point by point: what its buffers hold, the body at every point, the launch and the frame. -/
module

public import proofs.«01_k».proof.Proof.Rest.Run7A
public import proofs.«01_k».proof.Proof.Rest.Run7B
public import proofs.«01_k».proof.Proof.Rest.Run7C
public import Idealize.ShloMosaic.Lib.Claim

@[expose] public section

set_option maxRecDepth 16384

noncomputable section

namespace Cert.Kernel7Ideal.Run

open Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt32 (t : Fin cfg0.N) : t.val < 32 := lt_of_lt_of_eq t.isLt (show cfg0.N = 32 from N_0)

/-! ## The conditions over the grid -/

theorem cFirst : ∀ t : Fin cfg0.N, first (grid0.coords t) ↔ t.val = 0 := (by unfold first; decide +kernel : ∀ t : Fin grid0.N, first (grid0.coords t) ↔ t.val = 0)
theorem cEven : ∀ t : Fin cfg0.N, k0_cond2 (grid0.coords t) = 1#1 ↔ t.val / 4 % 2 = 0 := (by decide +kernel : ∀ t : Fin grid0.N, k0_cond2 (grid0.coords t) = 1#1 ↔ t.val / 4 % 2 = 0)
theorem cOdd : ∀ t : Fin cfg0.N, k0_cond6 (grid0.coords t) = 1#1 ↔ t.val / 4 % 2 = 1 := (by decide +kernel : ∀ t : Fin grid0.N, k0_cond6 (grid0.coords t) = 1#1 ↔ t.val / 4 % 2 = 1)
theorem cStart : ∀ t : Fin cfg0.N, k0_cond3 (grid0.coords t) = 1#1 ↔ t.val % 4 = 0 := (by decide +kernel : ∀ t : Fin grid0.N, k0_cond3 (grid0.coords t) = 1#1 ↔ t.val % 4 = 0)
theorem cAhead : ∀ t : Fin cfg0.N, k0_cond4 (grid0.coords t) = 1#1 ↔ t.val % 4 = 3 ∧ t.val < 28 := (by decide +kernel : ∀ t : Fin grid0.N, k0_cond4 (grid0.coords t) = 1#1 ↔ t.val % 4 = 3 ∧ t.val < 28)
theorem cStay : ∀ t : Fin cfg0.N, k0_cond5 (grid0.coords t) = 1#1 ↔ ¬(t.val % 4 = 3 ∧ t.val < 28) := (by decide +kernel : ∀ t : Fin grid0.N, k0_cond5 (grid0.coords t) = 1#1 ↔ ¬(t.val % 4 = 3 ∧ t.val < 28))

/-! ## What the buffers hold -/

/-- The point whose staged rows tile `i` is made from. -/
def pt (i : ℕ) : Fin cfg0.N := ⟨(4 * i - 1) % 32, lt_of_lt_of_eq (Nat.mod_lt _ (by norm_num)) (show 32 = cfg0.N from N_0.symm)⟩

/-- Tile `i`, normalised; and turned. -/
def Hb (c : Dev nD) (i : ℕ) : Vec F S1024x1024 .bf16 := hOf (iblk m c 0 (pt i)) (iblk m c 1 (pt i)) (iblk m c 2 (pt i))
def Tb (c : Dev nD) (i : ℕ) : Vec F S1024x1024 .bf16 := tOf (iblk m c 0 (pt i)) (iblk m c 1 (pt i)) (iblk m c 2 (pt i))

theorem Hb_at (c : Dev nD) (t : Fin cfg0.N) (i : ℕ) (h : t = pt i) : hOf (iblk m c 0 t) (iblk m c 1 t) (iblk m c 2 t) = Hb m c i := by subst h; rfl
theorem Tb_at (c : Dev nD) (t : Fin cfg0.N) (i : ℕ) (h : t = pt i) : tOf (iblk m c 0 t) (iblk m c 1 t) (iblk m c 2 t) = Tb m c i := by subst h; rfl

/-- Between points `n - 1` and `n` the tile being projected lies in its pair of scratch buffers. -/
def Inv (c : Dev nD) (n : ℕ) (s0 s1 s2 s3 : Vec F S1024x1024 .bf16) : Prop :=
  n ≠ 0 → n < 32 → (n / 4 % 2 = 0 → s0 = Hb m c (n / 4) ∧ s1 = Tb m c (n / 4)) ∧ (n / 4 % 2 = 1 → s2 = Hb m c (n / 4) ∧ s3 = Tb m c (n / 4))

/-- The body's carried state: the four scratch buffers, and the generator register. -/
def Carry (c : Dev nD) (n : ℕ) : sProp 𝕄 :=
  iprop(∃ s0, ∃ s1, ∃ s2, ∃ s3, owns (c : Thread nD τ) (Memref.whole cc0_scratch0) fullShare s0 ∗ owns (c : Thread nD τ) (Memref.whole cc0_scratch1) fullShare s1
    ∗ owns (c : Thread nD τ) (Memref.whole cc0_scratch2) fullShare s2 ∗ owns (c : Thread nD τ) (Memref.whole cc0_scratch3) fullShare s3
    ∗ ⌜Inv m c n s0 s1 s2 s3⌝ ∗ ∃ r, prngReg c r)

/-- The proof data: every input's buffer at its block, the outputs at the tile's projection, the tile and its turn. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay6 (Hb m c (t.val / 4)) (iblk m c 3 t)
    | ⟨5, _⟩ => Hb m c (t.val / 4)
    | ⟨6, _⟩ => Tb m c (t.val / 4)
  Φ t := Carry m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay6 (Hb m c (t.val / 4)) (iblk m c 3 t) := by dsimp only [dats]
theorem after5 (c : Dev nD) (t : Fin cfg0.N) : (dats m 0 c).after 5 t = Hb m c (t.val / 4) := by dsimp only [dats]
theorem after6 (c : Dev nD) (t : Fin cfg0.N) : (dats m 0 c).after 6 t = Tb m c (t.val / 4) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- The two outputs carried along a tile's columns are stored at the first column only. -/
theorem idle5 : ∀ t : Fin cfg0.N, cfg0.idle 5 (cfg0.grid.coords t) = !decide (t.val % 4 = 0) := (by decide +kernel : ∀ t : Fin grid0.N, idle0 5 (grid0.coords t) = !decide (t.val % 4 = 0))
theorem idle6 : ∀ t : Fin cfg0.N, cfg0.idle 6 (cfg0.grid.coords t) = !decide (t.val % 4 = 0) := (by decide +kernel : ∀ t : Fin grid0.N, idle0 6 (grid0.coords t) = !decide (t.val % 4 = 0))

/-- Away from a tile's first column such an output holds what the tile's first column left. -/
theorem before_along (c : Dev nD) (w : Fin cfg0.W) (hw : (cfg0.win w).isOut = true) (hflush : ∀ t, (cfg0.win w).flush t = true → t.val % 4 = 3)
    (hidle : ∀ t : Fin cfg0.N, cfg0.idle w (cfg0.grid.coords t) = !decide (t.val % 4 = 0)) (hclip : ∀ (i : cfg0.grid.Coords) a, (cfg0.win w).clip i a = none)
    (H : ℕ → (cfg0.win w).block.Idx → Elt F (cfg0.win w).elt) (hafter : ∀ t : Fin cfg0.N, (dats m 0 c).after w t = H (t.val / 4)) (d) :
    ∀ (n : ℕ) (hn : n < cfg0.N), n % 4 ≠ 0 → (dats m 0 c).before w ⟨n, hn⟩ d = H (n / 4) := by
  intro n
  induction n with
  | zero => intro _ h; exact absurd rfl h
  | succ n ih =>
    intro hn h
    have hb : n < cfg0.N := Nat.lt_of_succ_lt hn
    rw [(dats m 0 c).before_of_pos w ⟨n + 1, hn⟩ (Nat.succ_ne_zero n) ((cfg0.win w).fetch_out hw _),
      if_neg (fun h' => by have := hflush _ h'; dsimp only at this; omega)]
    unfold Dat.left
    rw [hidle]
    by_cases h0 : n % 4 = 0
    · simp only [Nat.add_sub_cancel, h0, decide_true, Bool.not_true]
      unfold Dat.kept
      rw [Pipeline.fill_of_clip_none w _ (hclip _) d ((dats m 0 c).after w _), Pipeline.Window.fill_cut, hafter]
      exact congrArg H (show n / 4 = (n + 1) / 4 by omega)
    · simp only [Nat.add_sub_cancel, h0, decide_false, Bool.not_false]
      exact (ih hb h0).trans (congrArg H (by omega))

theorem before5 (c : Dev nD) (t : Fin cfg0.N) (h : t.val % 4 ≠ 0) (d) : (dats m 0 c).before 5 t d = Hb m c (t.val / 4) :=
  before_along m c 5 rfl (fun t => (flush0_5 t).mp) idle5 (fun _ _ => rfl) (Hb m c) (after5 m c) d t.val t.isLt h
theorem before6 (c : Dev nD) (t : Fin cfg0.N) (h : t.val % 4 ≠ 0) (d) : (dats m 0 c).before 6 t d = Tb m c (t.val / 4) :=
  before_along m c 6 rfl (fun t => (flush0_6 t).mp) idle6 (fun _ _ => rfl) (Tb m c) (after6 m c) d t.val t.isLt h

/-- What the body leaves is what the obligation asks: its own contents, or what it found where it stores nothing. -/
theorem leave (c : Dev nD) (w : Fin cfg0.W) (t : Fin cfg0.N)
    (h : cfg0.idle w (cfg0.grid.coords t) = true → (cfg0.win w).flush t = false → (dats m 0 c).before w t ((dats m 0 c).after w t) = (dats m 0 c).after w t) :
    (owns (c : Thread nD τ) ((cfg0.win w).stage (cfg0.slots t w)) fullShare ((dats m 0 c).after w t) : sProp 𝕄) ⊢ (dats m 0 c).leavesExact w t := by
  unfold Dat.leavesExact
  cases hi : cfg0.idle w (cfg0.grid.coords t)
  · exact .rfl
  · cases hf : (cfg0.win w).flush t
    · have := h hi hf
      iintro H
      iexists (dats m 0 c).after w t
      rw [this]
      iexact H
    · exact .rfl

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3072 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1664 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1664 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)

/-! ## The body at every point -/

/-- The body run on the point's own buffers. -/
def GoesAt (c : Dev nD) (t : Fin cfg0.N) (o4 : Vec F S1024x1664 .bf16) (o5 o6 s0 s1 s2 s3 : Vec F S1024x1024 .bf16) (p4 : Vec F S1024x1664 .bf16) (p5 p6 q0 q1 q2 q3 : Vec F S1024x1024 .bf16) : Prop :=
  Goes c (grid0.coords t) (ms0 t) (hs0 t) (ms1 t) (hs1 t) (ms2 t) (hs2 t) (ms3 t) (hs3 t) (ms4 t) (hs4 t) (ms5 t) (hs5 t) (ms6 t) (hs6 t) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) o4 o5 o6 s0 s1 s2 s3 p4 p5 p6 q0 q1 q2 q3

/-- At every point the body leaves the tile's projection, the tile and its turn, and keeps the carried state. -/
theorem step (c : Dev nD) (t : Fin cfg0.N) (o4 : Vec F S1024x1664 .bf16) (o5 o6 s0 s1 s2 s3 : Vec F S1024x1024 .bf16) (hs : Inv m c t.val s0 s1 s2 s3)
    (ho : t.val % 4 ≠ 0 → o5 = Hb m c (t.val / 4) ∧ o6 = Tb m c (t.val / 4)) :
    ∃ q0 q1 q2 q3, GoesAt m c t o4 o5 o6 s0 s1 s2 s3 (k0_pay6 (Hb m c (t.val / 4)) (iblk m c 3 t)) (Hb m c (t.val / 4)) (Tb m c (t.val / 4)) q0 q1 q2 q3
      ∧ Inv m c (t.val + 1) q0 q1 q2 q3 := by
  have hN := lt32 t
  unfold GoesAt
  by_cases h0 : t.val = 0
  · have hp : t = pt (t.val / 4) := Fin.ext (by show t.val = (4 * (t.val / 4) - 1) % 32; omega)
    have e1 : (t.val + 1) / 4 = t.val / 4 := by omega
    have hH := Hb_at m c t _ hp
    have hT := Tb_at m c t _ hp
    rw [← hH, ← hT]
    refine ⟨_, _, _, _, runA c _ _ _ _ _ _ _ _ _ _ _ _ _ _ _ _ _ _ _ _ _ _ _ _ _ _ _ o4 o5 o6 s0 s1 s2 s3 ((cFirst t).mpr h0) ((cEven t).mpr (by omega)) ((cStart t).mpr (by omega))
      (fun h => absurd ((cAhead t).mp h).1 (by omega)) ((cStay t).mpr (by omega)) (fun h => absurd ((cOdd t).mp h) (by omega)), fun _ _ => ?_⟩
    rw [e1]
    exact ⟨fun _ => ⟨hH, hT⟩, fun h => absurd h (by omega)⟩
  · obtain ⟨he, hd⟩ := hs h0 hN
    have h1 : ¬first (grid0.coords t) := fun h => h0 ((cFirst t).mp h)
    by_cases hpar : t.val / 4 % 2 = 0
    · obtain ⟨rfl, rfl⟩ := he hpar
      have h2 := (cEven t).mpr hpar
      have h6 : ¬k0_cond6 (grid0.coords t) = 1#1 := fun h => absurd ((cOdd t).mp h) (by omega)
      by_cases hj : t.val % 4 = 0
      · refine ⟨_, _, _, _, runB0 c _ _ _ _ _ _ _ _ _ _ _ _ _ _ _ _ _ _ _ _ _ _ _ _ _ _ _ o4 o5 o6 _ _ s2 s3 h1 h2 ((cStart t).mpr hj) (fun h => absurd ((cAhead t).mp h).1 (by omega)) ((cStay t).mpr (by omega)) h6, fun _ _ => ?_⟩
        rw [show (t.val + 1) / 4 = t.val / 4 by omega]
        exact ⟨fun _ => ⟨rfl, rfl⟩, fun h => absurd h (by omega)⟩
      · obtain ⟨rfl, rfl⟩ := ho hj
        have h3 : ¬k0_cond3 (grid0.coords t) = 1#1 := fun h => hj ((cStart t).mp h)
        by_cases ha : t.val % 4 = 3 ∧ t.val < 28
        · have hp : t = pt ((t.val + 1) / 4) := Fin.ext (by show t.val = (4 * ((t.val + 1) / 4) - 1) % 32; omega)
          refine ⟨_, _, _, _, runB3 c _ _ _ _ _ _ _ _ _ _ _ _ _ _ _ _ _ _ _ _ _ _ _ _ _ _ _ o4 _ _ _ _ s2 s3 h1 h2 h3 ((cAhead t).mpr ha) (fun h => (cStay t).mp h ha) h6, fun _ _ => ?_⟩
          exact ⟨fun h => absurd h (by omega), fun _ => ⟨Hb_at m c t _ hp, Tb_at m c t _ hp⟩⟩
        · refine ⟨_, _, _, _, runB1 c _ _ _ _ _ _ _ _ _ _ _ _ _ _ _ _ _ _ _ _ _ _ _ _ _ _ _ o4 _ _ _ _ s2 s3 h1 h2 h3 (fun h => ha ((cAhead t).mp h)) ((cStay t).mpr ha) h6, fun _ h => ?_⟩
          rw [show (t.val + 1) / 4 = t.val / 4 by omega]
          exact ⟨fun _ => ⟨rfl, rfl⟩, fun h => absurd h (by omega)⟩
    · have hpar : t.val / 4 % 2 = 1 := by omega
      obtain ⟨rfl, rfl⟩ := hd hpar
      have h2 := (cOdd t).mpr hpar
      have h6 : ¬k0_cond2 (grid0.coords t) = 1#1 := fun h => absurd ((cEven t).mp h) (by omega)
      by_cases hj : t.val % 4 = 0
      · refine ⟨_, _, _, _, runC0 c _ _ _ _ _ _ _ _ _ _ _ _ _ _ _ _ _ _ _ _ _ _ _ _ _ _ _ o4 o5 o6 s0 s1 _ _ h1 h2 ((cStart t).mpr hj) (fun h => absurd ((cAhead t).mp h).1 (by omega)) ((cStay t).mpr (by omega)) h6, fun _ _ => ?_⟩
        rw [show (t.val + 1) / 4 = t.val / 4 by omega]
        exact ⟨fun h => absurd h (by omega), fun _ => ⟨rfl, rfl⟩⟩
      · obtain ⟨rfl, rfl⟩ := ho hj
        have h3 : ¬k0_cond7 (grid0.coords t) = 1#1 := fun h => hj ((cStart t).mp h)
        by_cases ha : t.val % 4 = 3 ∧ t.val < 28
        · have hp : t = pt ((t.val + 1) / 4) := Fin.ext (by show t.val = (4 * ((t.val + 1) / 4) - 1) % 32; omega)
          refine ⟨_, _, _, _, runC3 c _ _ _ _ _ _ _ _ _ _ _ _ _ _ _ _ _ _ _ _ _ _ _ _ _ _ _ o4 _ _ s0 s1 _ _ h1 h2 h3 ((cAhead t).mpr ha) (fun h => (cStay t).mp h ha) h6, fun _ _ => ?_⟩
          exact ⟨fun _ => ⟨Hb_at m c t _ hp, Tb_at m c t _ hp⟩, fun h => absurd h (by omega)⟩
        · refine ⟨_, _, _, _, runC1 c _ _ _ _ _ _ _ _ _ _ _ _ _ _ _ _ _ _ _ _ _ _ _ _ _ _ _ o4 _ _ s0 s1 _ _ h1 h2 h3 (fun h => ha ((cAhead t).mp h)) ((cStay t).mpr ha) h6, fun _ h => ?_⟩
          rw [show (t.val + 1) / 4 = t.val / 4 by omega]
          exact ⟨fun h => absurd h (by omega), fun _ => ⟨rfl, rfl⟩⟩

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Carry m c (t.val + 1) from rfl, show (dats m 0 c).Φ t.castSucc = Carry m c t.val from rfl,
    show (dats m 0 c).owesAt () t.succ = (dats m 0 c).owesAt () t.castSucc from rfl, after0, after1, after2, after3, after4, after5, after6]
  unfold Carry
  iintro ⟨⟨%s0, %s1, %s2, %s3, HS0, HS1, HS2, HS3, %hs, Hr⟩, Ho, ⟨%d0, H0⟩, ⟨%d1, H1⟩, ⟨%d2, H2⟩, ⟨%d3, H3⟩, ⟨%d4, H4⟩, ⟨%d5, H5⟩, ⟨%d6, H6⟩⟩
  obtain ⟨q0, q1, q2, q3, hgo, hq⟩ := step m c t ((dats m 0 c).before 4 t d4) ((dats m 0 c).before 5 t d5) ((dats m 0 c).before 6 t d6) s0 s1 s2 s3 hs
    (fun h => ⟨before5 m c t h d5, before6 m c t h d6⟩)
  iapply (hgo _)
  unfold Held
  isplitl [H0 H1 H2 H3 H4 H5 H6 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HS3
  iintro ⟨H0, H1, H2, H3, H4, H5, H6, HS0, HS1, HS2, HS3⟩
  isplitl [HS0 HS1 HS2 HS3 Hr]
  · iexists q0; iexists q1; iexists q2; iexists q3
    isplitl [HS0]; · iexact HS0
    isplitl [HS1]; · iexact HS1
    isplitl [HS2]; · iexact HS2
    isplitl [HS3]; · iexact HS3
    isplitr; · ipureintro; exact hq
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem leave0 (c : Dev nD) (t : Fin cfg0.N) : (owns (c : Thread nD τ) (ms0 t) fullShare ((dats m 0 c).after 0 t) : sProp 𝕄) ⊢ (dats m 0 c).leavesExact 0 t := leave m c 0 t fun h => absurd h Bool.false_ne_true
theorem leave1 (c : Dev nD) (t : Fin cfg0.N) : (owns (c : Thread nD τ) (ms1 t) fullShare ((dats m 0 c).after 1 t) : sProp 𝕄) ⊢ (dats m 0 c).leavesExact 1 t := leave m c 1 t fun h => absurd h Bool.false_ne_true
theorem leave2 (c : Dev nD) (t : Fin cfg0.N) : (owns (c : Thread nD τ) (ms2 t) fullShare ((dats m 0 c).after 2 t) : sProp 𝕄) ⊢ (dats m 0 c).leavesExact 2 t := leave m c 2 t fun h => absurd h Bool.false_ne_true
theorem leave3 (c : Dev nD) (t : Fin cfg0.N) : (owns (c : Thread nD τ) (ms3 t) fullShare ((dats m 0 c).after 3 t) : sProp 𝕄) ⊢ (dats m 0 c).leavesExact 3 t := leave m c 3 t fun h => absurd h Bool.false_ne_true
theorem leave4 (c : Dev nD) (t : Fin cfg0.N) : (owns (c : Thread nD τ) (ms4 t) fullShare ((dats m 0 c).after 4 t) : sProp 𝕄) ⊢ (dats m 0 c).leavesExact 4 t :=
  leave m c 4 t fun _ h => absurd ((flush0_4 t).symm.trans h) Bool.noConfusion
theorem leave5 (c : Dev nD) (t : Fin cfg0.N) : (owns (c : Thread nD τ) (ms5 t) fullShare ((dats m 0 c).after 5 t) : sProp 𝕄) ⊢ (dats m 0 c).leavesExact 5 t :=
  leave m c 5 t fun h _ => (before5 m c t (fun h0 => by rw [idle5, h0] at h; exact absurd h (by decide)) _).trans (after5 m c t).symm
theorem leave6 (c : Dev nD) (t : Fin cfg0.N) : (owns (c : Thread nD τ) (ms6 t) fullShare ((dats m 0 c).after 6 t) : sProp 𝕄) ⊢ (dats m 0 c).leavesExact 6 t :=
  leave m c 6 t fun h _ => (before6 m c t (fun h0 => by rw [idle6, h0] at h; exact absurd h (by decide)) _).trans (after6 m c t).symm

/-- What the obligation asks at the end of a point. -/
def bodyLeft (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem left_of_post (c : Dev nD) (t : Fin cfg0.N) : bodyPost m c t ⊢ bodyLeft m c t := by
  unfold bodyPost bodyLeft
  iintro ⟨HP, Ho, H0, H1, H2, H3, H4, H5, H6⟩
  isplitl [HP]; · iexact HP
  isplitl [Ho]; · iexact Ho
  isplitl [H0]; · iapply (leave0 m c t); iexact H0
  isplitl [H1]; · iapply (leave1 m c t); iexact H1
  isplitl [H2]; · iapply (leave2 m c t); iexact H2
  isplitl [H3]; · iapply (leave3 m c t); iexact H3
  isplitl [H4]; · iapply (leave4 m c t); iexact H4
  isplitl [H5]; · iapply (leave5 m c t); iexact H5
  iapply (leave6 m c t); iexact H6

theorem sound_left (c : Dev nD) (t : Fin cfg0.N) :
    bodyPre m c t ⊢ wp frame (wpE (defs₀ (F := F)) Variants.none c none) Set.univ (bodyAt0 t) (fun _ => bodyLeft m c t) :=
  (sound_body m c t).trans (wp_mono _ _ _ fun _ => left_of_post m c t)

set_option maxHeartbeats 1600000 in
/-- The body obligation, at every point. -/
theorem body_obligation (c : Dev nD) : BodyObligation (dats (F := F) m 0 c) (defs₀ (F := F)) Variants.none () Set.univ := fun t => by
  rw [bigSep_W0, bigSep_W0, defs₀_row]
  exact triple_restated (sound_left m c t) rfl .rfl fun _ => .rfl

/-! ## The launch and the frame -/

/-- Before the first point the scratch holds anything. -/
theorem hin (c : Dev nD) : Pipeline.ΦA spec0 c ⊢ (dats m 0 c).Φ 0 := by
  rw [show (dats m 0 c).Φ 0 = Carry m c 0 from rfl]
  unfold Pipeline.ΦA Carry
  rw [scopedRest0_eq]; simp only [owns_whole]
  iintro ⟨⟨⟨%f0, H0⟩, ⟨%f1, H1⟩, ⟨%f2, H2⟩, ⟨%f3, H3⟩⟩, Hr⟩
  iexists f0; iexists f1; iexists f2; iexists f3
  isplitl [H0]; · iexact H0
  isplitl [H1]; · iexact H1
  isplitl [H2]; · iexact H2
  isplitl [H3]; · iexact H3
  isplitr; · ipureintro; exact fun h => absurd rfl h
  iexact Hr

/-- After the last point what the scratch holds is forgotten. -/
theorem hout (c : Dev nD) : (dats m 0 c).Φ (Fin.last cfg0.N) ⊢ Pipeline.ΦA spec0 c := by
  rw [show (dats m 0 c).Φ (Fin.last cfg0.N) = Carry m c (Fin.last cfg0.N).val from rfl]
  unfold Pipeline.ΦA Carry
  rw [scopedRest0_eq]; simp only [owns_whole]
  iintro ⟨%s0, %s1, %s2, %s3, H0, H1, H2, H3, -, Hr⟩
  isplitl [H0 H1 H2 H3]
  · isplitl [H0]; · iexists _; iexact H0
    isplitl [H1]; · iexists _; iexact H1
    isplitl [H2]; · iexists _; iexact H2
    iexists _; iexact H3
  iexact Hr

set_option backward.isDefEq.respectTransparency.types false in
/-- The launch: every array at what the proof data says, and every semaphore counter at zero, at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The kernel ends with its arguments unchanged and every counter at zero, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel7Ideal.Run

end
-- ==== Proof.Rest.K7.lean ====
module

public import proofs.«01_k».proof.Proof.Rest.Frame7
public import proofs.«01_k».proof.Proof.Rest.Norm
public import proofs.«01_k».proof.Proof.Rest.Prod
public import proofs.«01_k».proof.Proof.Mid.Reads
public import Idealize.ShloMosaic.Lib.Pipeline.ValueKit
public import Idealize.ShloMosaic.Lib.Pipeline.ReadBack
public import proofs.«01_k».proof.Defs

@[expose] public section

set_option maxRecDepth 16384

/-!
# The forward projection

The normalised rows, what the kernel's chunks and the reference make of them, and the three results.
-/

noncomputable section

namespace Cert.Fwd

open Idealize.ShloMosaic Cert.Ext Cert.Norm

variable (x md nw : ℕ → ℕ → EReal)

/-- A normalised row, weighted, scaled and shifted. -/
def hv (r c : ℕ) : EReal := xh x r c * nw 0 c * (((1 : ℝ) : EReal) + md 0 (1024 + c)) + md 0 c

/-- A matrix turned. -/
theorem transpose_E {R C : ℕ} (f : ℕ → ℕ → EReal) (h : (⟨2, ![R, C]⟩ : Shape).Transposes [1, 0] ⟨2, ![C, R]⟩) :
    transpose (⟨2, ![C, R]⟩ : Shape) [1, 0] (E f : (⟨2, ![R, C]⟩ : Shape).Idx → EReal) h = E fun r c => f c r := by
  funext i
  obtain ⟨a, b, rfl⟩ : ∃ a b, i = ValueIdx.ix2 a b := ⟨_, _, ValueIdx.eq_ix2 i⟩
  exact ValueIdx.transpose_ix2_apply _ h a b

section Pay
open Cert.Kernel7Ideal Cert.Kernel7Ideal.Gen Cert.Kernel7Ideal.Run Cert.KernelIdeal.Mid

variable (s l : ℕ → ℕ → EReal)

theorem rowsum (f : ℕ → ℕ → EReal) (h : (⟨2, ![256, 1024]⟩ : Shape).Reduces [1] S256) (hφ : FTy.f32 = .f32 ∨ FTy.f32 = .bf16) (hacc : (0#32 : BitVec 32) = 0#32) :
    multiReduction (F := Ideal) (φ := .f32) (s := ⟨2, ![256, 1024]⟩) .add [1] S256 (E f) 0x00000000#32 h hφ hacc = W fun r => ∑ c ∈ Finset.range 1024, f r c :=
  rowsum_E f _ _ _ _

/-- One and the scale. -/
theorem p20 : k0_pay20 (F := Ideal) (E l) = E fun r c => ((1 : ℝ) : EReal) + l r c := by
  unfold k0_pay20
  dsimp only
  rw [bc_E Lift.w1, addf_E]

/-- A chunk before it is stored. -/
theorem p32 : k0_pay32 (F := Ideal) (E s) (k0_pay20 (E l)) (E x) (E nw) = E fun r c => xh x r c * nw 0 c * (((1 : ℝ) : EReal) + l 0 c) + s 0 c := by
  unfold k0_pay32
  dsimp only
  rw [p20, mulf_E, rowsum, shapeCastCol_E, bc_E wcols, bc_E weps, divf_E, addf_E, rsqrt_E, broadcastToCol_E, mulf_E, broadcastTo_E, mulf_E, broadcastTo_E, mulf_E, broadcastTo_E, addf_E]
  rfl

/-- A chunk as it is stored. -/
theorem rowPay_E : rowPay (F := Ideal) (E s) (E l) (E x) (E nw) = E fun r c => xh x r c * nw 0 c * (((1 : ℝ) : EReal) + l 0 c) + s 0 c := by
  unfold rowPay k0_pay33
  dsimp only
  rw [p32]
  exact shapeCast_self _ _

/-- The chunk as it is stored turned. -/
theorem colPay_E : colPay (F := Ideal) (E s) (E l) (E x) (E nw) = E fun r c => xh x c r * nw 0 r * (((1 : ℝ) : EReal) + l 0 r) + s 0 r := by
  unfold colPay k0_pay5 k0_pay34
  dsimp only
  rw [p32]
  refine (shapeCast_self _ _).trans ?_
  exact transpose_E (R := 256) (C := 1024) (fun r c => xh x r c * nw 0 c * (((1 : ℝ) : EReal) + l 0 c) + s 0 c) _

theorem shiftOf_E : shiftOf (F := Ideal) (E md) = E fun r c => md (0 + r) (0 + c) := ld_E 0 0 _ md
theorem scaleOf_E : scaleOf (F := Ideal) (E md) = E fun r c => md (0 + r) (1024 + c) := ld_E 0 1024 _ md
theorem weightOf_E : weightOf (F := Ideal) (E nw) = E nw := ld_whole (R := 1) (C := 1024) (e := .f32) (E nw) _
theorem rows_ld (o : ℕ) (inb) : rows (F := Ideal) (E x) o inb = E fun r c => x (o + r) (0 + c) := ld_E o 0 inb x

theorem rowPiece (o : ℕ) (inb) (y : S256x1024.Idx) :
    rowPay (F := Ideal) (shiftOf (E md)) (scaleOf (E md)) (rows (E x) o inb) (weightOf (E nw)) y
      = (E (hv x md nw) : S1024x1024.Idx → EReal) ((Rect.unit (s := S1024x1024) ![o, 0] S256x1024.size inb).emb y) := by
  rw [shiftOf_E, scaleOf_E, weightOf_E, rows_ld, rowPay_E]
  refine Eq.trans ?_ (congrArg₂ (hv x md nw) (show o + (y 0).val = o + 1 * (y 0).val by omega) (show (y 1).val = 0 + 1 * (y 1).val by omega))
  simp only [E, hv, xh, rs, ms, Nat.zero_add]

theorem colPiece (o : ℕ) (inb) (inb') (y : S1024x256.Idx) :
    colPay (F := Ideal) (shiftOf (E md)) (scaleOf (E md)) (rows (E x) o inb) (weightOf (E nw)) y
      = (E (fun r c => hv x md nw c r) : S1024x1024.Idx → EReal) ((Rect.unit (s := S1024x1024) ![0, o] S1024x256.size inb').emb y) := by
  rw [shiftOf_E, scaleOf_E, weightOf_E, rows_ld, colPay_E]
  refine Eq.trans ?_ (congrArg₂ (hv x md nw) (show o + (y 1).val = o + 1 * (y 1).val by omega) (show (y 0).val = 0 + 1 * (y 0).val by omega))
  simp only [E, hv, xh, rs, ms, Nat.zero_add]

/-- The tile a point makes. -/
theorem hOf_E : hOf (F := Ideal) (E x) (E md) (E nw) = E (hv x md nw) :=
  canon_eq_of_pieces _ _ ⟨rowPiece x md nw 768 _, rowPiece x md nw 512 _, rowPiece x md nw 256 _, rowPiece x md nw 0 _, trivial⟩ (hCover _ _ _)
/-- The tile turned. -/
theorem tOf_E : tOf (F := Ideal) (E x) (E md) (E nw) = E fun r c => hv x md nw c r :=
  canon_eq_of_pieces _ _ ⟨colPiece x md nw 768 _ inb_S1024x1024_S1024x256_0_768, colPiece x md nw 512 _ inb_S1024x1024_S1024x256_0_512, colPiece x md nw 256 _ inb_S1024x1024_S1024x256_0_256, colPiece x md nw 0 _ inb_S1024x1024_S1024x256_0_0, trivial⟩ (tCover _ _ _)

end Pay

section Ref
open Cert.Reference7Ideal Cert.Reference7Ideal.Gen Cert.Reference7Ideal.Read

/-- The reference's normalised rows. -/
theorem v19 : val_main_v19 (F := Ideal) (E x : S8192x1024.Idx → EReal) (E md : S1x3072.Idx → EReal) (E nw : S1x1024.Idx → EReal) = (E (hv x md nw) : S8192x1024.Idx → EReal) := by
  unfold val_main_v19 val_main_v18 val_main_v17 val_main_v16 val_main_v15 val_main_v14 val_main_cst_2 val_main_v13 val_main_v12 val_main_v11 val_main_v10 val_main_v9 val_main_v8
    val_main_v7 val_main_cst_1 val_main_v6 val_main_v5 val_main_cst_0 val_main_v4 val_main_v3 val_main_cst val_main_v2 val_main_v1 val_main_v0
  rw [mulf_E, hrowsum_E _ _ (by decide), bidVec_E, bid_E wcols, bid_E weps, hdivf_E, addf_E, hrsqrt_E, bidCol_E, mulf_E, bidRow_E, mulf_E, slice_E, slice_E, bid_E Lift.w1, addf_E,
    bidRow_E, mulf_E, bidRow_E, addf_E]
  exact E_congr fun r c _ _ => by simp only [hv, xh, rs, ms, Nat.zero_add]

theorem v23 : val_main_v23 (F := Ideal) (E x : S8192x1024.Idx → EReal) (E md : S1x3072.Idx → EReal) (E nw : S1x1024.Idx → EReal) = (E (hv x md nw) : S8192x1024.Idx → EReal) :=
  v19 x md nw

theorem v25 : val_main_v25 (F := Ideal) (E x : S8192x1024.Idx → EReal) (E md : S1x3072.Idx → EReal) (E nw : S1x1024.Idx → EReal) = (E (fun r c => hv x md nw c r) : S1024x8192.Idx → EReal) := by
  have h : val_main_v24 (F := Ideal) (E x : S8192x1024.Idx → EReal) (E md : S1x3072.Idx → EReal) (E nw : S1x1024.Idx → EReal) = (E (fun r c => hv x md nw c r) : S1024x8192.Idx → EReal) := by
    unfold val_main_v24
    rw [v19]
    exact transpose_E (R := 8192) (C := 1024) _ _
  exact h

/-- An entry of the reference's projection. -/
theorem v22 (x3 : S1024x6656.Idx → EReal) (i : S8192x6656.Idx) :
    val_main_v22 (F := Ideal) (E x : S8192x1024.Idx → EReal) (E md : S1x3072.Idx → EReal) (E nw : S1x1024.Idx → EReal) x3 i
      = ∑ k : Fin 1024, (E (hv x md nw) : S8192x1024.Idx → EReal) (ValueIdx.ix2 (i 0) k) * x3 (ValueIdx.ix2 k (i 1)) := by
  rw [val_main_v22_apply]
  refine (val_main_v21_apply _ _ _ _ _).trans (Finset.sum_congr rfl fun k _ => ?_)
  rw [v19, val_main_v20_apply]
  exact congrArg₂ (· * ·) (congrArg _ (Cert.Prod.idx_ext rfl rfl)) (congrArg x3 (Cert.Prod.idx_ext rfl rfl))

end Ref
end Cert.Fwd

namespace Cert.Kernel7Ideal.Val

open Cert.Kernel7Ideal Cert.Kernel7Ideal.Gen Cert.Kernel7Ideal.Run Idealize.ShloMosaic Idealize.ShloMosaic.TcCoe
open Idealize.SL.Sem
open Cert.Ext Cert.Norm Cert.Fwd

variable {m : (ℓ : Loc nD τ sig) → Buf (Elt Ideal) ℓ} {c : Dev nD} {x md nw : ℕ → ℕ → EReal}

variable (m c x md nw) in
/-- What the memory holds in the first three arguments. -/
structure Mem : Prop where
  a0 : m ((c : Thread nD τ).loc main_arg0) = (E x : S8192x1024.Idx → EReal)
  a1 : m ((c : Thread nD τ).loc main_arg1) = (E md : S1x3072.Idx → EReal)
  a2 : m ((c : Thread nD τ).loc main_arg2) = (E nw : S1x1024.Idx → EReal)

/-- The blocks a tile is made from. -/
theorem blocks (A : Mem m c x md nw) (i : ℕ) (h8 : i < 8) : iblk m c 0 (pt i) = (E (sh (1024 * i) x) : S1024x1024.Idx → EReal)
    ∧ iblk m c 1 (pt i) = (E md : S1x3072.Idx → EReal) ∧ iblk m c 2 (pt i) = (E nw : S1x1024.Idx → EReal) := by
  have hi : ∀ i : Fin 8, (win0_0.index (pt i.val) 0 * win0_0.size 0 = 1024 * i.val ∧ win0_0.index (pt i.val) 1 = 0)
      ∧ (win0_1.index (pt i.val) 0 = 0 ∧ win0_1.index (pt i.val) 1 = 0) ∧ (win0_2.index (pt i.val) 0 = 0 ∧ win0_2.index (pt i.val) 1 = 0) := by decide +kernel
  obtain ⟨h0, h1, h2⟩ := hi ⟨i, h8⟩
  dsimp only at h0 h1 h2
  have e0 : iblk m c 0 (pt i) = fun y => (V m c main_arg0 : S8192x1024.Idx → EReal) ((win0_0.rect (pt i)).emb y) := rfl
  have e1 : iblk m c 1 (pt i) = fun y => (V m c main_arg1 : S1x3072.Idx → EReal) ((win0_1.rect (pt i)).emb y) := rfl
  have e2 : iblk m c 2 (pt i) = fun y => (V m c main_arg2 : S1x1024.Idx → EReal) ((win0_2.rect (pt i)).emb y) := rfl
  rw [V_main_arg0, A.a0] at e0
  rw [V_main_arg1, A.a1] at e1
  rw [V_main_arg2, A.a2] at e2
  refine ⟨e0.trans ?_, e1.trans ?_, e2.trans ?_⟩
  · exact rows_E (R := 8192) (R' := 1024) (C := 1024) _ _ _ (fun y => (win0_0.rect_emb_val (pt i) y 0).trans (by rw [h0.1])) (win0_0.rect_emb_val_of_index_zero (pt i) 1 h0.2)
  · exact all_E (R := 1) (C := 3072) _ _ (win0_1.rect_emb_val_of_index_zero (pt i) 0 h1.1) (win0_1.rect_emb_val_of_index_zero (pt i) 1 h1.2)
  · exact all_E (R := 1) (C := 1024) _ _ (win0_2.rect_emb_val_of_index_zero (pt i) 0 h2.1) (win0_2.rect_emb_val_of_index_zero (pt i) 1 h2.2)

theorem Hb_E (A : Mem m c x md nw) (i : ℕ) (h8 : i < 8) : Hb m c i = (E (sh (1024 * i) (hv x md nw)) : S1024x1024.Idx → EReal) := by
  obtain ⟨h0, h1, h2⟩ := blocks A i h8
  unfold Hb
  rw [h0, h1, h2]
  exact hOf_E _ md nw
theorem Tb_E (A : Mem m c x md nw) (i : ℕ) (h8 : i < 8) : Tb m c i = (E (fun r k => hv x md nw (1024 * i + k) r) : S1024x1024.Idx → EReal) := by
  obtain ⟨h0, h1, h2⟩ := blocks A i h8
  unfold Tb
  rw [h0, h1, h2]
  exact tOf_E _ md nw

theorem lt8 (t : Fin cfg0.N) : t.val / 4 < 8 := by have := lt32 t; omega

/-- The normalised rows. -/
theorem arr5 (A : Mem m c x md nw) : (dats m 0 c).arrAt 5 cfg0.N = (E (hv x md nw) : S8192x1024.Idx → EReal) := by
  have hi : ∀ t : Fin cfg0.N, win0_5.index t 0 * win0_5.size 0 = 1024 * (t.val / 4) ∧ win0_5.index t 1 = 0 := by decide +kernel
  refine (dats m 0 c).arrAt_eq_of_covers 5 _ (by decide +kernel) fun t _ y => ?_
  refine (congrFun ((after5 m c t).trans (Hb_E A _ (lt8 t))) _).trans ?_
  exact (congrArg₂ (hv x md nw) ((win0_5.rect_emb_val t y 0).trans (by rw [(hi t).1])).symm
    (win0_5.rect_emb_val_of_index_zero t 1 (hi t).2 y).symm)

/-- The normalised rows, turned. -/
theorem arr6 (A : Mem m c x md nw) : (dats m 0 c).arrAt 6 cfg0.N = (E (fun r k => hv x md nw k r) : S1024x8192.Idx → EReal) := by
  have hi : ∀ t : Fin cfg0.N, win0_6.index t 0 = 0 ∧ win0_6.index t 1 * win0_6.size 1 = 1024 * (t.val / 4) := by decide +kernel
  refine (dats m 0 c).arrAt_eq_of_covers 6 _ (by decide +kernel) fun t _ y => ?_
  refine (congrFun ((after6 m c t).trans (Tb_E A _ (lt8 t))) _).trans ?_
  exact (congrArg₂ (hv x md nw) ((win0_6.rect_emb_val t y 1).trans (by rw [(hi t).2])).symm
    (win0_6.rect_emb_val_of_index_zero t 0 (hi t).1 y).symm)

/-- The projection. -/
theorem arr4 (A : Mem m c x md nw) : (dats m 0 c).arrAt 4 cfg0.N
    = Cert.Reference7Ideal.Read.val_main_v22 (F := Ideal) (E x : S8192x1024.Idx → EReal) (E md : S1x3072.Idx → EReal) (E nw : S1x1024.Idx → EReal) (V m c main_arg3) := by
  have hi : ∀ t : Fin cfg0.N, (win0_5.index t 0 * win0_5.size 0 = 1024 * (t.val / 4) ∧ win0_5.index t 1 = 0) ∧ win0_4.index t 0 * win0_4.size 0 = 1024 * (t.val / 4)
      ∧ win0_3.index t 0 = 0 ∧ win0_3.index t 1 * win0_3.size 1 = win0_4.index t 1 * win0_4.size 1 := by decide +kernel
  refine (dats m 0 c).arrAt_eq_of_covers 4 _ (by decide +kernel) fun t _ y => ?_
  obtain ⟨⟨h50, h51⟩, h40, h30, h31⟩ := hi t
  refine (congrFun (after4 m c t) _).trans ?_
  have e0 : Hb m c (t.val / 4) = fun y => (E (hv x md nw) : S8192x1024.Idx → EReal) ((win0_5.rect t).emb y) :=
    (Hb_E A _ (lt8 t)).trans (rows_E (R := 8192) (R' := 1024) (C := 1024) _ _ _ (fun y => (win0_5.rect_emb_val t y 0).trans (by rw [h50])) (win0_5.rect_emb_val_of_index_zero t 1 h51)).symm
  have e3 : iblk m c 3 t = fun y => (V m c main_arg3 : S1024x6656.Idx → EReal) ((win0_3.rect t).emb y) := rfl
  refine (Cert.Prod.nn (R := 1024) (K := 1024) (C := 1664) (φ₁ := .bf16) (φ₂ := .bf16) rfl none (Hb m c (t.val / 4)) (iblk m c 3 t) _).trans ?_
  refine Eq.trans ?_ (v22 x md nw _ _).symm
  rw [e0, e3]
  exact Cert.Prod.slab (R := 1024) (K := 1024) (C := 1664) (E (hv x md nw) : S8192x1024.Idx → EReal) (V m c main_arg3 : S1024x6656.Idx → EReal) y _
    (fun z hz => (win0_5.rect_emb_val t z 0).trans ((congrArg₂ (· + ·) (h50.trans h40.symm) hz).trans (win0_4.rect_emb_val t y 0).symm))
    (win0_5.rect_emb_val_of_index_zero t 1 h51) (win0_3.rect_emb_val_of_index_zero t 0 h30)
    (fun z hz => (win0_3.rect_emb_val t z 1).trans ((congrArg₂ (· + ·) h31 hz).trans (win0_4.rect_emb_val t y 1).symm))

/-- The launch, each result named. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, (h.1 c).1 5, (h.1 c).1 6, h.2.1 c⟩) (θ_run_and (run_main m ρ) (frame m ρ))

theorem inputs (m : (ℓ : Loc nD τ sig) → Buf (Elt Ideal) ℓ) (c : Dev nD) : ∃ p : (ℕ → ℕ → EReal) × (ℕ → ℕ → EReal) × (ℕ → ℕ → EReal), Mem m c p.1 p.2.1 p.2.2 := by
  obtain ⟨f0, e0⟩ := exists_E (R := 8192) (C := 1024) (m ((c : Thread nD τ).loc main_arg0))
  obtain ⟨f1, e1⟩ := exists_E (R := 1) (C := 3072) (m ((c : Thread nD τ).loc main_arg1))
  obtain ⟨f2, e2⟩ := exists_E (R := 1) (C := 1024) (m ((c : Thread nD τ).loc main_arg2))
  exact ⟨(f0, f1, f2), ⟨e0, e1, e2⟩⟩

/-- The kernel and the reference leave the same projection, the same normalised rows and the same rows turned, whatever the arguments hold. -/
theorem algebraic : Cert.algebraic_Kernel7Ideal_Reference7Ideal := by
  intro m g m' g' _ hargs
  choose I A using inputs m
  refine ⟨fun c => Cert.Reference7Ideal.Read.val_main_v22 (F := Ideal) (E (I c).1 : S8192x1024.Idx → EReal) (E (I c).2.1 : S1x3072.Idx → EReal) (E (I c).2.2 : S1x1024.Idx → EReal) (V m c main_arg3),
    fun c => E (hv (I c).1 (I c).2.1 (I c).2.2), fun c => E fun r k => hv (I c).1 (I c).2.1 (I c).2.2 k r, ?_, ?_⟩
  · exact (θ_run _ _ _).mono (fun r h c => ⟨(h c).1.trans (arr4 (A c)), (h c).2.1.trans (arr5 (A c)), (h c).2.2.1.trans (arr6 (A c)), (h c).2.2.2⟩) (run m g)
  · refine (θ_run _ _ _).mono (fun r h c => ⟨(h c).1.trans ?_, (h c).2.1.trans ?_, (h c).2.2.1.trans ?_, (h c).2.2.2⟩) (Cert.Reference7Ideal.Value.run (F := Ideal) m' g')
    · refine (Cert.Reference7Ideal.Read.val_main_v22_eq _ _ _ _).trans ?_
      rw [(hargs c).1, (hargs c).2.1, (hargs c).2.2.1, (hargs c).2.2.2, (A c).a0, (A c).a1, (A c).a2]
    · refine (Cert.Reference7Ideal.Read.val_main_v23_eq _ _ _).trans ?_
      rw [(hargs c).1, (hargs c).2.1, (hargs c).2.2.1, (A c).a0, (A c).a1, (A c).a2]
      exact v23 _ _ _
    · refine (Cert.Reference7Ideal.Read.val_main_v25_eq _ _ _).trans ?_
      rw [(hargs c).1, (hargs c).2.1, (hargs c).2.2.1, (A c).a0, (A c).a1, (A c).a2]
      exact v25 _ _ _

end Cert.Kernel7Ideal.Val
end
-- ==== Proof.Rest.Same7.lean ====
module

public import proofs.«01_k».proof.Defs
public import proofs.«01_k».proof.Proof.Rest.Frame7
public import proofs.«01_k».proof.Proof.Gen.Kernel7.Frame

@[expose] public section

set_option maxRecDepth 16384

/-!
# The forward projection's frame, from the run of its other reading

`Kernel7` and `Kernel7Ideal` are one text under two names.
-/

noncomputable section

namespace Cert.Same7

open Idealize.ShloMosaic Idealize.ShloMosaic.TcCoe Idealize.SL.Sem

set_option maxHeartbeats 2000000 in
set_option backward.isDefEq.respectTransparency false in
set_option backward.isDefEq.respectTransparency.types false in
theorem defs0_eq : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | ⟨0, _⟩, (t, s) => rfl

set_option maxHeartbeats 2000000 in
set_option backward.isDefEq.respectTransparency false in
set_option backward.isDefEq.respectTransparency.types false in
theorem defs_eq : Cert.Kernel7.defs (F := Bits) = Cert.Kernel7Ideal.defs (F := Bits) := by
  unfold Cert.Kernel7.defs Cert.Kernel7Ideal.defs
  rw [defs0_eq]
  rfl

set_option maxHeartbeats 2000000 in
set_option backward.isDefEq.respectTransparency false in
set_option backward.isDefEq.respectTransparency.types false in
theorem main_eq : Cert.Kernel7.main (F := Bits) = Cert.Kernel7Ideal.main (F := Bits) := by
  unfold Cert.Kernel7.main Cert.Kernel7Ideal.main
  rfl

set_option maxHeartbeats 2000000 in
set_option backward.isDefEq.respectTransparency false in
set_option backward.isDefEq.respectTransparency.types false in
/-- The kernel ends with its arguments unchanged and every counter at zero. -/
theorem frame_kernel : Cert.quiescent_Kernel7 := fun m ρ _ => by
  rw [defs_eq, main_eq]
  exact Cert.Kernel7Ideal.Run.frame (F := Bits) m ρ

/-- So does its other reading. -/
theorem frame_ideal : Cert.quiescent_Kernel7Ideal := fun m ρ _ => Cert.Kernel7Ideal.Run.frame (F := Ideal) m ρ

end Cert.Same7
end
-- ==== Proof.Rest.C8.lean ====
module

public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
-- ==== Proof.Rest.Adam.lean ====
module

public import proofs.«01_k».proof.Proof.Rest.Prod
public import Idealize.ShloMosaic.Lib.Pipeline.ValueKit

@[expose] public section

/-!
# The optimiser's step at an index

The moments and the change of one weight, and one entry of a gradient put together from two halves.
-/

noncomputable section

namespace Cert.Adam

open Idealize.ShloMosaic Idealize.ShloMosaic.ValueIdx

/-- A number written in the program. -/
abbrev k (b : BitVec 32) : EReal := FloatOps.ofBits (F := Ideal) .f32 b

/-- The new first moment. -/
def mom (m g : EReal) : EReal := FloatOps.addf (F := Ideal) (φ := .f32) (FloatOps.mulf (F := Ideal) (φ := .f32) (k 0x3F666666#32) m) (FloatOps.mulf (F := Ideal) (φ := .f32) (k 0x3DCCCCCD#32) g)

/-- The new second moment. -/
def var (v g : EReal) : EReal :=
  FloatOps.addf (F := Ideal) (φ := .f32) (FloatOps.mulf (F := Ideal) (φ := .f32) (k 0x3F7FBE77#32) v) (FloatOps.mulf (F := Ideal) (φ := .f32) (k 0x3A83126F#32) (FloatOps.mulf (F := Ideal) (φ := .f32) g g))

/-- The change of the weight. -/
def delta (w m v g : EReal) : EReal :=
  FloatOps.mulf (F := Ideal) (φ := .f32) (k 0xBA83126F#32)
    (FloatOps.addf (F := Ideal) (φ := .f32)
      (FloatOps.divf (F := Ideal) (φ := .f32) (FloatOps.divf (F := Ideal) (φ := .f32) (mom m g) (k 0x3F26BD02#32))
        (FloatOps.addf (F := Ideal) (φ := .f32) (FloatOps.sqrt (F := Ideal) (φ := .f32) (FloatOps.divf (F := Ideal) (φ := .f32) (var v g) (k 0x3C231ACC#32))) (k 0x322BCC77#32)))
      (FloatOps.mulf (F := Ideal) (φ := .f32) (k 0x3C23D70A#32) w))

section Host
variable {t : Shape} {dims : Fin 0 → Fin t.rank} (hb : (⟨0, ![]⟩ : Shape).BroadcastsInDim t dims)

/-- A number of the program spread over a shape by the host. -/
abbrev spreadK (b : BitVec 32) : FVec Ideal t .f32 := broadcastInDim t dims hb (constant ⟨0, ![]⟩ .f32 b)

theorem spreadK_apply (b : BitVec 32) (i : t.Idx) : spreadK hb b i = k b := broadcastInDim_apply _ hb _ i (fun a => a.elim0) (fun a => a.elim0)

variable (w g m v : FVec Ideal t .f32) (i : t.Idx)

/-- The host's first moment at an index. -/
theorem host_m : addf (mulf (spreadK hb 0x3F666666#32) m) (mulf (spreadK hb 0x3DCCCCCD#32) g) i = mom (m i) (g i) := by
  simp only [addf, mulf, spreadK_apply]; rfl

/-- The host's second moment at an index. -/
theorem host_v : addf (mulf (spreadK hb 0x3F7FBE77#32) v) (mulf (spreadK hb 0x3A83126F#32) (mulf g g)) i = var (v i) (g i) := by
  simp only [addf, mulf, spreadK_apply]; rfl

/-- The host's change at an index, the moments given there. -/
theorem host_d (x y : FVec Ideal t .f32) (hx : x i = mom (m i) (g i)) (hy : y i = var (v i) (g i)) :
    mulf (spreadK hb 0xBA83126F#32) (addf (Host.divf (Host.divf x (spreadK hb 0x3F26BD02#32)) (addf (Host.sqrt (Host.divf y (spreadK hb 0x3C231ACC#32))) (spreadK hb 0x322BCC77#32)))
      (mulf (spreadK hb 0x3C23D70A#32) w)) i = delta (w i) (m i) (v i) (g i) := by
  simp only [addf, mulf, Host.divf, Host.sqrt, spreadK_apply, hx, hy]; rfl
end Host

/-- A number compared with a word, spread over a shape. -/
theorem spread {t : Shape} (x : (⟨1, ![1]⟩ : Shape).Idx → BitVec 32) (w : BitVec 32) (hs : (⟨1, ![1]⟩ : Shape).ShapeCasts ⟨0, ![]⟩)
    (dims : Fin 0 → Fin t.rank) (hb : (⟨0, ![]⟩ : Shape).BroadcastsInDim t dims) (i : t.Idx) (p : (⟨1, ![1]⟩ : Shape).Idx) :
    broadcastInDim t dims hb (cmpi .eq (shapeCast ⟨0, ![]⟩ x hs) (constantI ⟨0, ![]⟩ 32 w)) i = IntOp.cmpi .eq (x p) w := by
  refine (broadcastInDim_apply _ hb _ i (fun a => a.elim0) (fun a => a.elim0)).trans ?_
  refine congrArg (fun z => IntOp.cmpi .eq z w) (congrArg x ?_)
  funext a
  match a with
  | ⟨0, _⟩ => exact Subsingleton.elim (α := Fin 1) _ _

/-- Equal words compare equal, others do not. -/
theorem cmp_bit (x y : BitVec 32) : (Scalar.cmpi .eq x y = 1) = (x = y) := by
  by_cases h : x = y
  · subst h; simp [Scalar.cmpi, IntOp.cmpi]
  · simp [Scalar.cmpi, IntOp.cmpi, beq_eq_false_iff_ne.mpr h, h]

/-- A block index chosen by a comparison: walked where the words agree. -/
theorem walk (x y : BitVec 32) (n : ℕ) (hn : n < 4294967296) :
    ![(Scalar.select (Scalar.cmpi .eq x y) (BitVec.ofNat 32 n) 0#32).toNat, (0#32 : BitVec 32).toNat] = if x = y then ![n, 0] else ![0, 0] := by
  unfold Scalar.select
  simp only [cmp_bit]
  split <;> simp [Nat.mod_eq_of_lt hn]

/-- And walked where they differ. -/
theorem walk' (x y : BitVec 32) (n : ℕ) (hn : n < 4294967296) :
    ![(Scalar.select (Scalar.cmpi .eq x y) 0#32 (BitVec.ofNat 32 n)).toNat, (0#32 : BitVec 32).toNat] = if x = y then ![0, 0] else ![n, 0] := by
  unfold Scalar.select
  simp only [cmp_bit]
  split <;> simp [Nat.mod_eq_of_lt hn]

/-- Every block so chosen lies in the half. -/
theorem inside {n N T H C : ℕ} (hn : n < N) (hH : N * T = H) (f : Fin 2 → ℕ) (hf : f = ![n, 0] ∨ f = ![0, 0]) (a : Fin 2) :
    (f a + 1) * (![T, C] : Fin 2 → ℕ) a ≤ (![H, C] : Fin 2 → ℕ) a := by
  subst hH
  have : (n + 1) * T ≤ N * T := Nat.mul_le_mul_right _ hn
  have : T ≤ N * T := Nat.le_mul_of_pos_left _ (by omega)
  obtain rfl | rfl := hf <;> match a with
  | ⟨0, _⟩ => simpa using ‹_›
  | ⟨1, _⟩ => simp

/-- A choice between two arrays, at an index. -/
theorem sel_apply {ι α : Type} (b : BitVec 1) (f g : ι → α) (i : ι) : (Scalar.select b f g) i = Scalar.select b (f i) (g i) := by
  unfold Scalar.select
  split <;> rfl

variable {H R C : ℕ}

/-- One entry of the gradient: the device's own half where the point's half is its own, the received one elsewhere. -/
theorem entry (core : BitVec 32) (A B mine recv : (⟨2, ![H, C]⟩ : Shape).Idx → EReal) (h : Shape.Concatenates [⟨2, ![H, C]⟩, ⟨2, ![H, C]⟩] ⟨2, ![R, C]⟩ 0)
    (hA : ∀ i, A i = Scalar.select (IntOp.cmpi .eq core 0#32) (mine i) (recv i)) (hB : ∀ i, B i = Scalar.select (IntOp.cmpi .eq core 1#32) (mine i) (recv i))
    (n : ℕ) (hn : n < 2) (p q : (⟨2, ![H, C]⟩ : Shape).Idx) (j : (⟨2, ![R, C]⟩ : Shape).Idx)
    (hp : BitVec.ofNat 32 n = core → (p 0).val + n * H = (j 0).val ∧ (p 1).val = (j 1).val)
    (hq : BitVec.ofNat 32 n ≠ core → (q 0).val + n * H = (j 0).val ∧ (q 1).val = (j 1).val) :
    Scalar.select (Scalar.cmpi .eq (BitVec.ofNat 32 n) core) (mine p) (recv q) = concatenate ⟨2, ![R, C]⟩ 0 [⟨⟨2, ![H, C]⟩, A⟩, ⟨⟨2, ![H, C]⟩, B⟩] h j := by
  have key : ∀ z : (⟨2, ![H, C]⟩ : Shape).Idx, (z 0).val + n * H = (j 0).val ∧ (z 1).val = (j 1).val →
      concatenate ⟨2, ![R, C]⟩ 0 [⟨⟨2, ![H, C]⟩, A⟩, ⟨⟨2, ![H, C]⟩, B⟩] h j = Scalar.select (IntOp.cmpi .eq core (BitVec.ofNat 32 n)) (mine z) (recv z) := by
    intro z hz
    obtain rfl | rfl : n = 0 ∨ n = 1 := by omega
    · refine (concatenate_pair_apply_left 0 A B h j rfl z fun b => ?_).trans (hA z)
      match b with
      | ⟨0, _⟩ => exact (by have := hz.1; omega : (z 0).val = (j 0).val)
      | ⟨1, _⟩ => exact hz.2
    · refine (concatenate_pair_apply_right 0 A B h j rfl rfl z (fun b hb => ?_) ?_).trans (hB z)
      · match b with
        | ⟨0, _⟩ => exact absurd rfl hb
        | ⟨1, _⟩ => exact hz.2
      · exact (by have := hz.1; omega : (z 0).val + H = (j 0).val)
  by_cases e : BitVec.ofNat 32 n = core
  · rw [key p (hp e), e]
    simp [Scalar.select, Scalar.cmpi, IntOp.cmpi]
  · rw [key q (hq e)]
    have e' : ¬ core = BitVec.ofNat 32 n := fun h => e h.symm
    simp [Scalar.select, Scalar.cmpi, IntOp.cmpi, e, e', beq_eq_false_iff_ne.mpr e, beq_eq_false_iff_ne.mpr e']

/-- The same where both halves are read block by block: the half named by the word is walked, the other waits. -/
theorem entry_of_blocks {T N : ℕ} (hH : N * T = H) (core : BitVec 32) (A B mine recv : (⟨2, ![H, C]⟩ : Shape).Idx → EReal)
    (h : Shape.Concatenates [⟨2, ![H, C]⟩, ⟨2, ![H, C]⟩] ⟨2, ![R, C]⟩ 0)
    (hA : ∀ i, A i = Scalar.select (IntOp.cmpi .eq core 0#32) (mine i) (recv i)) (hB : ∀ i, B i = Scalar.select (IntOp.cmpi .eq core 1#32) (mine i) (recv i))
    (n k : ℕ) (hn : n < 2) (f1 f2 f5 : Fin 2 → ℕ) (h1 : f1 = if BitVec.ofNat 32 n = core then ![k, 0] else ![0, 0])
    (h2 : f2 = if BitVec.ofNat 32 n = core then ![0, 0] else ![k, 0]) (h5 : f5 0 = n * N + k ∧ f5 1 = 0)
    (p q : (⟨2, ![H, C]⟩ : Shape).Idx) (j : (⟨2, ![R, C]⟩ : Shape).Idx) (y : (⟨2, ![T, C]⟩ : Shape).Idx)
    (hp : ∀ a : Fin 2, (p a).val = f1 a * (![T, C] : Fin 2 → ℕ) a + (y a).val) (hq : ∀ a : Fin 2, (q a).val = f2 a * (![T, C] : Fin 2 → ℕ) a + (y a).val)
    (hj : ∀ a : Fin 2, (j a).val = f5 a * (![T, C] : Fin 2 → ℕ) a + (y a).val) :
    Scalar.select (Scalar.cmpi .eq (BitVec.ofNat 32 n) core) (mine p) (recv q) = concatenate ⟨2, ![R, C]⟩ 0 [⟨⟨2, ![H, C]⟩, A⟩, ⟨⟨2, ![H, C]⟩, B⟩] h j := by
  subst hH
  have j0 : (j 0).val = (n * N + k) * T + (y 0).val := by rw [hj, h5.1]; rfl
  have j1 : (j 1).val = 0 * C + (y 1).val := by rw [hj, h5.2]; rfl
  have e0 : (n * N + k) * T = k * T + n * (N * T) := by rw [Nat.add_mul, Nat.mul_assoc, Nat.add_comm]
  refine entry core A B mine recv h hA hB n hn p q j (fun e => ?_) (fun e => ?_)
  · rw [if_pos e] at h1
    have p0 : (p 0).val = k * T + (y 0).val := by rw [hp, h1]; rfl
    have p1 : (p 1).val = 0 * C + (y 1).val := by rw [hp, h1]; rfl
    omega
  · rw [if_neg e] at h2
    have q0 : (q 0).val = k * T + (y 0).val := by rw [hq, h2]; rfl
    have q1 : (q 1).val = 0 * C + (y 1).val := by rw [hq, h2]; rfl
    omega

end Cert.Adam
end
-- ==== Proof.Rest.K8.lean ====
module

public import proofs.«01_k».proof.Proof.Rest.C8
public import proofs.«01_k».proof.Proof.Rest.Adam
public import proofs.«01_k».proof.Proof.Mid.Reads
public import proofs.«01_k».proof.Proof.Gen.Kernel8Ideal
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

/-!
# The optimiser's step for the output projection

The word that says which half of the gradient is the device's own picks the blocks of both halves.
-/

noncomputable section

namespace Cert.Kernel8Ideal.Val

open Cert.Kernel8Ideal Cert.Kernel8Ideal.Gen Idealize.ShloMosaic Idealize.ShloMosaic.TcCoe
open Idealize.SL.Sem
open Cert.KernelIdeal.Mid (ld_whole canon_whole read_writes_overlay)

section Tables
variable {F : FTy → Type} [FloatOps F] (pf : pre0.Contents (Elt F))

/-- The word in the table. -/
abbrev word : BitVec 32 := pf.at 0 (Rect.unit (s := S1) ![0] S1.size inb_S1_S1_0) numel1_S1

/-- The half named by the word is walked block by block, the other waits at its first block. -/
theorem tr1 (i : grid0.Coords) : cc0_transform_1 inb_S1_S1_0 numel1_S1 pf i = if BitVec.ofNat 32 (i 0).val = word pf then ![(i 1).val, 0] else ![0, 0] :=
  Cert.Adam.walk _ _ _ ((i 1).isLt.trans (by decide +kernel))

/-- And the other way round for the received half. -/
theorem tr2 (i : grid0.Coords) : cc0_transform_2 inb_S1_S1_0 numel1_S1 pf i = if BitVec.ofNat 32 (i 0).val = word pf then ![0, 0] else ![(i 1).val, 0] :=
  Cert.Adam.walk' _ _ _ ((i 1).isLt.trans (by decide +kernel))

/-- Whatever the word, every block lies in its half. -/
theorem ok : ok0 pf :=
  ⟨fun i => ⟨Cert.Adam.inside (i 1).isLt (by decide +kernel) _ (by rw [tr1]; split <;> simp), .inl rfl⟩,
    fun i => ⟨Cert.Adam.inside (i 1).isLt (by decide +kernel) _ (by rw [tr2]; split <;> simp), .inl rfl⟩⟩
end Tables

variable (m : (ℓ : Loc nD τ sig) → Buf (Elt Ideal) ℓ) (hO : Ok m) (c : Dev nD)

/-- What every point leaves in its blocks. -/
theorem block (t : Fin (cfgM m hO).N) : outsAt0 m hO c t
    = (k0_pay1 (grid0.coords t) (word (tbl m)) (iblk m hO c 1 t) (iblk m hO c 2 t),
       k0_pay4 (grid0.coords t) (word (tbl m)) (iblk m hO c 1 t) (iblk m hO c 2 t) (iblk m hO c 0 t) (iblk m hO c 3 t) (iblk m hO c 4 t),
       k0_pay2 (grid0.coords t) (word (tbl m)) (iblk m hO c 1 t) (iblk m hO c 2 t) (iblk m hO c 3 t),
       k0_pay3 (grid0.coords t) (word (tbl m)) (iblk m hO c 1 t) (iblk m hO c 2 t) (iblk m hO c 4 t)) := by
  unfold outsAt0 out0_A_5 out0_A_6 out0_A_7 out0_A_8 kernelRun0_A
  dsimp only
  have r0 := (hs0_0 m hO t).read_unread (Val := Elt Ideal) (iblk m hO c 0 t)
  have r1 := (hs0_1 m hO t).read_unread (Val := Elt Ideal) (iblk m hO c 1 t)
  have r2 := (hs0_2 m hO t).read_unread (Val := Elt Ideal) (iblk m hO c 2 t)
  have r3 := (hs0_3 m hO t).read_unread (Val := Elt Ideal) (iblk m hO c 3 t)
  have r4 := (hs0_4 m hO t).read_unread (Val := Elt Ideal) (iblk m hO c 4 t)
  have hw : kernelRun0_A.sl.r c (tbl m 0) = word (tbl m) := rfl
  simp only [kernelRun0_A.sl.r_1, kernelRun0_A.sl.r_2, kernelRun0_A.sl.r_3, hw, View.readAt_eq_ld, ld_whole, read_writes_overlay]
  rw [r0, r1, r2, r3, r4, Cert.Prod.overlay_all (R := 128) (C := 1024) (e := .f32), Cert.Prod.overlay_all (R := 128) (C := 1024) (e := .f32), Cert.Prod.overlay_all (R := 128) (C := 1024) (e := .f32),
    Cert.Prod.overlay_all (R := 128) (C := 1024) (e := .f32)]

/-- Where a point's block lies. -/
abbrev pos (t : Fin (cfgM m hO).N) (y : S128x1024.Idx) : S256x1024.Idx := (((cfgM m hO).win 5).rect t).emb y

/-- The gradient of a point's block is the reference's. -/
theorem grad (t : Fin (cfgM m hO).N) (y : S128x1024.Idx) : k0_pay1 (grid0.coords t) (word (tbl m)) (iblk m hO c 1 t) (iblk m hO c 2 t) y
    = Cert.Reference8Ideal.Read.val_main_v6 (F := Ideal) (V m c main_arg0) (V m c main_arg2) (V m c main_arg3) (pos m hO t y) := by
  have e1 : iblk m hO c 1 t = fun y => (V m c main_arg2 : S128x1024.Idx → EReal) ((((cfgM m hO).win 1).rect t).emb y) := rfl
  have e2 : iblk m hO c 2 t = fun y => (V m c main_arg3 : S128x1024.Idx → EReal) ((((cfgM m hO).win 2).rect t).emb y) := rfl
  have h5 : ∀ i : grid0.Coords, (cc0_transform_5 i 0 = (i 0).val * 1 + (i 1).val ∧ cc0_transform_5 i 1 = 0) ∧ (i 0).val < 2 := by decide +kernel
  have hw : word (tbl m) = (V m c main_arg0 : S1.Idx → BitVec 32) ((Rect.unit (s := S1) ![0] S1.size inb_S1_S1_0).emb (Shape.Idx.first (numel1_S1.symm ▸ Nat.one_pos))) :=
    congrFun (V_pre m c 0).symm _
  rw [e1, e2]
  refine (Cert.Adam.sel_apply _ _ _ _).trans ?_
  exact Cert.Adam.entry_of_blocks (T := 128) (N := 1) (H := 128) (R := 256) (C := 1024) rfl (word (tbl m)) _ _ (V m c main_arg2) (V m c main_arg3) _
    (fun i => congrArg (fun b => Scalar.select b _ _) ((Cert.Adam.spread _ _ _ _ _ i _).trans (congrArg (fun z => IntOp.cmpi .eq z _) hw.symm)))
    (fun i => congrArg (fun b => Scalar.select b _ _) ((Cert.Adam.spread _ _ _ _ _ i _).trans (congrArg (fun z => IntOp.cmpi .eq z _) hw.symm)))
    _ _ (h5 (grid0.coords t)).2 _ _ _ (tr1 _ _) (tr2 _ _) (h5 (grid0.coords t)).1 _ _ _ y
    (fun a => ((cfgM m hO).win 1).rect_emb_val t y a) (fun a => ((cfgM m hO).win 2).rect_emb_val t y a) (fun a => ((cfgM m hO).win 5).rect_emb_val t y a)

/-- The blocks of the results fill them. -/
theorem covers : ((cfgM m hO).win 5).Covers :=
  ⟨(by decide +kernel : ∀ a, 0 < S128x1024.size a), (by decide +kernel : ∀ β : (a : Fin 2) → Fin ((S256x1024.size a + S128x1024.size a - 1) / S128x1024.size a), ∃ t : Fin grid0.N,
    Pipeline.Window.flushOf grid0 true cc0_transform_5 t = true ∧ ∀ a, cc0_transform_5 (grid0.coords t) a = β a ∧ (S128x1024.size a = S128x1024.size a ∨ S256x1024.size a ≤ cc0_transform_5 (grid0.coords t) a * S128x1024.size a + S128x1024.size a))⟩

section Reference
variable (x0 : S1.Idx → BitVec 32) (x1 x4 x5 : S256x1024.Idx → EReal) (x2 x3 : S128x1024.Idx → EReal) (i : S256x1024.Idx)
open Cert.Reference8Ideal.Read

/-- The reference's first moment at an index. -/
theorem ref_m : val_main_v11 (F := Ideal) x0 x2 x3 x4 i = Cert.Adam.mom (x4 i) (val_main_v6 (F := Ideal) x0 x2 x3 i) := Cert.Adam.host_m _ _ _ i

/-- The reference's second moment at an index. -/
theorem ref_v : val_main_v17 (F := Ideal) x0 x2 x3 x5 i = Cert.Adam.var (x5 i) (val_main_v6 (F := Ideal) x0 x2 x3 i) := Cert.Adam.host_v _ _ _ i

/-- The reference's change at an index. -/
theorem ref_d : val_main_v30 (F := Ideal) x0 x1 x2 x3 x4 x5 i = Cert.Adam.delta (x1 i) (x4 i) (x5 i) (val_main_v6 (F := Ideal) x0 x2 x3 i) :=
  Cert.Adam.host_d _ _ _ _ _ i _ _ (ref_m x0 x4 x2 x3 i) (ref_v x0 x5 x2 x3 i)
end Reference

/-- The gradient the call leaves. -/
theorem arr5 : (dats m hO 0 c).arrAt 5 (cfgM m hO).N = Cert.Reference8Ideal.Read.val_main_v6 (F := Ideal) (V m c main_arg0) (V m c main_arg2) (V m c main_arg3) := by
  refine (dats m hO 0 c).arrAt_eq_of_covers 5 _ (covers m hO) fun t _ y => ?_
  exact (congrFun ((after0_5 m hO c t).trans (congrArg (·.1) (block m hO c t))) _).trans (grad m hO c t y)

/-- The change the call leaves. -/
theorem arr6 : (dats m hO 0 c).arrAt 6 (cfgM m hO).N
    = Cert.Reference8Ideal.Read.val_main_v30 (F := Ideal) (V m c main_arg0) (V m c main_arg1) (V m c main_arg2) (V m c main_arg3) (V m c main_arg4) (V m c main_arg5) := by
  refine (dats m hO 0 c).arrAt_eq_of_covers 6 _ (covers m hO) fun t _ y => ?_
  refine (congrFun ((after0_6 m hO c t).trans (congrArg (·.2.1) (block m hO c t))) _).trans (Eq.trans ?_ (ref_d _ _ _ _ _ _ (pos m hO t y)).symm)
  exact congrArg (Cert.Adam.delta _ _ _) (grad m hO c t y)

/-- The first moment the call leaves. -/
theorem arr7 : (dats m hO 0 c).arrAt 7 (cfgM m hO).N
    = Cert.Reference8Ideal.Read.val_main_v11 (F := Ideal) (V m c main_arg0) (V m c main_arg2) (V m c main_arg3) (V m c main_arg4) := by
  refine (dats m hO 0 c).arrAt_eq_of_covers 7 _ (covers m hO) fun t _ y => ?_
  refine (congrFun ((after0_7 m hO c t).trans (congrArg (·.2.2.1) (block m hO c t))) _).trans (Eq.trans ?_ (ref_m _ _ _ _ (pos m hO t y)).symm)
  exact congrArg (Cert.Adam.mom _) (grad m hO c t y)

/-- The second moment the call leaves. -/
theorem arr8 : (dats m hO 0 c).arrAt 8 (cfgM m hO).N
    = Cert.Reference8Ideal.Read.val_main_v17 (F := Ideal) (V m c main_arg0) (V m c main_arg2) (V m c main_arg3) (V m c main_arg5) := by
  refine (dats m hO 0 c).arrAt_eq_of_covers 8 _ (covers m hO) fun t _ y => ?_
  refine (congrFun ((after0_8 m hO c t).trans (congrArg (·.2.2.2) (block m hO c t))) _).trans (Eq.trans ?_ (ref_v _ _ _ _ (pos m hO t y)).symm)
  exact congrArg (Cert.Adam.var _) (grad m hO c t y)

/-- The kernel and the reference leave the same gradient, change and moments, whatever the arguments hold. -/
theorem algebraic : Cert.algebraic_Kernel8Ideal_Reference8Ideal := by
  intro m g m' g' _ hargs
  have hO : Ok m := ok _
  refine ⟨fun c => Cert.Reference8Ideal.Read.val_main_v6 (F := Ideal) (V m c main_arg0) (V m c main_arg2) (V m c main_arg3),
    fun c => Cert.Reference8Ideal.Read.val_main_v30 (F := Ideal) (V m c main_arg0) (V m c main_arg1) (V m c main_arg2) (V m c main_arg3) (V m c main_arg4) (V m c main_arg5),
    fun c => Cert.Reference8Ideal.Read.val_main_v11 (F := Ideal) (V m c main_arg0) (V m c main_arg2) (V m c main_arg3) (V m c main_arg4),
    fun c => Cert.Reference8Ideal.Read.val_main_v17 (F := Ideal) (V m c main_arg0) (V m c main_arg2) (V m c main_arg3) (V m c main_arg5), ?_, ?_⟩
  · refine (θ_run _ _ _).mono (fun r h c => ?_) (θ_run_and (run_main m g hO) (unchanged m g hO))
    exact ⟨((h.1 c).1 5).trans (arr5 m hO c), ((h.1 c).1 6).trans (arr6 m hO c), ((h.1 c).1 7).trans (arr7 m hO c), ((h.1 c).1 8).trans (arr8 m hO c), h.2 c⟩
  · refine (θ_run _ _ _).mono (fun r h c => ?_) (Cert.Reference8Ideal.Value.run (F := Ideal) m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [Cert.Reference8Ideal.Read.val_main_v6_eq, a0, a2, a3]
    · rw [Cert.Reference8Ideal.Read.val_main_v30_eq, a0, a1, a2, a3, a4, a5]
    · rw [Cert.Reference8Ideal.Read.val_main_v11_eq, a0, a2, a3, a4]
    · rw [Cert.Reference8Ideal.Read.val_main_v17_eq, a0, a2, a3, a5]

end Cert.Kernel8Ideal.Val
end
-- ==== Proof.Rest.C9.lean ====
module

public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
-- ==== Proof.Rest.K9.lean ====
module

public import proofs.«01_k».proof.Proof.Rest.C9
public import proofs.«01_k».proof.Proof.Rest.Adam
public import proofs.«01_k».proof.Proof.Mid.Reads
public import proofs.«01_k».proof.Proof.Gen.Kernel9Ideal
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

/-!
# The optimiser's step for the attention branch

The word that says which half of the gradient is the device's own picks the blocks of both halves.
-/

noncomputable section

namespace Cert.Kernel9Ideal.Val

open Cert.Kernel9Ideal Cert.Kernel9Ideal.Gen Idealize.ShloMosaic Idealize.ShloMosaic.TcCoe
open Idealize.SL.Sem
open Cert.KernelIdeal.Mid (ld_whole canon_whole read_writes_overlay)

section Tables
variable {F : FTy → Type} [FloatOps F] (pf : pre0.Contents (Elt F))

/-- The word in the table. -/
abbrev word : BitVec 32 := pf.at 0 (Rect.unit (s := S1) ![0] S1.size inb_S1_S1_0) numel1_S1

/-- The half named by the word is walked block by block, the other waits at its first block. -/
theorem tr1 (i : grid0.Coords) : cc0_transform_1 inb_S1_S1_0 numel1_S1 pf i = if BitVec.ofNat 32 (i 0).val = word pf then ![(i 1).val, 0] else ![0, 0] :=
  Cert.Adam.walk _ _ _ ((i 1).isLt.trans (by decide +kernel))

/-- And the other way round for the received half. -/
theorem tr2 (i : grid0.Coords) : cc0_transform_2 inb_S1_S1_0 numel1_S1 pf i = if BitVec.ofNat 32 (i 0).val = word pf then ![0, 0] else ![(i 1).val, 0] :=
  Cert.Adam.walk' _ _ _ ((i 1).isLt.trans (by decide +kernel))

/-- Whatever the word, every block lies in its half. -/
theorem ok : ok0 pf :=
  ⟨fun i => ⟨Cert.Adam.inside (i 1).isLt (by decide +kernel) _ (by rw [tr1]; split <;> simp), .inl rfl⟩,
    fun i => ⟨Cert.Adam.inside (i 1).isLt (by decide +kernel) _ (by rw [tr2]; split <;> simp), .inl rfl⟩⟩
end Tables

variable (m : (ℓ : Loc nD τ sig) → Buf (Elt Ideal) ℓ) (hO : Ok m) (c : Dev nD)

/-- What every point leaves in its blocks. -/
theorem block (t : Fin (cfgM m hO).N) : outsAt0 m hO c t
    = (k0_pay1 (grid0.coords t) (word (tbl m)) (iblk m hO c 1 t) (iblk m hO c 2 t),
       k0_pay4 (grid0.coords t) (word (tbl m)) (iblk m hO c 1 t) (iblk m hO c 2 t) (iblk m hO c 0 t) (iblk m hO c 3 t) (iblk m hO c 4 t),
       k0_pay2 (grid0.coords t) (word (tbl m)) (iblk m hO c 1 t) (iblk m hO c 2 t) (iblk m hO c 3 t),
       k0_pay3 (grid0.coords t) (word (tbl m)) (iblk m hO c 1 t) (iblk m hO c 2 t) (iblk m hO c 4 t)) := by
  unfold outsAt0 out0_A_5 out0_A_6 out0_A_7 out0_A_8 kernelRun0_A
  dsimp only
  have r0 := (hs0_0 m hO t).read_unread (Val := Elt Ideal) (iblk m hO c 0 t)
  have r1 := (hs0_1 m hO t).read_unread (Val := Elt Ideal) (iblk m hO c 1 t)
  have r2 := (hs0_2 m hO t).read_unread (Val := Elt Ideal) (iblk m hO c 2 t)
  have r3 := (hs0_3 m hO t).read_unread (Val := Elt Ideal) (iblk m hO c 3 t)
  have r4 := (hs0_4 m hO t).read_unread (Val := Elt Ideal) (iblk m hO c 4 t)
  have hw : kernelRun0_A.sl.r c (tbl m 0) = word (tbl m) := rfl
  simp only [kernelRun0_A.sl.r_1, kernelRun0_A.sl.r_2, kernelRun0_A.sl.r_3, hw, View.readAt_eq_ld, ld_whole, read_writes_overlay]
  rw [r0, r1, r2, r3, r4, Cert.Prod.overlay_all (R := 256) (C := 256) (e := .f32), Cert.Prod.overlay_all (R := 256) (C := 256) (e := .f32), Cert.Prod.overlay_all (R := 256) (C := 256) (e := .f32),
    Cert.Prod.overlay_all (R := 256) (C := 256) (e := .f32)]

/-- Where a point's block lies. -/
abbrev pos (t : Fin (cfgM m hO).N) (y : S256x256.Idx) : S512x256.Idx := (((cfgM m hO).win 5).rect t).emb y

/-- The gradient of a point's block is the reference's. -/
theorem grad (t : Fin (cfgM m hO).N) (y : S256x256.Idx) : k0_pay1 (grid0.coords t) (word (tbl m)) (iblk m hO c 1 t) (iblk m hO c 2 t) y
    = Cert.Reference9Ideal.Read.val_main_v6 (F := Ideal) (V m c main_arg0) (V m c main_arg2) (V m c main_arg3) (pos m hO t y) := by
  have e1 : iblk m hO c 1 t = fun y => (V m c main_arg2 : S256x256.Idx → EReal) ((((cfgM m hO).win 1).rect t).emb y) := rfl
  have e2 : iblk m hO c 2 t = fun y => (V m c main_arg3 : S256x256.Idx → EReal) ((((cfgM m hO).win 2).rect t).emb y) := rfl
  have h5 : ∀ i : grid0.Coords, (cc0_transform_5 i 0 = (i 0).val * 1 + (i 1).val ∧ cc0_transform_5 i 1 = 0) ∧ (i 0).val < 2 := by decide +kernel
  have hw : word (tbl m) = (V m c main_arg0 : S1.Idx → BitVec 32) ((Rect.unit (s := S1) ![0] S1.size inb_S1_S1_0).emb (Shape.Idx.first (numel1_S1.symm ▸ Nat.one_pos))) :=
    congrFun (V_pre m c 0).symm _
  rw [e1, e2]
  refine (Cert.Adam.sel_apply _ _ _ _).trans ?_
  exact Cert.Adam.entry_of_blocks (T := 256) (N := 1) (H := 256) (R := 512) (C := 256) rfl (word (tbl m)) _ _ (V m c main_arg2) (V m c main_arg3) _
    (fun i => congrArg (fun b => Scalar.select b _ _) ((Cert.Adam.spread _ _ _ _ _ i _).trans (congrArg (fun z => IntOp.cmpi .eq z _) hw.symm)))
    (fun i => congrArg (fun b => Scalar.select b _ _) ((Cert.Adam.spread _ _ _ _ _ i _).trans (congrArg (fun z => IntOp.cmpi .eq z _) hw.symm)))
    _ _ (h5 (grid0.coords t)).2 _ _ _ (tr1 _ _) (tr2 _ _) (h5 (grid0.coords t)).1 _ _ _ y
    (fun a => ((cfgM m hO).win 1).rect_emb_val t y a) (fun a => ((cfgM m hO).win 2).rect_emb_val t y a) (fun a => ((cfgM m hO).win 5).rect_emb_val t y a)

/-- The blocks of the results fill them. -/
theorem covers : ((cfgM m hO).win 5).Covers :=
  ⟨(by decide +kernel : ∀ a, 0 < S256x256.size a), (by decide +kernel : ∀ β : (a : Fin 2) → Fin ((S512x256.size a + S256x256.size a - 1) / S256x256.size a), ∃ t : Fin grid0.N,
    Pipeline.Window.flushOf grid0 true cc0_transform_5 t = true ∧ ∀ a, cc0_transform_5 (grid0.coords t) a = β a ∧ (S256x256.size a = S256x256.size a ∨ S512x256.size a ≤ cc0_transform_5 (grid0.coords t) a * S256x256.size a + S256x256.size a))⟩

section Reference
variable (x0 : S1.Idx → BitVec 32) (x1 x4 x5 : S512x256.Idx → EReal) (x2 x3 : S256x256.Idx → EReal) (i : S512x256.Idx)
open Cert.Reference9Ideal.Read

/-- The reference's first moment at an index. -/
theorem ref_m : val_main_v11 (F := Ideal) x0 x2 x3 x4 i = Cert.Adam.mom (x4 i) (val_main_v6 (F := Ideal) x0 x2 x3 i) := Cert.Adam.host_m _ _ _ i

/-- The reference's second moment at an index. -/
theorem ref_v : val_main_v17 (F := Ideal) x0 x2 x3 x5 i = Cert.Adam.var (x5 i) (val_main_v6 (F := Ideal) x0 x2 x3 i) := Cert.Adam.host_v _ _ _ i

/-- The reference's change at an index. -/
theorem ref_d : val_main_v30 (F := Ideal) x0 x1 x2 x3 x4 x5 i = Cert.Adam.delta (x1 i) (x4 i) (x5 i) (val_main_v6 (F := Ideal) x0 x2 x3 i) :=
  Cert.Adam.host_d _ _ _ _ _ i _ _ (ref_m x0 x4 x2 x3 i) (ref_v x0 x5 x2 x3 i)
end Reference

/-- The gradient the call leaves. -/
theorem arr5 : (dats m hO 0 c).arrAt 5 (cfgM m hO).N = Cert.Reference9Ideal.Read.val_main_v6 (F := Ideal) (V m c main_arg0) (V m c main_arg2) (V m c main_arg3) := by
  refine (dats m hO 0 c).arrAt_eq_of_covers 5 _ (covers m hO) fun t _ y => ?_
  exact (congrFun ((after0_5 m hO c t).trans (congrArg (·.1) (block m hO c t))) _).trans (grad m hO c t y)

/-- The change the call leaves. -/
theorem arr6 : (dats m hO 0 c).arrAt 6 (cfgM m hO).N
    = Cert.Reference9Ideal.Read.val_main_v30 (F := Ideal) (V m c main_arg0) (V m c main_arg1) (V m c main_arg2) (V m c main_arg3) (V m c main_arg4) (V m c main_arg5) := by
  refine (dats m hO 0 c).arrAt_eq_of_covers 6 _ (covers m hO) fun t _ y => ?_
  refine (congrFun ((after0_6 m hO c t).trans (congrArg (·.2.1) (block m hO c t))) _).trans (Eq.trans ?_ (ref_d _ _ _ _ _ _ (pos m hO t y)).symm)
  exact congrArg (Cert.Adam.delta _ _ _) (grad m hO c t y)

/-- The first moment the call leaves. -/
theorem arr7 : (dats m hO 0 c).arrAt 7 (cfgM m hO).N
    = Cert.Reference9Ideal.Read.val_main_v11 (F := Ideal) (V m c main_arg0) (V m c main_arg2) (V m c main_arg3) (V m c main_arg4) := by
  refine (dats m hO 0 c).arrAt_eq_of_covers 7 _ (covers m hO) fun t _ y => ?_
  refine (congrFun ((after0_7 m hO c t).trans (congrArg (·.2.2.1) (block m hO c t))) _).trans (Eq.trans ?_ (ref_m _ _ _ _ (pos m hO t y)).symm)
  exact congrArg (Cert.Adam.mom _) (grad m hO c t y)

/-- The second moment the call leaves. -/
theorem arr8 : (dats m hO 0 c).arrAt 8 (cfgM m hO).N
    = Cert.Reference9Ideal.Read.val_main_v17 (F := Ideal) (V m c main_arg0) (V m c main_arg2) (V m c main_arg3) (V m c main_arg5) := by
  refine (dats m hO 0 c).arrAt_eq_of_covers 8 _ (covers m hO) fun t _ y => ?_
  refine (congrFun ((after0_8 m hO c t).trans (congrArg (·.2.2.2) (block m hO c t))) _).trans (Eq.trans ?_ (ref_v _ _ _ _ (pos m hO t y)).symm)
  exact congrArg (Cert.Adam.var _) (grad m hO c t y)

/-- The kernel and the reference leave the same gradient, change and moments, whatever the arguments hold. -/
theorem algebraic : Cert.algebraic_Kernel9Ideal_Reference9Ideal := by
  intro m g m' g' _ hargs
  have hO : Ok m := ok _
  refine ⟨fun c => Cert.Reference9Ideal.Read.val_main_v6 (F := Ideal) (V m c main_arg0) (V m c main_arg2) (V m c main_arg3),
    fun c => Cert.Reference9Ideal.Read.val_main_v30 (F := Ideal) (V m c main_arg0) (V m c main_arg1) (V m c main_arg2) (V m c main_arg3) (V m c main_arg4) (V m c main_arg5),
    fun c => Cert.Reference9Ideal.Read.val_main_v11 (F := Ideal) (V m c main_arg0) (V m c main_arg2) (V m c main_arg3) (V m c main_arg4),
    fun c => Cert.Reference9Ideal.Read.val_main_v17 (F := Ideal) (V m c main_arg0) (V m c main_arg2) (V m c main_arg3) (V m c main_arg5), ?_, ?_⟩
  · refine (θ_run _ _ _).mono (fun r h c => ?_) (θ_run_and (run_main m g hO) (unchanged m g hO))
    exact ⟨((h.1 c).1 5).trans (arr5 m hO c), ((h.1 c).1 6).trans (arr6 m hO c), ((h.1 c).1 7).trans (arr7 m hO c), ((h.1 c).1 8).trans (arr8 m hO c), h.2 c⟩
  · refine (θ_run _ _ _).mono (fun r h c => ?_) (Cert.Reference9Ideal.Value.run (F := Ideal) m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [Cert.Reference9Ideal.Read.val_main_v6_eq, a0, a2, a3]
    · rw [Cert.Reference9Ideal.Read.val_main_v30_eq, a0, a1, a2, a3, a4, a5]
    · rw [Cert.Reference9Ideal.Read.val_main_v11_eq, a0, a2, a3, a4]
    · rw [Cert.Reference9Ideal.Read.val_main_v17_eq, a0, a2, a3, a5]

end Cert.Kernel9Ideal.Val
end
-- ==== Proof.Rest.C10.lean ====
module

public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
-- ==== Proof.Rest.K10.lean ====
module

public import proofs.«01_k».proof.Proof.Rest.C10
public import proofs.«01_k».proof.Proof.Rest.Adam
public import proofs.«01_k».proof.Proof.Mid.Reads
public import proofs.«01_k».proof.Proof.Gen.Kernel10Ideal
public import Idealize.ShloMosaic.Lib.Pipeline.ValueKit
public import Idealize.ShloMosaic.Lib.Pipeline.ReadBack
public import Idealize.ShloMosaic.Lib.Claim
public import proofs.«01_k».proof.Defs

@[expose] public section

set_option maxRecDepth 16384

/-!
# The optimiser's step for the input projection

The word that says which half of the gradient is the device's own picks the blocks of both halves.
-/

noncomputable section

namespace Cert.Kernel10Ideal.Val

open Cert.Kernel10Ideal Cert.Kernel10Ideal.Gen Idealize.ShloMosaic Idealize.ShloMosaic.TcCoe
open Idealize.SL.Sem
open Cert.KernelIdeal.Mid (ld_whole canon_whole read_writes_overlay)

section Tables
variable {F : FTy → Type} [FloatOps F] (pf : pre0.Contents (Elt F))

/-- The word in the table. -/
abbrev word : BitVec 32 := pf.at 0 (Rect.unit (s := S1) ![0] S1.size inb_S1_S1_0) numel1_S1

/-- The half named by the word is walked block by block, the other waits at its first block. -/
theorem tr1 (i : grid0.Coords) : cc0_transform_1 inb_S1_S1_0 numel1_S1 pf i = if BitVec.ofNat 32 (i 0).val = word pf then ![(i 1).val, 0] else ![0, 0] :=
  Cert.Adam.walk _ _ _ ((i 1).isLt.trans (by decide +kernel))

/-- And the other way round for the received half. -/
theorem tr2 (i : grid0.Coords) : cc0_transform_2 inb_S1_S1_0 numel1_S1 pf i = if BitVec.ofNat 32 (i 0).val = word pf then ![0, 0] else ![(i 1).val, 0] :=
  Cert.Adam.walk' _ _ _ ((i 1).isLt.trans (by decide +kernel))

/-- Whatever the word, every block lies in its half. -/
theorem ok : ok0 pf :=
  ⟨fun i => ⟨Cert.Adam.inside (i 1).isLt (by decide +kernel) _ (by rw [tr1]; split <;> simp), .inl rfl⟩,
    fun i => ⟨Cert.Adam.inside (i 1).isLt (by decide +kernel) _ (by rw [tr2]; split <;> simp), .inl rfl⟩⟩
end Tables

variable (m : (ℓ : Loc nD τ sig) → Buf (Elt Ideal) ℓ) (hO : Ok m) (c : Dev nD)

/-- What every point leaves in its blocks. -/
theorem block (t : Fin (cfgM m hO).N) : outsAt0 m hO c t
    = (k0_pay1 (grid0.coords t) (word (tbl m)) (iblk m hO c 1 t) (iblk m hO c 2 t),
       k0_pay4 (grid0.coords t) (word (tbl m)) (iblk m hO c 1 t) (iblk m hO c 2 t) (iblk m hO c 0 t) (iblk m hO c 3 t) (iblk m hO c 4 t),
       k0_pay2 (grid0.coords t) (word (tbl m)) (iblk m hO c 1 t) (iblk m hO c 2 t) (iblk m hO c 3 t),
       k0_pay3 (grid0.coords t) (word (tbl m)) (iblk m hO c 1 t) (iblk m hO c 2 t) (iblk m hO c 4 t)) := by
  unfold outsAt0 out0_A_5 out0_A_6 out0_A_7 out0_A_8 kernelRun0_A
  dsimp only
  have r0 := (hs0_0 m hO t).read_unread (Val := Elt Ideal) (iblk m hO c 0 t)
  have r1 := (hs0_1 m hO t).read_unread (Val := Elt Ideal) (iblk m hO c 1 t)
  have r2 := (hs0_2 m hO t).read_unread (Val := Elt Ideal) (iblk m hO c 2 t)
  have r3 := (hs0_3 m hO t).read_unread (Val := Elt Ideal) (iblk m hO c 3 t)
  have r4 := (hs0_4 m hO t).read_unread (Val := Elt Ideal) (iblk m hO c 4 t)
  have hw : kernelRun0_A.sl.r c (tbl m 0) = word (tbl m) := rfl
  simp only [kernelRun0_A.sl.r_1, kernelRun0_A.sl.r_2, kernelRun0_A.sl.r_3, hw, View.readAt_eq_ld, ld_whole, read_writes_overlay]
  rw [r0, r1, r2, r3, r4, Cert.Prod.overlay_all (R := 64) (C := 2816) (e := .f32), Cert.Prod.overlay_all (R := 64) (C := 2816) (e := .f32), Cert.Prod.overlay_all (R := 64) (C := 2816) (e := .f32),
    Cert.Prod.overlay_all (R := 64) (C := 2816) (e := .f32)]

/-- Where a point's block lies. -/
abbrev pos (t : Fin (cfgM m hO).N) (y : S64x2816.Idx) : S1024x2816.Idx := (((cfgM m hO).win 5).rect t).emb y

/-- The gradient of a point's block is the reference's. -/
theorem grad (t : Fin (cfgM m hO).N) (y : S64x2816.Idx) : k0_pay1 (grid0.coords t) (word (tbl m)) (iblk m hO c 1 t) (iblk m hO c 2 t) y
    = Cert.Reference10Ideal.Read.val_main_v6 (F := Ideal) (V m c main_arg0) (V m c main_arg2) (V m c main_arg3) (pos m hO t y) := by
  have e1 : iblk m hO c 1 t = fun y => (V m c main_arg2 : S512x2816.Idx → EReal) ((((cfgM m hO).win 1).rect t).emb y) := rfl
  have e2 : iblk m hO c 2 t = fun y => (V m c main_arg3 : S512x2816.Idx → EReal) ((((cfgM m hO).win 2).rect t).emb y) := rfl
  have h5 : ∀ i : grid0.Coords, (cc0_transform_5 i 0 = (i 0).val * 8 + (i 1).val ∧ cc0_transform_5 i 1 = 0) ∧ (i 0).val < 2 := by decide +kernel
  have hw : word (tbl m) = (V m c main_arg0 : S1.Idx → BitVec 32) ((Rect.unit (s := S1) ![0] S1.size inb_S1_S1_0).emb (Shape.Idx.first (numel1_S1.symm ▸ Nat.one_pos))) :=
    congrFun (V_pre m c 0).symm _
  rw [e1, e2]
  refine (Cert.Adam.sel_apply _ _ _ _).trans ?_
  exact Cert.Adam.entry_of_blocks (T := 64) (N := 8) (H := 512) (R := 1024) (C := 2816) rfl (word (tbl m)) _ _ (V m c main_arg2) (V m c main_arg3) _
    (fun i => congrArg (fun b => Scalar.select b _ _) ((Cert.Adam.spread _ _ _ _ _ i _).trans (congrArg (fun z => IntOp.cmpi .eq z _) hw.symm)))
    (fun i => congrArg (fun b => Scalar.select b _ _) ((Cert.Adam.spread _ _ _ _ _ i _).trans (congrArg (fun z => IntOp.cmpi .eq z _) hw.symm)))
    _ _ (h5 (grid0.coords t)).2 _ _ _ (tr1 _ _) (tr2 _ _) (h5 (grid0.coords t)).1 _ _ _ y
    (fun a => ((cfgM m hO).win 1).rect_emb_val t y a) (fun a => ((cfgM m hO).win 2).rect_emb_val t y a) (fun a => ((cfgM m hO).win 5).rect_emb_val t y a)

/-- The blocks of the results fill them. -/
theorem covers : ((cfgM m hO).win 5).Covers :=
  ⟨(by decide +kernel : ∀ a, 0 < S64x2816.size a), (by decide +kernel : ∀ β : (a : Fin 2) → Fin ((S1024x2816.size a + S64x2816.size a - 1) / S64x2816.size a), ∃ t : Fin grid0.N,
    Pipeline.Window.flushOf grid0 true cc0_transform_5 t = true ∧ ∀ a, cc0_transform_5 (grid0.coords t) a = β a ∧ (S64x2816.size a = S64x2816.size a ∨ S1024x2816.size a ≤ cc0_transform_5 (grid0.coords t) a * S64x2816.size a + S64x2816.size a))⟩

section Reference
variable (x0 : S1.Idx → BitVec 32) (x1 x4 x5 : S1024x2816.Idx → EReal) (x2 x3 : S512x2816.Idx → EReal) (i : S1024x2816.Idx)
open Cert.Reference10Ideal.Read

/-- The reference's first moment at an index. -/
theorem ref_m : val_main_v11 (F := Ideal) x0 x2 x3 x4 i = Cert.Adam.mom (x4 i) (val_main_v6 (F := Ideal) x0 x2 x3 i) := Cert.Adam.host_m _ _ _ i

/-- The reference's second moment at an index. -/
theorem ref_v : val_main_v17 (F := Ideal) x0 x2 x3 x5 i = Cert.Adam.var (x5 i) (val_main_v6 (F := Ideal) x0 x2 x3 i) := Cert.Adam.host_v _ _ _ i

/-- The reference's change at an index. -/
theorem ref_d : val_main_v30 (F := Ideal) x0 x1 x2 x3 x4 x5 i = Cert.Adam.delta (x1 i) (x4 i) (x5 i) (val_main_v6 (F := Ideal) x0 x2 x3 i) :=
  Cert.Adam.host_d _ _ _ _ _ i _ _ (ref_m x0 x4 x2 x3 i) (ref_v x0 x5 x2 x3 i)
end Reference

/-- The gradient the call leaves. -/
theorem arr5 : (dats m hO 0 c).arrAt 5 (cfgM m hO).N = Cert.Reference10Ideal.Read.val_main_v6 (F := Ideal) (V m c main_arg0) (V m c main_arg2) (V m c main_arg3) := by
  refine (dats m hO 0 c).arrAt_eq_of_covers 5 _ (covers m hO) fun t _ y => ?_
  exact (congrFun ((after0_5 m hO c t).trans (congrArg (·.1) (block m hO c t))) _).trans (grad m hO c t y)

/-- The change the call leaves. -/
theorem arr6 : (dats m hO 0 c).arrAt 6 (cfgM m hO).N
    = Cert.Reference10Ideal.Read.val_main_v30 (F := Ideal) (V m c main_arg0) (V m c main_arg1) (V m c main_arg2) (V m c main_arg3) (V m c main_arg4) (V m c main_arg5) := by
  refine (dats m hO 0 c).arrAt_eq_of_covers 6 _ (covers m hO) fun t _ y => ?_
  refine (congrFun ((after0_6 m hO c t).trans (congrArg (·.2.1) (block m hO c t))) _).trans (Eq.trans ?_ (ref_d _ _ _ _ _ _ (pos m hO t y)).symm)
  exact congrArg (Cert.Adam.delta _ _ _) (grad m hO c t y)

/-- The first moment the call leaves. -/
theorem arr7 : (dats m hO 0 c).arrAt 7 (cfgM m hO).N
    = Cert.Reference10Ideal.Read.val_main_v11 (F := Ideal) (V m c main_arg0) (V m c main_arg2) (V m c main_arg3) (V m c main_arg4) := by
  refine (dats m hO 0 c).arrAt_eq_of_covers 7 _ (covers m hO) fun t _ y => ?_
  refine (congrFun ((after0_7 m hO c t).trans (congrArg (·.2.2.1) (block m hO c t))) _).trans (Eq.trans ?_ (ref_m _ _ _ _ (pos m hO t y)).symm)
  exact congrArg (Cert.Adam.mom _) (grad m hO c t y)

/-- The second moment the call leaves. -/
theorem arr8 : (dats m hO 0 c).arrAt 8 (cfgM m hO).N
    = Cert.Reference10Ideal.Read.val_main_v17 (F := Ideal) (V m c main_arg0) (V m c main_arg2) (V m c main_arg3) (V m c main_arg5) := by
  refine (dats m hO 0 c).arrAt_eq_of_covers 8 _ (covers m hO) fun t _ y => ?_
  refine (congrFun ((after0_8 m hO c t).trans (congrArg (·.2.2.2) (block m hO c t))) _).trans (Eq.trans ?_ (ref_v _ _ _ _ (pos m hO t y)).symm)
  exact congrArg (Cert.Adam.var _) (grad m hO c t y)

/-- The kernel and the reference leave the same gradient, change and moments, whatever the arguments hold. -/
theorem algebraic : Cert.algebraic_Kernel10Ideal_Reference10Ideal := by
  intro m g m' g' _ hargs
  have hO : Ok m := ok _
  refine ⟨fun c => Cert.Reference10Ideal.Read.val_main_v6 (F := Ideal) (V m c main_arg0) (V m c main_arg2) (V m c main_arg3),
    fun c => Cert.Reference10Ideal.Read.val_main_v30 (F := Ideal) (V m c main_arg0) (V m c main_arg1) (V m c main_arg2) (V m c main_arg3) (V m c main_arg4) (V m c main_arg5),
    fun c => Cert.Reference10Ideal.Read.val_main_v11 (F := Ideal) (V m c main_arg0) (V m c main_arg2) (V m c main_arg3) (V m c main_arg4),
    fun c => Cert.Reference10Ideal.Read.val_main_v17 (F := Ideal) (V m c main_arg0) (V m c main_arg2) (V m c main_arg3) (V m c main_arg5), ?_, ?_⟩
  · refine (θ_run _ _ _).mono (fun r h c => ?_) (θ_run_and (run_main m g hO) (unchanged m g hO))
    exact ⟨((h.1 c).1 5).trans (arr5 m hO c), ((h.1 c).1 6).trans (arr6 m hO c), ((h.1 c).1 7).trans (arr7 m hO c), ((h.1 c).1 8).trans (arr8 m hO c), h.2 c⟩
  · refine (θ_run _ _ _).mono (fun r h c => ?_) (Cert.Reference10Ideal.Value.run (F := Ideal) m' g')
    obtain ⟨a0, a1, a2, a3, a4, a5⟩ := hargs c
    refine ⟨(h c).1.trans ?_, (h c).2.1.trans ?_, (h c).2.2.1.trans ?_, (h c).2.2.2.1.trans ?_, (h c).2.2.2.2⟩
    · rw [Cert.Reference10Ideal.Read.val_main_v6_eq, a0, a2, a3]
    · rw [Cert.Reference10Ideal.Read.val_main_v30_eq, a0, a1, a2, a3, a4, a5]
    · rw [Cert.Reference10Ideal.Read.val_main_v11_eq, a0, a2, a3, a4]
    · rw [Cert.Reference10Ideal.Read.val_main_v17_eq, a0, a2, a3, a5]

end Cert.Kernel10Ideal.Val
end
-- ==== Proof.lean ====
module

public import proofs.«01_k».proof.Proof.Mid.Final
public import proofs.«01_k».proof.Proof.Mid.Same
public import proofs.«01_k».proof.Proof.Rest.K2
public import proofs.«01_k».proof.Proof.Rest.K3
public import proofs.«01_k».proof.Proof.Rest.K4
public import proofs.«01_k».proof.Proof.Rest.K5
public import proofs.«01_k».proof.Proof.Rest.K6
public import proofs.«01_k».proof.Proof.Rest.K7
public import proofs.«01_k».proof.Proof.Rest.Same7
public import proofs.«01_k».proof.Proof.Rest.K8
public import proofs.«01_k».proof.Proof.Rest.K9
public import proofs.«01_k».proof.Proof.Rest.K10
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

theorem frame_kernelIdeal : Cert.quiescent_KernelIdeal := fun m ρ _ => Cert.KernelIdeal.Mid.frame (F := Ideal) m ρ

theorem frame_reference : Cert.quiescent_ReferenceIdeal := fun m ρ _ =>
  (θ_run Cert.ReferenceIdeal.defs _ _).mono (fun r h => ⟨fun c => (h c).2.2.2.2.2.2.2.2.2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts,
  Cert.Mid.frame_kernel, frame_kernelIdeal, fun m ρ _ => frame_kernelIdeal m ρ trivial, frame_reference, fun m ρ _ => frame_reference m ρ trivial,
  fun m ρ _ => Cert.Kernel2.Gen.frame (F := Bits) m ρ, fun m ρ _ => Cert.Kernel2Ideal.Gen.frame (F := Ideal) m ρ, frame_reference2,
  fun m ρ _ => Cert.Kernel3.Gen.frame (F := Bits) m ρ, fun m ρ _ => Cert.Kernel3Ideal.Gen.frame (F := Ideal) m ρ, frame_reference3,
  fun m ρ _ => Cert.Kernel4.Gen.frame (F := Bits) m ρ, fun m ρ _ => Cert.Kernel4Ideal.Gen.frame (F := Ideal) m ρ, frame_reference4,
  fun m ρ _ => Cert.Kernel5.Gen.frame (F := Bits) m ρ, fun m ρ _ => Cert.Kernel5Ideal.Gen.frame (F := Ideal) m ρ, frame_reference5,
  fun m ρ _ => Cert.Kernel6.Gen.frame (F := Bits) m ρ, fun m ρ _ => Cert.Kernel6Ideal.Gen.frame (F := Ideal) m ρ, frame_reference6,
  Cert.Same7.frame_kernel, Cert.Same7.frame_ideal, frame_reference7,
  fun m ρ _ => Cert.Kernel8.Gen.frame (F := Bits) m ρ (Cert.Kernel8Ideal.Val.ok (Cert.Kernel8.Gen.tbl m)), fun m ρ _ => Cert.Kernel8Ideal.Gen.frame (F := Ideal) m ρ (Cert.Kernel8Ideal.Val.ok _), frame_reference8,
  fun m ρ _ => Cert.Kernel9.Gen.frame (F := Bits) m ρ (Cert.Kernel9Ideal.Val.ok (Cert.Kernel9.Gen.tbl m)), fun m ρ _ => Cert.Kernel9Ideal.Gen.frame (F := Ideal) m ρ (Cert.Kernel9Ideal.Val.ok _), frame_reference9,
  fun m ρ _ => Cert.Kernel10.Gen.frame (F := Bits) m ρ (Cert.Kernel10Ideal.Val.ok (Cert.Kernel10.Gen.tbl m)), fun m ρ _ => Cert.Kernel10Ideal.Gen.frame (F := Ideal) m ρ (Cert.Kernel10Ideal.Val.ok _), frame_reference10,
  trivial, Cert.Mid.algebraic,
  trivial, Cert.Kernel2Ideal.Val.algebraic,
  trivial, Cert.Kernel3Ideal.Val.algebraic,
  trivial, Cert.Kernel4Ideal.Val.algebraic,
  trivial, Cert.Kernel5Ideal.Val.algebraic,
  trivial, Cert.Kernel6Ideal.Val.algebraic,
  trivial, Cert.Kernel7Ideal.Val.algebraic,
  trivial, Cert.Kernel8Ideal.Val.algebraic,
  trivial, Cert.Kernel9Ideal.Val.algebraic,
  trivial, Cert.Kernel10Ideal.Val.algebraic⟩

end Cert.Proof

end
